-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_v34) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_inputs.lean ====
abbrev S4x4096x1536 : Shape := ⟨3, ![4, 4096, 1536]⟩
abbrev S4x4096x128 : Shape := ⟨3, ![4, 4096, 128]⟩
abbrev S4x256x1536 : Shape := ⟨3, ![4, 256, 1536]⟩
abbrev S4x256x128 : Shape := ⟨3, ![4, 256, 128]⟩
abbrev S4x2x128x128 : Shape := ⟨4, ![4, 2, 128, 128]⟩
abbrev S4x2x1x128 : Shape := ⟨4, ![4, 2, 1, 128]⟩
abbrev S512 : Shape := ⟨1, ![512]⟩
abbrev S_ : Shape := ⟨0, ![]⟩

class Facts : Prop where
  bcast_S_S4x4096x1536 : S_.BroadcastsInDim S4x4096x1536 (![] : Fin 0 → Fin S4x4096x1536.rank)
  reducesTo_S4x4096x1536_S_d0_1_2 : S4x4096x1536.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_
  bcast_S_S4x256x1536 : S_.BroadcastsInDim S4x256x1536 (![] : Fin 0 → Fin S4x256x1536.rank)
  reducesTo_S4x256x1536_S_d0_1_2 : S4x256x1536.ReducesTo [0, 1, 2] S_
  bcast_S_S4x256x128 : S_.BroadcastsInDim S4x256x128 (![] : Fin 0 → Fin S4x256x128.rank)
  reducesTo_S4x256x128_S_d0_1_2 : S4x256x128.ReducesTo [0, 1, 2] S_
  bitsLt_bf16_f32 : FTy.bits .bf16 < FTy.bits .f32
  bcast_S_S4x2x128x128 : S_.BroadcastsInDim S4x2x128x128 (![] : Fin 0 → Fin S4x2x128x128.rank)
  reducesTo_S4x2x128x128_S_d0_1_2_3 : S4x2x128x128.ReducesTo [0, 1, 2, 3] S_
  bcast_S_S4x2x1x128 : S_.BroadcastsInDim S4x2x1x128 (![] : Fin 0 → Fin S4x2x1x128.rank)
  reducesTo_S4x2x1x128_S_d0_1_2_3 : S4x2x1x128.ReducesTo [0, 1, 2, 3] S_
  bcast_S_S512 : S_.BroadcastsInDim S512 (![] : Fin 0 → Fin S512.rank)
  reducesTo_S512_S_d0 : S512.ReducesTo [0] S_

variable [Facts]

def fn_part2 {F : FTy → Type} [FloatOps F] (main_v28 : IVec S_ 1) (main_v33 : IVec S_ 1) : IVec S_ 1 :=
  let main_v34 : IVec S_ 1 := andi main_v33 main_v28
  main_v34

def fn_part1 {F : FTy → Type} [FloatOps F] (main_arg4 : FVec F S4x2x128x128 .bf16) (main_arg5 : FVec F S4x2x1x128 .f32) (main_arg6 : FVec F S512 .f32) (main_v3 : IVec S_ 1) (main_v7 : IVec S_ 1) (main_v11 : IVec S_ 1) (main_v15 : IVec S_ 1) : IVec S_ 1 :=
  let main_v16 : FVec F S4x2x128x128 .f32 := (extf .f32 · bitsLt_bf16_f32) main_arg4
  let main_v17 : FVec F S4x2x128x128 .f32 := Host.absf main_v16
  let main_cst_6 : FVec F S_ .f32 := constant S_ .f32 0x7F800000#32
  let main_v18 : FVec F S4x2x128x128 .f32 := broadcastInDim S4x2x128x128 ![] bcast_S_S4x2x128x128 main_cst_6
  let main_v19 : IVec S4x2x128x128 1 := cmpf .olt main_v17 main_v18
  let main_c_7 : IVec S_ 1 := constantI S_ 1 1#1
  let main_v20 : IVec S_ 1 := (fun x v => Host.reduce IntOp.andi x v reducesTo_S4x2x128x128_S_d0_1_2_3 h_S_) main_v19 main_c_7
  let main_v21 : FVec F S4x2x1x128 .f32 := Host.absf main_arg5
  let main_cst_8 : FVec F S_ .f32 := constant S_ .f32 0x7F800000#32
  let main_v22 : FVec F S4x2x1x128 .f32 := broadcastInDim S4x2x1x128 ![] bcast_S_S4x2x1x128 main_cst_8
  let main_v23 : IVec S4x2x1x128 1 := cmpf .olt main_v21 main_v22
  let main_c_9 : IVec S_ 1 := constantI S_ 1 1#1
  let main_v24 : IVec S_ 1 := (fun x v => Host.reduce IntOp.andi x v reducesTo_S4x2x1x128_S_d0_1_2_3 h_S_) main_v23 main_c_9
  let main_v25 : FVec F S512 .f32 := Host.absf main_arg6
  let main_cst_10 : FVec F S_ .f32 := constant S_ .f32 0x7F800000#32
  let main_v26 : FVec F S512 .f32 := broadcastInDim S512 ![] bcast_S_S512 main_cst_10
  let main_v27 : IVec S512 1 := cmpf .olt main_v25 main_v26
  let main_c_11 : IVec S_ 1 := constantI S_ 1 1#1
  let main_v28 : IVec S_ 1 := (fun x v => Host.reduce IntOp.andi x v reducesTo_S512_S_d0 h_S_) main_v27 main_c_11
  let main_v29 : IVec S_ 1 := andi main_v3 main_v7
  let main_v30 : IVec S_ 1 := andi main_v29 main_v11
  let main_v31 : IVec S_ 1 := andi main_v30 main_v15
  let main_v32 : IVec S_ 1 := andi main_v31 main_v20
  let main_v33 : IVec S_ 1 := andi main_v32 main_v24
  fn_part2 (F := F) main_v28 main_v33

def fn {F : FTy → Type} [FloatOps F] (main_arg0 : FVec F S4x4096x1536 .f32) (main_arg1 : FVec F S4x4096x128 .f32) (main_arg2 : FVec F S4x256x1536 .f32) (main_arg3 : FVec F S4x256x128 .f32) (main_arg4 : FVec F S4x2x128x128 .bf16) (main_arg5 : FVec F S4x2x1x128 .f32) (main_arg6 : FVec F S512 .f32) : IVec S_ 1 :=
  let main_v0 : FVec F S4x4096x1536 .f32 := Host.absf main_arg0
  let main_cst : FVec F S_ .f32 := constant S_ .f32 0x7F800000#32
  let main_v1 : FVec F S4x4096x1536 .f32 := broadcastInDim S4x4096x1536 ![] bcast_S_S4x4096x1536 main_cst
  let main_v2 : IVec S4x4096x1536 1 := cmpf .olt main_v0 main_v1
  let main_c : IVec S_ 1 := constantI S_ 1 1#1
  let main_v3 : IVec S_ 1 := (fun x v => Host.reduce IntOp.andi x v reducesTo_S4x4096x1536_S_d0_1_2 h_S_) main_v2 main_c
  let main_v4 : FVec F S4x4096x128 .f32 := Host.absf main_arg1
  let main_cst_0 : FVec F S_ .f32 := constant S_ .f32 0x7F800000#32
  let main_v5 : FVec F S4x4096x128 .f32 := broadcastInDim S4x4096x128 ![] bcast_S_S4x4096x128 main_cst_0
  let main_v6 : IVec S4x4096x128 1 := cmpf .olt main_v4 main_v5
  let main_c_1 : IVec S_ 1 := constantI S_ 1 1#1
  let main_v7 : IVec S_ 1 := (fun x v => Host.reduce IntOp.andi x v reducesTo_S4x4096x128_S_d0_1_2 h_S_) main_v6 main_c_1
  let main_v8 : FVec F S4x256x1536 .f32 := Host.absf main_arg2
  let main_cst_2 : FVec F S_ .f32 := constant S_ .f32 0x7F800000#32
  let main_v9 : FVec F S4x256x1536 .f32 := broadcastInDim S4x256x1536 ![] bcast_S_S4x256x1536 main_cst_2
  let main_v10 : IVec S4x256x1536 1 := cmpf .olt main_v8 main_v9
  let main_c_3 : IVec S_ 1 := constantI S_ 1 1#1
  let main_v11 : IVec S_ 1 := (fun x v => Host.reduce IntOp.andi x v reducesTo_S4x256x1536_S_d0_1_2 h_S_) main_v10 main_c_3
  let main_v12 : FVec F S4x256x128 .f32 := Host.absf main_arg3
  let main_cst_4 : FVec F S_ .f32 := constant S_ .f32 0x7F800000#32
  let main_v13 : FVec F S4x256x128 .f32 := broadcastInDim S4x256x128 ![] bcast_S_S4x256x128 main_cst_4
  let main_v14 : IVec S4x256x128 1 := cmpf .olt main_v12 main_v13
  let main_c_5 : IVec S_ 1 := constantI S_ 1 1#1
  let main_v15 : IVec S_ 1 := (fun x v => Host.reduce IntOp.andi x v reducesTo_S4x256x128_S_d0_1_2 h_S_) main_v14 main_c_5
  fn_part1 (F := F) main_arg4 main_arg5 main_arg6 main_v3 main_v7 main_v11 main_v15
-- ==== Kernel.lean ====
abbrev S4x4096x1536 : Shape := ⟨3, ![4, 4096, 1536]⟩
abbrev S4x4096x128 : Shape := ⟨3, ![4, 4096, 128]⟩
abbrev S4x256x1536 : Shape := ⟨3, ![4, 256, 1536]⟩
abbrev S4x256x128 : Shape := ⟨3, ![4, 256, 128]⟩
abbrev S4x2x128x128 : Shape := ⟨4, ![4, 2, 128, 128]⟩
abbrev S4x2x1x128 : Shape := ⟨4, ![4, 2, 1, 128]⟩
abbrev S512 : Shape := ⟨1, ![512]⟩
abbrev S1x512 : Shape := ⟨2, ![1, 512]⟩
abbrev S4x4096x512 : Shape := ⟨3, ![4, 4096, 512]⟩
abbrev S1x4096x128 : Shape := ⟨3, ![1, 4096, 128]⟩
abbrev S1x256x128 : Shape := ⟨3, ![1, 256, 128]⟩
abbrev S1x2x128x128 : Shape := ⟨4, ![1, 2, 128, 128]⟩
abbrev S1x2x1x128 : Shape := ⟨4, ![1, 2, 1, 128]⟩
abbrev S1x128 : Shape := ⟨2, ![1, 128]⟩
abbrev S2x128x128 : Shape := ⟨3, ![2, 128, 128]⟩
abbrev S4096x128 : Shape := ⟨2, ![4096, 128]⟩
abbrev S128x128 : Shape := ⟨2, ![128, 128]⟩
abbrev S1x128x128 : Shape := ⟨3, ![1, 128, 128]⟩
abbrev S1x1x128x128 : Shape := ⟨4, ![1, 1, 128, 128]⟩
abbrev S1x1x1x128 : Shape := ⟨4, ![1, 1, 1, 128]⟩
abbrev S128 : Shape := ⟨1, ![128]⟩
abbrev S128x1 : Shape := ⟨2, ![128, 1]⟩

abbrev nBuf : Space → Nat
  | .hbm => 9
  | .vmem => 26
  | .smem => 0
  | _ => 0

abbrev bufTy : (tb : Table) → Fin (tcTables nBuf tb) → BufTy
  | .hbm, ⟨0, _⟩ => ⟨S4x4096x1536, .f32⟩
  | .hbm, ⟨1, _⟩ => ⟨S4x4096x128, .f32⟩
  | .hbm, ⟨2, _⟩ => ⟨S4x256x1536, .f32⟩
  | .hbm, ⟨3, _⟩ => ⟨S4x256x128, .f32⟩
  | .hbm, ⟨4, _⟩ => ⟨S4x2x128x128, .bf16⟩
  | .hbm, ⟨5, _⟩ => ⟨S4x2x1x128, .f32⟩
  | .hbm, ⟨6, _⟩ => ⟨S512, .f32⟩
  | .hbm, ⟨7, _⟩ => ⟨S1x512, .f32⟩
  | .hbm, ⟨8, _⟩ => ⟨S4x4096x512, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x2x128x128, .bf16⟩
  | .local _ .vmem, ⟨17, _⟩ => ⟨S1x2x128x128, .bf16⟩
  | .local _ .vmem, ⟨18, _⟩ => ⟨S1x2x1x128, .f32⟩
  | .local _ .vmem, ⟨19, _⟩ => ⟨S1x2x1x128, .f32⟩
  | .local _ .vmem, ⟨20, _⟩ => ⟨S1x128, .f32⟩
  | .local _ .vmem, ⟨21, _⟩ => ⟨S1x128, .f32⟩
  | .local _ .vmem, ⟨22, _⟩ => ⟨S1x4096x128, .bf16⟩
  | .local _ .vmem, ⟨23, _⟩ => ⟨S1x4096x128, .bf16⟩
  | .local _ .vmem, ⟨24, _⟩ => ⟨S2x128x128, .f32⟩
  | .local _ .vmem, ⟨25, _⟩ => ⟨S4096x128, .f32⟩
  | _, _ => ⟨S4x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c2_i32_7 : BitVec 32 := 2#32
  let v25 : BitVec 32 := Scalar.addi c0_i32 c2_i32_7
  let c1_i32 : BitVec 32 := 1#32
  ⟨c0_i32, v25, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c1_i32_17 : BitVec 32 := 1#32
  let v28 : BitVec 32 := Scalar.muli arg16 c1_i32_17
  let c0_i32_18 : BitVec 32 := 0#32
  let v29 : BitVec 32 := Scalar.addi v28 c0_i32_18
  let c128_i32 : BitVec 32 := 128#32
  let v33 : BitVec 32 := Scalar.muli v29 c128_i32
  v33
def k0_off1 (k0_t1 : Fin k0_t1_loop.trips) : Fin 3 → Nat :=
  let c0_22 : Index := 0#32
  let c0_i32 : BitVec 32 := 0#32
  let c1_i32 : BitVec 32 := 1#32
  let arg16 : BitVec 32 := Scf.iv c0_i32 c1_i32 k0_t1
  let c1_i32_17 : BitVec 32 := 1#32
  let v28 : BitVec 32 := Scalar.muli arg16 c1_i32_17
  let c0_i32_18 : BitVec 32 := 0#32
  let v29 : BitVec 32 := Scalar.addi v28 c0_i32_18
  let c128_i32 : BitVec 32 := 128#32
  let v33 : BitVec 32 := Scalar.muli v29 c128_i32
  let v34 : BitVec 32 := v33
  let v35 : Index := Scalar.indexCast v34
  let c0_23 : Index := 0#32
  ![0, v35.toNat, 0]
def k0_mult2 (k0_t1 : Fin k0_t1_loop.trips) : BitVec 32 :=
  let c0_i32 : BitVec 32 := 0#32
  let c1_i32 : BitVec 32 := 1#32
  let arg16 : BitVec 32 := Scf.iv c0_i32 c1_i32 k0_t1
  let c1_i32_17 : BitVec 32 := 1#32
  let v28 : BitVec 32 := Scalar.muli arg16 c1_i32_17
  let c0_i32_18 : BitVec 32 := 0#32
  let v29 : BitVec 32 := Scalar.addi v28 c0_i32_18
  let c128_i32_25 : BitVec 32 := 128#32
  let v40 : BitVec 32 := Scalar.muli v29 c128_i32_25
  v40
def k0_mult3 (k0_t1 : Fin k0_t1_loop.trips) : BitVec 32 :=
  let c0_i32 : BitVec 32 := 0#32
  let c1_i32 : BitVec 32 := 1#32
  let arg16 : BitVec 32 := Scf.iv c0_i32 c1_i32 k0_t1
  let c1_i32_17 : BitVec 32 := 1#32
  let v28 : BitVec 32 := Scalar.muli arg16 c1_i32_17
  let c0_i32_18 : BitVec 32 := 0#32
  let v29 : BitVec 32 := Scalar.addi v28 c0_i32_18
  let c128_i32_28 : BitVec 32 := 128#32
  let v45 : BitVec 32 := Scalar.muli v29 c128_i32_28
  v45
def k0_mult4 (k0_t1 : Fin k0_t1_loop.trips) : BitVec 32 :=
  let c1_i32_21 : BitVec 32 := 1#32
  let c0_i32 : BitVec 32 := 0#32
  let c1_i32 : BitVec 32 := 1#32
  let arg16 : BitVec 32 := Scf.iv c0_i32 c1_i32 k0_t1
  let c1_i32_19 : BitVec 32 := 1#32
  let v30 : BitVec 32 := Scalar.muli arg16 c1_i32_19
  let c0_i32_20 : BitVec 32 := 0#32
  let v31 : BitVec 32 := Scalar.addi v30 c0_i32_20
  let v32 : BitVec 32 := Scalar.subi c1_i32_21 v31
  let c128_i32_31 : BitVec 32 := 128#32
  let v50 : BitVec 32 := Scalar.muli v32 c128_i32_31
  v50
def k0_off2 (k0_t1 : Fin k0_t1_loop.trips) : Fin 3 → Nat :=
  let c0_32 : Index := 0#32
  let c1_i32_21 : BitVec 32 := 1#32
  let c0_i32 : BitVec 32 := 0#32
  let c1_i32 : BitVec 32 := 1#32
  let arg16 : BitVec 32 := Scf.iv c0_i32 c1_i32 k0_t1
  let c1_i32_19 : BitVec 32 := 1#32
  let v30 : BitVec 32 := Scalar.muli arg16 c1_i32_19
  let c0_i32_20 : BitVec 32 := 0#32
  let v31 : BitVec 32 := Scalar.addi v30 c0_i32_20
  let v32 : BitVec 32 := Scalar.subi c1_i32_21 v31
  let c128_i32_31 : BitVec 32 := 128#32
  let v50 : BitVec 32 := Scalar.muli v32 c128_i32_31
  let v51 : BitVec 32 := v50
  let v52 : Index := Scalar.indexCast v51
  let c0_33 : Index := 0#32
  ![0, v52.toNat, 0]
def k0_mult5 (k0_t1 : Fin k0_t1_loop.trips) : BitVec 32 :=
  let c1_i32_21 : BitVec 32 := 1#32
  let c0_i32 : BitVec 32 := 0#32
  let c1_i32 : BitVec 32 := 1#32
  let arg16 : BitVec 32 := Scf.iv c0_i32 c1_i32 k0_t1
  let c1_i32_19 : BitVec 32 := 1#32
  let v30 : BitVec 32 := Scalar.muli arg16 c1_i32_19
  let c0_i32_20 : BitVec 32 := 0#32
  let v31 : BitVec 32 := Scalar.addi v30 c0_i32_20
  let v32 : BitVec 32 := Scalar.subi c1_i32_21 v31
  let c128_i32_35 : BitVec 32 := 128#32
  let v57 : BitVec 32 := Scalar.muli v32 c128_i32_35
  v57
def k0_mult6 (k0_t1 : Fin k0_t1_loop.trips) : BitVec 32 :=
  let c1_i32_21 : BitVec 32 := 1#32
  let c0_i32 : BitVec 32 := 0#32
  let c1_i32 : BitVec 32 := 1#32
  let arg16 : BitVec 32 := Scf.iv c0_i32 c1_i32 k0_t1
  let c1_i32_19 : BitVec 32 := 1#32
  let v30 : BitVec 32 := Scalar.muli arg16 c1_i32_19
  let c0_i32_20 : BitVec 32 := 0#32
  let v31 : BitVec 32 := Scalar.addi v30 c0_i32_20
  let v32 : BitVec 32 := Scalar.subi c1_i32_21 v31
  let c128_i32_38 : BitVec 32 := 128#32
  let v62 : BitVec 32 := Scalar.muli v32 c128_i32_38
  v62
@[reducible] def k0_t2_loop : Scf.Loop 32 :=
  let c0_i32_9 : BitVec 32 := 0#32
  let c2_i32_10 : BitVec 32 := 2#32
  let v26 : BitVec 32 := Scalar.addi c0_i32_9 c2_i32_10
  let c1_i32_11 : BitVec 32 := 1#32
  ⟨c0_i32_9, v26, c1_i32_11⟩
def k0_mult7 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32 : BitVec 32 := 8#32
  let v28 : BitVec 32 := Scalar.muli arg16 c8_i32
  let c0_i32_17 : BitVec 32 := 0#32
  let v29 : BitVec 32 := Scalar.addi v28 c0_i32_17
  let c128_i32 : BitVec 32 := 128#32
  let v68 : BitVec 32 := Scalar.muli v29 c128_i32
  v68
def k0_off3 (k0_t2 : Fin k0_t2_loop.trips) (c0_i32_17 : BitVec 32) : Fin 3 → Nat :=
  let c0_50 : Index := 0#32
  let c0_i32_9 : BitVec 32 := 0#32
  let c1_i32_11 : BitVec 32 := 1#32
  let arg16 : BitVec 32 := Scf.iv c0_i32_9 c1_i32_11 k0_t2
  let c8_i32 : BitVec 32 := 8#32
  let v28 : BitVec 32 := Scalar.muli arg16 c8_i32
  let v29 : BitVec 32 := Scalar.addi v28 c0_i32_17
  let c128_i32 : BitVec 32 := 128#32
  let v68 : BitVec 32 := Scalar.muli v29 c128_i32
  let v69 : BitVec 32 := v68
  let v70 : Index := Scalar.indexCast v69
  let c0_51 : Index := 0#32
  ![0, v70.toNat, 0]
def k0_mult8 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32 : BitVec 32 := 8#32
  let v28 : BitVec 32 := Scalar.muli arg16 c8_i32
  let c0_i32_17 : BitVec 32 := 0#32
  let v29 : BitVec 32 := Scalar.addi v28 c0_i32_17
  let c128_i32_53 : BitVec 32 := 128#32
  let v75 : BitVec 32 := Scalar.muli v29 c128_i32_53
  v75
def k0_mult9 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32 : BitVec 32 := 8#32
  let v28 : BitVec 32 := Scalar.muli arg16 c8_i32
  let c0_i32_17 : BitVec 32 := 0#32
  let v29 : BitVec 32 := Scalar.addi v28 c0_i32_17
  let c128_i32_57 : BitVec 32 := 128#32
  let v82 : BitVec 32 := Scalar.muli v29 c128_i32_57
  v82
def k0_mult10 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32 : BitVec 32 := 8#32
  let v28 : BitVec 32 := Scalar.muli arg16 c8_i32
  let c0_i32_17 : BitVec 32 := 0#32
  let v29 : BitVec 32 := Scalar.addi v28 c0_i32_17
  let c128_i32_60 : BitVec 32 := 128#32
  let v87 : BitVec 32 := Scalar.muli v29 c128_i32_60
  v87
def k0_mult11 (k0_t2 : Fin k0_t2_loop.trips) : BitVec 32 :=
  let c31_i32 : BitVec 32 := 31#32
  let c0_i32_9 : BitVec 32 := 0#32
  let c1_i32_11 : BitVec 32 := 1#32
  let arg16 : BitVec 32 := Scf.iv c0_i32_9 c1_i32_11 k0_t2
  let c8_i32_18 : BitVec 32 := 8#32
  let v30 : BitVec 32 := Scalar.muli arg16 c8_i32_18
  let c0_i32_19 : BitVec 32 := 0#32
  let v31 : BitVec 32 := Scalar.addi v30 c0_i32_19
  let v32 : BitVec 32 := Scalar.subi c31_i32 v31
  let c128_i32_63 : BitVec 32 := 128#32
  let v92 : BitVec 32 := Scalar.muli v32 c128_i32_63
  v92
def k0_off4 (k0_t2 : Fin k0_t2_loop.trips) (c0_i32_19 : BitVec 32) : Fin 3 → Nat :=
  let c0_64 : Index := 0#32
  let c31_i32 : BitVec 32 := 31#32
  let c0_i32_9 : BitVec 32 := 0#32
  let c1_i32_11 : BitVec 32 := 1#32
  let arg16 : BitVec 32 := Scf.iv c0_i32_9 c1_i32_11 k0_t2
  let c8_i32_18 : BitVec 32 := 8#32
  let v30 : BitVec 32 := Scalar.muli arg16 c8_i32_18
  let v31 : BitVec 32 := Scalar.addi v30 c0_i32_19
  let v32 : BitVec 32 := Scalar.subi c31_i32 v31
  let c128_i32_63 : BitVec 32 := 128#32
  let v92 : BitVec 32 := Scalar.muli v32 c128_i32_63
  let v93 : BitVec 32 := v92
  let v94 : Index := Scalar.indexCast v93
  let c0_65 : Index := 0#32
  ![0, v94.toNat, 0]
def k0_mult12 (k0_t2 : Fin k0_t2_loop.trips) : BitVec 32 :=
  let c31_i32 : BitVec 32 := 31#32
  let c0_i32_9 : BitVec 32 := 0#32
  let c1_i32_11 : BitVec 32 := 1#32
  let arg16 : BitVec 32 := Scf.iv c0_i32_9 c1_i32_11 k0_t2
  let c8_i32_18 : BitVec 32 := 8#32
  let v30 : BitVec 32 := Scalar.muli arg16 c8_i32_18
  let c0_i32_19 : BitVec 32 := 0#32
  let v31 : BitVec 32 := Scalar.addi v30 c0_i32_19
  let v32 : BitVec 32 := Scalar.subi c31_i32 v31
  let c128_i32_67 : BitVec 32 := 128#32
  let v99 : BitVec 32 := Scalar.muli v32 c128_i32_67
  v99
def k0_mult13 (k0_t2 : Fin k0_t2_loop.trips) : BitVec 32 :=
  let c31_i32 : BitVec 32 := 31#32
  let c0_i32_9 : BitVec 32 := 0#32
  let c1_i32_11 : BitVec 32 := 1#32
  let arg16 : BitVec 32 := Scf.iv c0_i32_9 c1_i32_11 k0_t2
  let c8_i32_18 : BitVec 32 := 8#32
  let v30 : BitVec 32 := Scalar.muli arg16 c8_i32_18
  let c0_i32_19 : BitVec 32 := 0#32
  let v31 : BitVec 32 := Scalar.addi v30 c0_i32_19
  let v32 : BitVec 32 := Scalar.subi c31_i32 v31
  let c128_i32_71 : BitVec 32 := 128#32
  let v106 : BitVec 32 := Scalar.muli v32 c128_i32_71
  v106
def k0_mult14 (k0_t2 : Fin k0_t2_loop.trips) : BitVec 32 :=
  let c31_i32 : BitVec 32 := 31#32
  let c0_i32_9 : BitVec 32 := 0#32
  let c1_i32_11 : BitVec 32 := 1#32
  let arg16 : BitVec 32 := Scf.iv c0_i32_9 c1_i32_11 k0_t2
  let c8_i32_18 : BitVec 32 := 8#32
  let v30 : BitVec 32 := Scalar.muli arg16 c8_i32_18
  let c0_i32_19 : BitVec 32 := 0#32
  let v31 : BitVec 32 := Scalar.addi v30 c0_i32_19
  let v32 : BitVec 32 := Scalar.subi c31_i32 v31
  let c128_i32_74 : BitVec 32 := 128#32
  let v111 : BitVec 32 := Scalar.muli v32 c128_i32_74
  v111
def k0_mult15 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_20 : BitVec 32 := 8#32
  let v33 : BitVec 32 := Scalar.muli arg16 c8_i32_20
  let c1_i32_21 : BitVec 32 := 1#32
  let v34 : BitVec 32 := Scalar.addi v33 c1_i32_21
  let c128_i32_77 : BitVec 32 := 128#32
  let v116 : BitVec 32 := Scalar.muli v34 c128_i32_77
  v116
def k0_mult16 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_20 : BitVec 32 := 8#32
  let v33 : BitVec 32 := Scalar.muli arg16 c8_i32_20
  let c1_i32_21 : BitVec 32 := 1#32
  let v34 : BitVec 32 := Scalar.addi v33 c1_i32_21
  let c128_i32_81 : BitVec 32 := 128#32
  let v123 : BitVec 32 := Scalar.muli v34 c128_i32_81
  v123
def k0_mult17 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_20 : BitVec 32 := 8#32
  let v33 : BitVec 32 := Scalar.muli arg16 c8_i32_20
  let c1_i32_21 : BitVec 32 := 1#32
  let v34 : BitVec 32 := Scalar.addi v33 c1_i32_21
  let c128_i32_85 : BitVec 32 := 128#32
  let v130 : BitVec 32 := Scalar.muli v34 c128_i32_85
  v130
def k0_mult18 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_20 : BitVec 32 := 8#32
  let v33 : BitVec 32 := Scalar.muli arg16 c8_i32_20
  let c1_i32_21 : BitVec 32 := 1#32
  let v34 : BitVec 32 := Scalar.addi v33 c1_i32_21
  let c128_i32_88 : BitVec 32 := 128#32
  let v135 : BitVec 32 := Scalar.muli v34 c128_i32_88
  v135
def k0_mult19 (k0_t2 : Fin k0_t2_loop.trips) : BitVec 32 :=
  let c31_i32_24 : BitVec 32 := 31#32
  let c0_i32_9 : BitVec 32 := 0#32
  let c1_i32_11 : BitVec 32 := 1#32
  let arg16 : BitVec 32 := Scf.iv c0_i32_9 c1_i32_11 k0_t2
  let c8_i32_22 : BitVec 32 := 8#32
  let v35 : BitVec 32 := Scalar.muli arg16 c8_i32_22
  let c1_i32_23 : BitVec 32 := 1#32
  let v36 : BitVec 32 := Scalar.addi v35 c1_i32_23
  let v37 : BitVec 32 := Scalar.subi c31_i32_24 v36
  let c128_i32_91 : BitVec 32 := 128#32
  let v140 : BitVec 32 := Scalar.muli v37 c128_i32_91
  v140
def k0_mult20 (k0_t2 : Fin k0_t2_loop.trips) : BitVec 32 :=
  let c31_i32_24 : BitVec 32 := 31#32
  let c0_i32_9 : BitVec 32 := 0#32
  let c1_i32_11 : BitVec 32 := 1#32
  let arg16 : BitVec 32 := Scf.iv c0_i32_9 c1_i32_11 k0_t2
  let c8_i32_22 : BitVec 32 := 8#32
  let v35 : BitVec 32 := Scalar.muli arg16 c8_i32_22
  let c1_i32_23 : BitVec 32 := 1#32
  let v36 : BitVec 32 := Scalar.addi v35 c1_i32_23
  let v37 : BitVec 32 := Scalar.subi c31_i32_24 v36
  let c128_i32_95 : BitVec 32 := 128#32
  let v147 : BitVec 32 := Scalar.muli v37 c128_i32_95
  v147
def k0_mult21 (k0_t2 : Fin k0_t2_loop.trips) : BitVec 32 :=
  let c31_i32_24 : BitVec 32 := 31#32
  let c0_i32_9 : BitVec 32 := 0#32
  let c1_i32_11 : BitVec 32 := 1#32
  let arg16 : BitVec 32 := Scf.iv c0_i32_9 c1_i32_11 k0_t2
  let c8_i32_22 : BitVec 32 := 8#32
  let v35 : BitVec 32 := Scalar.muli arg16 c8_i32_22
  let c1_i32_23 : BitVec 32 := 1#32
  let v36 : BitVec 32 := Scalar.addi v35 c1_i32_23
  let v37 : BitVec 32 := Scalar.subi c31_i32_24 v36
  let c128_i32_99 : BitVec 32 := 128#32
  let v154 : BitVec 32 := Scalar.muli v37 c128_i32_99
  v154
def k0_mult22 (k0_t2 : Fin k0_t2_loop.trips) : BitVec 32 :=
  let c31_i32_24 : BitVec 32 := 31#32
  let c0_i32_9 : BitVec 32 := 0#32
  let c1_i32_11 : BitVec 32 := 1#32
  let arg16 : BitVec 32 := Scf.iv c0_i32_9 c1_i32_11 k0_t2
  let c8_i32_22 : BitVec 32 := 8#32
  let v35 : BitVec 32 := Scalar.muli arg16 c8_i32_22
  let c1_i32_23 : BitVec 32 := 1#32
  let v36 : BitVec 32 := Scalar.addi v35 c1_i32_23
  let v37 : BitVec 32 := Scalar.subi c31_i32_24 v36
  let c128_i32_102 : BitVec 32 := 128#32
  let v159 : BitVec 32 := Scalar.muli v37 c128_i32_102
  v159
def k0_mult23 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_25 : BitVec 32 := 8#32
  let v38 : BitVec 32 := Scalar.muli arg16 c8_i32_25
  let c2_i32_26 : BitVec 32 := 2#32
  let v39 : BitVec 32 := Scalar.addi v38 c2_i32_26
  let c128_i32_105 : BitVec 32 := 128#32
  let v164 : BitVec 32 := Scalar.muli v39 c128_i32_105
  v164
def k0_mult24 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_25 : BitVec 32 := 8#32
  let v38 : BitVec 32 := Scalar.muli arg16 c8_i32_25
  let c2_i32_26 : BitVec 32 := 2#32
  let v39 : BitVec 32 := Scalar.addi v38 c2_i32_26
  let c128_i32_109 : BitVec 32 := 128#32
  let v171 : BitVec 32 := Scalar.muli v39 c128_i32_109
  v171
def k0_mult25 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_25 : BitVec 32 := 8#32
  let v38 : BitVec 32 := Scalar.muli arg16 c8_i32_25
  let c2_i32_26 : BitVec 32 := 2#32
  let v39 : BitVec 32 := Scalar.addi v38 c2_i32_26
  let c128_i32_113 : BitVec 32 := 128#32
  let v178 : BitVec 32 := Scalar.muli v39 c128_i32_113
  v178
def k0_mult26 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_25 : BitVec 32 := 8#32
  let v38 : BitVec 32 := Scalar.muli arg16 c8_i32_25
  let c2_i32_26 : BitVec 32 := 2#32
  let v39 : BitVec 32 := Scalar.addi v38 c2_i32_26
  let c128_i32_116 : BitVec 32 := 128#32
  let v183 : BitVec 32 := Scalar.muli v39 c128_i32_116
  v183
def k0_mult27 (k0_t2 : Fin k0_t2_loop.trips) : BitVec 32 :=
  let c31_i32_29 : BitVec 32 := 31#32
  let c0_i32_9 : BitVec 32 := 0#32
  let c1_i32_11 : BitVec 32 := 1#32
  let arg16 : BitVec 32 := Scf.iv c0_i32_9 c1_i32_11 k0_t2
  let c8_i32_27 : BitVec 32 := 8#32
  let v40 : BitVec 32 := Scalar.muli arg16 c8_i32_27
  let c2_i32_28 : BitVec 32 := 2#32
  let v41 : BitVec 32 := Scalar.addi v40 c2_i32_28
  let v42 : BitVec 32 := Scalar.subi c31_i32_29 v41
  let c128_i32_119 : BitVec 32 := 128#32
  let v188 : BitVec 32 := Scalar.muli v42 c128_i32_119
  v188
def k0_mult28 (k0_t2 : Fin k0_t2_loop.trips) : BitVec 32 :=
  let c31_i32_29 : BitVec 32 := 31#32
  let c0_i32_9 : BitVec 32 := 0#32
  let c1_i32_11 : BitVec 32 := 1#32
  let arg16 : BitVec 32 := Scf.iv c0_i32_9 c1_i32_11 k0_t2
  let c8_i32_27 : BitVec 32 := 8#32
  let v40 : BitVec 32 := Scalar.muli arg16 c8_i32_27
  let c2_i32_28 : BitVec 32 := 2#32
  let v41 : BitVec 32 := Scalar.addi v40 c2_i32_28
  let v42 : BitVec 32 := Scalar.subi c31_i32_29 v41
  let c128_i32_123 : BitVec 32 := 128#32
  let v195 : BitVec 32 := Scalar.muli v42 c128_i32_123
  v195
def k0_mult29 (k0_t2 : Fin k0_t2_loop.trips) : BitVec 32 :=
  let c31_i32_29 : BitVec 32 := 31#32
  let c0_i32_9 : BitVec 32 := 0#32
  let c1_i32_11 : BitVec 32 := 1#32
  let arg16 : BitVec 32 := Scf.iv c0_i32_9 c1_i32_11 k0_t2
  let c8_i32_27 : BitVec 32 := 8#32
  let v40 : BitVec 32 := Scalar.muli arg16 c8_i32_27
  let c2_i32_28 : BitVec 32 := 2#32
  let v41 : BitVec 32 := Scalar.addi v40 c2_i32_28
  let v42 : BitVec 32 := Scalar.subi c31_i32_29 v41
  let c128_i32_127 : BitVec 32 := 128#32
  let v202 : BitVec 32 := Scalar.muli v42 c128_i32_127
  v202
def k0_mult30 (k0_t2 : Fin k0_t2_loop.trips) : BitVec 32 :=
  let c31_i32_29 : BitVec 32 := 31#32
  let c0_i32_9 : BitVec 32 := 0#32
  let c1_i32_11 : BitVec 32 := 1#32
  let arg16 : BitVec 32 := Scf.iv c0_i32_9 c1_i32_11 k0_t2
  let c8_i32_27 : BitVec 32 := 8#32
  let v40 : BitVec 32 := Scalar.muli arg16 c8_i32_27
  let c2_i32_28 : BitVec 32 := 2#32
  let v41 : BitVec 32 := Scalar.addi v40 c2_i32_28
  let v42 : BitVec 32 := Scalar.subi c31_i32_29 v41
  let c128_i32_130 : BitVec 32 := 128#32
  let v207 : BitVec 32 := Scalar.muli v42 c128_i32_130
  v207
def k0_mult31 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_30 : BitVec 32 := 8#32
  let v43 : BitVec 32 := Scalar.muli arg16 c8_i32_30
  let c3_i32 : BitVec 32 := 3#32
  let v44 : BitVec 32 := Scalar.addi v43 c3_i32
  let c128_i32_133 : BitVec 32 := 128#32
  let v212 : BitVec 32 := Scalar.muli v44 c128_i32_133
  v212
def k0_mult32 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_30 : BitVec 32 := 8#32
  let v43 : BitVec 32 := Scalar.muli arg16 c8_i32_30
  let c3_i32 : BitVec 32 := 3#32
  let v44 : BitVec 32 := Scalar.addi v43 c3_i32
  let c128_i32_137 : BitVec 32 := 128#32
  let v219 : BitVec 32 := Scalar.muli v44 c128_i32_137
  v219
def k0_mult33 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_30 : BitVec 32 := 8#32
  let v43 : BitVec 32 := Scalar.muli arg16 c8_i32_30
  let c3_i32 : BitVec 32 := 3#32
  let v44 : BitVec 32 := Scalar.addi v43 c3_i32
  let c128_i32_141 : BitVec 32 := 128#32
  let v226 : BitVec 32 := Scalar.muli v44 c128_i32_141
  v226
def k0_mult34 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_30 : BitVec 32 := 8#32
  let v43 : BitVec 32 := Scalar.muli arg16 c8_i32_30
  let c3_i32 : BitVec 32 := 3#32
  let v44 : BitVec 32 := Scalar.addi v43 c3_i32
  let c128_i32_144 : BitVec 32 := 128#32
  let v231 : BitVec 32 := Scalar.muli v44 c128_i32_144
  v231
def k0_mult35 (k0_t2 : Fin k0_t2_loop.trips) : BitVec 32 :=
  let c31_i32_33 : BitVec 32 := 31#32
  let c0_i32_9 : BitVec 32 := 0#32
  let c1_i32_11 : BitVec 32 := 1#32
  let arg16 : BitVec 32 := Scf.iv c0_i32_9 c1_i32_11 k0_t2
  let c8_i32_31 : BitVec 32 := 8#32
  let v45 : BitVec 32 := Scalar.muli arg16 c8_i32_31
  let c3_i32_32 : BitVec 32 := 3#32
  let v46 : BitVec 32 := Scalar.addi v45 c3_i32_32
  let v47 : BitVec 32 := Scalar.subi c31_i32_33 v46
  let c128_i32_147 : BitVec 32 := 128#32
  let v236 : BitVec 32 := Scalar.muli v47 c128_i32_147
  v236
def k0_mult36 (k0_t2 : Fin k0_t2_loop.trips) : BitVec 32 :=
  let c31_i32_33 : BitVec 32 := 31#32
  let c0_i32_9 : BitVec 32 := 0#32
  let c1_i32_11 : BitVec 32 := 1#32
  let arg16 : BitVec 32 := Scf.iv c0_i32_9 c1_i32_11 k0_t2
  let c8_i32_31 : BitVec 32 := 8#32
  let v45 : BitVec 32 := Scalar.muli arg16 c8_i32_31
  let c3_i32_32 : BitVec 32 := 3#32
  let v46 : BitVec 32 := Scalar.addi v45 c3_i32_32
  let v47 : BitVec 32 := Scalar.subi c31_i32_33 v46
  let c128_i32_151 : BitVec 32 := 128#32
  let v243 : BitVec 32 := Scalar.muli v47 c128_i32_151
  v243
def k0_mult37 (k0_t2 : Fin k0_t2_loop.trips) : BitVec 32 :=
  let c31_i32_33 : BitVec 32 := 31#32
  let c0_i32_9 : BitVec 32 := 0#32
  let c1_i32_11 : BitVec 32 := 1#32
  let arg16 : BitVec 32 := Scf.iv c0_i32_9 c1_i32_11 k0_t2
  let c8_i32_31 : BitVec 32 := 8#32
  let v45 : BitVec 32 := Scalar.muli arg16 c8_i32_31
  let c3_i32_32 : BitVec 32 := 3#32
  let v46 : BitVec 32 := Scalar.addi v45 c3_i32_32
  let v47 : BitVec 32 := Scalar.subi c31_i32_33 v46
  let c128_i32_155 : BitVec 32 := 128#32
  let v250 : BitVec 32 := Scalar.muli v47 c128_i32_155
  v250
def k0_mult38 (k0_t2 : Fin k0_t2_loop.trips) : BitVec 32 :=
  let c31_i32_33 : BitVec 32 := 31#32
  let c0_i32_9 : BitVec 32 := 0#32
  let c1_i32_11 : BitVec 32 := 1#32
  let arg16 : BitVec 32 := Scf.iv c0_i32_9 c1_i32_11 k0_t2
  let c8_i32_31 : BitVec 32 := 8#32
  let v45 : BitVec 32 := Scalar.muli arg16 c8_i32_31
  let c3_i32_32 : BitVec 32 := 3#32
  let v46 : BitVec 32 := Scalar.addi v45 c3_i32_32
  let v47 : BitVec 32 := Scalar.subi c31_i32_33 v46
  let c128_i32_158 : BitVec 32 := 128#32
  let v255 : BitVec 32 := Scalar.muli v47 c128_i32_158
  v255
def k0_mult39 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_34 : BitVec 32 := 8#32
  let v48 : BitVec 32 := Scalar.muli arg16 c8_i32_34
  let c4_i32 : BitVec 32 := 4#32
  let v49 : BitVec 32 := Scalar.addi v48 c4_i32
  let c128_i32_161 : BitVec 32 := 128#32
  let v260 : BitVec 32 := Scalar.muli v49 c128_i32_161
  v260
def k0_mult40 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_34 : BitVec 32 := 8#32
  let v48 : BitVec 32 := Scalar.muli arg16 c8_i32_34
  let c4_i32 : BitVec 32 := 4#32
  let v49 : BitVec 32 := Scalar.addi v48 c4_i32
  let c128_i32_165 : BitVec 32 := 128#32
  let v267 : BitVec 32 := Scalar.muli v49 c128_i32_165
  v267
def k0_mult41 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_34 : BitVec 32 := 8#32
  let v48 : BitVec 32 := Scalar.muli arg16 c8_i32_34
  let c4_i32 : BitVec 32 := 4#32
  let v49 : BitVec 32 := Scalar.addi v48 c4_i32
  let c128_i32_169 : BitVec 32 := 128#32
  let v274 : BitVec 32 := Scalar.muli v49 c128_i32_169
  v274
def k0_mult42 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_34 : BitVec 32 := 8#32
  let v48 : BitVec 32 := Scalar.muli arg16 c8_i32_34
  let c4_i32 : BitVec 32 := 4#32
  let v49 : BitVec 32 := Scalar.addi v48 c4_i32
  let c128_i32_172 : BitVec 32 := 128#32
  let v279 : BitVec 32 := Scalar.muli v49 c128_i32_172
  v279
def k0_mult43 (k0_t2 : Fin k0_t2_loop.trips) : BitVec 32 :=
  let c31_i32_37 : BitVec 32 := 31#32
  let c0_i32_9 : BitVec 32 := 0#32
  let c1_i32_11 : BitVec 32 := 1#32
  let arg16 : BitVec 32 := Scf.iv c0_i32_9 c1_i32_11 k0_t2
  let c8_i32_35 : BitVec 32 := 8#32
  let v50 : BitVec 32 := Scalar.muli arg16 c8_i32_35
  let c4_i32_36 : BitVec 32 := 4#32
  let v51 : BitVec 32 := Scalar.addi v50 c4_i32_36
  let v52 : BitVec 32 := Scalar.subi c31_i32_37 v51
  let c128_i32_175 : BitVec 32 := 128#32
  let v284 : BitVec 32 := Scalar.muli v52 c128_i32_175
  v284
def k0_mult44 (k0_t2 : Fin k0_t2_loop.trips) : BitVec 32 :=
  let c31_i32_37 : BitVec 32 := 31#32
  let c0_i32_9 : BitVec 32 := 0#32
  let c1_i32_11 : BitVec 32 := 1#32
  let arg16 : BitVec 32 := Scf.iv c0_i32_9 c1_i32_11 k0_t2
  let c8_i32_35 : BitVec 32 := 8#32
  let v50 : BitVec 32 := Scalar.muli arg16 c8_i32_35
  let c4_i32_36 : BitVec 32 := 4#32
  let v51 : BitVec 32 := Scalar.addi v50 c4_i32_36
  let v52 : BitVec 32 := Scalar.subi c31_i32_37 v51
  let c128_i32_179 : BitVec 32 := 128#32
  let v291 : BitVec 32 := Scalar.muli v52 c128_i32_179
  v291
def k0_mult45 (k0_t2 : Fin k0_t2_loop.trips) : BitVec 32 :=
  let c31_i32_37 : BitVec 32 := 31#32
  let c0_i32_9 : BitVec 32 := 0#32
  let c1_i32_11 : BitVec 32 := 1#32
  let arg16 : BitVec 32 := Scf.iv c0_i32_9 c1_i32_11 k0_t2
  let c8_i32_35 : BitVec 32 := 8#32
  let v50 : BitVec 32 := Scalar.muli arg16 c8_i32_35
  let c4_i32_36 : BitVec 32 := 4#32
  let v51 : BitVec 32 := Scalar.addi v50 c4_i32_36
  let v52 : BitVec 32 := Scalar.subi c31_i32_37 v51
  let c128_i32_183 : BitVec 32 := 128#32
  let v298 : BitVec 32 := Scalar.muli v52 c128_i32_183
  v298
def k0_mult46 (k0_t2 : Fin k0_t2_loop.trips) : BitVec 32 :=
  let c31_i32_37 : BitVec 32 := 31#32
  let c0_i32_9 : BitVec 32 := 0#32
  let c1_i32_11 : BitVec 32 := 1#32
  let arg16 : BitVec 32 := Scf.iv c0_i32_9 c1_i32_11 k0_t2
  let c8_i32_35 : BitVec 32 := 8#32
  let v50 : BitVec 32 := Scalar.muli arg16 c8_i32_35
  let c4_i32_36 : BitVec 32 := 4#32
  let v51 : BitVec 32 := Scalar.addi v50 c4_i32_36
  let v52 : BitVec 32 := Scalar.subi c31_i32_37 v51
  let c128_i32_186 : BitVec 32 := 128#32
  let v303 : BitVec 32 := Scalar.muli v52 c128_i32_186
  v303
def k0_mult47 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_38 : BitVec 32 := 8#32
  let v53 : BitVec 32 := Scalar.muli arg16 c8_i32_38
  let c5_i32 : BitVec 32 := 5#32
  let v54 : BitVec 32 := Scalar.addi v53 c5_i32
  let c128_i32_189 : BitVec 32 := 128#32
  let v308 : BitVec 32 := Scalar.muli v54 c128_i32_189
  v308
def k0_mult48 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_38 : BitVec 32 := 8#32
  let v53 : BitVec 32 := Scalar.muli arg16 c8_i32_38
  let c5_i32 : BitVec 32 := 5#32
  let v54 : BitVec 32 := Scalar.addi v53 c5_i32
  let c128_i32_193 : BitVec 32 := 128#32
  let v315 : BitVec 32 := Scalar.muli v54 c128_i32_193
  v315
def k0_mult49 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_38 : BitVec 32 := 8#32
  let v53 : BitVec 32 := Scalar.muli arg16 c8_i32_38
  let c5_i32 : BitVec 32 := 5#32
  let v54 : BitVec 32 := Scalar.addi v53 c5_i32
  let c128_i32_197 : BitVec 32 := 128#32
  let v322 : BitVec 32 := Scalar.muli v54 c128_i32_197
  v322
def k0_mult50 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_38 : BitVec 32 := 8#32
  let v53 : BitVec 32 := Scalar.muli arg16 c8_i32_38
  let c5_i32 : BitVec 32 := 5#32
  let v54 : BitVec 32 := Scalar.addi v53 c5_i32
  let c128_i32_200 : BitVec 32 := 128#32
  let v327 : BitVec 32 := Scalar.muli v54 c128_i32_200
  v327
def k0_mult51 (k0_t2 : Fin k0_t2_loop.trips) : BitVec 32 :=
  let c31_i32_41 : BitVec 32 := 31#32
  let c0_i32_9 : BitVec 32 := 0#32
  let c1_i32_11 : BitVec 32 := 1#32
  let arg16 : BitVec 32 := Scf.iv c0_i32_9 c1_i32_11 k0_t2
  let c8_i32_39 : BitVec 32 := 8#32
  let v55 : BitVec 32 := Scalar.muli arg16 c8_i32_39
  let c5_i32_40 : BitVec 32 := 5#32
  let v56 : BitVec 32 := Scalar.addi v55 c5_i32_40
  let v57 : BitVec 32 := Scalar.subi c31_i32_41 v56
  let c128_i32_203 : BitVec 32 := 128#32
  let v332 : BitVec 32 := Scalar.muli v57 c128_i32_203
  v332
def k0_mult52 (k0_t2 : Fin k0_t2_loop.trips) : BitVec 32 :=
  let c31_i32_41 : BitVec 32 := 31#32
  let c0_i32_9 : BitVec 32 := 0#32
  let c1_i32_11 : BitVec 32 := 1#32
  let arg16 : BitVec 32 := Scf.iv c0_i32_9 c1_i32_11 k0_t2
  let c8_i32_39 : BitVec 32 := 8#32
  let v55 : BitVec 32 := Scalar.muli arg16 c8_i32_39
  let c5_i32_40 : BitVec 32 := 5#32
  let v56 : BitVec 32 := Scalar.addi v55 c5_i32_40
  let v57 : BitVec 32 := Scalar.subi c31_i32_41 v56
  let c128_i32_207 : BitVec 32 := 128#32
  let v339 : BitVec 32 := Scalar.muli v57 c128_i32_207
  v339
def k0_mult53 (k0_t2 : Fin k0_t2_loop.trips) : BitVec 32 :=
  let c31_i32_41 : BitVec 32 := 31#32
  let c0_i32_9 : BitVec 32 := 0#32
  let c1_i32_11 : BitVec 32 := 1#32
  let arg16 : BitVec 32 := Scf.iv c0_i32_9 c1_i32_11 k0_t2
  let c8_i32_39 : BitVec 32 := 8#32
  let v55 : BitVec 32 := Scalar.muli arg16 c8_i32_39
  let c5_i32_40 : BitVec 32 := 5#32
  let v56 : BitVec 32 := Scalar.addi v55 c5_i32_40
  let v57 : BitVec 32 := Scalar.subi c31_i32_41 v56
  let c128_i32_211 : BitVec 32 := 128#32
  let v346 : BitVec 32 := Scalar.muli v57 c128_i32_211
  v346
def k0_mult54 (k0_t2 : Fin k0_t2_loop.trips) : BitVec 32 :=
  let c31_i32_41 : BitVec 32 := 31#32
  let c0_i32_9 : BitVec 32 := 0#32
  let c1_i32_11 : BitVec 32 := 1#32
  let arg16 : BitVec 32 := Scf.iv c0_i32_9 c1_i32_11 k0_t2
  let c8_i32_39 : BitVec 32 := 8#32
  let v55 : BitVec 32 := Scalar.muli arg16 c8_i32_39
  let c5_i32_40 : BitVec 32 := 5#32
  let v56 : BitVec 32 := Scalar.addi v55 c5_i32_40
  let v57 : BitVec 32 := Scalar.subi c31_i32_41 v56
  let c128_i32_214 : BitVec 32 := 128#32
  let v351 : BitVec 32 := Scalar.muli v57 c128_i32_214
  v351
def k0_mult55 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_42 : BitVec 32 := 8#32
  let v58 : BitVec 32 := Scalar.muli arg16 c8_i32_42
  let c6_i32 : BitVec 32 := 6#32
  let v59 : BitVec 32 := Scalar.addi v58 c6_i32
  let c128_i32_217 : BitVec 32 := 128#32
  let v356 : BitVec 32 := Scalar.muli v59 c128_i32_217
  v356
def k0_mult56 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_42 : BitVec 32 := 8#32
  let v58 : BitVec 32 := Scalar.muli arg16 c8_i32_42
  let c6_i32 : BitVec 32 := 6#32
  let v59 : BitVec 32 := Scalar.addi v58 c6_i32
  let c128_i32_221 : BitVec 32 := 128#32
  let v363 : BitVec 32 := Scalar.muli v59 c128_i32_221
  v363
def k0_mult57 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_42 : BitVec 32 := 8#32
  let v58 : BitVec 32 := Scalar.muli arg16 c8_i32_42
  let c6_i32 : BitVec 32 := 6#32
  let v59 : BitVec 32 := Scalar.addi v58 c6_i32
  let c128_i32_225 : BitVec 32 := 128#32
  let v370 : BitVec 32 := Scalar.muli v59 c128_i32_225
  v370
def k0_mult58 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_42 : BitVec 32 := 8#32
  let v58 : BitVec 32 := Scalar.muli arg16 c8_i32_42
  let c6_i32 : BitVec 32 := 6#32
  let v59 : BitVec 32 := Scalar.addi v58 c6_i32
  let c128_i32_228 : BitVec 32 := 128#32
  let v375 : BitVec 32 := Scalar.muli v59 c128_i32_228
  v375
def k0_mult59 (k0_t2 : Fin k0_t2_loop.trips) : BitVec 32 :=
  let c31_i32_45 : BitVec 32 := 31#32
  let c0_i32_9 : BitVec 32 := 0#32
  let c1_i32_11 : BitVec 32 := 1#32
  let arg16 : BitVec 32 := Scf.iv c0_i32_9 c1_i32_11 k0_t2
  let c8_i32_43 : BitVec 32 := 8#32
  let v60 : BitVec 32 := Scalar.muli arg16 c8_i32_43
  let c6_i32_44 : BitVec 32 := 6#32
  let v61 : BitVec 32 := Scalar.addi v60 c6_i32_44
  let v62 : BitVec 32 := Scalar.subi c31_i32_45 v61
  let c128_i32_231 : BitVec 32 := 128#32
  let v380 : BitVec 32 := Scalar.muli v62 c128_i32_231
  v380
def k0_mult60 (k0_t2 : Fin k0_t2_loop.trips) : BitVec 32 :=
  let c31_i32_45 : BitVec 32 := 31#32
  let c0_i32_9 : BitVec 32 := 0#32
  let c1_i32_11 : BitVec 32 := 1#32
  let arg16 : BitVec 32 := Scf.iv c0_i32_9 c1_i32_11 k0_t2
  let c8_i32_43 : BitVec 32 := 8#32
  let v60 : BitVec 32 := Scalar.muli arg16 c8_i32_43
  let c6_i32_44 : BitVec 32 := 6#32
  let v61 : BitVec 32 := Scalar.addi v60 c6_i32_44
  let v62 : BitVec 32 := Scalar.subi c31_i32_45 v61
  let c128_i32_235 : BitVec 32 := 128#32
  let v387 : BitVec 32 := Scalar.muli v62 c128_i32_235
  v387
def k0_mult61 (k0_t2 : Fin k0_t2_loop.trips) : BitVec 32 :=
  let c31_i32_45 : BitVec 32 := 31#32
  let c0_i32_9 : BitVec 32 := 0#32
  let c1_i32_11 : BitVec 32 := 1#32
  let arg16 : BitVec 32 := Scf.iv c0_i32_9 c1_i32_11 k0_t2
  let c8_i32_43 : BitVec 32 := 8#32
  let v60 : BitVec 32 := Scalar.muli arg16 c8_i32_43
  let c6_i32_44 : BitVec 32 := 6#32
  let v61 : BitVec 32 := Scalar.addi v60 c6_i32_44
  let v62 : BitVec 32 := Scalar.subi c31_i32_45 v61
  let c128_i32_239 : BitVec 32 := 128#32
  let v394 : BitVec 32 := Scalar.muli v62 c128_i32_239
  v394
def k0_mult62 (k0_t2 : Fin k0_t2_loop.trips) : BitVec 32 :=
  let c31_i32_45 : BitVec 32 := 31#32
  let c0_i32_9 : BitVec 32 := 0#32
  let c1_i32_11 : BitVec 32 := 1#32
  let arg16 : BitVec 32 := Scf.iv c0_i32_9 c1_i32_11 k0_t2
  let c8_i32_43 : BitVec 32 := 8#32
  let v60 : BitVec 32 := Scalar.muli arg16 c8_i32_43
  let c6_i32_44 : BitVec 32 := 6#32
  let v61 : BitVec 32 := Scalar.addi v60 c6_i32_44
  let v62 : BitVec 32 := Scalar.subi c31_i32_45 v61
  let c128_i32_242 : BitVec 32 := 128#32
  let v399 : BitVec 32 := Scalar.muli v62 c128_i32_242
  v399
def k0_mult63 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_46 : BitVec 32 := 8#32
  let v63 : BitVec 32 := Scalar.muli arg16 c8_i32_46
  let c7_i32 : BitVec 32 := 7#32
  let v64 : BitVec 32 := Scalar.addi v63 c7_i32
  let c128_i32_245 : BitVec 32 := 128#32
  let v404 : BitVec 32 := Scalar.muli v64 c128_i32_245
  v404
def k0_mult64 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_46 : BitVec 32 := 8#32
  let v63 : BitVec 32 := Scalar.muli arg16 c8_i32_46
  let c7_i32 : BitVec 32 := 7#32
  let v64 : BitVec 32 := Scalar.addi v63 c7_i32
  let c128_i32_249 : BitVec 32 := 128#32
  let v411 : BitVec 32 := Scalar.muli v64 c128_i32_249
  v411
def k0_mult65 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_46 : BitVec 32 := 8#32
  let v63 : BitVec 32 := Scalar.muli arg16 c8_i32_46
  let c7_i32 : BitVec 32 := 7#32
  let v64 : BitVec 32 := Scalar.addi v63 c7_i32
  let c128_i32_253 : BitVec 32 := 128#32
  let v418 : BitVec 32 := Scalar.muli v64 c128_i32_253
  v418
def k0_mult66 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_46 : BitVec 32 := 8#32
  let v63 : BitVec 32 := Scalar.muli arg16 c8_i32_46
  let c7_i32 : BitVec 32 := 7#32
  let v64 : BitVec 32 := Scalar.addi v63 c7_i32
  let c128_i32_256 : BitVec 32 := 128#32
  let v423 : BitVec 32 := Scalar.muli v64 c128_i32_256
  v423
def k0_mult67 (k0_t2 : Fin k0_t2_loop.trips) : BitVec 32 :=
  let c31_i32_49 : BitVec 32 := 31#32
  let c0_i32_9 : BitVec 32 := 0#32
  let c1_i32_11 : BitVec 32 := 1#32
  let arg16 : BitVec 32 := Scf.iv c0_i32_9 c1_i32_11 k0_t2
  let c8_i32_47 : BitVec 32 := 8#32
  let v65 : BitVec 32 := Scalar.muli arg16 c8_i32_47
  let c7_i32_48 : BitVec 32 := 7#32
  let v66 : BitVec 32 := Scalar.addi v65 c7_i32_48
  let v67 : BitVec 32 := Scalar.subi c31_i32_49 v66
  let c128_i32_259 : BitVec 32 := 128#32
  let v428 : BitVec 32 := Scalar.muli v67 c128_i32_259
  v428
def k0_mult68 (k0_t2 : Fin k0_t2_loop.trips) : BitVec 32 :=
  let c31_i32_49 : BitVec 32 := 31#32
  let c0_i32_9 : BitVec 32 := 0#32
  let c1_i32_11 : BitVec 32 := 1#32
  let arg16 : BitVec 32 := Scf.iv c0_i32_9 c1_i32_11 k0_t2
  let c8_i32_47 : BitVec 32 := 8#32
  let v65 : BitVec 32 := Scalar.muli arg16 c8_i32_47
  let c7_i32_48 : BitVec 32 := 7#32
  let v66 : BitVec 32 := Scalar.addi v65 c7_i32_48
  let v67 : BitVec 32 := Scalar.subi c31_i32_49 v66
  let c128_i32_263 : BitVec 32 := 128#32
  let v435 : BitVec 32 := Scalar.muli v67 c128_i32_263
  v435
def k0_mult69 (k0_t2 : Fin k0_t2_loop.trips) : BitVec 32 :=
  let c31_i32_49 : BitVec 32 := 31#32
  let c0_i32_9 : BitVec 32 := 0#32
  let c1_i32_11 : BitVec 32 := 1#32
  let arg16 : BitVec 32 := Scf.iv c0_i32_9 c1_i32_11 k0_t2
  let c8_i32_47 : BitVec 32 := 8#32
  let v65 : BitVec 32 := Scalar.muli arg16 c8_i32_47
  let c7_i32_48 : BitVec 32 := 7#32
  let v66 : BitVec 32 := Scalar.addi v65 c7_i32_48
  let v67 : BitVec 32 := Scalar.subi c31_i32_49 v66
  let c128_i32_267 : BitVec 32 := 128#32
  let v442 : BitVec 32 := Scalar.muli v67 c128_i32_267
  v442
def k0_mult70 (k0_t2 : Fin k0_t2_loop.trips) : BitVec 32 :=
  let c31_i32_49 : BitVec 32 := 31#32
  let c0_i32_9 : BitVec 32 := 0#32
  let c1_i32_11 : BitVec 32 := 1#32
  let arg16 : BitVec 32 := Scf.iv c0_i32_9 c1_i32_11 k0_t2
  let c8_i32_47 : BitVec 32 := 8#32
  let v65 : BitVec 32 := Scalar.muli arg16 c8_i32_47
  let c7_i32_48 : BitVec 32 := 7#32
  let v66 : BitVec 32 := Scalar.addi v65 c7_i32_48
  let v67 : BitVec 32 := Scalar.subi c31_i32_49 v66
  let c128_i32_270 : BitVec 32 := 128#32
  let v447 : BitVec 32 := Scalar.muli v67 c128_i32_270
  v447
def k0_mult71 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32 : BitVec 32 := 8#32
  let v28 : BitVec 32 := Scalar.muli arg16 c8_i32
  let c0_i32_17 : BitVec 32 := 0#32
  let v29 : BitVec 32 := Scalar.addi v28 c0_i32_17
  let c128_i32_604 : BitVec 32 := 128#32
  let v1454 : BitVec 32 := Scalar.muli v29 c128_i32_604
  v1454
def k0_off5 (k0_t2 : Fin k0_t2_loop.trips) (c0_i32_17 : BitVec 32) : Fin 2 → Nat :=
  let c0_i32_9 : BitVec 32 := 0#32
  let c1_i32_11 : BitVec 32 := 1#32
  let arg16 : BitVec 32 := Scf.iv c0_i32_9 c1_i32_11 k0_t2
  let c8_i32 : BitVec 32 := 8#32
  let v28 : BitVec 32 := Scalar.muli arg16 c8_i32
  let v29 : BitVec 32 := Scalar.addi v28 c0_i32_17
  let c128_i32_604 : BitVec 32 := 128#32
  let v1454 : BitVec 32 := Scalar.muli v29 c128_i32_604
  let v1455 : BitVec 32 := v1454
  let v1456 : Index := Scalar.indexCast v1455
  let c0_605 : Index := 0#32
  ![v1456.toNat, 0]
def k0_mult72 (k0_t2 : Fin k0_t2_loop.trips) : BitVec 32 :=
  let c31_i32 : BitVec 32 := 31#32
  let c0_i32_9 : BitVec 32 := 0#32
  let c1_i32_11 : BitVec 32 := 1#32
  let arg16 : BitVec 32 := Scf.iv c0_i32_9 c1_i32_11 k0_t2
  let c8_i32_18 : BitVec 32 := 8#32
  let v30 : BitVec 32 := Scalar.muli arg16 c8_i32_18
  let c0_i32_19 : BitVec 32 := 0#32
  let v31 : BitVec 32 := Scalar.addi v30 c0_i32_19
  let v32 : BitVec 32 := Scalar.subi c31_i32 v31
  let c128_i32_606 : BitVec 32 := 128#32
  let v1460 : BitVec 32 := Scalar.muli v32 c128_i32_606
  v1460
def k0_off6 (k0_t2 : Fin k0_t2_loop.trips) (c0_i32_19 : BitVec 32) : Fin 2 → Nat :=
  let c31_i32 : BitVec 32 := 31#32
  let c0_i32_9 : BitVec 32 := 0#32
  let c1_i32_11 : BitVec 32 := 1#32
  let arg16 : BitVec 32 := Scf.iv c0_i32_9 c1_i32_11 k0_t2
  let c8_i32_18 : BitVec 32 := 8#32
  let v30 : BitVec 32 := Scalar.muli arg16 c8_i32_18
  let v31 : BitVec 32 := Scalar.addi v30 c0_i32_19
  let v32 : BitVec 32 := Scalar.subi c31_i32 v31
  let c128_i32_606 : BitVec 32 := 128#32
  let v1460 : BitVec 32 := Scalar.muli v32 c128_i32_606
  let v1461 : BitVec 32 := v1460
  let v1462 : Index := Scalar.indexCast v1461
  let c0_607 : Index := 0#32
  ![v1462.toNat, 0]
def k0_mult73 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_20 : BitVec 32 := 8#32
  let v33 : BitVec 32 := Scalar.muli arg16 c8_i32_20
  let c1_i32_21 : BitVec 32 := 1#32
  let v34 : BitVec 32 := Scalar.addi v33 c1_i32_21
  let c128_i32_608 : BitVec 32 := 128#32
  let v1466 : BitVec 32 := Scalar.muli v34 c128_i32_608
  v1466
def k0_mult74 (k0_t2 : Fin k0_t2_loop.trips) : BitVec 32 :=
  let c31_i32_24 : BitVec 32 := 31#32
  let c0_i32_9 : BitVec 32 := 0#32
  let c1_i32_11 : BitVec 32 := 1#32
  let arg16 : BitVec 32 := Scf.iv c0_i32_9 c1_i32_11 k0_t2
  let c8_i32_22 : BitVec 32 := 8#32
  let v35 : BitVec 32 := Scalar.muli arg16 c8_i32_22
  let c1_i32_23 : BitVec 32 := 1#32
  let v36 : BitVec 32 := Scalar.addi v35 c1_i32_23
  let v37 : BitVec 32 := Scalar.subi c31_i32_24 v36
  let c128_i32_610 : BitVec 32 := 128#32
  let v1472 : BitVec 32 := Scalar.muli v37 c128_i32_610
  v1472
def k0_mult75 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_25 : BitVec 32 := 8#32
  let v38 : BitVec 32 := Scalar.muli arg16 c8_i32_25
  let c2_i32_26 : BitVec 32 := 2#32
  let v39 : BitVec 32 := Scalar.addi v38 c2_i32_26
  let c128_i32_612 : BitVec 32 := 128#32
  let v1478 : BitVec 32 := Scalar.muli v39 c128_i32_612
  v1478
def k0_mult76 (k0_t2 : Fin k0_t2_loop.trips) : BitVec 32 :=
  let c31_i32_29 : BitVec 32 := 31#32
  let c0_i32_9 : BitVec 32 := 0#32
  let c1_i32_11 : BitVec 32 := 1#32
  let arg16 : BitVec 32 := Scf.iv c0_i32_9 c1_i32_11 k0_t2
  let c8_i32_27 : BitVec 32 := 8#32
  let v40 : BitVec 32 := Scalar.muli arg16 c8_i32_27
  let c2_i32_28 : BitVec 32 := 2#32
  let v41 : BitVec 32 := Scalar.addi v40 c2_i32_28
  let v42 : BitVec 32 := Scalar.subi c31_i32_29 v41
  let c128_i32_614 : BitVec 32 := 128#32
  let v1484 : BitVec 32 := Scalar.muli v42 c128_i32_614
  v1484
def k0_mult77 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_30 : BitVec 32 := 8#32
  let v43 : BitVec 32 := Scalar.muli arg16 c8_i32_30
  let c3_i32 : BitVec 32 := 3#32
  let v44 : BitVec 32 := Scalar.addi v43 c3_i32
  let c128_i32_616 : BitVec 32 := 128#32
  let v1490 : BitVec 32 := Scalar.muli v44 c128_i32_616
  v1490
def k0_mult78 (k0_t2 : Fin k0_t2_loop.trips) : BitVec 32 :=
  let c31_i32_33 : BitVec 32 := 31#32
  let c0_i32_9 : BitVec 32 := 0#32
  let c1_i32_11 : BitVec 32 := 1#32
  let arg16 : BitVec 32 := Scf.iv c0_i32_9 c1_i32_11 k0_t2
  let c8_i32_31 : BitVec 32 := 8#32
  let v45 : BitVec 32 := Scalar.muli arg16 c8_i32_31
  let c3_i32_32 : BitVec 32 := 3#32
  let v46 : BitVec 32 := Scalar.addi v45 c3_i32_32
  let v47 : BitVec 32 := Scalar.subi c31_i32_33 v46
  let c128_i32_618 : BitVec 32 := 128#32
  let v1496 : BitVec 32 := Scalar.muli v47 c128_i32_618
  v1496
def k0_mult79 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_34 : BitVec 32 := 8#32
  let v48 : BitVec 32 := Scalar.muli arg16 c8_i32_34
  let c4_i32 : BitVec 32 := 4#32
  let v49 : BitVec 32 := Scalar.addi v48 c4_i32
  let c128_i32_620 : BitVec 32 := 128#32
  let v1502 : BitVec 32 := Scalar.muli v49 c128_i32_620
  v1502
def k0_mult80 (k0_t2 : Fin k0_t2_loop.trips) : BitVec 32 :=
  let c31_i32_37 : BitVec 32 := 31#32
  let c0_i32_9 : BitVec 32 := 0#32
  let c1_i32_11 : BitVec 32 := 1#32
  let arg16 : BitVec 32 := Scf.iv c0_i32_9 c1_i32_11 k0_t2
  let c8_i32_35 : BitVec 32 := 8#32
  let v50 : BitVec 32 := Scalar.muli arg16 c8_i32_35
  let c4_i32_36 : BitVec 32 := 4#32
  let v51 : BitVec 32 := Scalar.addi v50 c4_i32_36
  let v52 : BitVec 32 := Scalar.subi c31_i32_37 v51
  let c128_i32_622 : BitVec 32 := 128#32
  let v1508 : BitVec 32 := Scalar.muli v52 c128_i32_622
  v1508
def k0_mult81 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_38 : BitVec 32 := 8#32
  let v53 : BitVec 32 := Scalar.muli arg16 c8_i32_38
  let c5_i32 : BitVec 32 := 5#32
  let v54 : BitVec 32 := Scalar.addi v53 c5_i32
  let c128_i32_624 : BitVec 32 := 128#32
  let v1514 : BitVec 32 := Scalar.muli v54 c128_i32_624
  v1514
def k0_mult82 (k0_t2 : Fin k0_t2_loop.trips) : BitVec 32 :=
  let c31_i32_41 : BitVec 32 := 31#32
  let c0_i32_9 : BitVec 32 := 0#32
  let c1_i32_11 : BitVec 32 := 1#32
  let arg16 : BitVec 32 := Scf.iv c0_i32_9 c1_i32_11 k0_t2
  let c8_i32_39 : BitVec 32 := 8#32
  let v55 : BitVec 32 := Scalar.muli arg16 c8_i32_39
  let c5_i32_40 : BitVec 32 := 5#32
  let v56 : BitVec 32 := Scalar.addi v55 c5_i32_40
  let v57 : BitVec 32 := Scalar.subi c31_i32_41 v56
  let c128_i32_626 : BitVec 32 := 128#32
  let v1520 : BitVec 32 := Scalar.muli v57 c128_i32_626
  v1520
def k0_mult83 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_42 : BitVec 32 := 8#32
  let v58 : BitVec 32 := Scalar.muli arg16 c8_i32_42
  let c6_i32 : BitVec 32 := 6#32
  let v59 : BitVec 32 := Scalar.addi v58 c6_i32
  let c128_i32_628 : BitVec 32 := 128#32
  let v1526 : BitVec 32 := Scalar.muli v59 c128_i32_628
  v1526
def k0_mult84 (k0_t2 : Fin k0_t2_loop.trips) : BitVec 32 :=
  let c31_i32_45 : BitVec 32 := 31#32
  let c0_i32_9 : BitVec 32 := 0#32
  let c1_i32_11 : BitVec 32 := 1#32
  let arg16 : BitVec 32 := Scf.iv c0_i32_9 c1_i32_11 k0_t2
  let c8_i32_43 : BitVec 32 := 8#32
  let v60 : BitVec 32 := Scalar.muli arg16 c8_i32_43
  let c6_i32_44 : BitVec 32 := 6#32
  let v61 : BitVec 32 := Scalar.addi v60 c6_i32_44
  let v62 : BitVec 32 := Scalar.subi c31_i32_45 v61
  let c128_i32_630 : BitVec 32 := 128#32
  let v1532 : BitVec 32 := Scalar.muli v62 c128_i32_630
  v1532
def k0_mult85 (k0_t2 : Fin k0_t2_loop.trips) : BitVec 32 :=
  let c0_i32_9 : BitVec 32 := 0#32
  let c1_i32_11 : BitVec 32 := 1#32
  let arg16 : BitVec 32 := Scf.iv c0_i32_9 c1_i32_11 k0_t2
  let c8_i32_46 : BitVec 32 := 8#32
  let v63 : BitVec 32 := Scalar.muli arg16 c8_i32_46
  let c7_i32 : BitVec 32 := 7#32
  let v64 : BitVec 32 := Scalar.addi v63 c7_i32
  let c128_i32_632 : BitVec 32 := 128#32
  let v1538 : BitVec 32 := Scalar.muli v64 c128_i32_632
  v1538
def k0_mult86 (k0_t2 : Fin k0_t2_loop.trips) : BitVec 32 :=
  let c31_i32_49 : BitVec 32 := 31#32
  let c0_i32_9 : BitVec 32 := 0#32
  let c1_i32_11 : BitVec 32 := 1#32
  let arg16 : BitVec 32 := Scf.iv c0_i32_9 c1_i32_11 k0_t2
  let c8_i32_47 : BitVec 32 := 8#32
  let v65 : BitVec 32 := Scalar.muli arg16 c8_i32_47
  let c7_i32_48 : BitVec 32 := 7#32
  let v66 : BitVec 32 := Scalar.addi v65 c7_i32_48
  let v67 : BitVec 32 := Scalar.subi c31_i32_49 v66
  let c128_i32_634 : BitVec 32 := 128#32
  let v1544 : BitVec 32 := Scalar.muli v67 c128_i32_634
  v1544
@[reducible] def k0_t3_loop : Scf.Loop 32 :=
  let c2_i32_13 : BitVec 32 := 2#32
  let c2_i32_14 : BitVec 32 := 2#32
  let v27 : BitVec 32 := Scalar.addi c2_i32_13 c2_i32_14
  let c1_i32_15 : BitVec 32 := 1#32
  ⟨c2_i32_13, v27, c1_i32_15⟩
def k0_mult87 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32 : BitVec 32 := 8#32
  let v28 : BitVec 32 := Scalar.muli arg16 c8_i32
  let c0_i32_17 : BitVec 32 := 0#32
  let v29 : BitVec 32 := Scalar.addi v28 c0_i32_17
  let c128_i32 : BitVec 32 := 128#32
  let v68 : BitVec 32 := Scalar.muli v29 c128_i32
  v68
def k0_off7 (k0_t3 : Fin k0_t3_loop.trips) (c0_i32_17 : BitVec 32) : Fin 3 → Nat :=
  let c0_50 : Index := 0#32
  let c2_i32_13 : BitVec 32 := 2#32
  let c1_i32_15 : BitVec 32 := 1#32
  let arg16 : BitVec 32 := Scf.iv c2_i32_13 c1_i32_15 k0_t3
  let c8_i32 : BitVec 32 := 8#32
  let v28 : BitVec 32 := Scalar.muli arg16 c8_i32
  let v29 : BitVec 32 := Scalar.addi v28 c0_i32_17
  let c128_i32 : BitVec 32 := 128#32
  let v68 : BitVec 32 := Scalar.muli v29 c128_i32
  let v69 : BitVec 32 := v68
  let v70 : Index := Scalar.indexCast v69
  let c0_51 : Index := 0#32
  ![0, v70.toNat, 0]
def k0_mult88 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32 : BitVec 32 := 8#32
  let v28 : BitVec 32 := Scalar.muli arg16 c8_i32
  let c0_i32_17 : BitVec 32 := 0#32
  let v29 : BitVec 32 := Scalar.addi v28 c0_i32_17
  let c128_i32_53 : BitVec 32 := 128#32
  let v75 : BitVec 32 := Scalar.muli v29 c128_i32_53
  v75
def k0_mult89 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32 : BitVec 32 := 8#32
  let v28 : BitVec 32 := Scalar.muli arg16 c8_i32
  let c0_i32_17 : BitVec 32 := 0#32
  let v29 : BitVec 32 := Scalar.addi v28 c0_i32_17
  let c128_i32_57 : BitVec 32 := 128#32
  let v82 : BitVec 32 := Scalar.muli v29 c128_i32_57
  v82
def k0_mult90 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32 : BitVec 32 := 8#32
  let v28 : BitVec 32 := Scalar.muli arg16 c8_i32
  let c0_i32_17 : BitVec 32 := 0#32
  let v29 : BitVec 32 := Scalar.addi v28 c0_i32_17
  let c128_i32_60 : BitVec 32 := 128#32
  let v87 : BitVec 32 := Scalar.muli v29 c128_i32_60
  v87
def k0_mult91 (k0_t3 : Fin k0_t3_loop.trips) : BitVec 32 :=
  let c31_i32 : BitVec 32 := 31#32
  let c2_i32_13 : BitVec 32 := 2#32
  let c1_i32_15 : BitVec 32 := 1#32
  let arg16 : BitVec 32 := Scf.iv c2_i32_13 c1_i32_15 k0_t3
  let c8_i32_18 : BitVec 32 := 8#32
  let v30 : BitVec 32 := Scalar.muli arg16 c8_i32_18
  let c0_i32_19 : BitVec 32 := 0#32
  let v31 : BitVec 32 := Scalar.addi v30 c0_i32_19
  let v32 : BitVec 32 := Scalar.subi c31_i32 v31
  let c128_i32_63 : BitVec 32 := 128#32
  let v92 : BitVec 32 := Scalar.muli v32 c128_i32_63
  v92
def k0_off8 (k0_t3 : Fin k0_t3_loop.trips) (c0_i32_19 : BitVec 32) : Fin 3 → Nat :=
  let c0_64 : Index := 0#32
  let c31_i32 : BitVec 32 := 31#32
  let c2_i32_13 : BitVec 32 := 2#32
  let c1_i32_15 : BitVec 32 := 1#32
  let arg16 : BitVec 32 := Scf.iv c2_i32_13 c1_i32_15 k0_t3
  let c8_i32_18 : BitVec 32 := 8#32
  let v30 : BitVec 32 := Scalar.muli arg16 c8_i32_18
  let v31 : BitVec 32 := Scalar.addi v30 c0_i32_19
  let v32 : BitVec 32 := Scalar.subi c31_i32 v31
  let c128_i32_63 : BitVec 32 := 128#32
  let v92 : BitVec 32 := Scalar.muli v32 c128_i32_63
  let v93 : BitVec 32 := v92
  let v94 : Index := Scalar.indexCast v93
  let c0_65 : Index := 0#32
  ![0, v94.toNat, 0]
def k0_mult92 (k0_t3 : Fin k0_t3_loop.trips) : BitVec 32 :=
  let c31_i32 : BitVec 32 := 31#32
  let c2_i32_13 : BitVec 32 := 2#32
  let c1_i32_15 : BitVec 32 := 1#32
  let arg16 : BitVec 32 := Scf.iv c2_i32_13 c1_i32_15 k0_t3
  let c8_i32_18 : BitVec 32 := 8#32
  let v30 : BitVec 32 := Scalar.muli arg16 c8_i32_18
  let c0_i32_19 : BitVec 32 := 0#32
  let v31 : BitVec 32 := Scalar.addi v30 c0_i32_19
  let v32 : BitVec 32 := Scalar.subi c31_i32 v31
  let c128_i32_67 : BitVec 32 := 128#32
  let v99 : BitVec 32 := Scalar.muli v32 c128_i32_67
  v99
def k0_mult93 (k0_t3 : Fin k0_t3_loop.trips) : BitVec 32 :=
  let c31_i32 : BitVec 32 := 31#32
  let c2_i32_13 : BitVec 32 := 2#32
  let c1_i32_15 : BitVec 32 := 1#32
  let arg16 : BitVec 32 := Scf.iv c2_i32_13 c1_i32_15 k0_t3
  let c8_i32_18 : BitVec 32 := 8#32
  let v30 : BitVec 32 := Scalar.muli arg16 c8_i32_18
  let c0_i32_19 : BitVec 32 := 0#32
  let v31 : BitVec 32 := Scalar.addi v30 c0_i32_19
  let v32 : BitVec 32 := Scalar.subi c31_i32 v31
  let c128_i32_71 : BitVec 32 := 128#32
  let v106 : BitVec 32 := Scalar.muli v32 c128_i32_71
  v106
def k0_mult94 (k0_t3 : Fin k0_t3_loop.trips) : BitVec 32 :=
  let c31_i32 : BitVec 32 := 31#32
  let c2_i32_13 : BitVec 32 := 2#32
  let c1_i32_15 : BitVec 32 := 1#32
  let arg16 : BitVec 32 := Scf.iv c2_i32_13 c1_i32_15 k0_t3
  let c8_i32_18 : BitVec 32 := 8#32
  let v30 : BitVec 32 := Scalar.muli arg16 c8_i32_18
  let c0_i32_19 : BitVec 32 := 0#32
  let v31 : BitVec 32 := Scalar.addi v30 c0_i32_19
  let v32 : BitVec 32 := Scalar.subi c31_i32 v31
  let c128_i32_74 : BitVec 32 := 128#32
  let v111 : BitVec 32 := Scalar.muli v32 c128_i32_74
  v111
def k0_mult95 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_20 : BitVec 32 := 8#32
  let v33 : BitVec 32 := Scalar.muli arg16 c8_i32_20
  let c1_i32_21 : BitVec 32 := 1#32
  let v34 : BitVec 32 := Scalar.addi v33 c1_i32_21
  let c128_i32_77 : BitVec 32 := 128#32
  let v116 : BitVec 32 := Scalar.muli v34 c128_i32_77
  v116
def k0_mult96 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_20 : BitVec 32 := 8#32
  let v33 : BitVec 32 := Scalar.muli arg16 c8_i32_20
  let c1_i32_21 : BitVec 32 := 1#32
  let v34 : BitVec 32 := Scalar.addi v33 c1_i32_21
  let c128_i32_81 : BitVec 32 := 128#32
  let v123 : BitVec 32 := Scalar.muli v34 c128_i32_81
  v123
def k0_mult97 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_20 : BitVec 32 := 8#32
  let v33 : BitVec 32 := Scalar.muli arg16 c8_i32_20
  let c1_i32_21 : BitVec 32 := 1#32
  let v34 : BitVec 32 := Scalar.addi v33 c1_i32_21
  let c128_i32_85 : BitVec 32 := 128#32
  let v130 : BitVec 32 := Scalar.muli v34 c128_i32_85
  v130
def k0_mult98 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_20 : BitVec 32 := 8#32
  let v33 : BitVec 32 := Scalar.muli arg16 c8_i32_20
  let c1_i32_21 : BitVec 32 := 1#32
  let v34 : BitVec 32 := Scalar.addi v33 c1_i32_21
  let c128_i32_88 : BitVec 32 := 128#32
  let v135 : BitVec 32 := Scalar.muli v34 c128_i32_88
  v135
def k0_mult99 (k0_t3 : Fin k0_t3_loop.trips) : BitVec 32 :=
  let c31_i32_24 : BitVec 32 := 31#32
  let c2_i32_13 : BitVec 32 := 2#32
  let c1_i32_15 : BitVec 32 := 1#32
  let arg16 : BitVec 32 := Scf.iv c2_i32_13 c1_i32_15 k0_t3
  let c8_i32_22 : BitVec 32 := 8#32
  let v35 : BitVec 32 := Scalar.muli arg16 c8_i32_22
  let c1_i32_23 : BitVec 32 := 1#32
  let v36 : BitVec 32 := Scalar.addi v35 c1_i32_23
  let v37 : BitVec 32 := Scalar.subi c31_i32_24 v36
  let c128_i32_91 : BitVec 32 := 128#32
  let v140 : BitVec 32 := Scalar.muli v37 c128_i32_91
  v140
def k0_mult100 (k0_t3 : Fin k0_t3_loop.trips) : BitVec 32 :=
  let c31_i32_24 : BitVec 32 := 31#32
  let c2_i32_13 : BitVec 32 := 2#32
  let c1_i32_15 : BitVec 32 := 1#32
  let arg16 : BitVec 32 := Scf.iv c2_i32_13 c1_i32_15 k0_t3
  let c8_i32_22 : BitVec 32 := 8#32
  let v35 : BitVec 32 := Scalar.muli arg16 c8_i32_22
  let c1_i32_23 : BitVec 32 := 1#32
  let v36 : BitVec 32 := Scalar.addi v35 c1_i32_23
  let v37 : BitVec 32 := Scalar.subi c31_i32_24 v36
  let c128_i32_95 : BitVec 32 := 128#32
  let v147 : BitVec 32 := Scalar.muli v37 c128_i32_95
  v147
def k0_mult101 (k0_t3 : Fin k0_t3_loop.trips) : BitVec 32 :=
  let c31_i32_24 : BitVec 32 := 31#32
  let c2_i32_13 : BitVec 32 := 2#32
  let c1_i32_15 : BitVec 32 := 1#32
  let arg16 : BitVec 32 := Scf.iv c2_i32_13 c1_i32_15 k0_t3
  let c8_i32_22 : BitVec 32 := 8#32
  let v35 : BitVec 32 := Scalar.muli arg16 c8_i32_22
  let c1_i32_23 : BitVec 32 := 1#32
  let v36 : BitVec 32 := Scalar.addi v35 c1_i32_23
  let v37 : BitVec 32 := Scalar.subi c31_i32_24 v36
  let c128_i32_99 : BitVec 32 := 128#32
  let v154 : BitVec 32 := Scalar.muli v37 c128_i32_99
  v154
def k0_mult102 (k0_t3 : Fin k0_t3_loop.trips) : BitVec 32 :=
  let c31_i32_24 : BitVec 32 := 31#32
  let c2_i32_13 : BitVec 32 := 2#32
  let c1_i32_15 : BitVec 32 := 1#32
  let arg16 : BitVec 32 := Scf.iv c2_i32_13 c1_i32_15 k0_t3
  let c8_i32_22 : BitVec 32 := 8#32
  let v35 : BitVec 32 := Scalar.muli arg16 c8_i32_22
  let c1_i32_23 : BitVec 32 := 1#32
  let v36 : BitVec 32 := Scalar.addi v35 c1_i32_23
  let v37 : BitVec 32 := Scalar.subi c31_i32_24 v36
  let c128_i32_102 : BitVec 32 := 128#32
  let v159 : BitVec 32 := Scalar.muli v37 c128_i32_102
  v159
def k0_mult103 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_25 : BitVec 32 := 8#32
  let v38 : BitVec 32 := Scalar.muli arg16 c8_i32_25
  let c2_i32_26 : BitVec 32 := 2#32
  let v39 : BitVec 32 := Scalar.addi v38 c2_i32_26
  let c128_i32_105 : BitVec 32 := 128#32
  let v164 : BitVec 32 := Scalar.muli v39 c128_i32_105
  v164
def k0_mult104 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_25 : BitVec 32 := 8#32
  let v38 : BitVec 32 := Scalar.muli arg16 c8_i32_25
  let c2_i32_26 : BitVec 32 := 2#32
  let v39 : BitVec 32 := Scalar.addi v38 c2_i32_26
  let c128_i32_109 : BitVec 32 := 128#32
  let v171 : BitVec 32 := Scalar.muli v39 c128_i32_109
  v171
def k0_mult105 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_25 : BitVec 32 := 8#32
  let v38 : BitVec 32 := Scalar.muli arg16 c8_i32_25
  let c2_i32_26 : BitVec 32 := 2#32
  let v39 : BitVec 32 := Scalar.addi v38 c2_i32_26
  let c128_i32_113 : BitVec 32 := 128#32
  let v178 : BitVec 32 := Scalar.muli v39 c128_i32_113
  v178
def k0_mult106 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_25 : BitVec 32 := 8#32
  let v38 : BitVec 32 := Scalar.muli arg16 c8_i32_25
  let c2_i32_26 : BitVec 32 := 2#32
  let v39 : BitVec 32 := Scalar.addi v38 c2_i32_26
  let c128_i32_116 : BitVec 32 := 128#32
  let v183 : BitVec 32 := Scalar.muli v39 c128_i32_116
  v183
def k0_mult107 (k0_t3 : Fin k0_t3_loop.trips) : BitVec 32 :=
  let c31_i32_29 : BitVec 32 := 31#32
  let c2_i32_13 : BitVec 32 := 2#32
  let c1_i32_15 : BitVec 32 := 1#32
  let arg16 : BitVec 32 := Scf.iv c2_i32_13 c1_i32_15 k0_t3
  let c8_i32_27 : BitVec 32 := 8#32
  let v40 : BitVec 32 := Scalar.muli arg16 c8_i32_27
  let c2_i32_28 : BitVec 32 := 2#32
  let v41 : BitVec 32 := Scalar.addi v40 c2_i32_28
  let v42 : BitVec 32 := Scalar.subi c31_i32_29 v41
  let c128_i32_119 : BitVec 32 := 128#32
  let v188 : BitVec 32 := Scalar.muli v42 c128_i32_119
  v188
def k0_mult108 (k0_t3 : Fin k0_t3_loop.trips) : BitVec 32 :=
  let c31_i32_29 : BitVec 32 := 31#32
  let c2_i32_13 : BitVec 32 := 2#32
  let c1_i32_15 : BitVec 32 := 1#32
  let arg16 : BitVec 32 := Scf.iv c2_i32_13 c1_i32_15 k0_t3
  let c8_i32_27 : BitVec 32 := 8#32
  let v40 : BitVec 32 := Scalar.muli arg16 c8_i32_27
  let c2_i32_28 : BitVec 32 := 2#32
  let v41 : BitVec 32 := Scalar.addi v40 c2_i32_28
  let v42 : BitVec 32 := Scalar.subi c31_i32_29 v41
  let c128_i32_123 : BitVec 32 := 128#32
  let v195 : BitVec 32 := Scalar.muli v42 c128_i32_123
  v195
def k0_mult109 (k0_t3 : Fin k0_t3_loop.trips) : BitVec 32 :=
  let c31_i32_29 : BitVec 32 := 31#32
  let c2_i32_13 : BitVec 32 := 2#32
  let c1_i32_15 : BitVec 32 := 1#32
  let arg16 : BitVec 32 := Scf.iv c2_i32_13 c1_i32_15 k0_t3
  let c8_i32_27 : BitVec 32 := 8#32
  let v40 : BitVec 32 := Scalar.muli arg16 c8_i32_27
  let c2_i32_28 : BitVec 32 := 2#32
  let v41 : BitVec 32 := Scalar.addi v40 c2_i32_28
  let v42 : BitVec 32 := Scalar.subi c31_i32_29 v41
  let c128_i32_127 : BitVec 32 := 128#32
  let v202 : BitVec 32 := Scalar.muli v42 c128_i32_127
  v202
def k0_mult110 (k0_t3 : Fin k0_t3_loop.trips) : BitVec 32 :=
  let c31_i32_29 : BitVec 32 := 31#32
  let c2_i32_13 : BitVec 32 := 2#32
  let c1_i32_15 : BitVec 32 := 1#32
  let arg16 : BitVec 32 := Scf.iv c2_i32_13 c1_i32_15 k0_t3
  let c8_i32_27 : BitVec 32 := 8#32
  let v40 : BitVec 32 := Scalar.muli arg16 c8_i32_27
  let c2_i32_28 : BitVec 32 := 2#32
  let v41 : BitVec 32 := Scalar.addi v40 c2_i32_28
  let v42 : BitVec 32 := Scalar.subi c31_i32_29 v41
  let c128_i32_130 : BitVec 32 := 128#32
  let v207 : BitVec 32 := Scalar.muli v42 c128_i32_130
  v207
def k0_mult111 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_30 : BitVec 32 := 8#32
  let v43 : BitVec 32 := Scalar.muli arg16 c8_i32_30
  let c3_i32 : BitVec 32 := 3#32
  let v44 : BitVec 32 := Scalar.addi v43 c3_i32
  let c128_i32_133 : BitVec 32 := 128#32
  let v212 : BitVec 32 := Scalar.muli v44 c128_i32_133
  v212
def k0_mult112 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_30 : BitVec 32 := 8#32
  let v43 : BitVec 32 := Scalar.muli arg16 c8_i32_30
  let c3_i32 : BitVec 32 := 3#32
  let v44 : BitVec 32 := Scalar.addi v43 c3_i32
  let c128_i32_137 : BitVec 32 := 128#32
  let v219 : BitVec 32 := Scalar.muli v44 c128_i32_137
  v219
def k0_mult113 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_30 : BitVec 32 := 8#32
  let v43 : BitVec 32 := Scalar.muli arg16 c8_i32_30
  let c3_i32 : BitVec 32 := 3#32
  let v44 : BitVec 32 := Scalar.addi v43 c3_i32
  let c128_i32_141 : BitVec 32 := 128#32
  let v226 : BitVec 32 := Scalar.muli v44 c128_i32_141
  v226
def k0_mult114 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_30 : BitVec 32 := 8#32
  let v43 : BitVec 32 := Scalar.muli arg16 c8_i32_30
  let c3_i32 : BitVec 32 := 3#32
  let v44 : BitVec 32 := Scalar.addi v43 c3_i32
  let c128_i32_144 : BitVec 32 := 128#32
  let v231 : BitVec 32 := Scalar.muli v44 c128_i32_144
  v231
def k0_mult115 (k0_t3 : Fin k0_t3_loop.trips) : BitVec 32 :=
  let c31_i32_33 : BitVec 32 := 31#32
  let c2_i32_13 : BitVec 32 := 2#32
  let c1_i32_15 : BitVec 32 := 1#32
  let arg16 : BitVec 32 := Scf.iv c2_i32_13 c1_i32_15 k0_t3
  let c8_i32_31 : BitVec 32 := 8#32
  let v45 : BitVec 32 := Scalar.muli arg16 c8_i32_31
  let c3_i32_32 : BitVec 32 := 3#32
  let v46 : BitVec 32 := Scalar.addi v45 c3_i32_32
  let v47 : BitVec 32 := Scalar.subi c31_i32_33 v46
  let c128_i32_147 : BitVec 32 := 128#32
  let v236 : BitVec 32 := Scalar.muli v47 c128_i32_147
  v236
def k0_mult116 (k0_t3 : Fin k0_t3_loop.trips) : BitVec 32 :=
  let c31_i32_33 : BitVec 32 := 31#32
  let c2_i32_13 : BitVec 32 := 2#32
  let c1_i32_15 : BitVec 32 := 1#32
  let arg16 : BitVec 32 := Scf.iv c2_i32_13 c1_i32_15 k0_t3
  let c8_i32_31 : BitVec 32 := 8#32
  let v45 : BitVec 32 := Scalar.muli arg16 c8_i32_31
  let c3_i32_32 : BitVec 32 := 3#32
  let v46 : BitVec 32 := Scalar.addi v45 c3_i32_32
  let v47 : BitVec 32 := Scalar.subi c31_i32_33 v46
  let c128_i32_151 : BitVec 32 := 128#32
  let v243 : BitVec 32 := Scalar.muli v47 c128_i32_151
  v243
def k0_mult117 (k0_t3 : Fin k0_t3_loop.trips) : BitVec 32 :=
  let c31_i32_33 : BitVec 32 := 31#32
  let c2_i32_13 : BitVec 32 := 2#32
  let c1_i32_15 : BitVec 32 := 1#32
  let arg16 : BitVec 32 := Scf.iv c2_i32_13 c1_i32_15 k0_t3
  let c8_i32_31 : BitVec 32 := 8#32
  let v45 : BitVec 32 := Scalar.muli arg16 c8_i32_31
  let c3_i32_32 : BitVec 32 := 3#32
  let v46 : BitVec 32 := Scalar.addi v45 c3_i32_32
  let v47 : BitVec 32 := Scalar.subi c31_i32_33 v46
  let c128_i32_155 : BitVec 32 := 128#32
  let v250 : BitVec 32 := Scalar.muli v47 c128_i32_155
  v250
def k0_mult118 (k0_t3 : Fin k0_t3_loop.trips) : BitVec 32 :=
  let c31_i32_33 : BitVec 32 := 31#32
  let c2_i32_13 : BitVec 32 := 2#32
  let c1_i32_15 : BitVec 32 := 1#32
  let arg16 : BitVec 32 := Scf.iv c2_i32_13 c1_i32_15 k0_t3
  let c8_i32_31 : BitVec 32 := 8#32
  let v45 : BitVec 32 := Scalar.muli arg16 c8_i32_31
  let c3_i32_32 : BitVec 32 := 3#32
  let v46 : BitVec 32 := Scalar.addi v45 c3_i32_32
  let v47 : BitVec 32 := Scalar.subi c31_i32_33 v46
  let c128_i32_158 : BitVec 32 := 128#32
  let v255 : BitVec 32 := Scalar.muli v47 c128_i32_158
  v255
def k0_mult119 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_34 : BitVec 32 := 8#32
  let v48 : BitVec 32 := Scalar.muli arg16 c8_i32_34
  let c4_i32 : BitVec 32 := 4#32
  let v49 : BitVec 32 := Scalar.addi v48 c4_i32
  let c128_i32_161 : BitVec 32 := 128#32
  let v260 : BitVec 32 := Scalar.muli v49 c128_i32_161
  v260
def k0_mult120 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_34 : BitVec 32 := 8#32
  let v48 : BitVec 32 := Scalar.muli arg16 c8_i32_34
  let c4_i32 : BitVec 32 := 4#32
  let v49 : BitVec 32 := Scalar.addi v48 c4_i32
  let c128_i32_165 : BitVec 32 := 128#32
  let v267 : BitVec 32 := Scalar.muli v49 c128_i32_165
  v267
def k0_mult121 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_34 : BitVec 32 := 8#32
  let v48 : BitVec 32 := Scalar.muli arg16 c8_i32_34
  let c4_i32 : BitVec 32 := 4#32
  let v49 : BitVec 32 := Scalar.addi v48 c4_i32
  let c128_i32_169 : BitVec 32 := 128#32
  let v274 : BitVec 32 := Scalar.muli v49 c128_i32_169
  v274
def k0_mult122 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_34 : BitVec 32 := 8#32
  let v48 : BitVec 32 := Scalar.muli arg16 c8_i32_34
  let c4_i32 : BitVec 32 := 4#32
  let v49 : BitVec 32 := Scalar.addi v48 c4_i32
  let c128_i32_172 : BitVec 32 := 128#32
  let v279 : BitVec 32 := Scalar.muli v49 c128_i32_172
  v279
def k0_mult123 (k0_t3 : Fin k0_t3_loop.trips) : BitVec 32 :=
  let c31_i32_37 : BitVec 32 := 31#32
  let c2_i32_13 : BitVec 32 := 2#32
  let c1_i32_15 : BitVec 32 := 1#32
  let arg16 : BitVec 32 := Scf.iv c2_i32_13 c1_i32_15 k0_t3
  let c8_i32_35 : BitVec 32 := 8#32
  let v50 : BitVec 32 := Scalar.muli arg16 c8_i32_35
  let c4_i32_36 : BitVec 32 := 4#32
  let v51 : BitVec 32 := Scalar.addi v50 c4_i32_36
  let v52 : BitVec 32 := Scalar.subi c31_i32_37 v51
  let c128_i32_175 : BitVec 32 := 128#32
  let v284 : BitVec 32 := Scalar.muli v52 c128_i32_175
  v284
def k0_mult124 (k0_t3 : Fin k0_t3_loop.trips) : BitVec 32 :=
  let c31_i32_37 : BitVec 32 := 31#32
  let c2_i32_13 : BitVec 32 := 2#32
  let c1_i32_15 : BitVec 32 := 1#32
  let arg16 : BitVec 32 := Scf.iv c2_i32_13 c1_i32_15 k0_t3
  let c8_i32_35 : BitVec 32 := 8#32
  let v50 : BitVec 32 := Scalar.muli arg16 c8_i32_35
  let c4_i32_36 : BitVec 32 := 4#32
  let v51 : BitVec 32 := Scalar.addi v50 c4_i32_36
  let v52 : BitVec 32 := Scalar.subi c31_i32_37 v51
  let c128_i32_179 : BitVec 32 := 128#32
  let v291 : BitVec 32 := Scalar.muli v52 c128_i32_179
  v291
def k0_mult125 (k0_t3 : Fin k0_t3_loop.trips) : BitVec 32 :=
  let c31_i32_37 : BitVec 32 := 31#32
  let c2_i32_13 : BitVec 32 := 2#32
  let c1_i32_15 : BitVec 32 := 1#32
  let arg16 : BitVec 32 := Scf.iv c2_i32_13 c1_i32_15 k0_t3
  let c8_i32_35 : BitVec 32 := 8#32
  let v50 : BitVec 32 := Scalar.muli arg16 c8_i32_35
  let c4_i32_36 : BitVec 32 := 4#32
  let v51 : BitVec 32 := Scalar.addi v50 c4_i32_36
  let v52 : BitVec 32 := Scalar.subi c31_i32_37 v51
  let c128_i32_183 : BitVec 32 := 128#32
  let v298 : BitVec 32 := Scalar.muli v52 c128_i32_183
  v298
def k0_mult126 (k0_t3 : Fin k0_t3_loop.trips) : BitVec 32 :=
  let c31_i32_37 : BitVec 32 := 31#32
  let c2_i32_13 : BitVec 32 := 2#32
  let c1_i32_15 : BitVec 32 := 1#32
  let arg16 : BitVec 32 := Scf.iv c2_i32_13 c1_i32_15 k0_t3
  let c8_i32_35 : BitVec 32 := 8#32
  let v50 : BitVec 32 := Scalar.muli arg16 c8_i32_35
  let c4_i32_36 : BitVec 32 := 4#32
  let v51 : BitVec 32 := Scalar.addi v50 c4_i32_36
  let v52 : BitVec 32 := Scalar.subi c31_i32_37 v51
  let c128_i32_186 : BitVec 32 := 128#32
  let v303 : BitVec 32 := Scalar.muli v52 c128_i32_186
  v303
def k0_mult127 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_38 : BitVec 32 := 8#32
  let v53 : BitVec 32 := Scalar.muli arg16 c8_i32_38
  let c5_i32 : BitVec 32 := 5#32
  let v54 : BitVec 32 := Scalar.addi v53 c5_i32
  let c128_i32_189 : BitVec 32 := 128#32
  let v308 : BitVec 32 := Scalar.muli v54 c128_i32_189
  v308
def k0_mult128 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_38 : BitVec 32 := 8#32
  let v53 : BitVec 32 := Scalar.muli arg16 c8_i32_38
  let c5_i32 : BitVec 32 := 5#32
  let v54 : BitVec 32 := Scalar.addi v53 c5_i32
  let c128_i32_193 : BitVec 32 := 128#32
  let v315 : BitVec 32 := Scalar.muli v54 c128_i32_193
  v315
def k0_mult129 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_38 : BitVec 32 := 8#32
  let v53 : BitVec 32 := Scalar.muli arg16 c8_i32_38
  let c5_i32 : BitVec 32 := 5#32
  let v54 : BitVec 32 := Scalar.addi v53 c5_i32
  let c128_i32_197 : BitVec 32 := 128#32
  let v322 : BitVec 32 := Scalar.muli v54 c128_i32_197
  v322
def k0_mult130 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_38 : BitVec 32 := 8#32
  let v53 : BitVec 32 := Scalar.muli arg16 c8_i32_38
  let c5_i32 : BitVec 32 := 5#32
  let v54 : BitVec 32 := Scalar.addi v53 c5_i32
  let c128_i32_200 : BitVec 32 := 128#32
  let v327 : BitVec 32 := Scalar.muli v54 c128_i32_200
  v327
def k0_mult131 (k0_t3 : Fin k0_t3_loop.trips) : BitVec 32 :=
  let c31_i32_41 : BitVec 32 := 31#32
  let c2_i32_13 : BitVec 32 := 2#32
  let c1_i32_15 : BitVec 32 := 1#32
  let arg16 : BitVec 32 := Scf.iv c2_i32_13 c1_i32_15 k0_t3
  let c8_i32_39 : BitVec 32 := 8#32
  let v55 : BitVec 32 := Scalar.muli arg16 c8_i32_39
  let c5_i32_40 : BitVec 32 := 5#32
  let v56 : BitVec 32 := Scalar.addi v55 c5_i32_40
  let v57 : BitVec 32 := Scalar.subi c31_i32_41 v56
  let c128_i32_203 : BitVec 32 := 128#32
  let v332 : BitVec 32 := Scalar.muli v57 c128_i32_203
  v332
def k0_mult132 (k0_t3 : Fin k0_t3_loop.trips) : BitVec 32 :=
  let c31_i32_41 : BitVec 32 := 31#32
  let c2_i32_13 : BitVec 32 := 2#32
  let c1_i32_15 : BitVec 32 := 1#32
  let arg16 : BitVec 32 := Scf.iv c2_i32_13 c1_i32_15 k0_t3
  let c8_i32_39 : BitVec 32 := 8#32
  let v55 : BitVec 32 := Scalar.muli arg16 c8_i32_39
  let c5_i32_40 : BitVec 32 := 5#32
  let v56 : BitVec 32 := Scalar.addi v55 c5_i32_40
  let v57 : BitVec 32 := Scalar.subi c31_i32_41 v56
  let c128_i32_207 : BitVec 32 := 128#32
  let v339 : BitVec 32 := Scalar.muli v57 c128_i32_207
  v339
def k0_mult133 (k0_t3 : Fin k0_t3_loop.trips) : BitVec 32 :=
  let c31_i32_41 : BitVec 32 := 31#32
  let c2_i32_13 : BitVec 32 := 2#32
  let c1_i32_15 : BitVec 32 := 1#32
  let arg16 : BitVec 32 := Scf.iv c2_i32_13 c1_i32_15 k0_t3
  let c8_i32_39 : BitVec 32 := 8#32
  let v55 : BitVec 32 := Scalar.muli arg16 c8_i32_39
  let c5_i32_40 : BitVec 32 := 5#32
  let v56 : BitVec 32 := Scalar.addi v55 c5_i32_40
  let v57 : BitVec 32 := Scalar.subi c31_i32_41 v56
  let c128_i32_211 : BitVec 32 := 128#32
  let v346 : BitVec 32 := Scalar.muli v57 c128_i32_211
  v346
def k0_mult134 (k0_t3 : Fin k0_t3_loop.trips) : BitVec 32 :=
  let c31_i32_41 : BitVec 32 := 31#32
  let c2_i32_13 : BitVec 32 := 2#32
  let c1_i32_15 : BitVec 32 := 1#32
  let arg16 : BitVec 32 := Scf.iv c2_i32_13 c1_i32_15 k0_t3
  let c8_i32_39 : BitVec 32 := 8#32
  let v55 : BitVec 32 := Scalar.muli arg16 c8_i32_39
  let c5_i32_40 : BitVec 32 := 5#32
  let v56 : BitVec 32 := Scalar.addi v55 c5_i32_40
  let v57 : BitVec 32 := Scalar.subi c31_i32_41 v56
  let c128_i32_214 : BitVec 32 := 128#32
  let v351 : BitVec 32 := Scalar.muli v57 c128_i32_214
  v351
def k0_mult135 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_42 : BitVec 32 := 8#32
  let v58 : BitVec 32 := Scalar.muli arg16 c8_i32_42
  let c6_i32 : BitVec 32 := 6#32
  let v59 : BitVec 32 := Scalar.addi v58 c6_i32
  let c128_i32_217 : BitVec 32 := 128#32
  let v356 : BitVec 32 := Scalar.muli v59 c128_i32_217
  v356
def k0_mult136 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_42 : BitVec 32 := 8#32
  let v58 : BitVec 32 := Scalar.muli arg16 c8_i32_42
  let c6_i32 : BitVec 32 := 6#32
  let v59 : BitVec 32 := Scalar.addi v58 c6_i32
  let c128_i32_221 : BitVec 32 := 128#32
  let v363 : BitVec 32 := Scalar.muli v59 c128_i32_221
  v363
def k0_mult137 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_42 : BitVec 32 := 8#32
  let v58 : BitVec 32 := Scalar.muli arg16 c8_i32_42
  let c6_i32 : BitVec 32 := 6#32
  let v59 : BitVec 32 := Scalar.addi v58 c6_i32
  let c128_i32_225 : BitVec 32 := 128#32
  let v370 : BitVec 32 := Scalar.muli v59 c128_i32_225
  v370
def k0_mult138 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_42 : BitVec 32 := 8#32
  let v58 : BitVec 32 := Scalar.muli arg16 c8_i32_42
  let c6_i32 : BitVec 32 := 6#32
  let v59 : BitVec 32 := Scalar.addi v58 c6_i32
  let c128_i32_228 : BitVec 32 := 128#32
  let v375 : BitVec 32 := Scalar.muli v59 c128_i32_228
  v375
def k0_mult139 (k0_t3 : Fin k0_t3_loop.trips) : BitVec 32 :=
  let c31_i32_45 : BitVec 32 := 31#32
  let c2_i32_13 : BitVec 32 := 2#32
  let c1_i32_15 : BitVec 32 := 1#32
  let arg16 : BitVec 32 := Scf.iv c2_i32_13 c1_i32_15 k0_t3
  let c8_i32_43 : BitVec 32 := 8#32
  let v60 : BitVec 32 := Scalar.muli arg16 c8_i32_43
  let c6_i32_44 : BitVec 32 := 6#32
  let v61 : BitVec 32 := Scalar.addi v60 c6_i32_44
  let v62 : BitVec 32 := Scalar.subi c31_i32_45 v61
  let c128_i32_231 : BitVec 32 := 128#32
  let v380 : BitVec 32 := Scalar.muli v62 c128_i32_231
  v380
def k0_mult140 (k0_t3 : Fin k0_t3_loop.trips) : BitVec 32 :=
  let c31_i32_45 : BitVec 32 := 31#32
  let c2_i32_13 : BitVec 32 := 2#32
  let c1_i32_15 : BitVec 32 := 1#32
  let arg16 : BitVec 32 := Scf.iv c2_i32_13 c1_i32_15 k0_t3
  let c8_i32_43 : BitVec 32 := 8#32
  let v60 : BitVec 32 := Scalar.muli arg16 c8_i32_43
  let c6_i32_44 : BitVec 32 := 6#32
  let v61 : BitVec 32 := Scalar.addi v60 c6_i32_44
  let v62 : BitVec 32 := Scalar.subi c31_i32_45 v61
  let c128_i32_235 : BitVec 32 := 128#32
  let v387 : BitVec 32 := Scalar.muli v62 c128_i32_235
  v387
def k0_mult141 (k0_t3 : Fin k0_t3_loop.trips) : BitVec 32 :=
  let c31_i32_45 : BitVec 32 := 31#32
  let c2_i32_13 : BitVec 32 := 2#32
  let c1_i32_15 : BitVec 32 := 1#32
  let arg16 : BitVec 32 := Scf.iv c2_i32_13 c1_i32_15 k0_t3
  let c8_i32_43 : BitVec 32 := 8#32
  let v60 : BitVec 32 := Scalar.muli arg16 c8_i32_43
  let c6_i32_44 : BitVec 32 := 6#32
  let v61 : BitVec 32 := Scalar.addi v60 c6_i32_44
  let v62 : BitVec 32 := Scalar.subi c31_i32_45 v61
  let c128_i32_239 : BitVec 32 := 128#32
  let v394 : BitVec 32 := Scalar.muli v62 c128_i32_239
  v394
def k0_mult142 (k0_t3 : Fin k0_t3_loop.trips) : BitVec 32 :=
  let c31_i32_45 : BitVec 32 := 31#32
  let c2_i32_13 : BitVec 32 := 2#32
  let c1_i32_15 : BitVec 32 := 1#32
  let arg16 : BitVec 32 := Scf.iv c2_i32_13 c1_i32_15 k0_t3
  let c8_i32_43 : BitVec 32 := 8#32
  let v60 : BitVec 32 := Scalar.muli arg16 c8_i32_43
  let c6_i32_44 : BitVec 32 := 6#32
  let v61 : BitVec 32 := Scalar.addi v60 c6_i32_44
  let v62 : BitVec 32 := Scalar.subi c31_i32_45 v61
  let c128_i32_242 : BitVec 32 := 128#32
  let v399 : BitVec 32 := Scalar.muli v62 c128_i32_242
  v399
def k0_mult143 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_46 : BitVec 32 := 8#32
  let v63 : BitVec 32 := Scalar.muli arg16 c8_i32_46
  let c7_i32 : BitVec 32 := 7#32
  let v64 : BitVec 32 := Scalar.addi v63 c7_i32
  let c128_i32_245 : BitVec 32 := 128#32
  let v404 : BitVec 32 := Scalar.muli v64 c128_i32_245
  v404
def k0_mult144 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_46 : BitVec 32 := 8#32
  let v63 : BitVec 32 := Scalar.muli arg16 c8_i32_46
  let c7_i32 : BitVec 32 := 7#32
  let v64 : BitVec 32 := Scalar.addi v63 c7_i32
  let c128_i32_249 : BitVec 32 := 128#32
  let v411 : BitVec 32 := Scalar.muli v64 c128_i32_249
  v411
def k0_mult145 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_46 : BitVec 32 := 8#32
  let v63 : BitVec 32 := Scalar.muli arg16 c8_i32_46
  let c7_i32 : BitVec 32 := 7#32
  let v64 : BitVec 32 := Scalar.addi v63 c7_i32
  let c128_i32_253 : BitVec 32 := 128#32
  let v418 : BitVec 32 := Scalar.muli v64 c128_i32_253
  v418
def k0_mult146 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_46 : BitVec 32 := 8#32
  let v63 : BitVec 32 := Scalar.muli arg16 c8_i32_46
  let c7_i32 : BitVec 32 := 7#32
  let v64 : BitVec 32 := Scalar.addi v63 c7_i32
  let c128_i32_256 : BitVec 32 := 128#32
  let v423 : BitVec 32 := Scalar.muli v64 c128_i32_256
  v423
def k0_mult147 (k0_t3 : Fin k0_t3_loop.trips) : BitVec 32 :=
  let c31_i32_49 : BitVec 32 := 31#32
  let c2_i32_13 : BitVec 32 := 2#32
  let c1_i32_15 : BitVec 32 := 1#32
  let arg16 : BitVec 32 := Scf.iv c2_i32_13 c1_i32_15 k0_t3
  let c8_i32_47 : BitVec 32 := 8#32
  let v65 : BitVec 32 := Scalar.muli arg16 c8_i32_47
  let c7_i32_48 : BitVec 32 := 7#32
  let v66 : BitVec 32 := Scalar.addi v65 c7_i32_48
  let v67 : BitVec 32 := Scalar.subi c31_i32_49 v66
  let c128_i32_259 : BitVec 32 := 128#32
  let v428 : BitVec 32 := Scalar.muli v67 c128_i32_259
  v428
def k0_mult148 (k0_t3 : Fin k0_t3_loop.trips) : BitVec 32 :=
  let c31_i32_49 : BitVec 32 := 31#32
  let c2_i32_13 : BitVec 32 := 2#32
  let c1_i32_15 : BitVec 32 := 1#32
  let arg16 : BitVec 32 := Scf.iv c2_i32_13 c1_i32_15 k0_t3
  let c8_i32_47 : BitVec 32 := 8#32
  let v65 : BitVec 32 := Scalar.muli arg16 c8_i32_47
  let c7_i32_48 : BitVec 32 := 7#32
  let v66 : BitVec 32 := Scalar.addi v65 c7_i32_48
  let v67 : BitVec 32 := Scalar.subi c31_i32_49 v66
  let c128_i32_263 : BitVec 32 := 128#32
  let v435 : BitVec 32 := Scalar.muli v67 c128_i32_263
  v435
def k0_mult149 (k0_t3 : Fin k0_t3_loop.trips) : BitVec 32 :=
  let c31_i32_49 : BitVec 32 := 31#32
  let c2_i32_13 : BitVec 32 := 2#32
  let c1_i32_15 : BitVec 32 := 1#32
  let arg16 : BitVec 32 := Scf.iv c2_i32_13 c1_i32_15 k0_t3
  let c8_i32_47 : BitVec 32 := 8#32
  let v65 : BitVec 32 := Scalar.muli arg16 c8_i32_47
  let c7_i32_48 : BitVec 32 := 7#32
  let v66 : BitVec 32 := Scalar.addi v65 c7_i32_48
  let v67 : BitVec 32 := Scalar.subi c31_i32_49 v66
  let c128_i32_267 : BitVec 32 := 128#32
  let v442 : BitVec 32 := Scalar.muli v67 c128_i32_267
  v442
def k0_mult150 (k0_t3 : Fin k0_t3_loop.trips) : BitVec 32 :=
  let c31_i32_49 : BitVec 32 := 31#32
  let c2_i32_13 : BitVec 32 := 2#32
  let c1_i32_15 : BitVec 32 := 1#32
  let arg16 : BitVec 32 := Scf.iv c2_i32_13 c1_i32_15 k0_t3
  let c8_i32_47 : BitVec 32 := 8#32
  let v65 : BitVec 32 := Scalar.muli arg16 c8_i32_47
  let c7_i32_48 : BitVec 32 := 7#32
  let v66 : BitVec 32 := Scalar.addi v65 c7_i32_48
  let v67 : BitVec 32 := Scalar.subi c31_i32_49 v66
  let c128_i32_270 : BitVec 32 := 128#32
  let v447 : BitVec 32 := Scalar.muli v67 c128_i32_270
  v447
def k0_mult151 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32 : BitVec 32 := 8#32
  let v28 : BitVec 32 := Scalar.muli arg16 c8_i32
  let c0_i32_17 : BitVec 32 := 0#32
  let v29 : BitVec 32 := Scalar.addi v28 c0_i32_17
  let c128_i32_273 : BitVec 32 := 128#32
  let v452 : BitVec 32 := Scalar.muli v29 c128_i32_273
  v452
def k0_off9 (k0_t3 : Fin k0_t3_loop.trips) (c0_i32_17 : BitVec 32) : Fin 2 → Nat :=
  let c2_i32_13 : BitVec 32 := 2#32
  let c1_i32_15 : BitVec 32 := 1#32
  let arg16 : BitVec 32 := Scf.iv c2_i32_13 c1_i32_15 k0_t3
  let c8_i32 : BitVec 32 := 8#32
  let v28 : BitVec 32 := Scalar.muli arg16 c8_i32
  let v29 : BitVec 32 := Scalar.addi v28 c0_i32_17
  let c128_i32_273 : BitVec 32 := 128#32
  let v452 : BitVec 32 := Scalar.muli v29 c128_i32_273
  let v453 : BitVec 32 := v452
  let v454 : Index := Scalar.indexCast v453
  let c0_274 : Index := 0#32
  ![v454.toNat, 0]
def k0_mult152 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32 : BitVec 32 := 8#32
  let v28 : BitVec 32 := Scalar.muli arg16 c8_i32
  let c0_i32_17 : BitVec 32 := 0#32
  let v29 : BitVec 32 := Scalar.addi v28 c0_i32_17
  let c128_i32_275 : BitVec 32 := 128#32
  let v456 : BitVec 32 := Scalar.muli v29 c128_i32_275
  v456
def k0_mult153 (k0_t3 : Fin k0_t3_loop.trips) : BitVec 32 :=
  let c31_i32 : BitVec 32 := 31#32
  let c2_i32_13 : BitVec 32 := 2#32
  let c1_i32_15 : BitVec 32 := 1#32
  let arg16 : BitVec 32 := Scf.iv c2_i32_13 c1_i32_15 k0_t3
  let c8_i32_18 : BitVec 32 := 8#32
  let v30 : BitVec 32 := Scalar.muli arg16 c8_i32_18
  let c0_i32_19 : BitVec 32 := 0#32
  let v31 : BitVec 32 := Scalar.addi v30 c0_i32_19
  let v32 : BitVec 32 := Scalar.subi c31_i32 v31
  let c128_i32_278 : BitVec 32 := 128#32
  let v461 : BitVec 32 := Scalar.muli v32 c128_i32_278
  v461
def k0_off10 (k0_t3 : Fin k0_t3_loop.trips) (c0_i32_19 : BitVec 32) : Fin 2 → Nat :=
  let c31_i32 : BitVec 32 := 31#32
  let c2_i32_13 : BitVec 32 := 2#32
  let c1_i32_15 : BitVec 32 := 1#32
  let arg16 : BitVec 32 := Scf.iv c2_i32_13 c1_i32_15 k0_t3
  let c8_i32_18 : BitVec 32 := 8#32
  let v30 : BitVec 32 := Scalar.muli arg16 c8_i32_18
  let v31 : BitVec 32 := Scalar.addi v30 c0_i32_19
  let v32 : BitVec 32 := Scalar.subi c31_i32 v31
  let c128_i32_278 : BitVec 32 := 128#32
  let v461 : BitVec 32 := Scalar.muli v32 c128_i32_278
  let v462 : BitVec 32 := v461
  let v463 : Index := Scalar.indexCast v462
  let c0_279 : Index := 0#32
  ![v463.toNat, 0]
def k0_mult154 (k0_t3 : Fin k0_t3_loop.trips) : BitVec 32 :=
  let c31_i32 : BitVec 32 := 31#32
  let c2_i32_13 : BitVec 32 := 2#32
  let c1_i32_15 : BitVec 32 := 1#32
  let arg16 : BitVec 32 := Scf.iv c2_i32_13 c1_i32_15 k0_t3
  let c8_i32_18 : BitVec 32 := 8#32
  let v30 : BitVec 32 := Scalar.muli arg16 c8_i32_18
  let c0_i32_19 : BitVec 32 := 0#32
  let v31 : BitVec 32 := Scalar.addi v30 c0_i32_19
  let v32 : BitVec 32 := Scalar.subi c31_i32 v31
  let c128_i32_280 : BitVec 32 := 128#32
  let v465 : BitVec 32 := Scalar.muli v32 c128_i32_280
  v465
def k0_mult155 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_20 : BitVec 32 := 8#32
  let v33 : BitVec 32 := Scalar.muli arg16 c8_i32_20
  let c1_i32_21 : BitVec 32 := 1#32
  let v34 : BitVec 32 := Scalar.addi v33 c1_i32_21
  let c128_i32_283 : BitVec 32 := 128#32
  let v470 : BitVec 32 := Scalar.muli v34 c128_i32_283
  v470
def k0_mult156 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_20 : BitVec 32 := 8#32
  let v33 : BitVec 32 := Scalar.muli arg16 c8_i32_20
  let c1_i32_21 : BitVec 32 := 1#32
  let v34 : BitVec 32 := Scalar.addi v33 c1_i32_21
  let c128_i32_285 : BitVec 32 := 128#32
  let v474 : BitVec 32 := Scalar.muli v34 c128_i32_285
  v474
def k0_mult157 (k0_t3 : Fin k0_t3_loop.trips) : BitVec 32 :=
  let c31_i32_24 : BitVec 32 := 31#32
  let c2_i32_13 : BitVec 32 := 2#32
  let c1_i32_15 : BitVec 32 := 1#32
  let arg16 : BitVec 32 := Scf.iv c2_i32_13 c1_i32_15 k0_t3
  let c8_i32_22 : BitVec 32 := 8#32
  let v35 : BitVec 32 := Scalar.muli arg16 c8_i32_22
  let c1_i32_23 : BitVec 32 := 1#32
  let v36 : BitVec 32 := Scalar.addi v35 c1_i32_23
  let v37 : BitVec 32 := Scalar.subi c31_i32_24 v36
  let c128_i32_288 : BitVec 32 := 128#32
  let v479 : BitVec 32 := Scalar.muli v37 c128_i32_288
  v479
def k0_mult158 (k0_t3 : Fin k0_t3_loop.trips) : BitVec 32 :=
  let c31_i32_24 : BitVec 32 := 31#32
  let c2_i32_13 : BitVec 32 := 2#32
  let c1_i32_15 : BitVec 32 := 1#32
  let arg16 : BitVec 32 := Scf.iv c2_i32_13 c1_i32_15 k0_t3
  let c8_i32_22 : BitVec 32 := 8#32
  let v35 : BitVec 32 := Scalar.muli arg16 c8_i32_22
  let c1_i32_23 : BitVec 32 := 1#32
  let v36 : BitVec 32 := Scalar.addi v35 c1_i32_23
  let v37 : BitVec 32 := Scalar.subi c31_i32_24 v36
  let c128_i32_290 : BitVec 32 := 128#32
  let v483 : BitVec 32 := Scalar.muli v37 c128_i32_290
  v483
def k0_mult159 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_25 : BitVec 32 := 8#32
  let v38 : BitVec 32 := Scalar.muli arg16 c8_i32_25
  let c2_i32_26 : BitVec 32 := 2#32
  let v39 : BitVec 32 := Scalar.addi v38 c2_i32_26
  let c128_i32_293 : BitVec 32 := 128#32
  let v488 : BitVec 32 := Scalar.muli v39 c128_i32_293
  v488
def k0_mult160 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_25 : BitVec 32 := 8#32
  let v38 : BitVec 32 := Scalar.muli arg16 c8_i32_25
  let c2_i32_26 : BitVec 32 := 2#32
  let v39 : BitVec 32 := Scalar.addi v38 c2_i32_26
  let c128_i32_295 : BitVec 32 := 128#32
  let v492 : BitVec 32 := Scalar.muli v39 c128_i32_295
  v492
def k0_mult161 (k0_t3 : Fin k0_t3_loop.trips) : BitVec 32 :=
  let c31_i32_29 : BitVec 32 := 31#32
  let c2_i32_13 : BitVec 32 := 2#32
  let c1_i32_15 : BitVec 32 := 1#32
  let arg16 : BitVec 32 := Scf.iv c2_i32_13 c1_i32_15 k0_t3
  let c8_i32_27 : BitVec 32 := 8#32
  let v40 : BitVec 32 := Scalar.muli arg16 c8_i32_27
  let c2_i32_28 : BitVec 32 := 2#32
  let v41 : BitVec 32 := Scalar.addi v40 c2_i32_28
  let v42 : BitVec 32 := Scalar.subi c31_i32_29 v41
  let c128_i32_298 : BitVec 32 := 128#32
  let v497 : BitVec 32 := Scalar.muli v42 c128_i32_298
  v497
def k0_mult162 (k0_t3 : Fin k0_t3_loop.trips) : BitVec 32 :=
  let c31_i32_29 : BitVec 32 := 31#32
  let c2_i32_13 : BitVec 32 := 2#32
  let c1_i32_15 : BitVec 32 := 1#32
  let arg16 : BitVec 32 := Scf.iv c2_i32_13 c1_i32_15 k0_t3
  let c8_i32_27 : BitVec 32 := 8#32
  let v40 : BitVec 32 := Scalar.muli arg16 c8_i32_27
  let c2_i32_28 : BitVec 32 := 2#32
  let v41 : BitVec 32 := Scalar.addi v40 c2_i32_28
  let v42 : BitVec 32 := Scalar.subi c31_i32_29 v41
  let c128_i32_300 : BitVec 32 := 128#32
  let v501 : BitVec 32 := Scalar.muli v42 c128_i32_300
  v501
def k0_mult163 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_30 : BitVec 32 := 8#32
  let v43 : BitVec 32 := Scalar.muli arg16 c8_i32_30
  let c3_i32 : BitVec 32 := 3#32
  let v44 : BitVec 32 := Scalar.addi v43 c3_i32
  let c128_i32_303 : BitVec 32 := 128#32
  let v506 : BitVec 32 := Scalar.muli v44 c128_i32_303
  v506
def k0_mult164 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_30 : BitVec 32 := 8#32
  let v43 : BitVec 32 := Scalar.muli arg16 c8_i32_30
  let c3_i32 : BitVec 32 := 3#32
  let v44 : BitVec 32 := Scalar.addi v43 c3_i32
  let c128_i32_305 : BitVec 32 := 128#32
  let v510 : BitVec 32 := Scalar.muli v44 c128_i32_305
  v510
def k0_mult165 (k0_t3 : Fin k0_t3_loop.trips) : BitVec 32 :=
  let c31_i32_33 : BitVec 32 := 31#32
  let c2_i32_13 : BitVec 32 := 2#32
  let c1_i32_15 : BitVec 32 := 1#32
  let arg16 : BitVec 32 := Scf.iv c2_i32_13 c1_i32_15 k0_t3
  let c8_i32_31 : BitVec 32 := 8#32
  let v45 : BitVec 32 := Scalar.muli arg16 c8_i32_31
  let c3_i32_32 : BitVec 32 := 3#32
  let v46 : BitVec 32 := Scalar.addi v45 c3_i32_32
  let v47 : BitVec 32 := Scalar.subi c31_i32_33 v46
  let c128_i32_308 : BitVec 32 := 128#32
  let v515 : BitVec 32 := Scalar.muli v47 c128_i32_308
  v515
def k0_mult166 (k0_t3 : Fin k0_t3_loop.trips) : BitVec 32 :=
  let c31_i32_33 : BitVec 32 := 31#32
  let c2_i32_13 : BitVec 32 := 2#32
  let c1_i32_15 : BitVec 32 := 1#32
  let arg16 : BitVec 32 := Scf.iv c2_i32_13 c1_i32_15 k0_t3
  let c8_i32_31 : BitVec 32 := 8#32
  let v45 : BitVec 32 := Scalar.muli arg16 c8_i32_31
  let c3_i32_32 : BitVec 32 := 3#32
  let v46 : BitVec 32 := Scalar.addi v45 c3_i32_32
  let v47 : BitVec 32 := Scalar.subi c31_i32_33 v46
  let c128_i32_310 : BitVec 32 := 128#32
  let v519 : BitVec 32 := Scalar.muli v47 c128_i32_310
  v519
def k0_mult167 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_34 : BitVec 32 := 8#32
  let v48 : BitVec 32 := Scalar.muli arg16 c8_i32_34
  let c4_i32 : BitVec 32 := 4#32
  let v49 : BitVec 32 := Scalar.addi v48 c4_i32
  let c128_i32_313 : BitVec 32 := 128#32
  let v524 : BitVec 32 := Scalar.muli v49 c128_i32_313
  v524
def k0_mult168 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_34 : BitVec 32 := 8#32
  let v48 : BitVec 32 := Scalar.muli arg16 c8_i32_34
  let c4_i32 : BitVec 32 := 4#32
  let v49 : BitVec 32 := Scalar.addi v48 c4_i32
  let c128_i32_315 : BitVec 32 := 128#32
  let v528 : BitVec 32 := Scalar.muli v49 c128_i32_315
  v528
def k0_mult169 (k0_t3 : Fin k0_t3_loop.trips) : BitVec 32 :=
  let c31_i32_37 : BitVec 32 := 31#32
  let c2_i32_13 : BitVec 32 := 2#32
  let c1_i32_15 : BitVec 32 := 1#32
  let arg16 : BitVec 32 := Scf.iv c2_i32_13 c1_i32_15 k0_t3
  let c8_i32_35 : BitVec 32 := 8#32
  let v50 : BitVec 32 := Scalar.muli arg16 c8_i32_35
  let c4_i32_36 : BitVec 32 := 4#32
  let v51 : BitVec 32 := Scalar.addi v50 c4_i32_36
  let v52 : BitVec 32 := Scalar.subi c31_i32_37 v51
  let c128_i32_318 : BitVec 32 := 128#32
  let v533 : BitVec 32 := Scalar.muli v52 c128_i32_318
  v533
def k0_mult170 (k0_t3 : Fin k0_t3_loop.trips) : BitVec 32 :=
  let c31_i32_37 : BitVec 32 := 31#32
  let c2_i32_13 : BitVec 32 := 2#32
  let c1_i32_15 : BitVec 32 := 1#32
  let arg16 : BitVec 32 := Scf.iv c2_i32_13 c1_i32_15 k0_t3
  let c8_i32_35 : BitVec 32 := 8#32
  let v50 : BitVec 32 := Scalar.muli arg16 c8_i32_35
  let c4_i32_36 : BitVec 32 := 4#32
  let v51 : BitVec 32 := Scalar.addi v50 c4_i32_36
  let v52 : BitVec 32 := Scalar.subi c31_i32_37 v51
  let c128_i32_320 : BitVec 32 := 128#32
  let v537 : BitVec 32 := Scalar.muli v52 c128_i32_320
  v537
def k0_mult171 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_38 : BitVec 32 := 8#32
  let v53 : BitVec 32 := Scalar.muli arg16 c8_i32_38
  let c5_i32 : BitVec 32 := 5#32
  let v54 : BitVec 32 := Scalar.addi v53 c5_i32
  let c128_i32_323 : BitVec 32 := 128#32
  let v542 : BitVec 32 := Scalar.muli v54 c128_i32_323
  v542
def k0_mult172 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_38 : BitVec 32 := 8#32
  let v53 : BitVec 32 := Scalar.muli arg16 c8_i32_38
  let c5_i32 : BitVec 32 := 5#32
  let v54 : BitVec 32 := Scalar.addi v53 c5_i32
  let c128_i32_325 : BitVec 32 := 128#32
  let v546 : BitVec 32 := Scalar.muli v54 c128_i32_325
  v546
def k0_mult173 (k0_t3 : Fin k0_t3_loop.trips) : BitVec 32 :=
  let c31_i32_41 : BitVec 32 := 31#32
  let c2_i32_13 : BitVec 32 := 2#32
  let c1_i32_15 : BitVec 32 := 1#32
  let arg16 : BitVec 32 := Scf.iv c2_i32_13 c1_i32_15 k0_t3
  let c8_i32_39 : BitVec 32 := 8#32
  let v55 : BitVec 32 := Scalar.muli arg16 c8_i32_39
  let c5_i32_40 : BitVec 32 := 5#32
  let v56 : BitVec 32 := Scalar.addi v55 c5_i32_40
  let v57 : BitVec 32 := Scalar.subi c31_i32_41 v56
  let c128_i32_328 : BitVec 32 := 128#32
  let v551 : BitVec 32 := Scalar.muli v57 c128_i32_328
  v551
def k0_mult174 (k0_t3 : Fin k0_t3_loop.trips) : BitVec 32 :=
  let c31_i32_41 : BitVec 32 := 31#32
  let c2_i32_13 : BitVec 32 := 2#32
  let c1_i32_15 : BitVec 32 := 1#32
  let arg16 : BitVec 32 := Scf.iv c2_i32_13 c1_i32_15 k0_t3
  let c8_i32_39 : BitVec 32 := 8#32
  let v55 : BitVec 32 := Scalar.muli arg16 c8_i32_39
  let c5_i32_40 : BitVec 32 := 5#32
  let v56 : BitVec 32 := Scalar.addi v55 c5_i32_40
  let v57 : BitVec 32 := Scalar.subi c31_i32_41 v56
  let c128_i32_330 : BitVec 32 := 128#32
  let v555 : BitVec 32 := Scalar.muli v57 c128_i32_330
  v555
def k0_mult175 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_42 : BitVec 32 := 8#32
  let v58 : BitVec 32 := Scalar.muli arg16 c8_i32_42
  let c6_i32 : BitVec 32 := 6#32
  let v59 : BitVec 32 := Scalar.addi v58 c6_i32
  let c128_i32_333 : BitVec 32 := 128#32
  let v560 : BitVec 32 := Scalar.muli v59 c128_i32_333
  v560
def k0_mult176 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_42 : BitVec 32 := 8#32
  let v58 : BitVec 32 := Scalar.muli arg16 c8_i32_42
  let c6_i32 : BitVec 32 := 6#32
  let v59 : BitVec 32 := Scalar.addi v58 c6_i32
  let c128_i32_335 : BitVec 32 := 128#32
  let v564 : BitVec 32 := Scalar.muli v59 c128_i32_335
  v564
def k0_mult177 (k0_t3 : Fin k0_t3_loop.trips) : BitVec 32 :=
  let c31_i32_45 : BitVec 32 := 31#32
  let c2_i32_13 : BitVec 32 := 2#32
  let c1_i32_15 : BitVec 32 := 1#32
  let arg16 : BitVec 32 := Scf.iv c2_i32_13 c1_i32_15 k0_t3
  let c8_i32_43 : BitVec 32 := 8#32
  let v60 : BitVec 32 := Scalar.muli arg16 c8_i32_43
  let c6_i32_44 : BitVec 32 := 6#32
  let v61 : BitVec 32 := Scalar.addi v60 c6_i32_44
  let v62 : BitVec 32 := Scalar.subi c31_i32_45 v61
  let c128_i32_338 : BitVec 32 := 128#32
  let v569 : BitVec 32 := Scalar.muli v62 c128_i32_338
  v569
def k0_mult178 (k0_t3 : Fin k0_t3_loop.trips) : BitVec 32 :=
  let c31_i32_45 : BitVec 32 := 31#32
  let c2_i32_13 : BitVec 32 := 2#32
  let c1_i32_15 : BitVec 32 := 1#32
  let arg16 : BitVec 32 := Scf.iv c2_i32_13 c1_i32_15 k0_t3
  let c8_i32_43 : BitVec 32 := 8#32
  let v60 : BitVec 32 := Scalar.muli arg16 c8_i32_43
  let c6_i32_44 : BitVec 32 := 6#32
  let v61 : BitVec 32 := Scalar.addi v60 c6_i32_44
  let v62 : BitVec 32 := Scalar.subi c31_i32_45 v61
  let c128_i32_340 : BitVec 32 := 128#32
  let v573 : BitVec 32 := Scalar.muli v62 c128_i32_340
  v573
def k0_mult179 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_46 : BitVec 32 := 8#32
  let v63 : BitVec 32 := Scalar.muli arg16 c8_i32_46
  let c7_i32 : BitVec 32 := 7#32
  let v64 : BitVec 32 := Scalar.addi v63 c7_i32
  let c128_i32_343 : BitVec 32 := 128#32
  let v578 : BitVec 32 := Scalar.muli v64 c128_i32_343
  v578
def k0_mult180 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_46 : BitVec 32 := 8#32
  let v63 : BitVec 32 := Scalar.muli arg16 c8_i32_46
  let c7_i32 : BitVec 32 := 7#32
  let v64 : BitVec 32 := Scalar.addi v63 c7_i32
  let c128_i32_345 : BitVec 32 := 128#32
  let v582 : BitVec 32 := Scalar.muli v64 c128_i32_345
  v582
def k0_mult181 (k0_t3 : Fin k0_t3_loop.trips) : BitVec 32 :=
  let c31_i32_49 : BitVec 32 := 31#32
  let c2_i32_13 : BitVec 32 := 2#32
  let c1_i32_15 : BitVec 32 := 1#32
  let arg16 : BitVec 32 := Scf.iv c2_i32_13 c1_i32_15 k0_t3
  let c8_i32_47 : BitVec 32 := 8#32
  let v65 : BitVec 32 := Scalar.muli arg16 c8_i32_47
  let c7_i32_48 : BitVec 32 := 7#32
  let v66 : BitVec 32 := Scalar.addi v65 c7_i32_48
  let v67 : BitVec 32 := Scalar.subi c31_i32_49 v66
  let c128_i32_348 : BitVec 32 := 128#32
  let v587 : BitVec 32 := Scalar.muli v67 c128_i32_348
  v587
def k0_mult182 (k0_t3 : Fin k0_t3_loop.trips) : BitVec 32 :=
  let c31_i32_49 : BitVec 32 := 31#32
  let c2_i32_13 : BitVec 32 := 2#32
  let c1_i32_15 : BitVec 32 := 1#32
  let arg16 : BitVec 32 := Scf.iv c2_i32_13 c1_i32_15 k0_t3
  let c8_i32_47 : BitVec 32 := 8#32
  let v65 : BitVec 32 := Scalar.muli arg16 c8_i32_47
  let c7_i32_48 : BitVec 32 := 7#32
  let v66 : BitVec 32 := Scalar.addi v65 c7_i32_48
  let v67 : BitVec 32 := Scalar.subi c31_i32_49 v66
  let c128_i32_350 : BitVec 32 := 128#32
  let v591 : BitVec 32 := Scalar.muli v67 c128_i32_350
  v591
def k0_mult183 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32 : BitVec 32 := 8#32
  let v28 : BitVec 32 := Scalar.muli arg16 c8_i32
  let c0_i32_17 : BitVec 32 := 0#32
  let v29 : BitVec 32 := Scalar.addi v28 c0_i32_17
  let c128_i32_692 : BitVec 32 := 128#32
  let v1623 : BitVec 32 := Scalar.muli v29 c128_i32_692
  v1623
def k0_mult184 (k0_t3 : Fin k0_t3_loop.trips) : BitVec 32 :=
  let c31_i32 : BitVec 32 := 31#32
  let c2_i32_13 : BitVec 32 := 2#32
  let c1_i32_15 : BitVec 32 := 1#32
  let arg16 : BitVec 32 := Scf.iv c2_i32_13 c1_i32_15 k0_t3
  let c8_i32_18 : BitVec 32 := 8#32
  let v30 : BitVec 32 := Scalar.muli arg16 c8_i32_18
  let c0_i32_19 : BitVec 32 := 0#32
  let v31 : BitVec 32 := Scalar.addi v30 c0_i32_19
  let v32 : BitVec 32 := Scalar.subi c31_i32 v31
  let c128_i32_703 : BitVec 32 := 128#32
  let v1654 : BitVec 32 := Scalar.muli v32 c128_i32_703
  v1654
def k0_mult185 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_20 : BitVec 32 := 8#32
  let v33 : BitVec 32 := Scalar.muli arg16 c8_i32_20
  let c1_i32_21 : BitVec 32 := 1#32
  let v34 : BitVec 32 := Scalar.addi v33 c1_i32_21
  let c128_i32_714 : BitVec 32 := 128#32
  let v1685 : BitVec 32 := Scalar.muli v34 c128_i32_714
  v1685
def k0_mult186 (k0_t3 : Fin k0_t3_loop.trips) : BitVec 32 :=
  let c31_i32_24 : BitVec 32 := 31#32
  let c2_i32_13 : BitVec 32 := 2#32
  let c1_i32_15 : BitVec 32 := 1#32
  let arg16 : BitVec 32 := Scf.iv c2_i32_13 c1_i32_15 k0_t3
  let c8_i32_22 : BitVec 32 := 8#32
  let v35 : BitVec 32 := Scalar.muli arg16 c8_i32_22
  let c1_i32_23 : BitVec 32 := 1#32
  let v36 : BitVec 32 := Scalar.addi v35 c1_i32_23
  let v37 : BitVec 32 := Scalar.subi c31_i32_24 v36
  let c128_i32_725 : BitVec 32 := 128#32
  let v1716 : BitVec 32 := Scalar.muli v37 c128_i32_725
  v1716
def k0_mult187 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_25 : BitVec 32 := 8#32
  let v38 : BitVec 32 := Scalar.muli arg16 c8_i32_25
  let c2_i32_26 : BitVec 32 := 2#32
  let v39 : BitVec 32 := Scalar.addi v38 c2_i32_26
  let c128_i32_736 : BitVec 32 := 128#32
  let v1747 : BitVec 32 := Scalar.muli v39 c128_i32_736
  v1747
def k0_mult188 (k0_t3 : Fin k0_t3_loop.trips) : BitVec 32 :=
  let c31_i32_29 : BitVec 32 := 31#32
  let c2_i32_13 : BitVec 32 := 2#32
  let c1_i32_15 : BitVec 32 := 1#32
  let arg16 : BitVec 32 := Scf.iv c2_i32_13 c1_i32_15 k0_t3
  let c8_i32_27 : BitVec 32 := 8#32
  let v40 : BitVec 32 := Scalar.muli arg16 c8_i32_27
  let c2_i32_28 : BitVec 32 := 2#32
  let v41 : BitVec 32 := Scalar.addi v40 c2_i32_28
  let v42 : BitVec 32 := Scalar.subi c31_i32_29 v41
  let c128_i32_747 : BitVec 32 := 128#32
  let v1778 : BitVec 32 := Scalar.muli v42 c128_i32_747
  v1778
def k0_mult189 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_30 : BitVec 32 := 8#32
  let v43 : BitVec 32 := Scalar.muli arg16 c8_i32_30
  let c3_i32 : BitVec 32 := 3#32
  let v44 : BitVec 32 := Scalar.addi v43 c3_i32
  let c128_i32_758 : BitVec 32 := 128#32
  let v1809 : BitVec 32 := Scalar.muli v44 c128_i32_758
  v1809
def k0_mult190 (k0_t3 : Fin k0_t3_loop.trips) : BitVec 32 :=
  let c31_i32_33 : BitVec 32 := 31#32
  let c2_i32_13 : BitVec 32 := 2#32
  let c1_i32_15 : BitVec 32 := 1#32
  let arg16 : BitVec 32 := Scf.iv c2_i32_13 c1_i32_15 k0_t3
  let c8_i32_31 : BitVec 32 := 8#32
  let v45 : BitVec 32 := Scalar.muli arg16 c8_i32_31
  let c3_i32_32 : BitVec 32 := 3#32
  let v46 : BitVec 32 := Scalar.addi v45 c3_i32_32
  let v47 : BitVec 32 := Scalar.subi c31_i32_33 v46
  let c128_i32_769 : BitVec 32 := 128#32
  let v1840 : BitVec 32 := Scalar.muli v47 c128_i32_769
  v1840
def k0_mult191 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_34 : BitVec 32 := 8#32
  let v48 : BitVec 32 := Scalar.muli arg16 c8_i32_34
  let c4_i32 : BitVec 32 := 4#32
  let v49 : BitVec 32 := Scalar.addi v48 c4_i32
  let c128_i32_780 : BitVec 32 := 128#32
  let v1871 : BitVec 32 := Scalar.muli v49 c128_i32_780
  v1871
def k0_mult192 (k0_t3 : Fin k0_t3_loop.trips) : BitVec 32 :=
  let c31_i32_37 : BitVec 32 := 31#32
  let c2_i32_13 : BitVec 32 := 2#32
  let c1_i32_15 : BitVec 32 := 1#32
  let arg16 : BitVec 32 := Scf.iv c2_i32_13 c1_i32_15 k0_t3
  let c8_i32_35 : BitVec 32 := 8#32
  let v50 : BitVec 32 := Scalar.muli arg16 c8_i32_35
  let c4_i32_36 : BitVec 32 := 4#32
  let v51 : BitVec 32 := Scalar.addi v50 c4_i32_36
  let v52 : BitVec 32 := Scalar.subi c31_i32_37 v51
  let c128_i32_791 : BitVec 32 := 128#32
  let v1902 : BitVec 32 := Scalar.muli v52 c128_i32_791
  v1902
def k0_mult193 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_38 : BitVec 32 := 8#32
  let v53 : BitVec 32 := Scalar.muli arg16 c8_i32_38
  let c5_i32 : BitVec 32 := 5#32
  let v54 : BitVec 32 := Scalar.addi v53 c5_i32
  let c128_i32_802 : BitVec 32 := 128#32
  let v1933 : BitVec 32 := Scalar.muli v54 c128_i32_802
  v1933
def k0_mult194 (k0_t3 : Fin k0_t3_loop.trips) : BitVec 32 :=
  let c31_i32_41 : BitVec 32 := 31#32
  let c2_i32_13 : BitVec 32 := 2#32
  let c1_i32_15 : BitVec 32 := 1#32
  let arg16 : BitVec 32 := Scf.iv c2_i32_13 c1_i32_15 k0_t3
  let c8_i32_39 : BitVec 32 := 8#32
  let v55 : BitVec 32 := Scalar.muli arg16 c8_i32_39
  let c5_i32_40 : BitVec 32 := 5#32
  let v56 : BitVec 32 := Scalar.addi v55 c5_i32_40
  let v57 : BitVec 32 := Scalar.subi c31_i32_41 v56
  let c128_i32_813 : BitVec 32 := 128#32
  let v1964 : BitVec 32 := Scalar.muli v57 c128_i32_813
  v1964
def k0_mult195 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_42 : BitVec 32 := 8#32
  let v58 : BitVec 32 := Scalar.muli arg16 c8_i32_42
  let c6_i32 : BitVec 32 := 6#32
  let v59 : BitVec 32 := Scalar.addi v58 c6_i32
  let c128_i32_824 : BitVec 32 := 128#32
  let v1995 : BitVec 32 := Scalar.muli v59 c128_i32_824
  v1995
def k0_mult196 (k0_t3 : Fin k0_t3_loop.trips) : BitVec 32 :=
  let c31_i32_45 : BitVec 32 := 31#32
  let c2_i32_13 : BitVec 32 := 2#32
  let c1_i32_15 : BitVec 32 := 1#32
  let arg16 : BitVec 32 := Scf.iv c2_i32_13 c1_i32_15 k0_t3
  let c8_i32_43 : BitVec 32 := 8#32
  let v60 : BitVec 32 := Scalar.muli arg16 c8_i32_43
  let c6_i32_44 : BitVec 32 := 6#32
  let v61 : BitVec 32 := Scalar.addi v60 c6_i32_44
  let v62 : BitVec 32 := Scalar.subi c31_i32_45 v61
  let c128_i32_835 : BitVec 32 := 128#32
  let v2026 : BitVec 32 := Scalar.muli v62 c128_i32_835
  v2026
def k0_mult197 (k0_t3 : Fin k0_t3_loop.trips) : BitVec 32 :=
  let c2_i32_13 : BitVec 32 := 2#32
  let c1_i32_15 : BitVec 32 := 1#32
  let arg16 : BitVec 32 := Scf.iv c2_i32_13 c1_i32_15 k0_t3
  let c8_i32_46 : BitVec 32 := 8#32
  let v63 : BitVec 32 := Scalar.muli arg16 c8_i32_46
  let c7_i32 : BitVec 32 := 7#32
  let v64 : BitVec 32 := Scalar.addi v63 c7_i32
  let c128_i32_846 : BitVec 32 := 128#32
  let v2057 : BitVec 32 := Scalar.muli v64 c128_i32_846
  v2057
def k0_mult198 (k0_t3 : Fin k0_t3_loop.trips) : BitVec 32 :=
  let c31_i32_49 : BitVec 32 := 31#32
  let c2_i32_13 : BitVec 32 := 2#32
  let c1_i32_15 : BitVec 32 := 1#32
  let arg16 : BitVec 32 := Scf.iv c2_i32_13 c1_i32_15 k0_t3
  let c8_i32_47 : BitVec 32 := 8#32
  let v65 : BitVec 32 := Scalar.muli arg16 c8_i32_47
  let c7_i32_48 : BitVec 32 := 7#32
  let v66 : BitVec 32 := Scalar.addi v65 c7_i32_48
  let v67 : BitVec 32 := Scalar.subi c31_i32_49 v66
  let c128_i32_857 : BitVec 32 := 128#32
  let v2088 : BitVec 32 := Scalar.muli v67 c128_i32_857
  v2088
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  ![arg0.toNat, c0_i32_5.toNat, v17.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c0_i32_5 : BitVec 32 := 0#32
  let c0_i32_6 : BitVec 32 := 0#32
  ![arg0.toNat, c0_i32_5.toNat, v17.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi c2_i32_4 v16
  let c0_i32_5 : BitVec 32 := 0#32
  let c0_i32_6 : BitVec 32 := 0#32
  ![arg0.toNat, c0_i32_5.toNat, v17.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x2x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x4096x1536 : Shape := ⟨3, ![4, 4096, 1536]⟩
abbrev S4x4096x128 : Shape := ⟨3, ![4, 4096, 128]⟩
abbrev S4x256x1536 : Shape := ⟨3, ![4, 256, 1536]⟩
abbrev S4x256x128 : Shape := ⟨3, ![4, 256, 128]⟩
abbrev S4x2x128x128 : Shape := ⟨4, ![4, 2, 128, 128]⟩
abbrev S4x2x1x128 : Shape := ⟨4, ![4, 2, 1, 128]⟩
abbrev S512 : Shape := ⟨1, ![512]⟩
abbrev S4x4096x256 : Shape := ⟨3, ![4, 4096, 256]⟩
abbrev S4x4096x4x64 : Shape := ⟨4, ![4, 4096, 4, 64]⟩
abbrev S4x4x4096x64 : Shape := ⟨4, ![4, 4, 4096, 64]⟩
abbrev S_ : Shape := ⟨0, ![]⟩
abbrev S4x4096x512 : Shape := ⟨3, ![4, 4096, 512]⟩
abbrev S4x4096x4x128 : Shape := ⟨4, ![4, 4096, 4, 128]⟩
abbrev S4x4x4096x128 : Shape := ⟨4, ![4, 4, 4096, 128]⟩
abbrev S4x256x256 : Shape := ⟨3, ![4, 256, 256]⟩
abbrev S4x256x4x64 : Shape := ⟨4, ![4, 256, 4, 64]⟩
abbrev S4x4x256x64 : Shape := ⟨4, ![4, 4, 256, 64]⟩
abbrev S4x256x512 : Shape := ⟨3, ![4, 256, 512]⟩
abbrev S4x256x4x128 : Shape := ⟨4, ![4, 256, 4, 128]⟩
abbrev S4x4x256x128 : Shape := ⟨4, ![4, 4, 256, 128]⟩
abbrev S1x1x128x64 : Shape := ⟨4, ![1, 1, 128, 64]⟩
abbrev S128x64 : Shape := ⟨2, ![128, 64]⟩
abbrev S1x128x64 : Shape := ⟨3, ![1, 128, 64]⟩
abbrev S4x128x64 : Shape := ⟨3, ![4, 128, 64]⟩
abbrev S1x1x1x64 : Shape := ⟨4, ![1, 1, 1, 64]⟩
abbrev S64 : Shape := ⟨1, ![64]⟩
abbrev S1x64 : Shape := ⟨2, ![1, 64]⟩
abbrev S4x64 : Shape := ⟨2, ![4, 64]⟩
abbrev S4x4x64x128 : Shape := ⟨4, ![4, 4, 64, 128]⟩
abbrev S4x64x4x256 : Shape := ⟨4, ![4, 64, 4, 256]⟩
abbrev S1x4x1x64 : Shape := ⟨4, ![1, 4, 1, 64]⟩
abbrev S4x4x1x64 : Shape := ⟨4, ![4, 4, 1, 64]⟩
abbrev S4x4x64 : Shape := ⟨3, ![4, 4, 64]⟩
abbrev S4x4x64x1 : Shape := ⟨4, ![4, 4, 64, 1]⟩
abbrev S4x64x4x4096 : Shape := ⟨4, ![4, 64, 4, 4096]⟩
abbrev S4096x4096 : Shape := ⟨2, ![4096, 4096]⟩
abbrev S4x4x4096x4096 : Shape := ⟨4, ![4, 4, 4096, 4096]⟩
abbrev S4x4x4096 : Shape := ⟨3, ![4, 4, 4096]⟩
abbrev S4x4x4096x1 : Shape := ⟨4, ![4, 4, 4096, 1]⟩
abbrev S1x1x512 : Shape := ⟨3, ![1, 1, 512]⟩

abbrev nBuf : Space → Nat
  | .hbm => 306
  | .vmem => 0
  | .smem => 0
  | _ => 0

abbrev hbmTy0_0 (i : Nat) : BufTy := match i % 128 with
  | 0 => ⟨S4x4096x1536, .f32⟩
  | 1 => ⟨S4x4096x128, .f32⟩
  | 2 => ⟨S4x256x1536, .f32⟩
  | 3 => ⟨S4x256x128, .f32⟩
  | 4 => ⟨S4x2x128x128, .bf16⟩
  | 5 => ⟨S4x2x1x128, .f32⟩
  | 6 => ⟨S512, .f32⟩
  | 7 => ⟨S4x4096x256, .f32⟩
  | 8 => ⟨S4x4096x4x64, .f32⟩
  | 9 => ⟨S4x4x4096x64, .f32⟩
  | 10 => ⟨S_, .f32⟩
  | 11 => ⟨S4x4x4096x64, .f32⟩
  | 12 => ⟨S4x4x4096x64, .f32⟩
  | 13 => ⟨S4x4096x256, .f32⟩
  | 14 => ⟨S4x4096x4x64, .f32⟩
  | 15 => ⟨S4x4x4096x64, .f32⟩
  | 16 => ⟨S4x4096x512, .f32⟩
  | 17 => ⟨S4x4096x4x128, .f32⟩
  | 18 => ⟨S4x4x4096x128, .f32⟩
  | 19 => ⟨S4x4096x512, .f32⟩
  | 20 => ⟨S4x256x256, .f32⟩
  | 21 => ⟨S4x256x4x64, .f32⟩
  | 22 => ⟨S4x4x256x64, .f32⟩
  | 23 => ⟨S4x256x512, .f32⟩
  | 24 => ⟨S4x256x4x128, .f32⟩
  | 25 => ⟨S4x4x256x128, .f32⟩
  | 26 => ⟨S1x1x128x64, .bf16⟩
  | 27 => ⟨S128x64, .bf16⟩
  | 28 => ⟨S1x1x128x64, .bf16⟩
  | 29 => ⟨S128x64, .bf16⟩
  | 30 => ⟨S1x1x128x64, .bf16⟩
  | 31 => ⟨S128x64, .bf16⟩
  | 32 => ⟨S1x1x128x64, .bf16⟩
  | 33 => ⟨S128x64, .bf16⟩
  | 34 => ⟨S1x128x64, .bf16⟩
  | 35 => ⟨S1x128x64, .bf16⟩
  | 36 => ⟨S1x128x64, .bf16⟩
  | 37 => ⟨S1x128x64, .bf16⟩
  | 38 => ⟨S4x128x64, .bf16⟩
  | 39 => ⟨S4x128x64, .f32⟩
  | 40 => ⟨S1x1x1x64, .f32⟩
  | 41 => ⟨S64, .f32⟩
  | 42 => ⟨S1x1x1x64, .f32⟩
  | 43 => ⟨S64, .f32⟩
  | 44 => ⟨S1x1x1x64, .f32⟩
  | 45 => ⟨S64, .f32⟩
  | 46 => ⟨S1x1x1x64, .f32⟩
  | 47 => ⟨S64, .f32⟩
  | 48 => ⟨S1x64, .f32⟩
  | 49 => ⟨S1x64, .f32⟩
  | 50 => ⟨S1x64, .f32⟩
  | 51 => ⟨S1x64, .f32⟩
  | 52 => ⟨S4x64, .f32⟩
  | 53 => ⟨S_, .f32⟩
  | 54 => ⟨S4x4x64x128, .f32⟩
  | 55 => ⟨S4x64x4x256, .f32⟩
  | 56 => ⟨S4x4x256x64, .f32⟩
  | 57 => ⟨S1x4x1x64, .f32⟩
  | 58 => ⟨S4x4x256x64, .f32⟩
  | 59 => ⟨S4x4x256x64, .f32⟩
  | 60 => ⟨S4x4x256x64, .f32⟩
  | 61 => ⟨S_, .f32⟩
  | 62 => ⟨S4x4x256x64, .f32⟩
  | 63 => ⟨S4x4x256x64, .f32⟩
  | 64 => ⟨S4x4x256x64, .f32⟩
  | 65 => ⟨S4x4x256x64, .f32⟩
  | 66 => ⟨S4x4x256x64, .i1⟩
  | 67 => ⟨S4x4x256x64, .f32⟩
  | 68 => ⟨S4x4x256x64, .f32⟩
  | 69 => ⟨S4x4x256x64, .f32⟩
  | 70 => ⟨S4x4x256x64, .f32⟩
  | 71 => ⟨S4x4x256x64, .f32⟩
  | 72 => ⟨S4x4x256x64, .f32⟩
  | 73 => ⟨S4x4x256x64, .f32⟩
  | 74 => ⟨S4x4x256x64, .f32⟩
  | 75 => ⟨S4x4x256x64, .f32⟩
  | 76 => ⟨S_, .f32⟩
  | 77 => ⟨S4x4x256x64, .f32⟩
  | 78 => ⟨S4x4x256x64, .f32⟩
  | 79 => ⟨S_, .f32⟩
  | 80 => ⟨S_, .f32⟩
  | 81 => ⟨S4x4x256x64, .f32⟩
  | 82 => ⟨S4x4x1x64, .f32⟩
  | 83 => ⟨S4x4x64, .f32⟩
  | 84 => ⟨S4x4x64, .f32⟩
  | 85 => ⟨S4x4x64x1, .f32⟩
  | 86 => ⟨S4x4x64x128, .f32⟩
  | 87 => ⟨S4x4x64x128, .f32⟩
  | 88 => ⟨S4x4x1x64, .f32⟩
  | 89 => ⟨S4x4x256x64, .f32⟩
  | 90 => ⟨S4x4x256x64, .f32⟩
  | 91 => ⟨S4x4x256x64, .f32⟩
  | 92 => ⟨S4x4x256x64, .f32⟩
  | 93 => ⟨S4x4x64x128, .f32⟩
  | 94 => ⟨S4x4x64x128, .f32⟩
  | 95 => ⟨S4x64x4x4096, .f32⟩
  | 96 => ⟨S4x4x4096x64, .f32⟩
  | 97 => ⟨S1x4x1x64, .f32⟩
  | 98 => ⟨S4x4x4096x64, .f32⟩
  | 99 => ⟨S4x4x4096x64, .f32⟩
  | 100 => ⟨S4x4x4096x64, .f32⟩
  | 101 => ⟨S_, .f32⟩
  | 102 => ⟨S4x4x4096x64, .f32⟩
  | 103 => ⟨S4x4x4096x64, .f32⟩
  | 104 => ⟨S4x4x4096x64, .f32⟩
  | 105 => ⟨S4x4x4096x64, .f32⟩
  | 106 => ⟨S4x4x4096x64, .i1⟩
  | 107 => ⟨S4x4x4096x64, .f32⟩
  | 108 => ⟨S4x4x4096x64, .f32⟩
  | 109 => ⟨S4x4x4096x64, .f32⟩
  | 110 => ⟨S4x4x4096x64, .f32⟩
  | 111 => ⟨S4x4x4096x64, .f32⟩
  | 112 => ⟨S4x4x4096x64, .f32⟩
  | 113 => ⟨S4x4x4096x64, .f32⟩
  | 114 => ⟨S4x4x4096x64, .f32⟩
  | 115 => ⟨S4x4x4096x64, .f32⟩
  | 116 => ⟨S_, .f32⟩
  | 117 => ⟨S4x4x4096x64, .f32⟩
  | 118 => ⟨S4x4x4096x64, .f32⟩
  | 119 => ⟨S_, .i1⟩
  | 120 => ⟨S4096x4096, .i1⟩
  | 121 => ⟨S4096x4096, .i32⟩
  | 122 => ⟨S_, .i32⟩
  | 123 => ⟨S4096x4096, .i32⟩
  | 124 => ⟨S4096x4096, .i32⟩
  | 125 => ⟨S4096x4096, .i32⟩
  | 126 => ⟨S4096x4096, .i1⟩
  | 127 => ⟨S_, .i1⟩
  | _ => ⟨S4x4096x1536, .f32⟩

abbrev hbmTy0_1 (i : Nat) : BufTy := match i % 128 with
  | 0 => ⟨S4096x4096, .i1⟩
  | 1 => ⟨S4096x4096, .i1⟩
  | 2 => ⟨S_, .f32⟩
  | 3 => ⟨S_, .f32⟩
  | 4 => ⟨S4x4x4096x64, .f32⟩
  | 5 => ⟨S4x4x4096x64, .f32⟩
  | 6 => ⟨S4x4x4096x64, .f32⟩
  | 7 => ⟨S4x4x4096x64, .f32⟩
  | 8 => ⟨S4x4x4096x64, .f32⟩
  | 9 => ⟨S4x4x4096x64, .f32⟩
  | 10 => ⟨S4x4x4096x4096, .f32⟩
  | 11 => ⟨S_, .f32⟩
  | 12 => ⟨S_, .f32⟩
  | 13 => ⟨S4x4x4096x4096, .i1⟩
  | 14 => ⟨S4x4x4096x4096, .f32⟩
  | 15 => ⟨S4x4x4096x4096, .f32⟩
  | 16 => ⟨S4x4x4096x128, .f32⟩
  | 17 => ⟨S4x4x4096x128, .f32⟩
  | 18 => ⟨S4x4x4096x128, .f32⟩
  | 19 => ⟨S1x1x128x64, .bf16⟩
  | 20 => ⟨S128x64, .bf16⟩
  | 21 => ⟨S1x1x128x64, .bf16⟩
  | 22 => ⟨S128x64, .bf16⟩
  | 23 => ⟨S1x1x128x64, .bf16⟩
  | 24 => ⟨S128x64, .bf16⟩
  | 25 => ⟨S1x1x128x64, .bf16⟩
  | 26 => ⟨S128x64, .bf16⟩
  | 27 => ⟨S1x128x64, .bf16⟩
  | 28 => ⟨S1x128x64, .bf16⟩
  | 29 => ⟨S1x128x64, .bf16⟩
  | 30 => ⟨S1x128x64, .bf16⟩
  | 31 => ⟨S4x128x64, .bf16⟩
  | 32 => ⟨S4x128x64, .f32⟩
  | 33 => ⟨S1x1x1x64, .f32⟩
  | 34 => ⟨S64, .f32⟩
  | 35 => ⟨S1x1x1x64, .f32⟩
  | 36 => ⟨S64, .f32⟩
  | 37 => ⟨S1x1x1x64, .f32⟩
  | 38 => ⟨S64, .f32⟩
  | 39 => ⟨S1x1x1x64, .f32⟩
  | 40 => ⟨S64, .f32⟩
  | 41 => ⟨S1x64, .f32⟩
  | 42 => ⟨S1x64, .f32⟩
  | 43 => ⟨S1x64, .f32⟩
  | 44 => ⟨S1x64, .f32⟩
  | 45 => ⟨S4x64, .f32⟩
  | 46 => ⟨S_, .f32⟩
  | 47 => ⟨S4x4x64x128, .f32⟩
  | 48 => ⟨S4x4x256x64, .f32⟩
  | 49 => ⟨S4x4x256x128, .f32⟩
  | 50 => ⟨S4x64x4x256, .f32⟩
  | 51 => ⟨S4x4x256x64, .f32⟩
  | 52 => ⟨S1x4x1x64, .f32⟩
  | 53 => ⟨S4x4x256x64, .f32⟩
  | 54 => ⟨S4x4x256x64, .f32⟩
  | 55 => ⟨S4x4x256x64, .f32⟩
  | 56 => ⟨S_, .f32⟩
  | 57 => ⟨S4x4x256x64, .f32⟩
  | 58 => ⟨S4x4x256x64, .f32⟩
  | 59 => ⟨S4x4x256x64, .f32⟩
  | 60 => ⟨S4x4x256x64, .f32⟩
  | 61 => ⟨S4x4x256x64, .i1⟩
  | 62 => ⟨S4x4x256x64, .f32⟩
  | 63 => ⟨S4x4x256x64, .f32⟩
  | 64 => ⟨S4x4x256x64, .f32⟩
  | 65 => ⟨S4x4x256x64, .f32⟩
  | 66 => ⟨S4x4x256x64, .f32⟩
  | 67 => ⟨S4x4x256x64, .f32⟩
  | 68 => ⟨S4x4x256x64, .f32⟩
  | 69 => ⟨S4x4x256x64, .f32⟩
  | 70 => ⟨S4x4x256x64, .f32⟩
  | 71 => ⟨S_, .f32⟩
  | 72 => ⟨S4x4x256x64, .f32⟩
  | 73 => ⟨S4x4x256x64, .f32⟩
  | 74 => ⟨S4x4x256x64, .f32⟩
  | 75 => ⟨S_, .f32⟩
  | 76 => ⟨S_, .f32⟩
  | 77 => ⟨S4x4x256x64, .f32⟩
  | 78 => ⟨S4x4x1x64, .f32⟩
  | 79 => ⟨S4x4x64, .f32⟩
  | 80 => ⟨S4x4x64, .f32⟩
  | 81 => ⟨S4x4x64x1, .f32⟩
  | 82 => ⟨S4x4x64x128, .f32⟩
  | 83 => ⟨S4x4x64x128, .f32⟩
  | 84 => ⟨S4x4x1x64, .f32⟩
  | 85 => ⟨S4x4x256x64, .f32⟩
  | 86 => ⟨S4x4x256x64, .f32⟩
  | 87 => ⟨S4x4x256x64, .f32⟩
  | 88 => ⟨S4x4x256x64, .f32⟩
  | 89 => ⟨S4x4x64x128, .f32⟩
  | 90 => ⟨S4x4x64x128, .f32⟩
  | 91 => ⟨S4x4x4096x64, .f32⟩
  | 92 => ⟨S4x4x4096x64, .f32⟩
  | 93 => ⟨S4x4x4096x128, .f32⟩
  | 94 => ⟨S4x64x4x4096, .f32⟩
  | 95 => ⟨S4x4x4096x64, .f32⟩
  | 96 => ⟨S1x4x1x64, .f32⟩
  | 97 => ⟨S4x4x4096x64, .f32⟩
  | 98 => ⟨S4x4x4096x64, .f32⟩
  | 99 => ⟨S4x4x4096x64, .f32⟩
  | 100 => ⟨S_, .f32⟩
  | 101 => ⟨S4x4x4096x64, .f32⟩
  | 102 => ⟨S4x4x4096x64, .f32⟩
  | 103 => ⟨S4x4x4096x64, .f32⟩
  | 104 => ⟨S4x4x4096x64, .f32⟩
  | 105 => ⟨S4x4x4096x64, .i1⟩
  | 106 => ⟨S4x4x4096x64, .f32⟩
  | 107 => ⟨S4x4x4096x64, .f32⟩
  | 108 => ⟨S4x4x4096x64, .f32⟩
  | 109 => ⟨S4x4x4096x64, .f32⟩
  | 110 => ⟨S4x4x4096x64, .f32⟩
  | 111 => ⟨S4x4x4096x64, .f32⟩
  | 112 => ⟨S4x4x4096x64, .f32⟩
  | 113 => ⟨S4x4x4096x64, .f32⟩
  | 114 => ⟨S4x4x4096x64, .f32⟩
  | 115 => ⟨S_, .f32⟩
  | 116 => ⟨S4x4x4096x64, .f32⟩
  | 117 => ⟨S4x4x4096x64, .f32⟩
  | 118 => ⟨S4x4x4096x64, .f32⟩
  | 119 => ⟨S_, .i1⟩
  | 120 => ⟨S4096x4096, .i1⟩
  | 121 => ⟨S4096x4096, .i32⟩
  | 122 => ⟨S_, .i32⟩
  | 123 => ⟨S4096x4096, .i32⟩
  | 124 => ⟨S4096x4096, .i32⟩
  | 125 => ⟨S4096x4096, .i32⟩
  | 126 => ⟨S4096x4096, .i1⟩
  | 127 => ⟨S_, .i1⟩
  | _ => ⟨S4x4096x1536, .f32⟩

abbrev hbmTy0_2 (i : Nat) : BufTy := match i % 128 with
  | 0 => ⟨S4096x4096, .i1⟩
  | 1 => ⟨S4096x4096, .i1⟩
  | 2 => ⟨S_, .f32⟩
  | 3 => ⟨S_, .f32⟩
  | 4 => ⟨S4x4x4096x64, .f32⟩
  | 5 => ⟨S4x4x4096x64, .f32⟩
  | 6 => ⟨S4x4x4096x64, .f32⟩
  | 7 => ⟨S4x4x4096x64, .f32⟩
  | 8 => ⟨S4x4x4096x64, .f32⟩
  | 9 => ⟨S4x4x4096x64, .f32⟩
  | 10 => ⟨S4x4x4096x4096, .f32⟩
  | 11 => ⟨S_, .f32⟩
  | 12 => ⟨S_, .f32⟩
  | 13 => ⟨S4x4x4096x4096, .i1⟩
  | 14 => ⟨S4x4x4096x4096, .f32⟩
  | 15 => ⟨S4x4x4096x4096, .f32⟩
  | 16 => ⟨S4x4x4096x128, .f32⟩
  | 17 => ⟨S4x4x4096x128, .f32⟩
  | 18 => ⟨S4x4x4096x128, .f32⟩
  | 19 => ⟨S4x4x4096x128, .f32⟩
  | 20 => ⟨S4x4x4096x128, .f32⟩
  | 21 => ⟨S4x4x4096x128, .f32⟩
  | 22 => ⟨S_, .f32⟩
  | 23 => ⟨S4x4x4096, .f32⟩
  | 24 => ⟨S4x4x4096x1, .f32⟩
  | 25 => ⟨S_, .f32⟩
  | 26 => ⟨S4x4x4096x1, .f32⟩
  | 27 => ⟨S4x4x4096x1, .f32⟩
  | 28 => ⟨S_, .f32⟩
  | 29 => ⟨S4x4x4096x1, .f32⟩
  | 30 => ⟨S4x4x4096x1, .f32⟩
  | 31 => ⟨S4x4x4096x1, .f32⟩
  | 32 => ⟨S4x4x4096x128, .f32⟩
  | 33 => ⟨S4x4x4096x128, .f32⟩
  | 34 => ⟨S4x4096x4x128, .f32⟩
  | 35 => ⟨S4x4096x512, .f32⟩
  | 36 => ⟨S1x1x512, .f32⟩
  | 37 => ⟨S4x4096x512, .f32⟩
  | 38 => ⟨S4x4096x512, .f32⟩
  | 39 => ⟨S4x4096x512, .f32⟩
  | 40 => ⟨S4x4096x512, .f32⟩
  | 41 => ⟨S_, .f32⟩
  | 42 => ⟨S4x4096x512, .f32⟩
  | 43 => ⟨S4x4096x512, .f32⟩
  | 44 => ⟨S_, .f32⟩
  | 45 => ⟨S4x4096x512, .f32⟩
  | 46 => ⟨S4x4096x512, .f32⟩
  | 47 => ⟨S4x4096x512, .f32⟩
  | 48 => ⟨S4x4096x512, .f32⟩
  | 49 => ⟨S4x4096x512, .bf16⟩
  | _ => ⟨S4x4096x1536, .f32⟩

abbrev hbmTy (i : Nat) : BufTy := match i / 128 with
  | 0 => hbmTy0_0 i
  | 1 => hbmTy0_1 i
  | 2 => hbmTy0_2 i
  | _ => ⟨S4x4096x1536, .f32⟩

abbrev bufTy : (tb : Table) → Fin (tcTables nBuf tb) → BufTy
  | .hbm, ⟨i, _⟩ => hbmTy i
  | _, _ => ⟨S4x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_0 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_call0_v0 : Ref sig .tc := ⟨.hbm, 60, rfl⟩
abbrev main_call0_call0_cst : Ref sig .tc := ⟨.hbm, 61, rfl⟩
abbrev main_call0_call0_v0 : Ref sig .tc := ⟨.hbm, 62, rfl⟩
abbrev main_call0_call0_v1 : Ref sig .tc := ⟨.hbm, 63, rfl⟩
abbrev main_call0_call0_v2 : Ref sig .tc := ⟨.hbm, 64, rfl⟩
abbrev main_call0_call0_v3 : Ref sig .tc := ⟨.hbm, 65, rfl⟩
abbrev main_call0_call0_v4 : Ref sig .tc := ⟨.hbm, 66, rfl⟩
abbrev main_call0_call0_v5 : Ref sig .tc := ⟨.hbm, 67, rfl⟩
abbrev main_call0_call0_v6 : Ref sig .tc := ⟨.hbm, 68, rfl⟩
abbrev main_call0_call0_v7 : Ref sig .tc := ⟨.hbm, 69, rfl⟩
abbrev main_call0_call0_v8 : Ref sig .tc := ⟨.hbm, 70, rfl⟩
abbrev main_call0_call0_v9 : Ref sig .tc := ⟨.hbm, 71, rfl⟩
abbrev main_call0_call0_v10 : Ref sig .tc := ⟨.hbm, 72, rfl⟩
abbrev main_call0_call0_v11 : Ref sig .tc := ⟨.hbm, 73, rfl⟩
abbrev main_call0_v1 : Ref sig .tc := ⟨.hbm, 74, rfl⟩
abbrev main_v51 : Ref sig .tc := ⟨.hbm, 75, rfl⟩
abbrev main_cst_1 : Ref sig .tc := ⟨.hbm, 76, rfl⟩
abbrev main_v52 : Ref sig .tc := ⟨.hbm, 77, rfl⟩
abbrev main_v53 : Ref sig .tc := ⟨.hbm, 78, rfl⟩
abbrev main_call1_call0_cst : Ref sig .tc := ⟨.hbm, 79, rfl⟩
abbrev main_call1_call0_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call2_v0 : Ref sig .tc := ⟨.hbm, 100, rfl⟩
abbrev main_call2_call0_cst : Ref sig .tc := ⟨.hbm, 101, rfl⟩
abbrev main_call2_call0_v0 : Ref sig .tc := ⟨.hbm, 102, rfl⟩
abbrev main_call2_call0_v1 : Ref sig .tc := ⟨.hbm, 103, rfl⟩
abbrev main_call2_call0_v2 : Ref sig .tc := ⟨.hbm, 104, rfl⟩
abbrev main_call2_call0_v3 : Ref sig .tc := ⟨.hbm, 105, rfl⟩
abbrev main_call2_call0_v4 : Ref sig .tc := ⟨.hbm, 106, rfl⟩
abbrev main_call2_call0_v5 : Ref sig .tc := ⟨.hbm, 107, rfl⟩
abbrev main_call2_call0_v6 : Ref sig .tc := ⟨.hbm, 108, rfl⟩
abbrev main_call2_call0_v7 : Ref sig .tc := ⟨.hbm, 109, rfl⟩
abbrev main_call2_call0_v8 : Ref sig .tc := ⟨.hbm, 110, rfl⟩
abbrev main_call2_call0_v9 : Ref sig .tc := ⟨.hbm, 111, rfl⟩
abbrev main_call2_call0_v10 : Ref sig .tc := ⟨.hbm, 112, rfl⟩
abbrev main_call2_call0_v11 : Ref sig .tc := ⟨.hbm, 113, rfl⟩
abbrev main_call2_v1 : Ref sig .tc := ⟨.hbm, 114, rfl⟩
abbrev main_v73 : Ref sig .tc := ⟨.hbm, 115, rfl⟩
abbrev main_cst_2 : Ref sig .tc := ⟨.hbm, 116, rfl⟩
abbrev main_v74 : Ref sig .tc := ⟨.hbm, 117, rfl⟩
abbrev main_v75 : Ref sig .tc := ⟨.hbm, 118, rfl⟩
abbrev main_c : Ref sig .tc := ⟨.hbm, 119, rfl⟩
abbrev main_v76 : Ref sig .tc := ⟨.hbm, 120, rfl⟩
abbrev main_call3_v0 : Ref sig .tc := ⟨.hbm, 121, rfl⟩
abbrev main_call3_c : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_c_0 : Ref sig .tc := ⟨.hbm, 127, rfl⟩
abbrev main_call3_v5 : Ref sig .tc := ⟨.hbm, 128, rfl⟩
abbrev main_v77 : Ref sig .tc := ⟨.hbm, 129, rfl⟩
abbrev main_call4_call0_cst : Ref sig .tc := ⟨.hbm, 130, rfl⟩
abbrev main_call4_call0_v0 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_3 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_cst_4 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_call8_v0 : Ref sig .tc := ⟨.hbm, 183, rfl⟩
abbrev main_call8_call0_cst : Ref sig .tc := ⟨.hbm, 184, rfl⟩
abbrev main_call8_call0_v0 : Ref sig .tc := ⟨.hbm, 185, rfl⟩
abbrev main_call8_call0_v1 : Ref sig .tc := ⟨.hbm, 186, rfl⟩
abbrev main_call8_call0_v2 : Ref sig .tc := ⟨.hbm, 187, rfl⟩
abbrev main_call8_call0_v3 : Ref sig .tc := ⟨.hbm, 188, rfl⟩
abbrev main_call8_call0_v4 : Ref sig .tc := ⟨.hbm, 189, rfl⟩
abbrev main_call8_call0_v5 : Ref sig .tc := ⟨.hbm, 190, rfl⟩
abbrev main_call8_call0_v6 : Ref sig .tc := ⟨.hbm, 191, rfl⟩
abbrev main_call8_call0_v7 : Ref sig .tc := ⟨.hbm, 192, rfl⟩
abbrev main_call8_call0_v8 : Ref sig .tc := ⟨.hbm, 193, rfl⟩
abbrev main_call8_call0_v9 : Ref sig .tc := ⟨.hbm, 194, rfl⟩
abbrev main_call8_call0_v10 : Ref sig .tc := ⟨.hbm, 195, rfl⟩
abbrev main_call8_call0_v11 : Ref sig .tc := ⟨.hbm, 196, rfl⟩
abbrev main_call8_v1 : Ref sig .tc := ⟨.hbm, 197, rfl⟩
abbrev main_v124 : Ref sig .tc := ⟨.hbm, 198, rfl⟩
abbrev main_cst_5 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_call10_call0_cst : Ref sig .tc := ⟨.hbm, 203, rfl⟩
abbrev main_call10_call0_v0 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_call14_v0 : Ref sig .tc := ⟨.hbm, 227, rfl⟩
abbrev main_call14_call0_cst : Ref sig .tc := ⟨.hbm, 228, rfl⟩
abbrev main_call14_call0_v0 : Ref sig .tc := ⟨.hbm, 229, rfl⟩
abbrev main_call14_call0_v1 : Ref sig .tc := ⟨.hbm, 230, rfl⟩
abbrev main_call14_call0_v2 : Ref sig .tc := ⟨.hbm, 231, rfl⟩
abbrev main_call14_call0_v3 : Ref sig .tc := ⟨.hbm, 232, rfl⟩
abbrev main_call14_call0_v4 : Ref sig .tc := ⟨.hbm, 233, rfl⟩
abbrev main_call14_call0_v5 : Ref sig .tc := ⟨.hbm, 234, rfl⟩
abbrev main_call14_call0_v6 : Ref sig .tc := ⟨.hbm, 235, rfl⟩
abbrev main_call14_call0_v7 : Ref sig .tc := ⟨.hbm, 236, rfl⟩
abbrev main_call14_call0_v8 : Ref sig .tc := ⟨.hbm, 237, rfl⟩
abbrev main_call14_call0_v9 : Ref sig .tc := ⟨.hbm, 238, rfl⟩
abbrev main_call14_call0_v10 : Ref sig .tc := ⟨.hbm, 239, rfl⟩
abbrev main_call14_call0_v11 : Ref sig .tc := ⟨.hbm, 240, rfl⟩
abbrev main_call14_v1 : Ref sig .tc := ⟨.hbm, 241, rfl⟩
abbrev main_v150 : Ref sig .tc := ⟨.hbm, 242, rfl⟩
abbrev main_cst_6 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_c_7 : Ref sig .tc := ⟨.hbm, 247, rfl⟩
abbrev main_v154 : Ref sig .tc := ⟨.hbm, 248, rfl⟩
abbrev main_call16_v0 : Ref sig .tc := ⟨.hbm, 249, rfl⟩
abbrev main_call16_c : Ref sig .tc := ⟨.hbm, 250, rfl⟩
abbrev main_call16_v1 : Ref sig .tc := ⟨.hbm, 251, rfl⟩
abbrev main_call16_v2 : Ref sig .tc := ⟨.hbm, 252, rfl⟩
abbrev main_call16_v3 : Ref sig .tc := ⟨.hbm, 253, rfl⟩
abbrev main_call16_v4 : Ref sig .tc := ⟨.hbm, 254, rfl⟩
abbrev main_call16_c_0 : Ref sig .tc := ⟨.hbm, 255, rfl⟩
abbrev main_call16_v5 : Ref sig .tc := ⟨.hbm, 256, rfl⟩
abbrev main_v155 : Ref sig .tc := ⟨.hbm, 257, rfl⟩
abbrev main_call17_call0_cst : Ref sig .tc := ⟨.hbm, 258, rfl⟩
abbrev main_call17_call0_v0 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_cst_8 : Ref sig .tc := ⟨.hbm, 267, rfl⟩
abbrev main_call18_v0 : Ref sig .tc := ⟨.hbm, 268, rfl⟩
abbrev main_call18_v1 : Ref sig .tc := ⟨.hbm, 269, rfl⟩
abbrev main_call18_v2 : Ref sig .tc := ⟨.hbm, 270, rfl⟩
abbrev main_v163 : Ref sig .tc := ⟨.hbm, 271, rfl⟩
abbrev main_v164 : Ref sig .tc := ⟨.hbm, 272, rfl⟩
abbrev main_v165 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_cst_9 : Ref sig .tc := ⟨.hbm, 278, rfl⟩
abbrev main_v170 : Ref sig .tc := ⟨.hbm, 279, rfl⟩
abbrev main_v171 : Ref sig .tc := ⟨.hbm, 280, rfl⟩
abbrev main_cst_10 : Ref sig .tc := ⟨.hbm, 281, rfl⟩
abbrev main_v172 : Ref sig .tc := ⟨.hbm, 282, rfl⟩
abbrev main_v173 : Ref sig .tc := ⟨.hbm, 283, rfl⟩
abbrev main_cst_11 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_call20_v0 : Ref sig .tc := ⟨.hbm, 295, rfl⟩
abbrev main_call20_v1 : Ref sig .tc := ⟨.hbm, 296, rfl⟩
abbrev main_call20_cst : Ref sig .tc := ⟨.hbm, 297, rfl⟩
abbrev main_call20_v2 : Ref sig .tc := ⟨.hbm, 298, rfl⟩
abbrev main_call20_v3 : Ref sig .tc := ⟨.hbm, 299, rfl⟩
abbrev main_call20_cst_0 : Ref sig .tc := ⟨.hbm, 300, rfl⟩
abbrev main_call20_v4 : Ref sig .tc := ⟨.hbm, 301, rfl⟩
abbrev main_call20_v5 : Ref sig .tc := ⟨.hbm, 302, rfl⟩
abbrev main_v184 : Ref sig .tc := ⟨.hbm, 303, rfl⟩
abbrev main_v185 : Ref sig .tc := ⟨.hbm, 304, rfl⟩
abbrev main_v186 : Ref sig .tc := ⟨.hbm, 305, rfl⟩

abbrev nD : Nat := 1
abbrev τ : Topo := Topo.v7x

variable {F : FTy → Type} [FloatOps F]
-- ==== Kernel2.lean ====
abbrev S4x4096x1024 : Shape := ⟨3, ![4, 4096, 1024]⟩
abbrev S8x6x1024 : Shape := ⟨3, ![8, 6, 1024]⟩
abbrev S1024 : Shape := ⟨1, ![1024]⟩
abbrev S1024x3632 : Shape := ⟨2, ![1024, 3632]⟩
abbrev S128 : Shape := ⟨1, ![128]⟩
abbrev S1024x1536 : Shape := ⟨2, ![1024, 1536]⟩
abbrev S1024x2048 : Shape := ⟨2, ![1024, 2048]⟩
abbrev S1024x32 : Shape := ⟨2, ![1024, 32]⟩
abbrev S1024x16 : Shape := ⟨2, ![1024, 16]⟩
abbrev S_ : Shape := ⟨0, ![]⟩
abbrev S1024x80 : Shape := ⟨2, ![1024, 80]⟩
abbrev S1024x128 : Shape := ⟨2, ![1024, 128]⟩
abbrev S1x1024 : Shape := ⟨2, ![1, 1024]⟩
abbrev S128x1024 : Shape := ⟨2, ![128, 1024]⟩
abbrev S1x128 : Shape := ⟨2, ![1, 128]⟩
abbrev S128x1 : Shape := ⟨2, ![128, 1]⟩
abbrev S4x4096x1536 : Shape := ⟨3, ![4, 4096, 1536]⟩
abbrev S4x4096x2048 : Shape := ⟨3, ![4, 4096, 2048]⟩
abbrev S4x4096x128 : Shape := ⟨3, ![4, 4096, 128]⟩
abbrev S4x4096x512 : Shape := ⟨3, ![4, 4096, 512]⟩
abbrev S4x4x8x4096 : Shape := ⟨4, ![4, 4, 8, 4096]⟩
abbrev S1x256x1024 : Shape := ⟨3, ![1, 256, 1024]⟩
abbrev S1x6x1024 : Shape := ⟨3, ![1, 6, 1024]⟩
abbrev S1x256x1536 : Shape := ⟨3, ![1, 256, 1536]⟩
abbrev S1x256x2048 : Shape := ⟨3, ![1, 256, 2048]⟩
abbrev S1x256x128 : Shape := ⟨3, ![1, 256, 128]⟩
abbrev S1x256x512 : Shape := ⟨3, ![1, 256, 512]⟩
abbrev S1x4x8x256 : Shape := ⟨4, ![1, 4, 8, 256]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S256x1536 : Shape := ⟨2, ![256, 1536]⟩
abbrev S256x2048 : Shape := ⟨2, ![256, 2048]⟩
abbrev S256x128 : Shape := ⟨2, ![256, 128]⟩
abbrev S128x256 : Shape := ⟨2, ![128, 256]⟩
abbrev S256x256 : Shape := ⟨2, ![256, 256]⟩
abbrev S128x128 : Shape := ⟨2, ![128, 128]⟩
abbrev S1x256 : Shape := ⟨2, ![1, 256]⟩
abbrev S1x1x1x256 : Shape := ⟨4, ![1, 1, 1, 256]⟩
abbrev S4x256 : Shape := ⟨2, ![4, 256]⟩
abbrev S1x1x4x256 : Shape := ⟨4, ![1, 1, 4, 256]⟩

abbrev nBuf : Space → Nat
  | .hbm => 25
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S8x6x1024, .f32⟩
  | .hbm, ⟨2, _⟩ => ⟨S1024, .f32⟩
  | .hbm, ⟨3, _⟩ => ⟨S1024x3632, .f32⟩
  | .hbm, ⟨4, _⟩ => ⟨S128, .f32⟩
  | .hbm, ⟨5, _⟩ => ⟨S1024x1536, .f32⟩
  | .hbm, ⟨6, _⟩ => ⟨S1024x2048, .f32⟩
  | .hbm, ⟨7, _⟩ => ⟨S1024x32, .f32⟩
  | .hbm, ⟨8, _⟩ => ⟨S1024x16, .f32⟩
  | .hbm, ⟨9, _⟩ => ⟨S_, .f32⟩
  | .hbm, ⟨10, _⟩ => ⟨S1024x80, .f32⟩
  | .hbm, ⟨11, _⟩ => ⟨S1024x128, .f32⟩
  | .hbm, ⟨12, _⟩ => ⟨S1x1024, .f32⟩
  | .hbm, ⟨13, _⟩ => ⟨S1024x1536, .bf16⟩
  | .hbm, ⟨14, _⟩ => ⟨S1024x2048, .bf16⟩
  | .hbm, ⟨15, _⟩ => ⟨S1024x128, .bf16⟩
  | .hbm, ⟨16, _⟩ => ⟨S128x1024, .f32⟩
  | .hbm, ⟨17, _⟩ => ⟨S128x1024, .bf16⟩
  | .hbm, ⟨18, _⟩ => ⟨S1x128, .f32⟩
  | .hbm, ⟨19, _⟩ => ⟨S128x1, .f32⟩
  | .hbm, ⟨20, _⟩ => ⟨S4x4096x1536, .f32⟩
  | .hbm, ⟨21, _⟩ => ⟨S4x4096x2048, .f32⟩
  | .hbm, ⟨22, _⟩ => ⟨S4x4096x128, .f32⟩
  | .hbm, ⟨23, _⟩ => ⟨S4x4096x512, .f32⟩
  | .hbm, ⟨24, _⟩ => ⟨S4x4x8x4096, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1536, .bf16⟩
  | .local _ .vmem, ⟨6, _⟩ => ⟨S1024x2048, .bf16⟩
  | .local _ .vmem, ⟨7, _⟩ => ⟨S1024x128, .bf16⟩
  | .local _ .vmem, ⟨8, _⟩ => ⟨S128x1024, .bf16⟩
  | .local _ .vmem, ⟨9, _⟩ => ⟨S1x128, .f32⟩
  | .local _ .vmem, ⟨10, _⟩ => ⟨S128x1, .f32⟩
  | .local _ .vmem, ⟨11, _⟩ => ⟨S1x256x1536, .f32⟩
  | .local _ .vmem, ⟨12, _⟩ => ⟨S1x256x1536, .f32⟩
  | .local _ .vmem, ⟨13, _⟩ => ⟨S1x256x2048, .f32⟩
  | .local _ .vmem, ⟨14, _⟩ => ⟨S1x256x2048, .f32⟩
  | .local _ .vmem, ⟨15, _⟩ => ⟨S1x256x128, .f32⟩
  | .local _ .vmem, ⟨16, _⟩ => ⟨S1x256x128, .f32⟩
  | .local _ .vmem, ⟨17, _⟩ => ⟨S1x256x512, .f32⟩
  | .local _ .vmem, ⟨18, _⟩ => ⟨S1x256x512, .f32⟩
  | .local _ .vmem, ⟨19, _⟩ => ⟨S1x4x8x256, .f32⟩
  | .local _ .vmem, ⟨20, _⟩ => ⟨S1x4x8x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S4x4096x1024 : Shape := ⟨3, ![4, 4096, 1024]⟩
abbrev S8x6x1024 : Shape := ⟨3, ![8, 6, 1024]⟩
abbrev S1024 : Shape := ⟨1, ![1024]⟩
abbrev S1024x3632 : Shape := ⟨2, ![1024, 3632]⟩
abbrev S128 : Shape := ⟨1, ![128]⟩
abbrev S4x1x1024 : Shape := ⟨3, ![4, 1, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3632 : Shape := ⟨3, ![4, 4096, 3632]⟩
abbrev S4x4096x32 : Shape := ⟨3, ![4, 4096, 32]⟩
abbrev S4x4096x16 : Shape := ⟨3, ![4, 4096, 16]⟩
abbrev S4x4096x80 : Shape := ⟨3, ![4, 4096, 80]⟩
abbrev S4x4096x128 : Shape := ⟨3, ![4, 4096, 128]⟩
abbrev S4x4096x1536 : Shape := ⟨3, ![4, 4096, 1536]⟩
abbrev S4x4096x2048 : Shape := ⟨3, ![4, 4096, 2048]⟩
abbrev S1x1x128 : Shape := ⟨3, ![1, 1, 128]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x6x1024, .f32⟩
  | .hbm, ⟨2, _⟩ => ⟨S1024, .f32⟩
  | .hbm, ⟨3, _⟩ => ⟨S1024x3632, .f32⟩
  | .hbm, ⟨4, _⟩ => ⟨S128, .f32⟩
  | .hbm, ⟨5, _⟩ => ⟨S4x1x1024, .f32⟩
  | .hbm, ⟨6, _⟩ => ⟨S4x1024, .f32⟩
  | .hbm, ⟨7, _⟩ => ⟨S4x1x1024, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x3632, .f32⟩
  | .hbm, ⟨35, _⟩ => ⟨S4x4096x32, .f32⟩
  | .hbm, ⟨36, _⟩ => ⟨S4x4096x16, .f32⟩
  | .hbm, ⟨37, _⟩ => ⟨S_, .f32⟩
  | .hbm, ⟨38, _⟩ => ⟨S4x4096x80, .f32⟩
  | .hbm, ⟨39, _⟩ => ⟨S4x4096x128, .f32⟩
  | .hbm, ⟨40, _⟩ => ⟨S4x4096x1536, .f32⟩
  | .hbm, ⟨41, _⟩ => ⟨S4x4096x2048, .f32⟩
  | .hbm, ⟨42, _⟩ => ⟨S1x1x128, .f32⟩
  | .hbm, ⟨43, _⟩ => ⟨S4x4096x128, .f32⟩
  | .hbm, ⟨44, _⟩ => ⟨S4x4096x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S8x6x1024 : Shape := ⟨3, ![8, 6, 1024]⟩
abbrev S1024x1024 : Shape := ⟨2, ![1024, 1024]⟩
abbrev S1024 : Shape := ⟨1, ![1024]⟩
abbrev S1024x128 : Shape := ⟨2, ![1024, 128]⟩
abbrev S1x128 : Shape := ⟨2, ![1, 128]⟩
abbrev S512x1024 : Shape := ⟨2, ![512, 1024]⟩
abbrev S1x1024 : Shape := ⟨2, ![1, 1024]⟩
abbrev S131072x128 : Shape := ⟨2, ![131072, 128]⟩
abbrev S16384x128 : Shape := ⟨2, ![16384, 128]⟩
abbrev S1x256x1024 : Shape := ⟨3, ![1, 256, 1024]⟩
abbrev S1x256x512 : Shape := ⟨3, ![1, 256, 512]⟩
abbrev S1x6x1024 : Shape := ⟨3, ![1, 6, 1024]⟩
abbrev S2048x128 : Shape := ⟨2, ![2048, 128]⟩
abbrev S256x128 : Shape := ⟨2, ![256, 128]⟩
abbrev S256x512 : Shape := ⟨2, ![256, 512]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x256 : Shape := ⟨2, ![256, 256]⟩
abbrev S128 : Shape := ⟨1, ![128]⟩

abbrev nBuf : Space → Nat
  | .hbm => 22
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S8x6x1024, .f32⟩
  | .hbm, ⟨4, _⟩ => ⟨S1024x1024, .f32⟩
  | .hbm, ⟨5, _⟩ => ⟨S1024, .f32⟩
  | .hbm, ⟨6, _⟩ => ⟨S1024x128, .f32⟩
  | .hbm, ⟨7, _⟩ => ⟨S1x128, .f32⟩
  | .hbm, ⟨8, _⟩ => ⟨S1024x128, .bf16⟩
  | .hbm, ⟨9, _⟩ => ⟨S1024x128, .f32⟩
  | .hbm, ⟨10, _⟩ => ⟨S1024x128, .f32⟩
  | .hbm, ⟨11, _⟩ => ⟨S1024x128, .bf16⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1x1024, .f32⟩
  | .hbm, ⟨17, _⟩ => ⟨S4x4096x1024, .f32⟩
  | .hbm, ⟨18, _⟩ => ⟨S131072x128, .f32⟩
  | .hbm, ⟨19, _⟩ => ⟨S16384x128, .i32⟩
  | .hbm, ⟨20, _⟩ => ⟨S16384x128, .f32⟩
  | .hbm, ⟨21, _⟩ => ⟨S1x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x6x1024, .f32⟩
  | .local _ .vmem, ⟨7, _⟩ => ⟨S1x6x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x128, .bf16⟩
  | .local _ .vmem, ⟨12, _⟩ => ⟨S1024x128, .bf16⟩
  | .local _ .vmem, ⟨13, _⟩ => ⟨S1x128, .f32⟩
  | .local _ .vmem, ⟨14, _⟩ => ⟨S1x256x1024, .f32⟩
  | .local _ .vmem, ⟨15, _⟩ => ⟨S1x256x1024, .f32⟩
  | .local _ .vmem, ⟨16, _⟩ => ⟨S2048x128, .f32⟩
  | .local _ .vmem, ⟨17, _⟩ => ⟨S2048x128, .f32⟩
  | .local _ .vmem, ⟨18, _⟩ => ⟨S256x128, .i32⟩
  | .local _ .vmem, ⟨19, _⟩ => ⟨S256x128, .i32⟩
  | .local _ .vmem, ⟨20, _⟩ => ⟨S256x128, .f32⟩
  | .local _ .vmem, ⟨21, _⟩ => ⟨S256x128, .f32⟩
  | .local _ .vmem, ⟨22, _⟩ => ⟨S1x128, .f32⟩
  | .local _ .vmem, ⟨23, _⟩ => ⟨S1x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference3Ideal.lean ====
abbrev S4x4096x1024 : Shape := ⟨3, ![4, 4096, 1024]⟩
abbrev S4x4096x512 : Shape := ⟨3, ![4, 4096, 512]⟩
abbrev S8x6x1024 : Shape := ⟨3, ![8, 6, 1024]⟩
abbrev S1024x1024 : Shape := ⟨2, ![1024, 1024]⟩
abbrev S1024 : Shape := ⟨1, ![1024]⟩
abbrev S1024x128 : Shape := ⟨2, ![1024, 128]⟩
abbrev S1x128 : Shape := ⟨2, ![1, 128]⟩
abbrev S4x1x1024 : Shape := ⟨3, ![4, 1, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S131072x128 : Shape := ⟨2, ![131072, 128]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S8x6x1024, .f32⟩
  | .hbm, ⟨4, _⟩ => ⟨S1024x1024, .f32⟩
  | .hbm, ⟨5, _⟩ => ⟨S1024, .f32⟩
  | .hbm, ⟨6, _⟩ => ⟨S1024x128, .f32⟩
  | .hbm, ⟨7, _⟩ => ⟨S1x128, .f32⟩
  | .hbm, ⟨8, _⟩ => ⟨S4x1x1024, .f32⟩
  | .hbm, ⟨9, _⟩ => ⟨S4x1024, .f32⟩
  | .hbm, ⟨10, _⟩ => ⟨S4x1x1024, .f32⟩
  | .hbm, ⟨11, _⟩ => ⟨S4x1x1024, .f32⟩
  | .hbm, ⟨12, _⟩ => ⟨S4x1024, .f32⟩
  | .hbm, ⟨13, _⟩ => ⟨S4x1x1024, .f32⟩
  | .hbm, ⟨14, _⟩ => ⟨S4x1x1024, .f32⟩
  | .hbm, ⟨15, _⟩ => ⟨S4x1024, .f32⟩
  | .hbm, ⟨16, _⟩ => ⟨S4x1x1024, .f32⟩
  | .hbm, ⟨17, _⟩ => ⟨S4x4096x1024, .bf16⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S4x4096x1, .f32⟩
  | .hbm, ⟨34, _⟩ => ⟨S4x4096x1024, .f32⟩
  | .hbm, ⟨35, _⟩ => ⟨S4x4096x1024, .f32⟩
  | .hbm, ⟨36, _⟩ => ⟨S1x1x1024, .f32⟩
  | .hbm, ⟨37, _⟩ => ⟨S4x4096x1024, .f32⟩
  | .hbm, ⟨38, _⟩ => ⟨S4x4096x1024, .f32⟩
  | .hbm, ⟨39, _⟩ => ⟨S_, .f32⟩
  | .hbm, ⟨40, _⟩ => ⟨S4x1x1024, .f32⟩
  | .hbm, ⟨41, _⟩ => ⟨S4x1x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S131072x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel4.lean ====
abbrev S4x4096x1024 : Shape := ⟨3, ![4, 4096, 1024]⟩
abbrev S262144x128 : Shape := ⟨2, ![262144, 128]⟩
abbrev S16384x128 : Shape := ⟨2, ![16384, 128]⟩
abbrev S8x6x1024 : Shape := ⟨3, ![8, 6, 1024]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S1024x128 : Shape := ⟨2, ![1024, 128]⟩
abbrev S1x6x1024 : Shape := ⟨3, ![1, 6, 1024]⟩
abbrev S1024x1 : Shape := ⟨2, ![1024, 1]⟩
abbrev S1x1x1024 : Shape := ⟨3, ![1, 1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S262144x128, .f32⟩
  | .hbm, ⟨2, _⟩ => ⟨S16384x128, .f32⟩
  | .hbm, ⟨3, _⟩ => ⟨S8x6x1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S16384x128, .f32⟩
  | .local _ .vmem, ⟨3, _⟩ => ⟨S16384x128, .f32⟩
  | .local _ .vmem, ⟨4, _⟩ => ⟨S1024x128, .f32⟩
  | .local _ .vmem, ⟨5, _⟩ => ⟨S1024x128, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S4x4096x1024 : Shape := ⟨3, ![4, 4096, 1024]⟩
abbrev S262144x128 : Shape := ⟨2, ![262144, 128]⟩
abbrev S16384x128 : Shape := ⟨2, ![16384, 128]⟩
abbrev S8x6x1024 : Shape := ⟨3, ![8, 6, 1024]⟩
abbrev S1024 : Shape := ⟨1, ![1024]⟩
abbrev S4x4096x2x1024 : Shape := ⟨4, ![4, 4096, 2, 1024]⟩
abbrev S16384x2 : Shape := ⟨2, ![16384, 2]⟩
abbrev S4x4096x2 : Shape := ⟨3, ![4, 4096, 2]⟩
abbrev S4x4096x1 : Shape := ⟨3, ![4, 4096, 1]⟩
abbrev S4x4096 : Shape := ⟨2, ![4, 4096]⟩
abbrev S4x4096x1x1024 : Shape := ⟨4, ![4, 4096, 1, 1024]⟩
abbrev S4x1x1024 : Shape := ⟨3, ![4, 1, 1024]⟩
abbrev S4x1024 : Shape := ⟨2, ![4, 1024]⟩
abbrev S_ : Shape := ⟨0, ![]⟩
abbrev S1x1x1024 : Shape := ⟨3, ![1, 1, 1024]⟩
abbrev S16384x1024 : Shape := ⟨2, ![16384, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S262144x128, .f32⟩
  | .hbm, ⟨2, _⟩ => ⟨S16384x128, .f32⟩
  | .hbm, ⟨3, _⟩ => ⟨S8x6x1024, .f32⟩
  | .hbm, ⟨4, _⟩ => ⟨S1024, .f32⟩
  | .hbm, ⟨5, _⟩ => ⟨S4x4096x2x1024, .f32⟩
  | .hbm, ⟨6, _⟩ => ⟨S16384x2, .f32⟩
  | .hbm, ⟨7, _⟩ => ⟨S4x4096x2, .f32⟩
  | .hbm, ⟨8, _⟩ => ⟨S4x4096x1, .f32⟩
  | .hbm, ⟨9, _⟩ => ⟨S4x4096, .f32⟩
  | .hbm, ⟨10, _⟩ => ⟨S4x4096x1, .f32⟩
  | .hbm, ⟨11, _⟩ => ⟨S4x4096x1x1024, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S4x4096x1, .f32⟩
  | .hbm, ⟨16, _⟩ => ⟨S4x4096, .f32⟩
  | .hbm, ⟨17, _⟩ => ⟨S4x4096x1, .f32⟩
  | .hbm, ⟨18, _⟩ => ⟨S4x4096x1x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x1x1024, .f32⟩
  | .hbm, ⟨24, _⟩ => ⟨S4x1024, .f32⟩
  | .hbm, ⟨25, _⟩ => ⟨S4x1x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x4096, .f32⟩
  | .hbm, ⟨32, _⟩ => ⟨S4x4096x1, .f32⟩
  | .hbm, ⟨33, _⟩ => ⟨S_, .f32⟩
  | .hbm, ⟨34, _⟩ => ⟨S4x4096x1, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S4x4096x1, .f32⟩
  | .hbm, ⟨40, _⟩ => ⟨S4x4096x1024, .f32⟩
  | .hbm, ⟨41, _⟩ => ⟨S4x4096x1024, .f32⟩
  | .hbm, ⟨42, _⟩ => ⟨S1x1x1024, .f32⟩
  | .hbm, ⟨43, _⟩ => ⟨S4x4096x1024, .f32⟩
  | .hbm, ⟨44, _⟩ => ⟨S4x4096x1024, .f32⟩
  | .hbm, ⟨45, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Kernel5.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S1x6144, .f32⟩
  | .hbm, ⟨9, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x1024 : Shape := ⟨2, ![4, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S4x6144 : Shape := ⟨2, ![4, 6144]⟩
abbrev S1x6144 : Shape := ⟨2, ![1, 6144]⟩
abbrev S3x6144 : Shape := ⟨2, ![3, 6144]⟩
abbrev S8x6144 : Shape := ⟨2, ![8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x6144, .f32⟩
  | .hbm, ⟨14, _⟩ => ⟨S1x6144, .f32⟩
  | .hbm, ⟨15, _⟩ => ⟨S4x6144, .f32⟩
  | .hbm, ⟨16, _⟩ => ⟨S4x6144, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S6144, .f32⟩
  | .hbm, ⟨27, _⟩ => ⟨S6144, .f32⟩
  | .hbm, ⟨28, _⟩ => ⟨S3x6144, .f32⟩
  | .hbm, ⟨29, _⟩ => ⟨S1x6144, .f32⟩
  | .hbm, ⟨30, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Proof.KernelFrame.lean ====
module

public import proofs.«01_k».proof.Proof.Gen.Kernel.Frame.Runs
public import Idealize.ShloMosaic.Lib.Claim

@[expose] public section

set_option maxRecDepth 16384

noncomputable section

namespace Cert.Kernel.Gla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The program as printed runs: nothing is said here of what it computes. -/

/-- A run that keeps the staged inputs keeps the arguments. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 3 rfl).trans ((hA c 3).trans (V_main_arg0 m c)),
      (Pipeline.RDat.FramePost.arr_in h c 4 rfl).trans ((hA c 4).trans (V_main_arg1 m c)),
      (Pipeline.RDat.FramePost.arr_in h c 6 rfl).trans ((hA c 6).trans (V_main_arg2 m c)),
      (Pipeline.RDat.FramePost.arr_in h c 7 rfl).trans ((hA c 7).trans (V_main_arg3 m c)),
      (Pipeline.RDat.FramePost.arr_in h c 8 rfl).trans ((hA c 8).trans (V_main_arg4 m c)),
      (Pipeline.RDat.FramePost.arr_in h c 9 rfl).trans ((hA c 9).trans (V_main_arg5 m c)),
      ((h c).2 main_arg6 (Pipeline.mem_restRefs_of main_arg6 (by decide) (by decide))).trans (V_main_arg6 m c)⟩) h

-- (the run's proof term is large: checking it walks past the default budget)
set_option maxHeartbeats 1000000 in
/-- The body on whole staging memrefs: the inputs come back as they were, the output and the scratch at some contents. -/
theorem kernelRun0_A (c : Dev nD) (i : grid0.Coords) (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x256x128 .f32) (harg9 : arg9.IsWhole) (arg10 : Memref sig .tc .vmem S1x2x128x128 .bf16) (harg10 : arg10.IsWhole) (arg11 : Memref sig .tc .vmem S1x2x1x128 .f32) (harg11 : arg11.IsWhole) (arg12 : Memref sig .tc .vmem S1x128 .f32) (harg12 : arg12.IsWhole) (arg13 : Memref sig .tc .vmem S1x4096x128 .bf16) (harg13 : arg13.IsWhole) (arg14 : Memref sig .tc .vmem S2x128x128 .f32) (harg14 : arg14.IsWhole) (arg15 : Memref sig .tc .vmem S4096x128 .f32) (harg15 : arg15.IsWhole)
    (x0 : Vec F S1x4096x128 .f32) (x1 : Vec F S1x4096x128 .f32) (x2 : Vec F S1x4096x128 .f32) (x3 : Vec F S1x4096x128 .f32) (x4 : Vec F S1x4096x128 .f32) (x5 : Vec F S1x256x128 .f32) (x6 : Vec F S1x256x128 .f32) (x7 : Vec F S1x256x128 .f32) (x8 : Vec F S1x2x128x128 .bf16) (x9 : Vec F S1x2x1x128 .f32) (x10 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_gla i arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_gla_eq_skeleton]; unfold cc0_gla_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [HS0]
    · iexists _, _; isplitr; swap; · iexact HS0
      ipureintro; rfl
    iexists _, _; isplitr; swap; · iexact HS1
    ipureintro; rfl

/-- The output windows of which nothing is stated. -/
def forgets0 : Fin 12 → Bool := fun w => w.val == 11

/-- The proof data: arrays as the region finds them, each input left at its block, nothing said of the output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
  Φ _ := Pipeline.ΦA spec0 c
  q w := Pipeline.shareOf spec0 w
  owed _ := 0

/-- The arrays are the ones at the entry of the region. -/
theorem A_eq (c : Dev nD) (w : Fin cfg0.W) : (dats m 0 c).A w = V m c (Pipeline.arrRef spec0 w) := by
  dsimp only [dats]

/-- An input block is left as it was. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- At every point an input buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d))

set_option maxHeartbeats 1200000 in
/-- The body runs at every point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The row of the body table at a point is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The program runs; inputs are kept and every semaphore counter ends at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The program runs and keeps its inputs. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The program leaves its arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- The program runs, leaves its arguments as they were and ends with every semaphore counter at zero. -/
theorem runs : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gla

end
-- ==== Proof.Chunk.lean ====
module

public import proofs.«01_k».proof.Proof.Gen.KernelIdeal.Skeleton

@[expose] public section

set_option maxRecDepth 16384

noncomputable section

namespace Cert.Gla

open Idealize.ShloMosaic Idealize.SL.Sem Cert.KernelIdeal Cert.KernelIdeal.Gen

variable {F : FTy → Type} [FloatOps F]

/-! What the kernel computes on one chunk of 128 positions, operation by operation. -/

/-- The gate's logits of a chunk: its low-rank features projected up, and the bias. -/
def gateLogits (zs : FVec F S128x128 .f32) (up : FVec F S128x128 .bf16) (bias : FVec F S1x128 .f32) :
    FVec F S128x128 .f32 :=
  addf (matmul dot_S128x128_S128x128_S128x128_1_0_0_1_n_n none (truncf .bf16 zs bitsLt_bf16_f32) up
    (constant S128x128 .f32 0x00000000#32)) (broadcastTo S128x128 bias broadcasts_S1x128_S128x128)

/-- The log decays of a chunk from the gate's logits: the log sigmoid over sixteen. -/
def logDecay (x : FVec F S128x128 .f32) : FVec F S128x128 .f32 :=
  mulf (subf (minimumf x (broadcast S128x128 (Scalar.ofBits .f32 0x00000000#32)))
      (log1p (exp (subf (broadcast S128x128 (Scalar.ofBits .f32 0x00000000#32)) (absf x)))))
    (broadcast S128x128 (Scalar.ofBits .f32 0x3D800000#32))

/-- The running sums of the log decays, by a triangular product of a high and a low part. -/
def runSum (tri : FVec F S128x128 .bf16) (g : FVec F S128x128 .f32) : FVec F S128x128 .f32 :=
  addf (matmul dot_S128x128_S128x128_S128x128_1_0_0_1_n_n none tri (truncf .bf16 g bitsLt_bf16_f32)
      (constant S128x128 .f32 0x00000000#32))
    (matmul dot_S128x128_S128x128_S128x128_1_0_0_1_n_n none tri
      (truncf .bf16 (subf g (extf .f32 (truncf .bf16 g bitsLt_bf16_f32) bitsLt_bf16_f32)) bitsLt_bf16_f32)
      (constant S128x128 .f32 0x00000000#32))

/-- The triangle of ones of a direction. -/
def tri (d : Bool) : FVec F S128x128 .bf16 := match d with
  | false => k0_pay4
  | true => k0_pay5

/-- The positions that a position sees, of a direction. -/
def mask (d : Bool) : IVec S128x128 1 := match d with
  | false => k0_pay2
  | true => k0_pay3

/-- The running sum at the chunk's last position in a direction's order. -/
def endRow (d : Bool) (b : FVec F S128x128 .f32) : FVec F S1x128 .f32 := match d with
  | false => extractStridedSlice S1x128 ![127, 0] b slices_S128x128_o127_0_S1x128
  | true => extractStridedSlice S1x128 ![0, 0] b slices_S128x128_o0_0_S1x128

/-- The state after a chunk from the state before it (the values' coordinate is the row). -/
def newState (k v b : FVec F S128x128 .f32) (e : FVec F S1x128 .f32) (s : FVec F S128x128 .f32) :
    FVec F S128x128 .f32 :=
  addf (mulf (broadcastTo S128x128 (exp e) broadcasts_S1x128_S128x128) s)
    (matmul dot_S128x128_S128x128_S128x128_0_0_1_1_n_n none (truncf .bf16 v bitsLt_bf16_f32)
      (truncf .bf16 (mulf k (exp (subf (broadcastTo S128x128 e broadcasts_S1x128_S128x128) b)))
        bitsLt_bf16_f32) (constant S128x128 .f32 0x00000000#32))

/-- The running sum at the chunk's middle position. -/
def midRow (b : FVec F S128x128 .f32) : FVec F S1x128 .f32 :=
  extractStridedSlice S1x128 ![64, 0] b slices_S128x128_o64_0_S1x128

/-- The unmasked products of queries and keys inside a chunk. -/
def scores (q k b : FVec F S128x128 .f32) : FVec F S128x128 .f32 :=
  matmul dot_S128x128_S128x128_S128x128_1_1_0_0_n_n none
    (truncf .bf16 (mulf q (exp (subf b (broadcastTo S128x128 (midRow b) broadcasts_S1x128_S128x128))))
      bitsLt_bf16_f32)
    (truncf .bf16 (mulf k (exp (subf (broadcastTo S128x128 (midRow b) broadcasts_S1x128_S128x128) b)))
      bitsLt_bf16_f32) (constant S128x128 .f32 0x00000000#32)

/-- What the queries of a chunk read from the state before it. -/
def inter (q b s : FVec F S128x128 .f32) : FVec F S128x128 .f32 :=
  matmul dot_S128x128_S128x128_S128x128_1_1_0_0_n_n none
    (truncf .bf16 (mulf q (exp b)) bitsLt_bf16_f32) (truncf .bf16 s bitsLt_bf16_f32)
    (constant S128x128 .f32 0x00000000#32)

/-- The outputs of a chunk. -/
def chunkOut (msk : IVec S128x128 1) (q k v b s : FVec F S128x128 .f32) : FVec F S128x128 .f32 :=
  addf (matmul dot_S128x128_S128x128_S128x128_1_0_0_1_n_n none
    (truncf .bf16 (select msk (scores q k b) (broadcast S128x128 (Scalar.ofBits .f32 0x00000000#32)))
      bitsLt_bf16_f32) (truncf .bf16 v bitsLt_bf16_f32) (constant S128x128 .f32 0x00000000#32))
    (inter q b s)

/-- The lanes of a head kept, the others zero. -/
def own (lanes : IVec S128x128 1) (x : FVec F S128x128 .f32) : FVec F S128x128 .f32 :=
  select lanes x (broadcast S128x128 (Scalar.ofBits .f32 0x00000000#32))

/-- The queries scaled. -/
def scaled (q : FVec F S128x128 .f32) : FVec F S128x128 .f32 :=
  mulf q (broadcast S128x128 (Scalar.ofBits .f32 0x3E000000#32))

/-- The running sums of a chunk's log decays in a direction. -/
def decays (d : Bool) (zs : FVec F S128x128 .f32) (up : FVec F S128x128 .bf16) (bias : FVec F S1x128 .f32) :
    FVec F S128x128 .f32 :=
  runSum (tri d) (logDecay (gateLogits zs up bias))

/-- The last rows: the two directions added, the mean square norm, its gain, the gate. -/
def finish (a o gg : FVec F S128x128 .f32) (gain : FVec F S1x128 .f32) : FVec F S1x128x128 .bf16 :=
  k0_pay11 a gg o gain

/-- A state as one of two stacked, and back. -/
def stacked (s : FVec F S128x128 .f32) : FVec F S1x128x128 .f32 :=
  shapeCast S1x128x128 s shapeCasts_S128x128_S1x128x128

/-- A block of 128 positions as a matrix. -/
def flat (x : Vec F S1x128x128 .f32) : FVec F S128x128 .f32 :=
  shapeCast S128x128 x shapeCasts_S1x128x128_S128x128

/-- A direction's up-projection as a matrix. -/
def flatUp (x : Vec F S1x1x128x128 .bf16) : FVec F S128x128 .bf16 :=
  shapeCast S128x128 x shapeCasts_S1x1x128x128_S128x128

/-- A direction's bias as a row. -/
def flatBias (x : Vec F S1x1x1x128 .f32) : FVec F S1x128 .f32 :=
  shapeCast S1x128 x shapeCasts_S1x1x1x128_S1x128

end Cert.Gla

end
-- ==== Proof.ScanMath.lean ====
/- The gated recurrence over the real numbers, and its closed form over a stretch of steps. -/
module

public import Idealize.ShloMosaic.Lib.Pointwise

@[expose] public section

noncomputable section

namespace Cert.Gla

open Finset

/-- One component of the state: decayed by `exp (g n)` and then increased by `x n`, from zero. -/
def scan (g x : ℕ → ℝ) : ℕ → ℝ
  | 0 => 0
  | n + 1 => Real.exp (g n) * scan g x n + x n

/-- The state `C` steps after step `a`: the old state under the whole decay, and every increment under what is left of it. -/
theorem scan_add (g x : ℕ → ℝ) (a C : ℕ) :
    scan g x (a + C) = Real.exp (∑ j ∈ range C, g (a + j)) * scan g x a
      + ∑ i ∈ range C, x (a + i) * Real.exp (∑ j ∈ range C, g (a + j) - ∑ j ∈ range (i + 1), g (a + j)) := by
  induction C with
  | zero => simp
  | succ C ih =>
    rw [← add_assoc, scan, ih, sum_range_succ (fun i => x (a + i) * _), sub_self, Real.exp_zero, mul_one,
      sum_range_succ (fun j => g (a + j)), add_comm (∑ j ∈ range C, g (a + j)) (g (a + C)), Real.exp_add]
    simp only [add_sub_assoc, Real.exp_add, mul_add, mul_sum]
    have h : ∀ i, Real.exp (g (a + C)) * (x (a + i) * Real.exp (∑ j ∈ range C, g (a + j) - ∑ j ∈ range (i + 1), g (a + j)))
      = x (a + i) * (Real.exp (g (a + C)) * Real.exp (∑ j ∈ range C, g (a + j) - ∑ j ∈ range (i + 1), g (a + j))) :=
      fun i => by ring
    simp only [h]
    ring

/-- An involution of `Fin N` that keeps or reverses the order of the positions. -/
def ord (d : Bool) {N : ℕ} (s : Fin N) : Fin N := if d then Fin.rev s else s

theorem ord_ord (d : Bool) {N : ℕ} (s : Fin N) : ord d (ord d s) = s := by
  cases d <;> simp [ord]

/-- A sum over positions that do not come after `t`, as a sum over the first steps. -/
theorem sum_before {N : ℕ} (d : Bool) (f : Fin N → ℝ) (F : ℕ → ℝ) (hf : ∀ s, f s = F (ord d s).val) (t : Fin N) :
    (∑ s, if (ord d s).val ≤ (ord d t).val then f s else 0) = ∑ j ∈ range ((ord d t).val + 1), F j := by
  have h1 : (∑ s, if (ord d s).val ≤ (ord d t).val then f s else 0)
      = ∑ s : Fin N, if s.val ≤ (ord d t).val then F s.val else 0 := by
    refine Finset.sum_nbij' (ord d) (ord d) ?_ ?_ ?_ ?_ ?_ <;> intros <;> simp [ord_ord, hf]
  rw [h1, Fin.sum_univ_eq_sum_range (fun n => if n ≤ (ord d t).val then F n else 0) N, ← sum_filter]
  refine Finset.sum_congr ?_ fun _ _ => rfl
  ext n
  simp only [mem_filter, mem_range]
  have := (ord d t).isLt
  omega

theorem sum_all {N : ℕ} (d : Bool) (f : Fin N → ℝ) (F : ℕ → ℝ) (hf : ∀ s, f s = F (ord d s).val) :
    (∑ s, f s) = ∑ j ∈ range N, F j := by
  have h1 : (∑ s, f s) = ∑ s : Fin N, F s.val := by
    refine Finset.sum_nbij' (ord d) (ord d) ?_ ?_ ?_ ?_ ?_ <;> intros <;> simp [ord_ord, hf]
  rw [h1, Fin.sum_univ_eq_sum_range F N]

section Chunk

variable {N D : ℕ} (d : Bool) (a : ℕ) (G : ℕ → Fin D → ℝ) (K Q : ℕ → Fin D → ℝ) (V : ℕ → ℝ)
  (b k q : Fin N → Fin D → ℝ) (v : Fin N → ℝ)

/-- The chunk's new state from its old one, when `b` is the running sum of the log decays in the chunk's own order. -/
theorem chunk_state (bEnd : Fin D → ℝ)
    (hb : ∀ t l, b t l = ∑ j ∈ range ((ord d t).val + 1), G (a + j) l) (hend : ∀ l, bEnd l = ∑ j ∈ range N, G (a + j) l)
    (hk : ∀ s l, k s l = K (a + (ord d s).val) l) (hv : ∀ s, v s = V (a + (ord d s).val)) (l : Fin D) :
    Real.exp (bEnd l) * scan (G · l) (fun n => V n * K n l) a + ∑ s, v s * (k s l * Real.exp (bEnd l - b s l))
      = scan (G · l) (fun n => V n * K n l) (a + N) := by
  rw [scan_add, hend, sum_all d _ (fun j => V (a + j) * K (a + j) l
    * Real.exp (∑ j ∈ range N, G (a + j) l - ∑ i ∈ range (j + 1), G (a + i) l))]
  intro s
  rw [hb, hk, hv, mul_assoc]

/-- The chunk's output at `t` is the query against the state just after step `t`, whatever the shift `m` of the exponents. -/
theorem chunk_out (m : Fin D → ℝ)
    (hb : ∀ t l, b t l = ∑ j ∈ range ((ord d t).val + 1), G (a + j) l)
    (hk : ∀ s l, k s l = K (a + (ord d s).val) l) (hv : ∀ s, v s = V (a + (ord d s).val)) (t : Fin N) :
    (∑ s, (if (ord d s).val ≤ (ord d t).val then
        ∑ l, (q t l * Real.exp (b t l - m l)) * (k s l * Real.exp (m l - b s l)) else 0) * v s)
      + ∑ l, (q t l * Real.exp (b t l)) * scan (G · l) (fun n => V n * K n l) a
      = ∑ l, q t l * scan (G · l) (fun n => V n * K n l) (a + (ord d t).val + 1) := by
  have hs : ∀ l, scan (G · l) (fun n => V n * K n l) (a + (ord d t).val + 1)
      = Real.exp (b t l) * scan (G · l) (fun n => V n * K n l) a
        + ∑ s, if (ord d s).val ≤ (ord d t).val then v s * k s l * Real.exp (b t l - b s l) else 0 := by
    intro l
    rw [add_assoc, scan_add, hb, sum_before d _ (fun j => V (a + j) * K (a + j) l
      * Real.exp (∑ j ∈ range ((ord d t).val + 1), G (a + j) l - ∑ i ∈ range (j + 1), G (a + i) l))]
    intro s
    rw [hb, hk, hv]
  simp only [hs, mul_add, sum_add_distrib, mul_sum]
  rw [add_comm]
  congr 1
  · exact Finset.sum_congr rfl fun l _ => by ring
  · rw [Finset.sum_comm]
    refine Finset.sum_congr rfl fun s _ => ?_
    split_ifs
    · rw [sum_mul]
      refine Finset.sum_congr rfl fun l _ => ?_
      rw [show b t l - b s l = (b t l - m l) + (m l - b s l) by ring, Real.exp_add]
      ring
    · simp

end Chunk

end Cert.Gla

end
-- ==== Proof.ChunkMath.lean ====
module

public import proofs.«01_k».proof.Proof.Chunk
public import proofs.«01_k».proof.Proof.ScanMath
public import Idealize.ShloMosaic.Lib.Pointwise
public import Idealize.ShloMosaic.Lib.WordCmp

@[expose] public section

set_option maxRecDepth 16384

noncomputable section

namespace Cert.Gla

open Idealize.ShloMosaic Idealize.SL.Sem Cert.KernelIdeal Cert.KernelIdeal.Gen

/-! What the chunk's operations are over the reals, on arguments that are numbers. -/

/-- The vector's entries are the matrix's. -/
def Rep {ty : FTy} (x : FVec Ideal S128x128 ty) (M : Fin 128 → Fin 128 → ℝ) : Prop :=
  ∀ r l, x (ix2 r l) = ((M r l : ℝ) : EReal)

/-- The row's entries are the given ones. -/
def RepRow (x : FVec Ideal S1x128 .f32) (M : Fin 128 → ℝ) : Prop :=
  ∀ l, x (ix2 0 l) = ((M l : ℝ) : EReal)

theorem coe_sum {n : ℕ} (f : Fin n → ℝ) : (∑ i, ((f i : ℝ) : EReal)) = ((∑ i, f i : ℝ) : EReal) := by
  induction n with
  | zero => simp
  | succ n ih => rw [Fin.sum_univ_succ, Fin.sum_univ_succ, ih, EReal.coe_add]

/-- The log sigmoid over sixteen, of a number. -/
def decayR (x : ℝ) : ℝ := (min x 0 - Real.log (1 + Real.exp (0 - |x|))) * (1 / 16)

theorem rep_gateLogits {zs : FVec Ideal S128x128 .f32} {up : FVec Ideal S128x128 .bf16} {bias : FVec Ideal S1x128 .f32}
    {Z U : Fin 128 → Fin 128 → ℝ} {B : Fin 128 → ℝ} (hz : Rep zs Z) (hu : Rep up U) (hb : RepRow bias B) :
    Rep (gateLogits zs up bias) (fun r l => ∑ c, Z r c * U c l + B l) := by
  intro r l
  unfold Rep RepRow at *
  pointwise [gateLogits]
  simp only [hz, hu, hb, ← EReal.coe_mul, coe_sum, ← EReal.coe_add]

theorem sixteenth : Ideal.ofBits FTy.f32 0x3D800000#32 = ((1 / 16 : ℝ) : EReal) := by
  simp [Ideal.ofBits, Ideal.ieee]
  rw [← EReal.coe_mul]
  norm_num

theorem eighth : Ideal.ofBits FTy.f32 0x3E000000#32 = ((1 / 8 : ℝ) : EReal) := by
  simp [Ideal.ofBits, Ideal.ieee]
  rw [← EReal.coe_mul]
  norm_num

theorem coe_abs (x : ℝ) : (FloatOps.absf (F := Ideal) (φ := .f32) ((x : ℝ) : EReal)) = ((|x| : ℝ) : EReal) := by
  rw [Ideal.absf_def, ← EReal.coe_neg, abs_eq_max_neg]
  exact (EReal.coe_strictMono.monotone.map_max).symm

theorem coe_log1p_exp (y : ℝ) : Ideal.log1p (Ideal.exp ((y : ℝ) : EReal)) = ((Real.log (1 + Real.exp y) : ℝ) : EReal) := by
  rw [Ideal.exp_coe]
  show Ideal.log (1 + ((Real.exp y : ℝ) : EReal)) = _
  rw [← EReal.coe_one, ← EReal.coe_add, Ideal.log_coe, if_neg (by have := Real.exp_pos y; linarith)]

theorem rep_logDecay {x : FVec Ideal S128x128 .f32} {X : Fin 128 → Fin 128 → ℝ} (hx : Rep x X) :
    Rep (logDecay x) (fun r l => decayR (X r l)) := by
  intro r l
  unfold Rep at *
  pointwise [logDecay]
  simp only [hx]
  rw [sixteenth, coe_abs, ← EReal.coe_zero, ← EReal.coe_sub, coe_log1p_exp, show (min ((X r l : ℝ) : EReal) ((0 : ℝ) : EReal)) = ((min (X r l) 0 : ℝ) : EReal) from
    (EReal.coe_strictMono.monotone.map_min).symm, ← EReal.coe_sub, ← EReal.coe_mul]
  rfl

theorem rep_runSum {d : Bool} {g : FVec Ideal S128x128 .f32} {G : Fin 128 → Fin 128 → ℝ} (hg : Rep g G) :
    Rep (runSum (tri d) g) (fun r l => ∑ s, if (ord d s).val ≤ (ord d r).val then G s l else 0) := by
  intro r l
  unfold Rep at *
  pointwise [runSum]
  simp only [hg, ← EReal.coe_sub, sub_self, EReal.coe_zero, mul_zero, Finset.sum_const_zero, add_zero]
  rw [← coe_sum]
  refine Finset.sum_congr rfl fun s _ => ?_
  have hr := r.isLt
  have hs := s.isLt
  cases d
  · pointwise [tri, k0_pay4, k0_pay2]
    rw [WordCmp.cmpi_sle_ofNat (by omega) (by omega), Scalar.select_ofBool]
    have e : ((ord false s).val ≤ (ord false r).val) ↔ s.val ≤ r.val := Iff.rfl
    simp only [e, decide_eq_true_eq]
    by_cases h : s.val ≤ r.val <;> simp only [h, if_true, if_false, EReal.coe_zero, one_mul, zero_mul]
  · pointwise [tri, k0_pay5, k0_pay3]
    rw [WordCmp.cmpi_sge_ofNat (by omega) (by omega), Scalar.select_ofBool]
    have e : ((ord true s).val ≤ (ord true r).val) ↔ r.val ≤ s.val := by
      simp only [ord, Fin.val_rev, if_true]; omega
    simp only [e, decide_eq_true_eq]
    split <;> simp

theorem rep_select {d : Bool} {x : FVec Ideal S128x128 .f32} {X : Fin 128 → Fin 128 → ℝ} (hx : Rep x X) :
    Rep (select (mask d) x (broadcast S128x128 (Scalar.ofBits .f32 0x00000000#32)))
      (fun r s => if (ord d s).val ≤ (ord d r).val then X r s else 0) := by
  intro r s
  unfold Rep at *
  have hr := r.isLt
  have hs := s.isLt
  cases d
  · pointwise [mask, k0_pay2]
    rw [WordCmp.cmpi_sle_ofNat (by omega) (by omega), Scalar.select_ofBool, hx]
    have e : ((ord false s).val ≤ (ord false r).val) ↔ s.val ≤ r.val := Iff.rfl
    simp only [e, decide_eq_true_eq]
    by_cases h : s.val ≤ r.val <;> simp only [h, if_true, if_false, EReal.coe_zero, one_mul, zero_mul]
  · pointwise [mask, k0_pay3]
    rw [WordCmp.cmpi_sge_ofNat (by omega) (by omega), Scalar.select_ofBool, hx]
    have e : ((ord true s).val ≤ (ord true r).val) ↔ r.val ≤ s.val := by
      simp only [ord, Fin.val_rev, if_true]; omega
    simp only [e, decide_eq_true_eq]
    split <;> simp

/-- The last position of a chunk in a direction's order. -/
def lastPos (d : Bool) : Fin 128 := if d then 0 else 127

theorem ord_lastPos (d : Bool) : (ord d (lastPos d)).val = 127 := by cases d <;> rfl

theorem rep_endRow {d : Bool} {b : FVec Ideal S128x128 .f32} {B : Fin 128 → Fin 128 → ℝ} (hb : Rep b B) :
    RepRow (endRow d b) (fun l => B (lastPos d) l) := by
  intro l
  unfold Rep at *
  cases d
  · pointwise [endRow]
    exact hb 127 l
  · pointwise [endRow]
    exact hb 0 l

theorem rep_midRow {b : FVec Ideal S128x128 .f32} {B : Fin 128 → Fin 128 → ℝ} (hb : Rep b B) :
    RepRow (midRow b) (fun l => B 64 l) := by
  intro l
  unfold Rep at *
  pointwise [midRow]
  exact hb 64 l

theorem rep_newState {k v b s : FVec Ideal S128x128 .f32} {e : FVec Ideal S1x128 .f32}
    {K V B S : Fin 128 → Fin 128 → ℝ} {E : Fin 128 → ℝ} (hk : Rep k K) (hv : Rep v V) (hb : Rep b B) (hs : Rep s S)
    (he : RepRow e E) :
    Rep (newState k v b e s)
      (fun w l => Real.exp (E l) * S w l + ∑ t, V t w * (K t l * Real.exp (E l - B t l))) := by
  intro r l
  unfold Rep RepRow at *
  pointwise [newState]
  simp only [hk, hv, hb, hs, he, ← EReal.coe_sub, Ideal.exp_coe, ← EReal.coe_mul, coe_sum, ← EReal.coe_add]

theorem rep_scores {q k b : FVec Ideal S128x128 .f32} {Q K B : Fin 128 → Fin 128 → ℝ} (hq : Rep q Q) (hk : Rep k K)
    (hb : Rep b B) :
    Rep (scores q k b)
      (fun t s => ∑ l, (Q t l * Real.exp (B t l - B 64 l)) * (K s l * Real.exp (B 64 l - B s l))) := by
  have hm := rep_midRow hb
  intro r l
  unfold Rep RepRow at *
  pointwise [scores]
  simp only [hq, hk, hb, hm, ← EReal.coe_sub, Ideal.exp_coe, ← EReal.coe_mul, coe_sum]

theorem rep_inter {q b s : FVec Ideal S128x128 .f32} {Q B S : Fin 128 → Fin 128 → ℝ} (hq : Rep q Q)
    (hb : Rep b B) (hs : Rep s S) :
    Rep (inter q b s) (fun t w => ∑ l, (Q t l * Real.exp (B t l)) * S w l) := by
  intro r l
  unfold Rep at *
  pointwise [inter]
  simp only [hq, hs, hb, Ideal.exp_coe, ← EReal.coe_mul, coe_sum]

theorem rep_chunkOut {d : Bool} {q k v b s : FVec Ideal S128x128 .f32} {Q K V B S : Fin 128 → Fin 128 → ℝ}
    (hq : Rep q Q) (hk : Rep k K) (hv : Rep v V) (hb : Rep b B) (hs : Rep s S) :
    Rep (chunkOut (mask d) q k v b s)
      (fun t w => ∑ s, (if (ord d s).val ≤ (ord d t).val then
          ∑ l, (Q t l * Real.exp (B t l - B 64 l)) * (K s l * Real.exp (B 64 l - B s l)) else 0) * V s w
        + ∑ l, (Q t l * Real.exp (B t l)) * S w l) := by
  have ha := rep_select (d := d) (rep_scores hq hk hb)
  have hi := rep_inter hq hb hs
  intro r l
  unfold Rep at *
  unfold chunkOut
  generalize (select (mask d) (scores q k b) (broadcast S128x128 (Scalar.ofBits .f32 0x00000000#32))) = A at *
  generalize inter q b s = I at *
  pointwise
  simp only [ha, hi, hv, ← EReal.coe_mul, coe_sum, ← EReal.coe_add]

theorem rep_scaled {q : FVec Ideal S128x128 .f32} {Q : Fin 128 → Fin 128 → ℝ} (hq : Rep q Q) :
    Rep (scaled q) (fun t l => Q t l * (1 / 8)) := by
  intro r l
  unfold Rep at *
  pointwise [scaled]
  rw [hq, eighth, ← EReal.coe_mul]

theorem rep_own {i : grid0.Coords} {q : FVec Ideal S128x128 .f32} {Q : Fin 128 → Fin 128 → ℝ} (hq : Rep q Q) :
    Rep (own (k0_pay6 i) q) (fun t l => if l.val / 64 = (i 1).val % 2 then Q t l else 0) := by
  intro r l
  unfold Rep at *
  have h1 : (i 1).val < 4 := (i 1).isLt
  have h2 := l.isLt
  unfold own k0_pay6
  pointwise
  rw [hq, show Scalar.muli (Scalar.remsi (BitVec.ofNat 32 (i 1).val) 2#32) 64#32
      = BitVec.ofNat 32 (64 * ((i 1).val % 2)) by
    generalize (i 1).val = n at h1
    interval_cases n <;> decide]
  rw [show Scalar.addi (BitVec.ofNat 32 (64 * ((i 1).val % 2))) 64#32 = BitVec.ofNat 32 (64 * ((i 1).val % 2) + 64) by
    generalize (i 1).val = n at h1
    interval_cases n <;> decide]
  rw [WordCmp.cmpi_sge_ofNat (by omega) (by omega), WordCmp.cmpi_slt_ofNat (by omega) (by omega), WordCmp.andi_ofBool,
    Scalar.select_ofBool]
  have e : (l.val / 64 = (i 1).val % 2) ↔ (64 * ((i 1).val % 2) ≤ l.val ∧ l.val < 64 * ((i 1).val % 2) + 64) := by omega
  simp only [e, Bool.and_eq_true, decide_eq_true_eq]
  split <;> simp

end Cert.Gla

end
-- ==== Proof.RefScan.lean ====
module

public import proofs.«01_k».proof.Proof.ChunkMath

@[expose] public section

set_option maxRecDepth 16384

noncomputable section

namespace Cert.Gla

open Idealize.ShloMosaic Idealize.SL.Sem
open Finset (range)

/-! The running sum of an array along its third axis, over the reals. -/

/-- A left fold of additions over numbers is their sum. -/
theorem foldl_add_coe {ι : Type} (l : List ι) (g : ι → EReal) (f : ι → ℝ) (hg : ∀ a ∈ l, g a = ((f a : ℝ) : EReal))
    (v : EReal) (z : ℝ) (hv : v = ((z : ℝ) : EReal)) :
    l.foldl (fun r a => r + g a) v = ((z + (l.map f).sum : ℝ) : EReal) := by
  induction l generalizing v z with
  | nil => simpa using hv
  | cons a l ih =>
    rw [List.foldl_cons, ih (fun b hb => hg b (List.mem_cons_of_mem _ hb)) _ (z + f a) (by
      rw [hv, hg a List.mem_cons_self, EReal.coe_add]), List.map_cons, List.sum_cons, add_assoc]

/-- The window that ends at `j` keeps the steps up to `j`. -/
theorem window_sum (f : ℕ → ℝ) (M j : ℕ) (hj : j ≤ M) :
    (∑ w ∈ range (M + 1), if M ≤ j + w then f (j + w - M) else 0) = ∑ i ∈ range (j + 1), f i := by
  obtain ⟨d, rfl⟩ : ∃ d, M = d + j := ⟨M - j, by omega⟩
  rw [add_assoc d j 1, Finset.sum_range_add, Finset.sum_eq_zero, zero_add]
  · refine Finset.sum_congr rfl fun i _ => ?_
    rw [if_pos (by omega)]
    congr 1
    omega
  · intro w hw
    rw [if_neg (by have := Finset.mem_range.1 hw; omega)]

theorem window_numel (N : ℕ) : (⟨4, ![1, 1, N, 1]⟩ : Shape).numel = N := by
  refine (Fin.prod_univ_four _).trans ?_
  show 1 * 1 * N * 1 = N
  omega

theorem window_axis (N : ℕ) (n : Fin (⟨4, ![1, 1, N, 1]⟩ : Shape).numel) :
    ((⟨4, ![1, 1, N, 1]⟩ : Shape).rowMajor.symm n 0).val = 0 ∧ ((⟨4, ![1, 1, N, 1]⟩ : Shape).rowMajor.symm n 1).val = 0
      ∧ ((⟨4, ![1, 1, N, 1]⟩ : Shape).rowMajor.symm n 2).val = n.val ∧ ((⟨4, ![1, 1, N, 1]⟩ : Shape).rowMajor.symm n 3).val = 0 := by
  have h0 : ((⟨4, ![1, 1, N, 1]⟩ : Shape).rowMajor.symm n 0).val < 1 := ((⟨4, ![1, 1, N, 1]⟩ : Shape).rowMajor.symm n 0).isLt
  have h1 : ((⟨4, ![1, 1, N, 1]⟩ : Shape).rowMajor.symm n 1).val < 1 := ((⟨4, ![1, 1, N, 1]⟩ : Shape).rowMajor.symm n 1).isLt
  have h3 : ((⟨4, ![1, 1, N, 1]⟩ : Shape).rowMajor.symm n 3).val < 1 := ((⟨4, ![1, 1, N, 1]⟩ : Shape).rowMajor.symm n 3).isLt
  have e := rowMajor_val4 ((⟨4, ![1, 1, N, 1]⟩ : Shape).rowMajor.symm n) (1 * (N * 1)) (N * 1) 1 rfl rfl rfl
  rw [Equiv.apply_symm_apply] at e
  have e0 : ((⟨4, ![1, 1, N, 1]⟩ : Shape).rowMajor.symm n 0).val = 0 := by omega
  have e1 : ((⟨4, ![1, 1, N, 1]⟩ : Shape).rowMajor.symm n 1).val = 0 := by omega
  have e3 : ((⟨4, ![1, 1, N, 1]⟩ : Shape).rowMajor.symm n 3).val = 0 := by omega
  refine ⟨e0, e1, ?_, e3⟩
  rw [e0, e1, e3] at e
  omega

/-- Where column `(a, b, c)` holds the numbers `f`, the running sum at step `j` is the sum of the numbers up to `j`. -/
theorem cumsum_apply {A B N M C : ℕ} (hN : M + 1 = N) (x : FVec Ideal (⟨4, ![A, B, N, C]⟩ : Shape) .f32)
    (init : FVec Ideal (⟨0, ![]⟩ : Shape) .f32) (hinit : ∀ y, init y = 0)
    (h : (⟨4, ![A, B, N, C]⟩ : Shape).ReduceWindows (![1, 1, N, 1] : Fin 4 → ℕ) ![1, 1, 1, 1] ![0, 0, M, 0] ![0, 0, 0, 0]
      (⟨4, ![A, B, N, C]⟩ : Shape)) (hu : 0 < (⟨0, ![]⟩ : Shape).numel) (a : Fin A) (b : Fin B) (c : Fin C) (f : ℕ → ℝ)
    (hx : ∀ i : Fin N, x (ix4 a b i c) = ((f i.val : ℝ) : EReal)) (j : Fin N) :
    Host.reduceWindowAdd ![1, 1, N, 1] ![1, 1, 1, 1] ![0, 0, M, 0] ![0, 0, 0, 0] x init h hu (ix4 a b j c)
      = ((∑ i ∈ range (j.val + 1), f i : ℝ) : EReal) := by
  subst hN
  have hj := j.isLt
  have ha := a.isLt
  have hb := b.isLt
  have hc := c.isLt
  unfold Host.reduceWindowAdd
  rw [Ideal.hostReduceWindowAdd_def, hinit]
  unfold Ideal.hostReduceWindowAdd Host.reduceWindow
  refine (foldl_add_coe _ _ (fun n => if M ≤ j.val + n.val then f (j.val + n.val - M) else 0) (fun n _ => ?_) _ 0 (by simp)).trans ?_
  · obtain ⟨w0, w1, w2, w3⟩ := window_axis (M + 1) n
    have hn : n.val < M + 1 := lt_of_lt_of_eq n.isLt (window_numel (M + 1))
    dsimp only
    split
    · next hin =>
      have h0 := hin 2
      change M ≤ j.val * 1 + ((⟨4, ![1, 1, M + 1, 1]⟩ : Shape).rowMajor.symm n 2).val
        ∧ j.val * 1 + ((⟨4, ![1, 1, M + 1, 1]⟩ : Shape).rowMajor.symm n 2).val - M < M + 1 at h0
      rw [w2] at h0
      rw [if_pos (by omega)]
      refine (congrArg x (funext fun a' => Fin.ext ?_)).trans (hx ⟨j.val + n.val - M, by omega⟩)
      match a' with
      | ⟨0, _⟩ =>
        show a.val * 1 + ((⟨4, ![1, 1, M + 1, 1]⟩ : Shape).rowMajor.symm n 0).val - 0 = a.val
        omega
      | ⟨1, _⟩ =>
        show b.val * 1 + ((⟨4, ![1, 1, M + 1, 1]⟩ : Shape).rowMajor.symm n 1).val - 0 = b.val
        omega
      | ⟨2, _⟩ =>
        show j.val * 1 + ((⟨4, ![1, 1, M + 1, 1]⟩ : Shape).rowMajor.symm n 2).val - M = j.val + n.val - M
        omega
      | ⟨3, _⟩ =>
        show c.val * 1 + ((⟨4, ![1, 1, M + 1, 1]⟩ : Shape).rowMajor.symm n 3).val - 0 = c.val
        omega
    · next hin =>
      rw [if_neg fun hle => hin fun a' => by
        match a' with
        | ⟨0, _⟩ =>
          show 0 ≤ a.val * 1 + ((⟨4, ![1, 1, M + 1, 1]⟩ : Shape).rowMajor.symm n 0).val
            ∧ a.val * 1 + ((⟨4, ![1, 1, M + 1, 1]⟩ : Shape).rowMajor.symm n 0).val - 0 < A
          omega
        | ⟨1, _⟩ =>
          show 0 ≤ b.val * 1 + ((⟨4, ![1, 1, M + 1, 1]⟩ : Shape).rowMajor.symm n 1).val
            ∧ b.val * 1 + ((⟨4, ![1, 1, M + 1, 1]⟩ : Shape).rowMajor.symm n 1).val - 0 < B
          omega
        | ⟨2, _⟩ =>
          show M ≤ j.val * 1 + ((⟨4, ![1, 1, M + 1, 1]⟩ : Shape).rowMajor.symm n 2).val
            ∧ j.val * 1 + ((⟨4, ![1, 1, M + 1, 1]⟩ : Shape).rowMajor.symm n 2).val - M < M + 1
          omega
        | ⟨3, _⟩ =>
          show 0 ≤ c.val * 1 + ((⟨4, ![1, 1, M + 1, 1]⟩ : Shape).rowMajor.symm n 3).val
            ∧ c.val * 1 + ((⟨4, ![1, 1, M + 1, 1]⟩ : Shape).rowMajor.symm n 3).val - 0 < C
          omega]
      simp
  · rw [zero_add, ← window_sum f M j.val (by omega), ← Fin.sum_univ_def,
      Fin.sum_univ_eq_sum_range (fun w => if M ≤ j.val + w then f (j.val + w - M) else 0), window_numel]

end Cert.Gla

end
-- ==== Proof.RefStages.lean ====
module

public import proofs.«01_k».proof.Proof.RefScan
public import proofs.«01_k».proof.Proof.Gen.ReferenceIdeal

@[expose] public section

set_option maxRecDepth 16384

noncomputable section

namespace Cert.ReferenceIdeal.Gla

open Idealize.ShloMosaic Idealize.SL.Sem Cert.ReferenceIdeal Cert.ReferenceIdeal.Gen Cert.Gla
open Finset (range)

/-! The reference's stages, each an operation on whole arrays, and what each is over the reals. -/

/-- The array's entries are the given numbers, the third axis counted by steps. -/
def Rep4 {A B N C : ℕ} (x : FVec Ideal (⟨4, ![A, B, N, C]⟩ : Shape) .f32) (M : Fin A → Fin B → ℕ → Fin C → ℝ) : Prop :=
  ∀ a b (t : Fin N) c, x (ix4 a b t c) = ((M a b t.val c : ℝ) : EReal)

/-- The gate's logits with the sign turned, of the context. -/
def negLogits256 (up : FVec Ideal S4x128x64 .f32) (bias : FVec Ideal S4x64 .f32) (zs : FVec Ideal S4x256x128 .f32) :
    FVec Ideal S4x4x256x64 .f32 :=
  Host.negf (addf (transpose S4x4x256x64 [2, 0, 3, 1] (Host.dotGeneral dot_S4x128x64_S4x256x128_S4x64x4x256_1_2_02_01_n_n none up zs) transposes_S4x64x4x256_S4x4x256x64_2_0_3_1) (broadcastInDim S4x4x256x64 ![0, 1, 2, 3] bcast_S1x4x1x64_S4x4x256x64_0_1_2_3 (broadcastInDim S1x4x1x64 ![1, 3] bcast_S4x64_S1x4x1x64_1_3 bias)))

/-- The gate's logits with the sign turned, of the sequence. -/
def negLogits4096 (up : FVec Ideal S4x128x64 .f32) (bias : FVec Ideal S4x64 .f32) (zs : FVec Ideal S4x4096x128 .f32) :
    FVec Ideal S4x4x4096x64 .f32 :=
  Host.negf (addf (transpose S4x4x4096x64 [2, 0, 3, 1] (Host.dotGeneral dot_S4x128x64_S4x4096x128_S4x64x4x4096_1_2_02_01_n_n none up zs) transposes_S4x64x4x4096_S4x4x4096x64_2_0_3_1) (broadcastInDim S4x4x4096x64 ![0, 1, 2, 3] bcast_S1x4x1x64_S4x4x4096x64_0_1_2_3 (broadcastInDim S1x4x1x64 ![1, 3] bcast_S4x64_S1x4x1x64_1_3 bias)))

section Logits
variable {up : FVec Ideal S4x128x64 .f32} {bias : FVec Ideal S4x64 .f32} {U : Fin 4 → Fin 128 → Fin 64 → ℝ} {B : Fin 4 → Fin 64 → ℝ}

theorem rep_negLogits256 {zs : FVec Ideal S4x256x128 .f32} {Z : Fin 4 → ℕ → Fin 128 → ℝ}
    (hu : ∀ h r e, up (ix3 h r e) = ((U h r e : ℝ) : EReal)) (hb : ∀ h e, bias (ix2 h e) = ((B h e : ℝ) : EReal))
    (hz : ∀ b (t : Fin 256) r, zs (ix3 b t r) = ((Z b t.val r : ℝ) : EReal)) :
    Rep4 (negLogits256 up bias zs) (fun b h t e => -(∑ r, Z b t r * U h r e + B h e)) := by
  intro b h t e
  pointwise [negLogits256]
  simp only [hz, hu, hb, ← EReal.coe_mul, coe_sum, ← EReal.coe_add, ← EReal.coe_neg]
  simp only [mul_comm]

theorem rep_negLogits4096 {zs : FVec Ideal S4x4096x128 .f32} {Z : Fin 4 → ℕ → Fin 128 → ℝ}
    (hu : ∀ h r e, up (ix3 h r e) = ((U h r e : ℝ) : EReal)) (hb : ∀ h e, bias (ix2 h e) = ((B h e : ℝ) : EReal))
    (hz : ∀ b (t : Fin 4096) r, zs (ix3 b t r) = ((Z b t.val r : ℝ) : EReal)) :
    Rep4 (negLogits4096 up bias zs) (fun b h t e => -(∑ r, Z b t r * U h r e + B h e)) := by
  intro b h t e
  pointwise [negLogits4096]
  simp only [hz, hu, hb, ← EReal.coe_mul, coe_sum, ← EReal.coe_add, ← EReal.coe_neg]
  simp only [mul_comm]

end Logits

/-- The zero the soft-plus compares with. -/
def zeroR : FVec Ideal S_ .f32 := constant S_ .f32 0x00000000#32

/-- The log decays, of the context's logits with the sign turned. -/
def decays256 (y : FVec Ideal S4x4x256x64 .f32) : FVec Ideal S4x4x256x64 .f32 :=
  let d := subf y (broadcastInDim S4x4x256x64 ![] bcast_S_S4x4x256x64 zeroR)
  Host.divf (Host.negf (select (cmpf .une d d) (addf y (broadcastInDim S4x4x256x64 ![] bcast_S_S4x4x256x64 zeroR)) (addf (maximumf y (broadcastInDim S4x4x256x64 ![] bcast_S_S4x4x256x64 zeroR)) (Host.log1p (Host.exp (Host.negf (Host.absf d))))))) (broadcastInDim S4x4x256x64 ![] bcast_S_S4x4x256x64 (constant S_ .f32 0x41800000#32))

/-- The log decays, of the sequence's logits with the sign turned. -/
def decays4096 (y : FVec Ideal S4x4x4096x64 .f32) : FVec Ideal S4x4x4096x64 .f32 :=
  let d := subf y (broadcastInDim S4x4x4096x64 ![] bcast_S_S4x4x4096x64 zeroR)
  Host.divf (Host.negf (select (cmpf .une d d) (addf y (broadcastInDim S4x4x4096x64 ![] bcast_S_S4x4x4096x64 zeroR)) (addf (maximumf y (broadcastInDim S4x4x4096x64 ![] bcast_S_S4x4x4096x64 zeroR)) (Host.log1p (Host.exp (Host.negf (Host.absf d))))))) (broadcastInDim S4x4x4096x64 ![] bcast_S_S4x4x4096x64 (constant S_ .f32 0x41800000#32))

theorem coe_max (x y : ℝ) : max ((x : ℝ) : EReal) ((y : ℝ) : EReal) = ((max x y : ℝ) : EReal) :=
  (EReal.coe_strictMono.monotone.map_max).symm

theorem sixteen : Ideal.ofBits FTy.f32 0x41800000#32 = ((16 : ℝ) : EReal) := by
  simp [Ideal.ofBits, Ideal.ieee]
  rw [← EReal.coe_mul]
  norm_num

/-- The soft-plus form of the log decay, of a number. -/
theorem decay_scalar (x : ℝ) :
    Ideal.div (-if ((-x : ℝ) : EReal) ≠ ((-x : ℝ) : EReal) then ((-x : ℝ) : EReal)
        else max ((-x : ℝ) : EReal) 0 + Ideal.log1p (Ideal.exp (-FloatOps.absf (F := Ideal) (φ := .f32) ((-x : ℝ) : EReal))))
      (Ideal.ofBits FTy.f32 1098907648#32) = ((decayR x : ℝ) : EReal) := by
  rw [if_neg (by simp), coe_abs, ← EReal.coe_neg, coe_log1p_exp, ← EReal.coe_zero, coe_max, ← EReal.coe_add, ← EReal.coe_neg, sixteen,
    Ideal.div_coe (by norm_num), ← EReal.coe_mul]
  congr 1
  unfold decayR
  rw [abs_neg, zero_sub]
  rcases le_total x 0 with h | h
  · rw [max_eq_left (by linarith), min_eq_left h]
    ring
  · rw [max_eq_right (by linarith), min_eq_right h]
    ring

theorem rep_decays256 {y : FVec Ideal S4x4x256x64 .f32} {X : Fin 4 → Fin 4 → ℕ → Fin 64 → ℝ} (hy : Rep4 y (fun a b t c => -X a b t c)) :
    Rep4 (decays256 y) (fun a b t c => decayR (X a b t c)) := by
  intro a b t c
  pointwise [decays256, zeroR]
  simp only [hy a b t c]
  exact decay_scalar _

theorem rep_decays4096 {y : FVec Ideal S4x4x4096x64 .f32} {X : Fin 4 → Fin 4 → ℕ → Fin 64 → ℝ} (hy : Rep4 y (fun a b t c => -X a b t c)) :
    Rep4 (decays4096 y) (fun a b t c => decayR (X a b t c)) := by
  intro a b t c
  pointwise [decays4096, zeroR]
  simp only [hy a b t c]
  exact decay_scalar _

/-- Time turned round. -/
theorem rep_reverse {A B N C : ℕ} {x : FVec Ideal (⟨4, ![A, B, N, C]⟩ : Shape) .f32} {M : Fin A → Fin B → ℕ → Fin C → ℝ} (hx : Rep4 x M) :
    Rep4 (Host.reverse [2] x) (fun a b t c => M a b (N - 1 - t) c) := by
  intro a b t c
  have ht := t.isLt
  refine Eq.trans (congrArg x ?_) (hx a b ⟨N - 1 - t.val, by omega⟩ c)
  funext i
  match i with
  | 0 => rfl
  | 1 => rfl
  | 2 =>
    refine (if_pos (List.mem_singleton.2 rfl)).trans (Fin.ext ?_)
    show (Fin.rev t).val = N - 1 - t.val
    rw [Fin.val_rev]
    omega
  | 3 => rfl

/-- The running sums along the context. -/
def cum256 (x : FVec Ideal S4x4x256x64 .f32) : FVec Ideal S4x4x256x64 .f32 :=
  Host.reduceWindowAdd ![1, 1, 256, 1] ![1, 1, 1, 1] ![0, 0, 255, 0] ![0, 0, 0, 0] x (broadcastInDim S_ ![] bcast_S_S_ zeroR) reduceWindows_S4x4x256x64_S4x4x256x64_w1s1p0_0_w1s1p0_0_w256s1p255_0_w1s1p0_0 h_S_

/-- The running sums along the sequence. -/
def cum4096 (x : FVec Ideal S4x4x4096x64 .f32) : FVec Ideal S4x4x4096x64 .f32 :=
  Host.reduceWindowAdd ![1, 1, 4096, 1] ![1, 1, 1, 1] ![0, 0, 4095, 0] ![0, 0, 0, 0] x (broadcastInDim S_ ![] bcast_S_S_ zeroR) reduceWindows_S4x4x4096x64_S4x4x4096x64_w1s1p0_0_w1s1p0_0_w4096s1p4095_0_w1s1p0_0 h_S_

theorem zeros_apply (y : S_.Idx) : broadcastInDim S_ ![] bcast_S_S_ zeroR y = 0 := by
  pointwise [zeroR]

theorem rep_cum256 {x : FVec Ideal S4x4x256x64 .f32} {G : Fin 4 → Fin 4 → ℕ → Fin 64 → ℝ} (hx : Rep4 x G) :
    Rep4 (cum256 x) (fun a b t c => ∑ i ∈ range (t + 1), G a b i c) :=
  fun a b t c => cumsum_apply rfl x _ zeros_apply _ _ a b c (fun i => G a b i c) (fun i => hx a b i c) t

theorem rep_cum4096 {x : FVec Ideal S4x4x4096x64 .f32} {G : Fin 4 → Fin 4 → ℕ → Fin 64 → ℝ} (hx : Rep4 x G) :
    Rep4 (cum4096 x) (fun a b t c => ∑ i ∈ range (t + 1), G a b i c) :=
  fun a b t c => cumsum_apply rfl x _ zeros_apply _ _ a b c (fun i => G a b i c) (fun i => hx a b i c) t

/-- The running sums at the context's end. -/
def end256 (b : FVec Ideal S4x4x256x64 .f32) : FVec Ideal S4x4x64 .f32 :=
  shapeCast _ (extractStridedSlice S4x4x1x64 ![0, 0, 255, 0] b slices_S4x4x256x64_S4x4x1x64_0_0_255_0) shapeCasts_S4x4x1x64_S4x4x64

theorem end256_apply {b : FVec Ideal S4x4x256x64 .f32} {B : Fin 4 → Fin 4 → ℕ → Fin 64 → ℝ} (hb : Rep4 b B) (a h : Fin 4) (c : Fin 64) :
    end256 b (ix3 a h c) = ((B a h 255 c : ℝ) : EReal) := by
  refine Eq.trans ?_ (hb a h 255 c)
  pointwise [end256]

/-- The state after the context. -/
def state256 (k : FVec Ideal S4x4x256x64 .f32) (v : FVec Ideal S4x4x256x128 .f32) (b : FVec Ideal S4x4x256x64 .f32)
    (e : FVec Ideal S4x4x64 .f32) : FVec Ideal S4x4x64x128 .f32 :=
  addf (mulf (broadcastInDim S4x4x64x128 ![0, 1, 2, 3] bcast_S4x4x64x1_S4x4x64x128_0_1_2_3 (broadcastInDim S4x4x64x1 ![0, 1, 2] bcast_S4x4x64_S4x4x64x1_0_1_2 (Host.exp e))) (broadcastInDim S4x4x64x128 ![] bcast_S_S4x4x64x128 zeroR)) (Host.dotGeneral dot_S4x4x256x64_S4x4x256x128_S4x4x64x128_2_2_3_3_01_01 none (mulf k (Host.exp (subf (broadcastInDim S4x4x256x64 ![0, 1, 2, 3] bcast_S4x4x1x64_S4x4x256x64_0_1_2_3 (broadcastInDim S4x4x1x64 ![0, 1, 3] bcast_S4x4x64_S4x4x1x64_0_1_3 e)) b))) v)

/-- The outputs of the sequence from a state. -/
def out4096 (q : FVec Ideal S4x4x4096x64 .f32) (k : FVec Ideal S4x4x4096x64 .f32) (v : FVec Ideal S4x4x4096x128 .f32)
    (b : FVec Ideal S4x4x4096x64 .f32) (s : FVec Ideal S4x4x64x128 .f32) : FVec Ideal S4x4x4096x128 .f32 :=
  addf (Host.dotGeneral dot_S4x4x4096x4096_S4x4x4096x128_S4x4x4096x128_3_2_2_3_01_01 none (select (broadcastInDim S4x4x4096x4096 ![2, 3] bcast_S4096x4096_S4x4x4096x4096_2_3 (select (cmpi .sge (addi (iotaInDim S4096x4096 32 0) (broadcastInDim S4096x4096 ![] bcast_S_S4096x4096 (constantI S_ 32 0#32))) (iotaInDim S4096x4096 32 1)) (broadcastInDim S4096x4096 ![] bcast_S_S4096x4096 (constantI S_ 1 1#1)) (broadcastInDim S4096x4096 ![] bcast_S_S4096x4096 (constantI S_ 1 0#1)))) (Host.dotGeneral dot_S4x4x4096x64_S4x4x4096x64_S4x4x4096x4096_3_3_2_2_01_01 none q (mulf k (Host.exp (Host.negf b)))) (broadcastInDim S4x4x4096x4096 ![] bcast_S_S4x4x4096x4096 (id zeroR))) v) (Host.dotGeneral dot_S4x4x4096x64_S4x4x64x128_S4x4x4096x128_3_2_2_3_01_01 none q s)

theorem state256_apply {k v b e} {K : Fin 4 → Fin 4 → ℕ → Fin 64 → ℝ} {V : Fin 4 → Fin 4 → ℕ → Fin 128 → ℝ}
    {B : Fin 4 → Fin 4 → ℕ → Fin 64 → ℝ} {E : Fin 4 → Fin 4 → Fin 64 → ℝ} (hk : Rep4 k K) (hv : Rep4 v V) (hb : Rep4 b B)
    (he : ∀ a h c, e (ix3 a h c) = ((E a h c : ℝ) : EReal)) (a h : Fin 4) (c : Fin 64) (w : Fin 128) :
    state256 k v b e (ix4 a h c w) = ((Real.exp (E a h c) * 0
      + ∑ s : Fin 256, V a h s.val w * (K a h s.val c * Real.exp (E a h c - B a h s.val c)) : ℝ) : EReal) := by
  pointwise [state256, zeroR]
  simp only [he, hk a h _ c, hv a h _ w, hb a h _ c]
  rw [← EReal.coe_zero]
  simp only [Ideal.exp_coe, ← EReal.coe_sub, ← EReal.coe_mul, coe_sum, ← EReal.coe_add]
  simp only [mul_comm]

/-- The mask keeps the positions up to the row's. -/
theorem mask_select {α : Type} (t u : Fin 4096) (x y : α) :
    Scalar.select (Scalar.select (IntOp.cmpi CmpIPredicate.sge (IntOp.addi (BitVec.ofNat 32 t.val) 0#32) (BitVec.ofNat 32 u.val)) 1#1 0#1) x y
      = if u.val ≤ t.val then x else y := by
  have ht := t.isLt
  have hu := u.isLt
  rw [show IntOp.addi (BitVec.ofNat 32 t.val) 0#32 = BitVec.ofNat 32 t.val from BitVec.add_zero _,
    WordCmp.cmpi_sge_ofNat (by omega) (by omega), Scalar.select_ofBool]
  by_cases h : u.val ≤ t.val
  · simp [h, Scalar.select]
  · simp [h, Scalar.select]

theorem coe_ite (p : Prop) [Decidable p] (x : ℝ) : (if p then ((x : ℝ) : EReal) else ((0 : ℝ) : EReal)) = ((if p then x else 0 : ℝ) : EReal) := by
  split <;> rfl

theorem out4096_apply {q k v b s} {Q K : Fin 4 → Fin 4 → ℕ → Fin 64 → ℝ} {V : Fin 4 → Fin 4 → ℕ → Fin 128 → ℝ}
    {B : Fin 4 → Fin 4 → ℕ → Fin 64 → ℝ} {S : Fin 4 → Fin 4 → Fin 64 → Fin 128 → ℝ} (hq : Rep4 q Q) (hk : Rep4 k K) (hv : Rep4 v V) (hb : Rep4 b B)
    (hs : ∀ a h c w, s (ix4 a h c w) = ((S a h c w : ℝ) : EReal)) (a h : Fin 4) (t : Fin 4096) (w : Fin 128) :
    out4096 q k v b s (ix4 a h t w) = (((∑ u : Fin 4096, (if u.val ≤ t.val then
        ∑ c, Q a h t.val c * (K a h u.val c * Real.exp (0 - B a h u.val c)) else 0) * V a h u.val w)
      + ∑ c, Q a h t.val c * S a h c w : ℝ) : EReal) := by
  pointwise [out4096, zeroR]
  simp only [hs, hk a h _ _, hv a h _ _, hb a h _ _, hq a h _ _]
  have h0 : id (constant S_ FTy.f32 0#32 : FVec Ideal S_ .f32) ix0 = ((0 : ℝ) : EReal) := by
    show Ideal.ofBits FTy.f32 0#32 = _
    simp [Ideal.ofBits, Ideal.ieee]
  simp only [mask_select, h0, Ideal.exp_coe, ← EReal.coe_neg, ← EReal.coe_mul, coe_sum, coe_ite, ← EReal.coe_add, zero_sub]

/-- A stream's outputs: each is the query against the state just after its step, the context's steps first. -/
theorem stream_apply {kc : FVec Ideal S4x4x256x64 .f32} {vc : FVec Ideal S4x4x256x128 .f32} {gc : FVec Ideal S4x4x256x64 .f32}
    {q k g : FVec Ideal S4x4x4096x64 .f32} {v : FVec Ideal S4x4x4096x128 .f32} {Q K G : Fin 4 → Fin 4 → ℕ → Fin 64 → ℝ}
    {V : Fin 4 → Fin 4 → ℕ → Fin 128 → ℝ} (hkc : Rep4 kc K) (hvc : Rep4 vc V) (hgc : Rep4 gc G) (hq : Rep4 q Q)
    (hk : Rep4 k (fun a h t c => K a h (256 + t) c)) (hv : Rep4 v (fun a h t c => V a h (256 + t) c))
    (hg : Rep4 g (fun a h t c => G a h (256 + t) c)) :
    Rep4 (out4096 (mulf q (Host.exp (cum4096 g))) k v (cum4096 g) (state256 kc vc (cum256 gc) (end256 (cum256 gc))))
      (fun a h t w => ∑ c, Q a h t c * scan (fun n => G a h n c) (fun n => V a h n w * K a h n c) (256 + t + 1)) := by
  intro a h t w
  have hqe : Rep4 (mulf q (Host.exp (cum4096 g))) (fun a h t c => Q a h t c * Real.exp (∑ i ∈ range (t + 1), G a h (256 + i) c)) := by
    intro a h t c
    pointwise
    rw [hq a h t c, rep_cum4096 hg a h t c, Ideal.exp_coe, ← EReal.coe_mul]
  rw [out4096_apply hqe hk hv (rep_cum4096 hg) (state256_apply hkc hvc (rep_cum256 hgc) (end256_apply (rep_cum256 hgc))) a h t w]
  refine congrArg Real.toEReal ?_
  have hs : ∀ c : Fin 64, Real.exp (∑ i ∈ range (255 + 1), G a h i c) * 0
      + ∑ s : Fin 256, V a h s.val w * (K a h s.val c * Real.exp (∑ i ∈ range (255 + 1), G a h i c - ∑ i ∈ range (s.val + 1), G a h i c))
      = scan (fun n => G a h n c) (fun n => V a h n w * K a h n c) 256 := by
    intro c
    exact (chunk_state (N := 256) (D := 64) false 0 (fun n c => G a h n c) (fun n c => K a h n c) (fun n => V a h n w)
      (fun s c => ∑ i ∈ range (s.val + 1), G a h i c) (fun s c => K a h s.val c) (fun s => V a h s.val w)
      (fun c => ∑ i ∈ range (255 + 1), G a h i c) (fun t l => by simp [ord]) (fun l => by simp) (fun s l => by simp [ord]) (fun s => by simp [ord]) c).trans (by rw [zero_add])
  simp only [hs]
  refine Eq.trans ?_ (chunk_out (N := 4096) (D := 64) false 256 (fun n c => G a h n c) (fun n c => K a h n c) (fun n => V a h n w)
      (fun s c => ∑ i ∈ range (s.val + 1), G a h (256 + i) c) (fun s c => K a h (256 + s.val) c) (fun t c => Q a h t.val c)
      (fun s => V a h (256 + s.val) w) (fun _ => 0) (fun t l => by simp [ord]) (fun s l => by simp [ord]) (fun s => by simp [ord]) t)
  simp only [ord, Bool.false_eq_true, if_false, sub_zero, mul_comm, mul_assoc, mul_left_comm]

end Cert.ReferenceIdeal.Gla

end
-- ==== Proof.Trips.lean ====
module

public import proofs.«01_k».proof.Proof.Chunk
public import proofs.«01_k».proof.Proof.Gen.KernelIdeal.Loops

@[expose] public section

set_option maxRecDepth 16384

noncomputable section

namespace Cert.Gla

open Idealize.ShloMosaic Idealize.ShloMosaic.TcCoe Idealize.ShloMosaic.Tactic Idealize.SL.Sem Cert.KernelIdeal Cert.KernelIdeal.Gen

variable {F : FTy → Type} [FloatOps F]

/-! What one trip of each of the kernel's three loops stores, in terms of the operations of one chunk. -/

/-- What one direction of a trip loads: of each of its chunks the queries, keys, values and gate features (the first
two already cut to a head's lanes), and the up-projection and bias of the gate. -/
structure Ins (F : FTy → Type) where
  q : ℕ → FVec F S128x128 .f32
  k : ℕ → FVec F S128x128 .f32
  v : ℕ → FVec F S128x128 .f32
  zs : ℕ → FVec F S128x128 .f32
  up : FVec F S128x128 .bf16
  bias : FVec F S1x128 .f32

/-- The running sums of a chunk's log decays. -/
def Ins.b (I : Ins F) (d : Bool) (n : ℕ) : FVec F S128x128 .f32 := decays d (I.zs n) I.up I.bias

/-- The state before each chunk of a trip. -/
def Ins.state (I : Ins F) (d : Bool) (s : FVec F S128x128 .f32) : ℕ → FVec F S128x128 .f32
  | 0 => s
  | n + 1 => newState (I.k n) (I.v n) (I.b d n) (endRow d (I.b d n)) (Ins.state I d s n)

/-- The outputs of each chunk of a trip. -/
def Ins.out (I : Ins F) (d : Bool) (s : FVec F S128x128 .f32) (n : ℕ) : FVec F S128x128 .f32 :=
  chunkOut (mask d) (I.q n) (I.k n) (I.v n) (I.b d n) (I.state d s n)

/-- A block of 128 positions of an array of 4096. -/
def blk (v : View sig .tc .vmem S1x4096x128 .f32) (X : BufTy.Contents (Elt F) v.ty) (o : Fin 3 → ℕ)
    (h : ∀ a, o a + S1x128x128.size a ≤ S1x4096x128.size a) : FVec F S128x128 .f32 :=
  flat (v.readAt (Elt F) (Rect.unit (s := S1x4096x128) o S1x128x128.size h).toLoadRect X)

/-- A block of 128 positions of an array of 256. -/
def blkC (v : View sig .tc .vmem S1x256x128 .f32) (X : BufTy.Contents (Elt F) v.ty) (o : Fin 3 → ℕ)
    (h : ∀ a, o a + S1x128x128.size a ≤ S1x256x128.size a) : FVec F S128x128 .f32 :=
  flat (v.readAt (Elt F) (Rect.unit (s := S1x256x128) o S1x128x128.size h).toLoadRect X)

/-- The up-projection of a direction. -/
def upOf (v : View sig .tc .vmem S1x2x128x128 .bf16) (X : BufTy.Contents (Elt F) v.ty) : Bool → FVec F S128x128 .bf16
  | false => flatUp (v.readAt (Elt F) (Rect.unit (s := S1x2x128x128) ![0, 0, 0, 0] S1x1x128x128.size inb_S1x2x128x128_S1x1x128x128_0_0_0_0).toLoadRect X)
  | true => flatUp (v.readAt (Elt F) (Rect.unit (s := S1x2x128x128) ![0, 1, 0, 0] S1x1x128x128.size inb_S1x2x128x128_S1x1x128x128_0_1_0_0).toLoadRect X)

/-- The bias of a direction. -/
def biasOf (v : View sig .tc .vmem S1x2x1x128 .f32) (X : BufTy.Contents (Elt F) v.ty) : Bool → FVec F S1x128 .f32
  | false => flatBias (v.readAt (Elt F) (Rect.unit (s := S1x2x1x128) ![0, 0, 0, 0] S1x1x1x128.size inb_S1x2x1x128_S1x1x1x128_0_0_0_0).toLoadRect X)
  | true => flatBias (v.readAt (Elt F) (Rect.unit (s := S1x2x1x128) ![0, 1, 0, 0] S1x1x1x128.size inb_S1x2x1x128_S1x1x1x128_0_1_0_0).toLoadRect X)

/-- The state of a direction. -/
def stOf (v : View sig .tc .vmem S2x128x128 .f32) (X : BufTy.Contents (Elt F) v.ty) : Bool → FVec F S128x128 .f32
  | false => flat (v.readAt (Elt F) (Rect.unit (s := S2x128x128) ![0, 0, 0] S1x128x128.size inb_S2x128x128_S1x128x128_0_0_0).toLoadRect X)
  | true => flat (v.readAt (Elt F) (Rect.unit (s := S2x128x128) ![1, 0, 0] S1x128x128.size inb_S2x128x128_S1x128x128_1_0_0).toLoadRect X)

/-- The two stores of the states. -/
def statePieces (s0 s1 : FVec F S128x128 .f32) : List (View.Piece (Elt F) S2x128x128 .f32) :=
  [⟨Rect.unit (s := S2x128x128) ![1, 0, 0] S1x128x128.size inb_S2x128x128_S1x128x128_1_0_0, stacked s1⟩,
    ⟨Rect.unit (s := S2x128x128) ![0, 0, 0] S1x128x128.size inb_S2x128x128_S1x128x128_0_0_0, stacked s0⟩]

/-- The chunk's number as one of eight. -/
def nth (n : ℕ) : Fin 8 := ⟨n % 8, Nat.mod_lt _ (by decide)⟩

section trips

variable (i : grid0.Coords)
    (arg2 : Memref sig .tc .vmem S1x4096x128 .f32) (harg2 : arg2.IsWhole)
    (arg3 : Memref sig .tc .vmem S1x4096x128 .f32) (harg3 : arg3.IsWhole)
    (arg4 : Memref sig .tc .vmem S1x4096x128 .f32) (harg4 : arg4.IsWhole)
    (arg5 : Memref sig .tc .vmem S1x4096x128 .f32) (harg5 : arg5.IsWhole)
    (arg6 : Memref sig .tc .vmem S1x4096x128 .f32) (harg6 : arg6.IsWhole)
    (arg7 : Memref sig .tc .vmem S1x256x128 .f32) (harg7 : arg7.IsWhole)
    (arg8 : Memref sig .tc .vmem S1x256x128 .f32) (harg8 : arg8.IsWhole)
    (arg9 : Memref sig .tc .vmem S1x256x128 .f32) (harg9 : arg9.IsWhole)
    (arg10 : Memref sig .tc .vmem S1x2x128x128 .bf16) (harg10 : arg10.IsWhole)
    (arg11 : Memref sig .tc .vmem S1x2x1x128 .f32) (harg11 : arg11.IsWhole)
    (arg12 : Memref sig .tc .vmem S1x128 .f32) (harg12 : arg12.IsWhole)
    (arg13 : Memref sig .tc .vmem S1x4096x128 .bf16) (harg13 : arg13.IsWhole)
    (arg14 : Memref sig .tc .vmem S2x128x128 .f32) (harg14 : arg14.IsWhole)
    (arg15 : Memref sig .tc .vmem S4096x128 .f32) (harg15 : arg15.IsWhole)

/-- What a trip over the context loads. -/
def ctxIns (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (k : Fin k0_t1_loop.trips) : Bool → Ins F
  | false => ⟨fun _ => blkC arg7.view X7 (k0_off1 k) (k0_off1_inb k), fun _ => own (k0_pay6 i) (blkC arg7.view X7 (k0_off1 k) (k0_off1_inb k)),
      fun _ => blkC arg8.view X8 (k0_off1 k) (k0_off1_inb k), fun _ => blkC arg9.view X9 (k0_off1 k) (k0_off1_inb k),
      upOf arg10.view X10 false, biasOf arg11.view X11 false⟩
  | true => ⟨fun _ => blkC arg7.view X7 (k0_off2 k) (k0_off2_inb k), fun _ => own (k0_pay6 i) (blkC arg7.view X7 (k0_off2 k) (k0_off2_inb k)),
      fun _ => blkC arg8.view X8 (k0_off2 k) (k0_off2_inb k), fun _ => blkC arg9.view X9 (k0_off2 k) (k0_off2_inb k),
      upOf arg10.view X10 true, biasOf arg11.view X11 true⟩

/-- What chunks of the latents at given offsets load. -/
def latIns (X2 : BufTy.Contents (Elt F) arg2.view.ty) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (d : Bool) (o : Fin 8 → Fin 3 → ℕ) (h : ∀ n a, o n a + S1x128x128.size a ≤ S1x4096x128.size a) : Ins F :=
  ⟨fun n => scaled (own (k0_pay6 i) (blk arg2.view X2 (o (nth n)) (h (nth n)))), fun n => own (k0_pay6 i) (blk arg3.view X3 (o (nth n)) (h (nth n))),
    fun n => blk arg4.view X4 (o (nth n)) (h (nth n)), fun n => blk arg6.view X6 (o (nth n)) (h (nth n)),
    upOf arg10.view X10 d, biasOf arg11.view X11 d⟩

/-- What a trip of the first half loads. -/
def ins2 (X2 : BufTy.Contents (Elt F) arg2.view.ty) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (k : Fin k0_t2_loop.trips) : Bool → Ins F
  | false => latIns i arg2 arg3 arg4 arg6 arg10 arg11 X2 X3 X4 X6 X10 X11 false (fun u => k0_off3 k (BitVec.ofNat 32 u.val)) (k0_off3_inb k)
  | true => latIns i arg2 arg3 arg4 arg6 arg10 arg11 X2 X3 X4 X6 X10 X11 true (fun u => k0_off4 k (BitVec.ofNat 32 u.val)) (k0_off4_inb k)

/-- What a trip of the second half loads. -/
def ins3 (X2 : BufTy.Contents (Elt F) arg2.view.ty) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (k : Fin k0_t3_loop.trips) : Bool → Ins F
  | false => latIns i arg2 arg3 arg4 arg6 arg10 arg11 X2 X3 X4 X6 X10 X11 false (fun u => k0_off7 k (BitVec.ofNat 32 u.val)) (k0_off7_inb k)
  | true => latIns i arg2 arg3 arg4 arg6 arg10 arg11 X2 X3 X4 X6 X10 X11 true (fun u => k0_off8 k (BitVec.ofNat 32 u.val)) (k0_off8_inb k)

/-- A store of a chunk of partial outputs. -/
def part2 (o : Fin 8 → Fin 2 → ℕ) (h : ∀ n a, o n a + S128x128.size a ≤ S4096x128.size a) (x : ℕ → FVec F S128x128 .f32) (n : ℕ) :
    View.Piece (Elt F) S4096x128 .f32 :=
  ⟨Rect.unit (o (nth n)) S128x128.size (h (nth n)), shapeCast S128x128 (x n) shapeCasts_S128x128_S128x128⟩

/-- Both directions' stores of the partial outputs of a trip, the last first. -/
def parts2 (pF pB : ℕ → View.Piece (Elt F) S4096x128 .f32) : List (View.Piece (Elt F) S4096x128 .f32) :=
  [pB 7, pF 7, pB 6, pF 6, pB 5, pF 5, pB 4, pF 4, pB 3, pF 3, pB 2, pF 2, pB 1, pF 1, pB 0, pF 0]

/-- What a trip of the first half loads and computes forwards and backwards, as stores of partial outputs. -/
def stores2 (X2 : BufTy.Contents (Elt F) arg2.view.ty) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (k : Fin k0_t2_loop.trips) (X14 : BufTy.Contents (Elt F) arg14.view.ty) : List (View.Piece (Elt F) S4096x128 .f32) :=
  parts2 (part2 (fun u => k0_off5 k (BitVec.ofNat 32 u.val)) (k0_off5_inb k) ((ins2 i arg2 arg3 arg4 arg6 arg10 arg11 X2 X3 X4 X6 X10 X11 k false).out false (stOf arg14.view X14 false)))
    (part2 (fun u => k0_off6 k (BitVec.ofNat 32 u.val)) (k0_off6_inb k) ((ins2 i arg2 arg3 arg4 arg6 arg10 arg11 X2 X3 X4 X6 X10 X11 k true).out true (stOf arg14.view X14 true)))

/-- A store of a chunk of the result: the other direction's part, the gate, this direction's part, the gain. -/
def part3 (o : Fin 8 → Fin 3 → ℕ) (h : ∀ n a, o n a + S1x128x128.size a ≤ S1x4096x128.size a)
    (o' : Fin 8 → Fin 2 → ℕ) (h' : ∀ n a, o' n a + S128x128.size a ≤ S4096x128.size a)
    (X5 : BufTy.Contents (Elt F) arg5.view.ty) (X12 : BufTy.Contents (Elt F) arg12.view.ty) (X15 : BufTy.Contents (Elt F) arg15.view.ty)
    (x : ℕ → FVec F S128x128 .f32) (n : ℕ) : View.Piece (Elt F) S1x4096x128 .bf16 :=
  ⟨Rect.unit (o (nth n)) S1x128x128.size (h (nth n)),
    finish (arg15.view.readAt (Elt F) (Rect.unit (s := S4096x128) (o' (nth n)) S128x128.size (h' (nth n))).toLoadRect X15) (x n)
      (blk arg5.view X5 (o (nth n)) (h (nth n)))
      (arg12.view.readAt (Elt F) (Rect.unit (s := S1x128) ![0, 0] S1x128.size inb_S1x128_S1x128_0_0).toLoadRect X12)⟩

/-- Both directions' stores of the result of a trip, the last first. -/
def parts3 (pF pB : ℕ → View.Piece (Elt F) S1x4096x128 .bf16) : List (View.Piece (Elt F) S1x4096x128 .bf16) :=
  [pB 7, pF 7, pB 6, pF 6, pB 5, pF 5, pB 4, pF 4, pB 3, pF 3, pB 2, pF 2, pB 1, pF 1, pB 0, pF 0]

/-- What a trip of the second half stores into the result. -/
def stores3 (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X10 : BufTy.Contents (Elt F) arg10.view.ty) (X11 : BufTy.Contents (Elt F) arg11.view.ty) (X12 : BufTy.Contents (Elt F) arg12.view.ty) (X15 : BufTy.Contents (Elt F) arg15.view.ty) (k : Fin k0_t3_loop.trips) (X14 : BufTy.Contents (Elt F) arg14.view.ty) : List (View.Piece (Elt F) S1x4096x128 .bf16) :=
  parts3 (part3 arg5 arg12 arg15 (fun u => k0_off7 k (BitVec.ofNat 32 u.val)) (k0_off7_inb k) (fun u => k0_off9 k (BitVec.ofNat 32 u.val)) (k0_off9_inb k)
      X5 X12 X15 ((ins3 i arg2 arg3 arg4 arg6 arg10 arg11 X2 X3 X4 X6 X10 X11 k false).out false (stOf arg14.view X14 false)))
    (part3 arg5 arg12 arg15 (fun u => k0_off8 k (BitVec.ofNat 32 u.val)) (k0_off8_inb k) (fun u => k0_off10 k (BitVec.ofNat 32 u.val)) (k0_off10_inb k)
      X5 X12 X15 ((ins3 i arg2 arg3 arg4 arg6 arg10 arg11 X2 X3 X4 X6 X10 X11 k true).out true (stOf arg14.view X14 true)))

variable (c : Dev nD)

/-- A trip over the context stores the two states after its chunk. -/
theorem trip1_eq (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (k : Fin k0_t1_loop.trips) (X14 : BufTy.Contents (Elt F) arg14.view.ty) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X7 X8 X9 X10 X11 k X14
      = statePieces ((ctxIns i arg7 arg8 arg9 arg10 arg11 X7 X8 X9 X10 X11 k false).state false (stOf arg14.view X14 false) 1)
          ((ctxIns i arg7 arg8 arg9 arg10 arg11 X7 X8 X9 X10 X11 k true).state true (stOf arg14.view X14 true) 1) := by
  unfold tripL_k0_t1 trip_k0_t1
  rfl

set_option maxHeartbeats 8000000 in
/-- A trip of the first half: the states after its eight chunks. -/
theorem trip2_states (X2 : BufTy.Contents (Elt F) arg2.view.ty) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (k : Fin k0_t2_loop.trips) (X14 : BufTy.Contents (Elt F) arg14.view.ty) (X15 : BufTy.Contents (Elt F) arg15.view.ty) :
    (tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 k X14 X15).1
      = statePieces ((ins2 i arg2 arg3 arg4 arg6 arg10 arg11 X2 X3 X4 X6 X10 X11 k false).state false (stOf arg14.view X14 false) 8) ((ins2 i arg2 arg3 arg4 arg6 arg10 arg11 X2 X3 X4 X6 X10 X11 k true).state true (stOf arg14.view X14 true) 8) := by
  unfold tripL_k0_t2 trip_k0_t2
  rfl

set_option maxHeartbeats 8000000 in
/-- A trip of the first half: the partial outputs of its chunks. -/
theorem trip2_stores (X2 : BufTy.Contents (Elt F) arg2.view.ty) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty) (k : Fin k0_t2_loop.trips) (X14 : BufTy.Contents (Elt F) arg14.view.ty) (X15 : BufTy.Contents (Elt F) arg15.view.ty) :
    (tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 k X14 X15).2
      = stores2 i arg2 arg3 arg4 arg6 arg10 arg11 arg14 X2 X3 X4 X6 X10 X11 k X14 := by
  unfold tripL_k0_t2 trip_k0_t2
  rfl

set_option maxHeartbeats 8000000 in
/-- A trip of the second half: the states after its eight chunks. -/
theorem trip3_states (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X10 : BufTy.Contents (Elt F) arg10.view.ty) (X11 : BufTy.Contents (Elt F) arg11.view.ty) (X12 : BufTy.Contents (Elt F) arg12.view.ty) (X15 : BufTy.Contents (Elt F) arg15.view.ty) (k : Fin k0_t3_loop.trips) (X13 : BufTy.Contents (Elt F) arg13.view.ty) (X14 : BufTy.Contents (Elt F) arg14.view.ty) :
    (tripL_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 k X13 X14).2
      = statePieces ((ins3 i arg2 arg3 arg4 arg6 arg10 arg11 X2 X3 X4 X6 X10 X11 k false).state false (stOf arg14.view X14 false) 8) ((ins3 i arg2 arg3 arg4 arg6 arg10 arg11 X2 X3 X4 X6 X10 X11 k true).state true (stOf arg14.view X14 true) 8) := by
  unfold tripL_k0_t3 trip_k0_t3
  rfl

set_option maxHeartbeats 8000000 in
/-- A trip of the second half: what it stores into the result. -/
theorem trip3_stores (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X10 : BufTy.Contents (Elt F) arg10.view.ty) (X11 : BufTy.Contents (Elt F) arg11.view.ty) (X12 : BufTy.Contents (Elt F) arg12.view.ty) (X15 : BufTy.Contents (Elt F) arg15.view.ty) (k : Fin k0_t3_loop.trips) (X13 : BufTy.Contents (Elt F) arg13.view.ty) (X14 : BufTy.Contents (Elt F) arg14.view.ty) :
    (tripL_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 k X13 X14).1
      = stores3 i arg2 arg3 arg4 arg5 arg6 arg10 arg11 arg12 arg14 arg15 X2 X3 X4 X5 X6 X10 X11 X12 X15 k X14 := by
  unfold tripL_k0_t3 trip_k0_t3
  rfl

end trips

end Cert.Gla

end
-- ==== Proof.ChunkSeq.lean ====
module

public import proofs.«01_k».proof.Proof.ChunkMath
public import proofs.«01_k».proof.Proof.Trips

@[expose] public section

set_option maxRecDepth 16384

noncomputable section

namespace Cert.Gla

open Idealize.ShloMosaic Idealize.SL.Sem Cert.KernelIdeal Cert.KernelIdeal.Gen Finset

/-! Eight chunks of 128 steps, over the reals: the state and the outputs are those of one scan along the sequence. -/

/-- What one head takes in, step by step along a direction: queries (scaled), keys, values, the gate's features and its
up-projection and bias. -/
structure Sq where
  q : ℕ → Fin 128 → ℝ
  k : ℕ → Fin 128 → ℝ
  v : ℕ → Fin 128 → ℝ
  z : ℕ → Fin 128 → ℝ
  up : Fin 128 → Fin 128 → ℝ
  bias : Fin 128 → ℝ

/-- The log decay of a step. -/
def Sq.g (S : Sq) (n : ℕ) (l : Fin 128) : ℝ := decayR (∑ c, S.z n c * S.up c l + S.bias l)

/-- The state after a number of steps. -/
def Sq.state (S : Sq) (n : ℕ) (w l : Fin 128) : ℝ := scan (S.g · l) (fun j => S.v j w * S.k j l) n

/-- The output of a step: its queries against the state just after it. -/
def Sq.out (S : Sq) (n : ℕ) (w : Fin 128) : ℝ := ∑ l, S.q n l * S.state (n + 1) w l

/-- The chunks loaded are those of the sequence from step `a` on. -/
structure RepIns (I : Ins Ideal) (d : Bool) (S : Sq) (a : ℕ) (N : ℕ) : Prop where
  k : ∀ n, n < N → Rep (I.k n) fun r l => S.k (a + 128 * n + (ord d r).val) l
  v : ∀ n, n < N → Rep (I.v n) fun r l => S.v (a + 128 * n + (ord d r).val) l
  zs : ∀ n, n < N → Rep (I.zs n) fun r l => S.z (a + 128 * n + (ord d r).val) l
  up : Rep I.up S.up
  bias : RepRow I.bias S.bias

variable {I : Ins Ideal} {d : Bool} {S : Sq} {a N : ℕ}

/-- The running sums of a chunk's log decays. -/
theorem RepIns.b (h : RepIns I d S a N) (n : ℕ) (hn : n < N) :
    Rep (I.b d n) fun r l => ∑ j ∈ range ((ord d r).val + 1), S.g (a + 128 * n + j) l := by
  have h1 := rep_runSum (d := d) (rep_logDecay (rep_gateLogits (h.zs n hn) h.up h.bias))
  intro r l
  unfold Ins.b decays
  rw [h1 r l]
  congr 1
  exact sum_before d _ (fun j => S.g (a + 128 * n + j) l) (fun s => rfl) r

/-- The state before each chunk. -/
theorem RepIns.state (h : RepIns I d S a N) {s : FVec Ideal S128x128 .f32} (hs : Rep s (S.state a)) :
    ∀ n, n ≤ N → Rep (I.state d s n) (S.state (a + 128 * n))
  | 0, _ => hs
  | n + 1, hn => by
    have hb := h.b n hn
    have hp := RepIns.state h hs n (Nat.le_of_lt hn)
    have h1 := rep_newState (h.k n hn) (h.v n hn) hb hp (rep_endRow (d := d) hb)
    intro w l
    rw [show I.state d s (n + 1) = newState (I.k n) (I.v n) (I.b d n) (endRow d (I.b d n)) (I.state d s n) from rfl, h1 w l]
    congr 1
    rw [ord_lastPos]
    exact chunk_state d (a + 128 * n) S.g S.k (fun j => S.v j w) _ _ _ _ (fun _ _ => rfl) (fun _ => rfl) (fun _ _ => rfl)
      (fun _ => rfl) l

/-- The outputs of each chunk. -/
theorem RepIns.out (h : RepIns I d S a N) {s : FVec Ideal S128x128 .f32} (hs : Rep s (S.state a)) (n : ℕ) (hn : n < N)
    (hq : Rep (I.q n) fun r l => S.q (a + 128 * n + (ord d r).val) l) :
    Rep (I.out d s n) fun r w => S.out (a + 128 * n + (ord d r).val) w := by
  have hb := h.b n hn
  have hp := h.state hs n (Nat.le_of_lt hn)
  have h1 := rep_chunkOut (d := d) hq (h.k n hn) (h.v n hn) hb hp
  intro r w
  unfold Ins.out
  rw [h1 r w]
  congr 1
  exact chunk_out d (a + 128 * n) S.g S.k (fun j => S.v j w) _ _ (fun t l => S.q (a + 128 * n + (ord d t).val) l) _ _
    (fun _ _ => rfl) (fun _ _ => rfl) (fun _ => rfl) r

/-- The normed and gated row: a row of outputs, its gate features and its gain. -/
def finE (o g gain : Fin 128 → ℝ) (w : Fin 128) : EReal :=
  (o w : EReal) * Ideal.rsqrt (Ideal.div ((∑ u, o u * o u : ℝ) : EReal) (Ideal.ofBits FTy.f32 1124073472#32)
      + Ideal.ofBits FTy.f32 897988541#32) * (gain w : EReal)
    * ((g w : EReal) * Ideal.div 1 (1 + Ideal.exp (0 - (g w : EReal))))

theorem rep_finish {a o g : FVec Ideal S128x128 .f32} {gain : FVec Ideal S1x128 .f32} {A O G : Fin 128 → Fin 128 → ℝ}
    {W : Fin 128 → ℝ} (ha : Rep a A) (ho : Rep o O) (hg : Rep g G) (hw : RepRow gain W) (r w : Fin 128) :
    finish a o g gain (ix3 0 r w) = finE (fun u => A r u + O r u) (G r) W w := by
  unfold Rep RepRow at *
  pointwise [finish, k0_pay11]
  simp only [ha, ho, hg, hw, ← EReal.coe_add, ← EReal.coe_mul, coe_sum]
  rfl

/-! Where the trips load and store. -/

theorem off1 : ∀ k, k0_off1 k = ![0, 128 * k.val, 0] := by decide +kernel
theorem off2 : ∀ k, k0_off2 k = ![0, 128 - 128 * k.val, 0] := by decide +kernel
theorem off3 : ∀ k (u : Fin 8), k0_off3 k (BitVec.ofNat 32 u.val) = ![0, 1024 * k.val + 128 * u.val, 0] := by decide +kernel
theorem off4 : ∀ k (u : Fin 8), k0_off4 k (BitVec.ofNat 32 u.val) = ![0, 3968 - (1024 * k.val + 128 * u.val), 0] := by
  decide +kernel
theorem off5 : ∀ k (u : Fin 8), k0_off5 k (BitVec.ofNat 32 u.val) = ![1024 * k.val + 128 * u.val, 0] := by decide +kernel
theorem off6 : ∀ k (u : Fin 8), k0_off6 k (BitVec.ofNat 32 u.val) = ![3968 - (1024 * k.val + 128 * u.val), 0] := by
  decide +kernel
theorem off7 : ∀ k (u : Fin 8), k0_off7 k (BitVec.ofNat 32 u.val) = ![0, 2048 + 1024 * k.val + 128 * u.val, 0] := by
  decide +kernel
theorem off8 : ∀ k (u : Fin 8), k0_off8 k (BitVec.ofNat 32 u.val) = ![0, 1920 - (1024 * k.val + 128 * u.val), 0] := by
  decide +kernel
theorem off9 : ∀ k (u : Fin 8), k0_off9 k (BitVec.ofNat 32 u.val) = ![2048 + 1024 * k.val + 128 * u.val, 0] := by
  decide +kernel
theorem off10 : ∀ k (u : Fin 8), k0_off10 k (BitVec.ofNat 32 u.val) = ![1920 - (1024 * k.val + 128 * u.val), 0] := by
  decide +kernel

end Cert.Gla

end
-- ==== Proof.LoopLoads.lean ====
module

public import proofs.«01_k».proof.Proof.ChunkSeq

@[expose] public section

set_option maxRecDepth 16384

noncomputable section

namespace Cert.Gla

open Idealize.ShloMosaic Idealize.SL.Sem Cert.KernelIdeal Cert.KernelIdeal.Gen Finset

/-! What the loads of the loops hold, when the blocks they read hold given numbers. -/

/-- What one program of the grid reads: the latents' queries, keys, values, gate inputs and decay features by position,
the context's keys, values and features, and the head's weights. -/
structure Data where
  q : ℕ → Fin 128 → ℝ
  k : ℕ → Fin 128 → ℝ
  v : ℕ → Fin 128 → ℝ
  gg : ℕ → Fin 128 → ℝ
  z : ℕ → Fin 128 → ℝ
  kc : ℕ → Fin 128 → ℝ
  vc : ℕ → Fin 128 → ℝ
  zc : ℕ → Fin 128 → ℝ
  up : Bool → Fin 128 → Fin 128 → ℝ
  bias : Bool → Fin 128 → ℝ
  gain : Fin 128 → ℝ

/-- The position of step `n` of `N`, in a direction. -/
def at' (d : Bool) (N n : ℕ) : ℕ := if d then N - 1 - n else n

/-- The sequence a head runs over in a direction: the context's 256 positions, then the latents' 4096. -/
def Data.sq (D : Data) (h : ℕ) (d : Bool) : Sq where
  q n l := (if l.val / 64 = h % 2 then D.q (at' d 4096 (n - 256)) l else 0) * (1 / 8)
  k n l := if l.val / 64 = h % 2 then (if n < 256 then D.kc (at' d 256 n) l else D.k (at' d 4096 (n - 256)) l) else 0
  v n l := if n < 256 then D.vc (at' d 256 n) l else D.v (at' d 4096 (n - 256)) l
  z n l := if n < 256 then D.zc (at' d 256 n) l else D.z (at' d 4096 (n - 256)) l
  up := D.up d
  bias := D.bias d

/-- A matrix of one block, entry by entry. -/
theorem flat_apply (x : Vec Ideal S1x128x128 .f32) (r l : Fin 128) : flat x (ix2 r l) = x (ix3 0 r l) := by
  pointwise [flat]

theorem flat_stacked (x : FVec Ideal S128x128 .f32) : flat (stacked x) = x := by
  funext y
  obtain ⟨r, l, rfl⟩ : ∃ r l, y = ix2 r l := ⟨y 0, y 1, by funext a; fin_cases a <;> rfl⟩
  pointwise [flat, stacked]

/-- A block of the latents holds the numbers of its positions. -/
theorem rep_blk {v : View sig .tc .vmem S1x4096x128 .f32} {X : BufTy.Contents (Elt Ideal) v.ty} {o : Fin 3 → ℕ}
    {h : ∀ a, o a + S1x128x128.size a ≤ S1x4096x128.size a} {f : ℕ → Fin 128 → ℝ}
    (hX : ∀ R l, v.read (Elt Ideal) X (ix3 0 R l) = ((f R.val l : ℝ) : EReal)) {b : ℕ} (ho : o = ![0, b, 0]) :
    Rep (blk v X o h) fun r l => f (b + r.val) l := by
  subst ho
  intro r l
  have hb : b + 128 ≤ 4096 := h 1
  have hr := r.isLt
  rw [blk, flat_apply]
  refine Eq.trans (congrArg (v.read (Elt Ideal) X) ?_) (hX ⟨b + r.val, by omega⟩ l)
  funext a
  apply Fin.ext
  match a with
  | 0 => rfl
  | 1 => show b + 1 * r.val = b + r.val; omega
  | 2 => show 0 + 1 * l.val = l.val; omega

/-- A block of the context holds the numbers of its positions. -/
theorem rep_blkC {v : View sig .tc .vmem S1x256x128 .f32} {X : BufTy.Contents (Elt Ideal) v.ty} {o : Fin 3 → ℕ}
    {h : ∀ a, o a + S1x128x128.size a ≤ S1x256x128.size a} {f : ℕ → Fin 128 → ℝ}
    (hX : ∀ R l, v.read (Elt Ideal) X (ix3 0 R l) = ((f R.val l : ℝ) : EReal)) {b : ℕ} (ho : o = ![0, b, 0]) :
    Rep (blkC v X o h) fun r l => f (b + r.val) l := by
  subst ho
  intro r l
  have hb : b + 128 ≤ 256 := h 1
  have hr := r.isLt
  rw [blkC, flat_apply]
  refine Eq.trans (congrArg (v.read (Elt Ideal) X) ?_) (hX ⟨b + r.val, by omega⟩ l)
  funext a
  apply Fin.ext
  match a with
  | 0 => rfl
  | 1 => show b + 1 * r.val = b + r.val; omega
  | 2 => show 0 + 1 * l.val = l.val; omega

theorem rep_upOf {v : View sig .tc .vmem S1x2x128x128 .bf16} {X : BufTy.Contents (Elt Ideal) v.ty}
    {f : Bool → Fin 128 → Fin 128 → ℝ}
    (hX : ∀ d c l, v.read (Elt Ideal) X (ix4 0 (if d then 1 else 0) c l) = ((f d c l : ℝ) : EReal)) (d : Bool) :
    Rep (upOf v X d) (f d) := by
  intro c l
  cases d
  · refine Eq.trans ?_ (hX false c l)
    pointwise [upOf, flatUp]
    refine congrArg (v.read (Elt Ideal) X) ?_
    funext a
    apply Fin.ext
    match a with
    | 0 => rfl
    | 1 => rfl
    | 2 => show 0 + 1 * c.val = c.val; omega
    | 3 => show 0 + 1 * l.val = l.val; omega
  · refine Eq.trans ?_ (hX true c l)
    pointwise [upOf, flatUp]
    refine congrArg (v.read (Elt Ideal) X) ?_
    funext a
    apply Fin.ext
    match a with
    | 0 => rfl
    | 1 => rfl
    | 2 => show 0 + 1 * c.val = c.val; omega
    | 3 => show 0 + 1 * l.val = l.val; omega

theorem rep_biasOf {v : View sig .tc .vmem S1x2x1x128 .f32} {X : BufTy.Contents (Elt Ideal) v.ty}
    {f : Bool → Fin 128 → ℝ}
    (hX : ∀ d l, v.read (Elt Ideal) X (ix4 0 (if d then 1 else 0) 0 l) = ((f d l : ℝ) : EReal)) (d : Bool) :
    RepRow (biasOf v X d) (f d) := by
  intro l
  cases d
  · refine Eq.trans ?_ (hX false l)
    pointwise [biasOf, flatBias]
    refine congrArg (v.read (Elt Ideal) X) ?_
    funext a
    apply Fin.ext
    match a with
    | 0 => rfl
    | 1 => rfl
    | 2 => rfl
    | 3 => show 0 + 1 * l.val = l.val; omega
  · refine Eq.trans ?_ (hX true l)
    pointwise [biasOf, flatBias]
    refine congrArg (v.read (Elt Ideal) X) ?_
    funext a
    apply Fin.ext
    match a with
    | 0 => rfl
    | 1 => rfl
    | 2 => rfl
    | 3 => show 0 + 1 * l.val = l.val; omega

section views

variable {κ : Kind} {sp : Space} {s : Shape} {e : EltTy}

/-- A cell some piece covers reads as `t`, when every piece that holds the cell holds `t` there. -/
theorem read_writes_agree (v : View sig κ sp s e) (f : v.ty.Contents (Elt Ideal)) (y : s.Idx) (t : Elt Ideal e) :
    ∀ L : List (View.Piece (Elt Ideal) s e), (∀ p ∈ L, ∀ x : p.1.shape.Idx, p.1.emb x = y → p.2 x = t) →
      (∃ p ∈ L, y ∈ p.1.set) → v.read (Elt Ideal) (v.writes (Elt Ideal) f L) y = t
  | [], _, h => by obtain ⟨_, hm, _⟩ := h; exact absurd hm List.not_mem_nil
  | p :: L, hp, h => by
    by_cases hy : y ∈ p.1.set
    · obtain ⟨x, hx⟩ := p.1.exists_idx_of_mem hy
      subst hx
      exact (View.read_writes_cons_emb v f p.1 p.2 L x).trans (hp p List.mem_cons_self x rfl)
    · rw [View.writes_cons, View.read_slice_write_of_not_mem p.1 _ _ _ (by rwa [Rect.map_emb_univ])]
      refine read_writes_agree v f y t L (fun q hq => hp q (List.mem_cons_of_mem _ hq)) ?_
      obtain ⟨q, hq, hyq⟩ := h
      rcases List.mem_cons.1 hq with rfl | hq
      · exact absurd hyq hy
      · exact ⟨q, hq, hyq⟩

end views

/-- The states read back are those last stored. -/
theorem stOf_writes (v : View sig .tc .vmem S2x128x128 .f32) (X : BufTy.Contents (Elt Ideal) v.ty)
    (s0 s1 : FVec Ideal S128x128 .f32) (L : List (View.Piece (Elt Ideal) S2x128x128 .f32)) (d : Bool) :
    stOf v (v.writes (Elt Ideal) X (statePieces s0 s1 ++ L)) d = if d then s1 else s0 := by
  cases d
  · refine (congrArg flat ?_).trans (flat_stacked s0)
    funext x
    show v.read (Elt Ideal) (v.writes (Elt Ideal) X (statePieces s0 s1 ++ L))
      ((Rect.unit (s := S2x128x128) ![0, 0, 0] S1x128x128.size inb_S2x128x128_S1x128x128_0_0_0).emb x) = _
    unfold statePieces
    rw [List.cons_append, View.writes_cons, View.read_slice_write_of_not_mem]
    · exact View.read_writes_cons_emb v X _ _ _ x
    · rw [Rect.map_emb_univ, Rect.mem_set_unit]
      intro hm
      have h0 : 1 ≤ 0 + 1 * (x 0).val := (hm 0).1
      have h1 : (x 0).val < 1 := (x 0).isLt
      omega
  · refine (congrArg flat ?_).trans (flat_stacked s1)
    funext x
    exact View.read_writes_cons_emb v X _ _ _ x

end Cert.Gla

end
-- ==== Proof.LoopValues.lean ====
module

public import proofs.«01_k».proof.Proof.LoopLoads

@[expose] public section

set_option maxRecDepth 16384

noncomputable section

namespace Cert.Gla

open Idealize.ShloMosaic Idealize.ShloMosaic.TcCoe Idealize.ShloMosaic.Tactic Idealize.SL.Sem Cert.KernelIdeal Cert.KernelIdeal.Gen

/-! What the three loops leave, when the blocks they read hold given numbers. -/

/-- The output at a position, in a direction. -/
def Data.o (D : Data) (h : ℕ) (d : Bool) (R : ℕ) (w : Fin 128) : ℝ := (D.sq h d).out (256 + at' d 4096 R) w

/-- What the first half leaves of each position: the output of the direction that comes to it first. -/
def Data.half (D : Data) (h R : ℕ) (w : Fin 128) : ℝ := if R < 2048 then D.o h false R w else D.o h true R w

/-- The result at a position. -/
def Data.result (D : Data) (h R : ℕ) (w : Fin 128) : EReal :=
  finE (fun u => D.o h false R u + D.o h true R u) (D.gg R) D.gain w

theorem lt1 {k : ℕ} (h : k + 1 ≤ 2) : k < k0_t1_loop.trips := by
  rw [show k0_t1_loop.trips = 2 by decide +kernel]
  exact h

theorem lt2 {k : ℕ} (h : k + 1 ≤ 2) : k < k0_t2_loop.trips := by
  rw [show k0_t2_loop.trips = 2 by decide +kernel]
  exact h

theorem lt3 {k : ℕ} (h : k + 1 ≤ 2) : k < k0_t3_loop.trips := by
  rw [show k0_t3_loop.trips = 2 by decide +kernel]
  exact h

theorem parts2_all {P : View.Piece (Elt Ideal) S4096x128 .f32 → Prop} {pF pB : ℕ → View.Piece (Elt Ideal) S4096x128 .f32}
    (hF : ∀ n, n < 8 → P (pF n)) (hB : ∀ n, n < 8 → P (pB n)) : ∀ p ∈ parts2 pF pB, P p := by
  intro p hp
  simp only [parts2, List.mem_cons, List.not_mem_nil, or_false] at hp
  rcases hp with rfl | rfl | rfl | rfl | rfl | rfl | rfl | rfl | rfl | rfl | rfl | rfl | rfl | rfl | rfl | rfl
  exacts [hB 7 (by decide), hF 7 (by decide), hB 6 (by decide), hF 6 (by decide), hB 5 (by decide), hF 5 (by decide),
    hB 4 (by decide), hF 4 (by decide), hB 3 (by decide), hF 3 (by decide), hB 2 (by decide), hF 2 (by decide),
    hB 1 (by decide), hF 1 (by decide), hB 0 (by decide), hF 0 (by decide)]

theorem parts3_all {P : View.Piece (Elt Ideal) S1x4096x128 .bf16 → Prop} {pF pB : ℕ → View.Piece (Elt Ideal) S1x4096x128 .bf16}
    (hF : ∀ n, n < 8 → P (pF n)) (hB : ∀ n, n < 8 → P (pB n)) : ∀ p ∈ parts3 pF pB, P p := by
  intro p hp
  simp only [parts3, List.mem_cons, List.not_mem_nil, or_false] at hp
  rcases hp with rfl | rfl | rfl | rfl | rfl | rfl | rfl | rfl | rfl | rfl | rfl | rfl | rfl | rfl | rfl | rfl
  exacts [hB 7 (by decide), hF 7 (by decide), hB 6 (by decide), hF 6 (by decide), hB 5 (by decide), hF 5 (by decide),
    hB 4 (by decide), hF 4 (by decide), hB 3 (by decide), hF 3 (by decide), hB 2 (by decide), hF 2 (by decide),
    hB 1 (by decide), hF 1 (by decide), hB 0 (by decide), hF 0 (by decide)]

section loops

variable (i : grid0.Coords)
    (arg2 : Memref sig .tc .vmem S1x4096x128 .f32) (harg2 : arg2.IsWhole)
    (arg3 : Memref sig .tc .vmem S1x4096x128 .f32) (harg3 : arg3.IsWhole)
    (arg4 : Memref sig .tc .vmem S1x4096x128 .f32) (harg4 : arg4.IsWhole)
    (arg5 : Memref sig .tc .vmem S1x4096x128 .f32) (harg5 : arg5.IsWhole)
    (arg6 : Memref sig .tc .vmem S1x4096x128 .f32) (harg6 : arg6.IsWhole)
    (arg7 : Memref sig .tc .vmem S1x256x128 .f32) (harg7 : arg7.IsWhole)
    (arg8 : Memref sig .tc .vmem S1x256x128 .f32) (harg8 : arg8.IsWhole)
    (arg9 : Memref sig .tc .vmem S1x256x128 .f32) (harg9 : arg9.IsWhole)
    (arg10 : Memref sig .tc .vmem S1x2x128x128 .bf16) (harg10 : arg10.IsWhole)
    (arg11 : Memref sig .tc .vmem S1x2x1x128 .f32) (harg11 : arg11.IsWhole)
    (arg12 : Memref sig .tc .vmem S1x128 .f32) (harg12 : arg12.IsWhole)
    (arg13 : Memref sig .tc .vmem S1x4096x128 .bf16) (harg13 : arg13.IsWhole)
    (arg14 : Memref sig .tc .vmem S2x128x128 .f32) (harg14 : arg14.IsWhole)
    (arg15 : Memref sig .tc .vmem S4096x128 .f32) (harg15 : arg15.IsWhole)

variable (c : Dev nD) (D : Data)

/-- Chunks of the latents at the offsets of a direction are those of the sequence. -/
theorem rep_latIns (X2 : BufTy.Contents (Elt Ideal) arg2.view.ty)
    (X3 : BufTy.Contents (Elt Ideal) arg3.view.ty)
    (X4 : BufTy.Contents (Elt Ideal) arg4.view.ty)
    (X6 : BufTy.Contents (Elt Ideal) arg6.view.ty)
    (X10 : BufTy.Contents (Elt Ideal) arg10.view.ty)
    (X11 : BufTy.Contents (Elt Ideal) arg11.view.ty)
    (hx2 : ∀ R l, arg2.view.read (Elt Ideal) X2 (ix3 0 R l) = ((D.q R.val l : ℝ) : EReal))
    (hx3 : ∀ R l, arg3.view.read (Elt Ideal) X3 (ix3 0 R l) = ((D.k R.val l : ℝ) : EReal))
    (hx4 : ∀ R l, arg4.view.read (Elt Ideal) X4 (ix3 0 R l) = ((D.v R.val l : ℝ) : EReal))
    (hx6 : ∀ R l, arg6.view.read (Elt Ideal) X6 (ix3 0 R l) = ((D.z R.val l : ℝ) : EReal))
    (hx10 : ∀ d c l, arg10.view.read (Elt Ideal) X10 (ix4 0 (if d then 1 else 0) c l) = ((D.up d c l : ℝ) : EReal))
    (hx11 : ∀ d l, arg11.view.read (Elt Ideal) X11 (ix4 0 (if d then 1 else 0) 0 l) = ((D.bias d l : ℝ) : EReal)) (d : Bool)
    (o : Fin 8 → Fin 3 → ℕ) (h : ∀ n a, o n a + S1x128x128.size a ≤ S1x4096x128.size a) (b : Fin 8 → ℕ) (a : ℕ)
    (ho : ∀ u, o u = ![0, b u, 0])
    (hp : ∀ (u : Fin 8) (r : Fin 128), b u + r.val = at' d 4096 (256 + a + 128 * u.val + (ord d r).val - 256)) :
    RepIns (latIns i arg2 arg3 arg4 arg6 arg10 arg11 X2 X3 X4 X6 X10 X11 d o h) d (D.sq (i 1).val d) (256 + a) 8
      ∧ ∀ n, n < 8 → Rep ((latIns i arg2 arg3 arg4 arg6 arg10 arg11 X2 X3 X4 X6 X10 X11 d o h).q n)
          fun r l => (D.sq (i 1).val d).q (256 + a + 128 * n + (ord d r).val) l := by
  have hn : ∀ n, n < 8 → (nth n).val = n := fun n h => Nat.mod_eq_of_lt h
  refine ⟨⟨fun n hN r l => ?_, fun n hN r l => ?_, fun n hN r l => ?_, rep_upOf hx10 d, rep_biasOf hx11 d⟩,
    fun n hN r l => ?_⟩
  · refine (rep_own (rep_blk hx3 (ho (nth n))) r l).trans ?_
    simp only [Data.sq, if_neg (show ¬ 256 + a + 128 * n + (ord d r).val < 256 by omega)]
    rw [hp, hn n hN]
  · refine (rep_blk hx4 (ho (nth n)) r l).trans ?_
    simp only [Data.sq, if_neg (show ¬ 256 + a + 128 * n + (ord d r).val < 256 by omega)]
    rw [hp, hn n hN]
  · refine (rep_blk hx6 (ho (nth n)) r l).trans ?_
    simp only [Data.sq, if_neg (show ¬ 256 + a + 128 * n + (ord d r).val < 256 by omega)]
    rw [hp, hn n hN]
  · refine (rep_scaled (rep_own (rep_blk hx2 (ho (nth n)))) r l).trans ?_
    simp only [Data.sq]
    rw [hp, hn n hN]

/-- The chunk of a trip over the context. -/
theorem rep_ctxIns (X7 : BufTy.Contents (Elt Ideal) arg7.view.ty)
    (X8 : BufTy.Contents (Elt Ideal) arg8.view.ty)
    (X9 : BufTy.Contents (Elt Ideal) arg9.view.ty)
    (X10 : BufTy.Contents (Elt Ideal) arg10.view.ty)
    (X11 : BufTy.Contents (Elt Ideal) arg11.view.ty)
    (hx7 : ∀ R l, arg7.view.read (Elt Ideal) X7 (ix3 0 R l) = ((D.kc R.val l : ℝ) : EReal))
    (hx8 : ∀ R l, arg8.view.read (Elt Ideal) X8 (ix3 0 R l) = ((D.vc R.val l : ℝ) : EReal))
    (hx9 : ∀ R l, arg9.view.read (Elt Ideal) X9 (ix3 0 R l) = ((D.zc R.val l : ℝ) : EReal))
    (hx10 : ∀ d c l, arg10.view.read (Elt Ideal) X10 (ix4 0 (if d then 1 else 0) c l) = ((D.up d c l : ℝ) : EReal))
    (hx11 : ∀ d l, arg11.view.read (Elt Ideal) X11 (ix4 0 (if d then 1 else 0) 0 l) = ((D.bias d l : ℝ) : EReal)) (k : Fin k0_t1_loop.trips) (d : Bool) :
    RepIns (ctxIns i arg7 arg8 arg9 arg10 arg11 X7 X8 X9 X10 X11 k d) d (D.sq (i 1).val d) (128 * k.val) 1 := by
  have hk : k.val < 2 := k.isLt
  cases d
  · have hp : ∀ (n : ℕ) (hN : n < 1) (r : Fin 128), 128 * k.val + r.val = at' false 256 (128 * k.val + 128 * n + (ord false r).val) := by
      intro n hN r
      have : n = 0 := by omega
      subst this
      simp [at', ord]
    refine ⟨fun n hN r l => ?_, fun n hN r l => ?_, fun n hN r l => ?_, rep_upOf hx10 false, rep_biasOf hx11 false⟩
    all_goals
      have hr := (ord false r).isLt
      have hlt : 128 * k.val + 128 * n + (ord false r).val < 256 := by omega
    · refine (rep_own (rep_blkC hx7 (off1 k)) r l).trans ?_
      simp only [Data.sq, if_pos hlt]
      rw [hp n hN]
    · refine (rep_blkC hx8 (off1 k) r l).trans ?_
      simp only [Data.sq, if_pos hlt]
      rw [hp n hN]
    · refine (rep_blkC hx9 (off1 k) r l).trans ?_
      simp only [Data.sq, if_pos hlt]
      rw [hp n hN]
  · have hp : ∀ (n : ℕ) (hN : n < 1) (r : Fin 128), 128 - 128 * k.val + r.val = at' true 256 (128 * k.val + 128 * n + (ord true r).val) := by
      intro n hN r
      have : n = 0 := by omega
      subst this
      have hr := r.isLt
      simp only [at', ord, if_true, Fin.val_rev]
      omega
    refine ⟨fun n hN r l => ?_, fun n hN r l => ?_, fun n hN r l => ?_, rep_upOf hx10 true, rep_biasOf hx11 true⟩
    all_goals
      have hr := (ord true r).isLt
      have hlt : 128 * k.val + 128 * n + (ord true r).val < 256 := by omega
    · refine (rep_own (rep_blkC hx7 (off2 k)) r l).trans ?_
      simp only [Data.sq, if_pos hlt]
      rw [hp n hN]
    · refine (rep_blkC hx8 (off2 k) r l).trans ?_
      simp only [Data.sq, if_pos hlt]
      rw [hp n hN]
    · refine (rep_blkC hx9 (off2 k) r l).trans ?_
      simp only [Data.sq, if_pos hlt]
      rw [hp n hN]

/-- The chunks of a trip of the first half. -/
theorem rep_ins2 (X2 : BufTy.Contents (Elt Ideal) arg2.view.ty)
    (X3 : BufTy.Contents (Elt Ideal) arg3.view.ty)
    (X4 : BufTy.Contents (Elt Ideal) arg4.view.ty)
    (X6 : BufTy.Contents (Elt Ideal) arg6.view.ty)
    (X10 : BufTy.Contents (Elt Ideal) arg10.view.ty)
    (X11 : BufTy.Contents (Elt Ideal) arg11.view.ty)
    (hx2 : ∀ R l, arg2.view.read (Elt Ideal) X2 (ix3 0 R l) = ((D.q R.val l : ℝ) : EReal))
    (hx3 : ∀ R l, arg3.view.read (Elt Ideal) X3 (ix3 0 R l) = ((D.k R.val l : ℝ) : EReal))
    (hx4 : ∀ R l, arg4.view.read (Elt Ideal) X4 (ix3 0 R l) = ((D.v R.val l : ℝ) : EReal))
    (hx6 : ∀ R l, arg6.view.read (Elt Ideal) X6 (ix3 0 R l) = ((D.z R.val l : ℝ) : EReal))
    (hx10 : ∀ d c l, arg10.view.read (Elt Ideal) X10 (ix4 0 (if d then 1 else 0) c l) = ((D.up d c l : ℝ) : EReal))
    (hx11 : ∀ d l, arg11.view.read (Elt Ideal) X11 (ix4 0 (if d then 1 else 0) 0 l) = ((D.bias d l : ℝ) : EReal)) (k : Fin k0_t2_loop.trips) (d : Bool) :
    RepIns (ins2 i arg2 arg3 arg4 arg6 arg10 arg11 X2 X3 X4 X6 X10 X11 k d) d (D.sq (i 1).val d) (256 + 1024 * k.val) 8
      ∧ ∀ n, n < 8 → Rep ((ins2 i arg2 arg3 arg4 arg6 arg10 arg11 X2 X3 X4 X6 X10 X11 k d).q n)
          fun r l => (D.sq (i 1).val d).q (256 + 1024 * k.val + 128 * n + (ord d r).val) l := by
  have hk : k.val < 2 := k.isLt
  cases d
  · refine rep_latIns i arg2 arg3 arg4 arg6 arg10 arg11 D X2 X3 X4 X6 X10 X11 hx2 hx3 hx4 hx6 hx10 hx11 false _ (k0_off3_inb k) (fun u => 1024 * k.val + 128 * u.val) (1024 * k.val) (off3 k) ?_
    intro u r
    simp only [at', ord]
    simp only [Bool.false_eq_true, if_false]
    omega
  · refine rep_latIns i arg2 arg3 arg4 arg6 arg10 arg11 D X2 X3 X4 X6 X10 X11 hx2 hx3 hx4 hx6 hx10 hx11 true _ (k0_off4_inb k) (fun u => 3968 - (1024 * k.val + 128 * u.val)) (1024 * k.val) (off4 k) ?_
    intro u r
    have hu := u.isLt
    have hr := r.isLt
    simp only [at', ord, if_true, Fin.val_rev]
    omega

/-- The chunks of a trip of the second half. -/
theorem rep_ins3 (X2 : BufTy.Contents (Elt Ideal) arg2.view.ty)
    (X3 : BufTy.Contents (Elt Ideal) arg3.view.ty)
    (X4 : BufTy.Contents (Elt Ideal) arg4.view.ty)
    (X6 : BufTy.Contents (Elt Ideal) arg6.view.ty)
    (X10 : BufTy.Contents (Elt Ideal) arg10.view.ty)
    (X11 : BufTy.Contents (Elt Ideal) arg11.view.ty)
    (hx2 : ∀ R l, arg2.view.read (Elt Ideal) X2 (ix3 0 R l) = ((D.q R.val l : ℝ) : EReal))
    (hx3 : ∀ R l, arg3.view.read (Elt Ideal) X3 (ix3 0 R l) = ((D.k R.val l : ℝ) : EReal))
    (hx4 : ∀ R l, arg4.view.read (Elt Ideal) X4 (ix3 0 R l) = ((D.v R.val l : ℝ) : EReal))
    (hx6 : ∀ R l, arg6.view.read (Elt Ideal) X6 (ix3 0 R l) = ((D.z R.val l : ℝ) : EReal))
    (hx10 : ∀ d c l, arg10.view.read (Elt Ideal) X10 (ix4 0 (if d then 1 else 0) c l) = ((D.up d c l : ℝ) : EReal))
    (hx11 : ∀ d l, arg11.view.read (Elt Ideal) X11 (ix4 0 (if d then 1 else 0) 0 l) = ((D.bias d l : ℝ) : EReal)) (k : Fin k0_t3_loop.trips) (d : Bool) :
    RepIns (ins3 i arg2 arg3 arg4 arg6 arg10 arg11 X2 X3 X4 X6 X10 X11 k d) d (D.sq (i 1).val d) (256 + (2048 + 1024 * k.val)) 8
      ∧ ∀ n, n < 8 → Rep ((ins3 i arg2 arg3 arg4 arg6 arg10 arg11 X2 X3 X4 X6 X10 X11 k d).q n)
          fun r l => (D.sq (i 1).val d).q (256 + (2048 + 1024 * k.val) + 128 * n + (ord d r).val) l := by
  have hk : k.val < 2 := lt_of_lt_of_eq k.isLt (by decide +kernel)
  cases d
  · refine rep_latIns i arg2 arg3 arg4 arg6 arg10 arg11 D X2 X3 X4 X6 X10 X11 hx2 hx3 hx4 hx6 hx10 hx11 false _ (k0_off7_inb k) (fun u => 2048 + 1024 * k.val + 128 * u.val) (2048 + 1024 * k.val) (off7 k) ?_
    intro u r
    simp only [at', ord]
    simp only [Bool.false_eq_true, if_false]
    omega
  · refine rep_latIns i arg2 arg3 arg4 arg6 arg10 arg11 D X2 X3 X4 X6 X10 X11 hx2 hx3 hx4 hx6 hx10 hx11 true _ (k0_off8_inb k) (fun u => 1920 - (1024 * k.val + 128 * u.val)) (2048 + 1024 * k.val) (off8 k) ?_
    intro u r
    have hu := u.isLt
    have hr := r.isLt
    simp only [at', ord, if_true, Fin.val_rev]
    omega

/-- The states stored through one more trip of the first half. -/
theorem loop2_fst (X2 : BufTy.Contents (Elt Ideal) arg2.view.ty)
    (X3 : BufTy.Contents (Elt Ideal) arg3.view.ty)
    (X4 : BufTy.Contents (Elt Ideal) arg4.view.ty)
    (X6 : BufTy.Contents (Elt Ideal) arg6.view.ty)
    (X10 : BufTy.Contents (Elt Ideal) arg10.view.ty)
    (X11 : BufTy.Contents (Elt Ideal) arg11.view.ty)
    (G14 : BufTy.Contents (Elt Ideal) arg14.view.ty) (G15 : BufTy.Contents (Elt Ideal) arg15.view.ty) {k : ℕ} (hk : k + 1 ≤ 2) :
    (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 G14 G15 (k + 1)).1
      = statePieces ((ins2 i arg2 arg3 arg4 arg6 arg10 arg11 X2 X3 X4 X6 X10 X11 ⟨k, lt2 hk⟩ false).state false (stOf arg14.view (arg14.view.writes (Elt Ideal) G14 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 G14 G15 k).1) false) 8)
          ((ins2 i arg2 arg3 arg4 arg6 arg10 arg11 X2 X3 X4 X6 X10 X11 ⟨k, lt2 hk⟩ true).state true (stOf arg14.view (arg14.view.writes (Elt Ideal) G14 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 G14 G15 k).1) true) 8)
        ++ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 G14 G15 k).1 :=
  (congrArg Prod.fst (pb_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 G14 G15 (⟨k, lt2 hk⟩ : Fin k0_t2_loop.trips))).trans
    (congrArg (· ++ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 G14 G15 k).1) (trip2_states i arg2 harg2 arg3 harg3 arg4 harg4 arg5 harg5 arg6 harg6 arg7 harg7 arg8 harg8 arg9 harg9 arg10 harg10 arg11 harg11 arg12 harg12 arg13 harg13 arg14 harg14 arg15 harg15 c X2 X3 X4 X6 X10 X11 ⟨k, lt2 hk⟩ _ _))

/-- The partial outputs stored through one more trip of the first half. -/
theorem loop2_snd (X2 : BufTy.Contents (Elt Ideal) arg2.view.ty)
    (X3 : BufTy.Contents (Elt Ideal) arg3.view.ty)
    (X4 : BufTy.Contents (Elt Ideal) arg4.view.ty)
    (X6 : BufTy.Contents (Elt Ideal) arg6.view.ty)
    (X10 : BufTy.Contents (Elt Ideal) arg10.view.ty)
    (X11 : BufTy.Contents (Elt Ideal) arg11.view.ty)
    (G14 : BufTy.Contents (Elt Ideal) arg14.view.ty) (G15 : BufTy.Contents (Elt Ideal) arg15.view.ty) {k : ℕ} (hk : k + 1 ≤ 2) :
    (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 G14 G15 (k + 1)).2
      = stores2 i arg2 arg3 arg4 arg6 arg10 arg11 arg14 X2 X3 X4 X6 X10 X11 ⟨k, lt2 hk⟩ (arg14.view.writes (Elt Ideal) G14 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 G14 G15 k).1)
        ++ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 G14 G15 k).2 :=
  (congrArg Prod.snd (pb_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 G14 G15 (⟨k, lt2 hk⟩ : Fin k0_t2_loop.trips))).trans
    (congrArg (· ++ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 G14 G15 k).2) (trip2_stores i arg2 harg2 arg3 harg3 arg4 harg4 arg5 harg5 arg6 harg6 arg7 harg7 arg8 harg8 arg9 harg9 arg10 harg10 arg11 harg11 arg12 harg12 arg13 harg13 arg14 harg14 arg15 harg15 c X2 X3 X4 X6 X10 X11 ⟨k, lt2 hk⟩ _ _))

/-- The states stored through one more trip of the second half. -/
theorem loop3_snd (X2 : BufTy.Contents (Elt Ideal) arg2.view.ty)
    (X3 : BufTy.Contents (Elt Ideal) arg3.view.ty)
    (X4 : BufTy.Contents (Elt Ideal) arg4.view.ty)
    (X5 : BufTy.Contents (Elt Ideal) arg5.view.ty)
    (X6 : BufTy.Contents (Elt Ideal) arg6.view.ty)
    (X10 : BufTy.Contents (Elt Ideal) arg10.view.ty)
    (X11 : BufTy.Contents (Elt Ideal) arg11.view.ty)
    (X12 : BufTy.Contents (Elt Ideal) arg12.view.ty)
    (X15 : BufTy.Contents (Elt Ideal) arg15.view.ty)
    (G13 : BufTy.Contents (Elt Ideal) arg13.view.ty) (G14 : BufTy.Contents (Elt Ideal) arg14.view.ty) {k : ℕ} (hk : k + 1 ≤ 2) :
    (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 G13 G14 (k + 1)).2
      = statePieces ((ins3 i arg2 arg3 arg4 arg6 arg10 arg11 X2 X3 X4 X6 X10 X11 ⟨k, lt3 hk⟩ false).state false (stOf arg14.view (arg14.view.writes (Elt Ideal) G14 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 G13 G14 k).2) false) 8)
          ((ins3 i arg2 arg3 arg4 arg6 arg10 arg11 X2 X3 X4 X6 X10 X11 ⟨k, lt3 hk⟩ true).state true (stOf arg14.view (arg14.view.writes (Elt Ideal) G14 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 G13 G14 k).2) true) 8)
        ++ (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 G13 G14 k).2 :=
  (congrArg Prod.snd (pb_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 G13 G14 (⟨k, lt3 hk⟩ : Fin k0_t3_loop.trips))).trans
    (congrArg (· ++ (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 G13 G14 k).2) (trip3_states i arg2 harg2 arg3 harg3 arg4 harg4 arg5 harg5 arg6 harg6 arg7 harg7 arg8 harg8 arg9 harg9 arg10 harg10 arg11 harg11 arg12 harg12 arg13 harg13 arg14 harg14 arg15 harg15 c X2 X3 X4 X5 X6 X10 X11 X12 X15 ⟨k, lt3 hk⟩ _ _))

/-- The results stored through one more trip of the second half. -/
theorem loop3_fst (X2 : BufTy.Contents (Elt Ideal) arg2.view.ty)
    (X3 : BufTy.Contents (Elt Ideal) arg3.view.ty)
    (X4 : BufTy.Contents (Elt Ideal) arg4.view.ty)
    (X5 : BufTy.Contents (Elt Ideal) arg5.view.ty)
    (X6 : BufTy.Contents (Elt Ideal) arg6.view.ty)
    (X10 : BufTy.Contents (Elt Ideal) arg10.view.ty)
    (X11 : BufTy.Contents (Elt Ideal) arg11.view.ty)
    (X12 : BufTy.Contents (Elt Ideal) arg12.view.ty)
    (X15 : BufTy.Contents (Elt Ideal) arg15.view.ty)
    (G13 : BufTy.Contents (Elt Ideal) arg13.view.ty) (G14 : BufTy.Contents (Elt Ideal) arg14.view.ty) {k : ℕ} (hk : k + 1 ≤ 2) :
    (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 G13 G14 (k + 1)).1
      = stores3 i arg2 arg3 arg4 arg5 arg6 arg10 arg11 arg12 arg14 arg15 X2 X3 X4 X5 X6 X10 X11 X12 X15 ⟨k, lt3 hk⟩ (arg14.view.writes (Elt Ideal) G14 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 G13 G14 k).2)
        ++ (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 G13 G14 k).1 :=
  (congrArg Prod.fst (pb_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 G13 G14 (⟨k, lt3 hk⟩ : Fin k0_t3_loop.trips))).trans
    (congrArg (· ++ (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 G13 G14 k).1) (trip3_stores i arg2 harg2 arg3 harg3 arg4 harg4 arg5 harg5 arg6 harg6 arg7 harg7 arg8 harg8 arg9 harg9 arg10 harg10 arg11 harg11 arg12 harg12 arg13 harg13 arg14 harg14 arg15 harg15 c X2 X3 X4 X5 X6 X10 X11 X12 X15 ⟨k, lt3 hk⟩ _ _))

/-- The states stored over the context. -/
theorem loop1_states (X7 : BufTy.Contents (Elt Ideal) arg7.view.ty)
    (X8 : BufTy.Contents (Elt Ideal) arg8.view.ty)
    (X9 : BufTy.Contents (Elt Ideal) arg9.view.ty)
    (X10 : BufTy.Contents (Elt Ideal) arg10.view.ty)
    (X11 : BufTy.Contents (Elt Ideal) arg11.view.ty)
    (hx7 : ∀ R l, arg7.view.read (Elt Ideal) X7 (ix3 0 R l) = ((D.kc R.val l : ℝ) : EReal))
    (hx8 : ∀ R l, arg8.view.read (Elt Ideal) X8 (ix3 0 R l) = ((D.vc R.val l : ℝ) : EReal))
    (hx9 : ∀ R l, arg9.view.read (Elt Ideal) X9 (ix3 0 R l) = ((D.zc R.val l : ℝ) : EReal))
    (hx10 : ∀ d c l, arg10.view.read (Elt Ideal) X10 (ix4 0 (if d then 1 else 0) c l) = ((D.up d c l : ℝ) : EReal))
    (hx11 : ∀ d l, arg11.view.read (Elt Ideal) X11 (ix4 0 (if d then 1 else 0) 0 l) = ((D.bias d l : ℝ) : EReal)) (G14 : BufTy.Contents (Elt Ideal) arg14.view.ty)
    (h0 : ∀ d, Rep (stOf arg14.view G14 d) ((D.sq (i 1).val d).state 0)) :
    ∀ k, k ≤ 2 → ∀ d, Rep (stOf arg14.view (arg14.view.writes (Elt Ideal) G14 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X7 X8 X9 X10 X11 G14 k)) d) ((D.sq (i 1).val d).state (128 * k)) := by
  intro k
  induction k with
  | zero => exact fun _ d => h0 d
  | succ k ih =>
    intro hk d
    have hs := ih (Nat.le_of_lt hk)
    rw [pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X7 X8 X9 X10 X11 G14 (⟨k, lt1 hk⟩ : Fin k0_t1_loop.trips),
      trip1_eq, stOf_writes]
    have h1 := fun d => (rep_ctxIns i arg7 arg8 arg9 arg10 arg11 D X7 X8 X9 X10 X11 hx7 hx8 hx9 hx10 hx11 ⟨k, lt1 hk⟩ d).state (hs d) 1 (le_refl 1)
    cases d
    · exact h1 false
    · exact h1 true

/-- The states stored in the first half. -/
theorem loop2_states (X2 : BufTy.Contents (Elt Ideal) arg2.view.ty)
    (X3 : BufTy.Contents (Elt Ideal) arg3.view.ty)
    (X4 : BufTy.Contents (Elt Ideal) arg4.view.ty)
    (X6 : BufTy.Contents (Elt Ideal) arg6.view.ty)
    (X10 : BufTy.Contents (Elt Ideal) arg10.view.ty)
    (X11 : BufTy.Contents (Elt Ideal) arg11.view.ty)
    (hx2 : ∀ R l, arg2.view.read (Elt Ideal) X2 (ix3 0 R l) = ((D.q R.val l : ℝ) : EReal))
    (hx3 : ∀ R l, arg3.view.read (Elt Ideal) X3 (ix3 0 R l) = ((D.k R.val l : ℝ) : EReal))
    (hx4 : ∀ R l, arg4.view.read (Elt Ideal) X4 (ix3 0 R l) = ((D.v R.val l : ℝ) : EReal))
    (hx6 : ∀ R l, arg6.view.read (Elt Ideal) X6 (ix3 0 R l) = ((D.z R.val l : ℝ) : EReal))
    (hx10 : ∀ d c l, arg10.view.read (Elt Ideal) X10 (ix4 0 (if d then 1 else 0) c l) = ((D.up d c l : ℝ) : EReal))
    (hx11 : ∀ d l, arg11.view.read (Elt Ideal) X11 (ix4 0 (if d then 1 else 0) 0 l) = ((D.bias d l : ℝ) : EReal)) (G14 : BufTy.Contents (Elt Ideal) arg14.view.ty) (G15 : BufTy.Contents (Elt Ideal) arg15.view.ty)
    (h0 : ∀ d, Rep (stOf arg14.view G14 d) ((D.sq (i 1).val d).state 256)) :
    ∀ k, k ≤ 2 → ∀ d, Rep (stOf arg14.view (arg14.view.writes (Elt Ideal) G14 (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 G14 G15 k).1) d) ((D.sq (i 1).val d).state (256 + 1024 * k)) := by
  intro k
  induction k with
  | zero => exact fun _ d => h0 d
  | succ k ih =>
    intro hk d
    have hs := ih (Nat.le_of_lt hk)
    rw [loop2_fst i arg2 harg2 arg3 harg3 arg4 harg4 arg5 harg5 arg6 harg6 arg7 harg7 arg8 harg8 arg9 harg9 arg10 harg10 arg11 harg11 arg12 harg12 arg13 harg13 arg14 harg14 arg15 harg15 c X2 X3 X4 X6 X10 X11 G14 G15 hk, stOf_writes]
    have h1 := fun d => (rep_ins2 i arg2 arg3 arg4 arg6 arg10 arg11 D X2 X3 X4 X6 X10 X11 hx2 hx3 hx4 hx6 hx10 hx11 ⟨k, lt2 hk⟩ d).1.state (hs d) 8 (le_refl 8)
    cases d
    · exact h1 false
    · exact h1 true

/-- The states stored in the second half. -/
theorem loop3_states (X2 : BufTy.Contents (Elt Ideal) arg2.view.ty)
    (X3 : BufTy.Contents (Elt Ideal) arg3.view.ty)
    (X4 : BufTy.Contents (Elt Ideal) arg4.view.ty)
    (X5 : BufTy.Contents (Elt Ideal) arg5.view.ty)
    (X6 : BufTy.Contents (Elt Ideal) arg6.view.ty)
    (X10 : BufTy.Contents (Elt Ideal) arg10.view.ty)
    (X11 : BufTy.Contents (Elt Ideal) arg11.view.ty)
    (X12 : BufTy.Contents (Elt Ideal) arg12.view.ty)
    (X15 : BufTy.Contents (Elt Ideal) arg15.view.ty)
    (hx2 : ∀ R l, arg2.view.read (Elt Ideal) X2 (ix3 0 R l) = ((D.q R.val l : ℝ) : EReal))
    (hx3 : ∀ R l, arg3.view.read (Elt Ideal) X3 (ix3 0 R l) = ((D.k R.val l : ℝ) : EReal))
    (hx4 : ∀ R l, arg4.view.read (Elt Ideal) X4 (ix3 0 R l) = ((D.v R.val l : ℝ) : EReal))
    (hx6 : ∀ R l, arg6.view.read (Elt Ideal) X6 (ix3 0 R l) = ((D.z R.val l : ℝ) : EReal))
    (hx10 : ∀ d c l, arg10.view.read (Elt Ideal) X10 (ix4 0 (if d then 1 else 0) c l) = ((D.up d c l : ℝ) : EReal))
    (hx11 : ∀ d l, arg11.view.read (Elt Ideal) X11 (ix4 0 (if d then 1 else 0) 0 l) = ((D.bias d l : ℝ) : EReal)) (G13 : BufTy.Contents (Elt Ideal) arg13.view.ty) (G14 : BufTy.Contents (Elt Ideal) arg14.view.ty)
    (h0 : ∀ d, Rep (stOf arg14.view G14 d) ((D.sq (i 1).val d).state (256 + 2048))) :
    ∀ k, k ≤ 2 → ∀ d, Rep (stOf arg14.view (arg14.view.writes (Elt Ideal) G14 (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 G13 G14 k).2) d) ((D.sq (i 1).val d).state (256 + (2048 + 1024 * k))) := by
  intro k
  induction k with
  | zero => exact fun _ d => h0 d
  | succ k ih =>
    intro hk d
    have hs := ih (Nat.le_of_lt hk)
    rw [loop3_snd i arg2 harg2 arg3 harg3 arg4 harg4 arg5 harg5 arg6 harg6 arg7 harg7 arg8 harg8 arg9 harg9 arg10 harg10 arg11 harg11 arg12 harg12 arg13 harg13 arg14 harg14 arg15 harg15 c X2 X3 X4 X5 X6 X10 X11 X12 X15 G13 G14 hk, stOf_writes]
    have h1 := fun d => (rep_ins3 i arg2 arg3 arg4 arg6 arg10 arg11 D X2 X3 X4 X6 X10 X11 hx2 hx3 hx4 hx6 hx10 hx11 ⟨k, lt3 hk⟩ d).1.state (hs d) 8 (le_refl 8)
    cases d
    · exact h1 false
    · exact h1 true

/-- A chunk's store of partial outputs holds what the first half leaves there. -/
theorem part2_agrees {o : Fin 8 → Fin 2 → ℕ} {h : ∀ n a, o n a + S128x128.size a ≤ S4096x128.size a} {x : ℕ → FVec Ideal S128x128 .f32}
    {n : ℕ} {b : Fin 8 → ℕ} (ho : ∀ u, o u = ![b u, 0]) {f : ℕ → Fin 128 → ℝ} (hx : Rep (x n) fun r w => f (b (nth n) + r.val) w)
    (z : (part2 o h x n).1.shape.Idx) :
    (part2 o h x n).2 z = ((f ((part2 o h x n).1.emb z 0).val ((part2 o h x n).1.emb z 1) : ℝ) : EReal) := by
  obtain ⟨r, w, rfl⟩ : ∃ r w : Fin 128, z = ix2 r w := ⟨z 0, z 1, by funext a; fin_cases a <;> rfl⟩
  have h1 : (part2 o h x n).2 (ix2 r w) = x n (ix2 r w) := by
    show shapeCast S128x128 (x n) shapeCasts_S128x128_S128x128 (ix2 r w) = _
    pointwise
  rw [h1, hx r w]
  have e0 : ((part2 o h x n).1.emb (ix2 r w) 0).val = b (nth n) + r.val := by
    show o (nth n) 0 + 1 * r.val = _
    rw [ho, Nat.one_mul]; rfl
  have e1 : (part2 o h x n).1.emb (ix2 r w) 1 = w := by
    apply Fin.ext
    show o (nth n) 1 + 1 * w.val = _
    rw [ho, Nat.one_mul]; exact Nat.zero_add _
  rw [e0, e1]

/-- Every store of the first half holds what the half leaves there. -/
theorem loop2_agrees (X2 : BufTy.Contents (Elt Ideal) arg2.view.ty)
    (X3 : BufTy.Contents (Elt Ideal) arg3.view.ty)
    (X4 : BufTy.Contents (Elt Ideal) arg4.view.ty)
    (X6 : BufTy.Contents (Elt Ideal) arg6.view.ty)
    (X10 : BufTy.Contents (Elt Ideal) arg10.view.ty)
    (X11 : BufTy.Contents (Elt Ideal) arg11.view.ty)
    (hx2 : ∀ R l, arg2.view.read (Elt Ideal) X2 (ix3 0 R l) = ((D.q R.val l : ℝ) : EReal))
    (hx3 : ∀ R l, arg3.view.read (Elt Ideal) X3 (ix3 0 R l) = ((D.k R.val l : ℝ) : EReal))
    (hx4 : ∀ R l, arg4.view.read (Elt Ideal) X4 (ix3 0 R l) = ((D.v R.val l : ℝ) : EReal))
    (hx6 : ∀ R l, arg6.view.read (Elt Ideal) X6 (ix3 0 R l) = ((D.z R.val l : ℝ) : EReal))
    (hx10 : ∀ d c l, arg10.view.read (Elt Ideal) X10 (ix4 0 (if d then 1 else 0) c l) = ((D.up d c l : ℝ) : EReal))
    (hx11 : ∀ d l, arg11.view.read (Elt Ideal) X11 (ix4 0 (if d then 1 else 0) 0 l) = ((D.bias d l : ℝ) : EReal)) (G14 : BufTy.Contents (Elt Ideal) arg14.view.ty) (G15 : BufTy.Contents (Elt Ideal) arg15.view.ty)
    (h0 : ∀ d, Rep (stOf arg14.view G14 d) ((D.sq (i 1).val d).state 256)) :
    ∀ k, k ≤ 2 → ∀ p ∈ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 G14 G15 k).2, ∀ z : p.1.shape.Idx, p.2 z = ((D.half (i 1).val (p.1.emb z 0).val (p.1.emb z 1) : ℝ) : EReal) := by
  intro k
  induction k with
  | zero => exact fun _ p hp => absurd hp List.not_mem_nil
  | succ k ih =>
    intro hk p hp z
    have hs := loop2_states i arg2 harg2 arg3 harg3 arg4 harg4 arg5 harg5 arg6 harg6 arg7 harg7 arg8 harg8 arg9 harg9 arg10 harg10 arg11 harg11 arg12 harg12 arg13 harg13 arg14 harg14 arg15 harg15 c D X2 X3 X4 X6 X10 X11 hx2 hx3 hx4 hx6 hx10 hx11 G14 G15 h0 k (Nat.le_of_lt hk)
    rw [loop2_snd i arg2 harg2 arg3 harg3 arg4 harg4 arg5 harg5 arg6 harg6 arg7 harg7 arg8 harg8 arg9 harg9 arg10 harg10 arg11 harg11 arg12 harg12 arg13 harg13 arg14 harg14 arg15 harg15 c X2 X3 X4 X6 X10 X11 G14 G15 hk, List.mem_append] at hp
    rcases hp with hp | hp
    · have hr := fun d => rep_ins2 i arg2 arg3 arg4 arg6 arg10 arg11 D X2 X3 X4 X6 X10 X11 hx2 hx3 hx4 hx6 hx10 hx11 ⟨k, lt2 hk⟩ d
      unfold stores2 at hp
      refine parts2_all (P := fun p => ∀ z : p.1.shape.Idx, p.2 z = ((D.half (i 1).val (p.1.emb z 0).val (p.1.emb z 1) : ℝ) : EReal)) ?_ ?_ p hp z
      · intro n hn
        refine part2_agrees (off5 ⟨k, lt2 hk⟩) (f := D.half (i 1).val) (fun r w => ?_)
        refine ((hr false).1.out (hs false) n hn ((hr false).2 n hn) r w).trans (congrArg Real.toEReal ?_)
        have hr := r.isLt
        have hn' : (nth n).val = n := Nat.mod_eq_of_lt hn
        show (D.sq (i 1).val false).out _ w = D.half (i 1).val (1024 * k + 128 * (nth n).val + r.val) w
        rw [Data.half, if_pos (by omega), Data.o, hn']
        congr 1
        simp only [at', ord, Bool.false_eq_true, if_false]
        omega
      · intro n hn
        refine part2_agrees (off6 ⟨k, lt2 hk⟩) (f := D.half (i 1).val) (fun r w => ?_)
        refine ((hr true).1.out (hs true) n hn ((hr true).2 n hn) r w).trans (congrArg Real.toEReal ?_)
        have hr := r.isLt
        have hn' : (nth n).val = n := Nat.mod_eq_of_lt hn
        show (D.sq (i 1).val true).out _ w = D.half (i 1).val (3968 - (1024 * k + 128 * (nth n).val) + r.val) w
        rw [Data.half, if_neg (by omega), Data.o, hn']
        congr 1
        simp only [at', ord, if_true, Fin.val_rev]
        omega
    · exact ih (Nat.le_of_lt hk) p hp z

/-- A chunk's store of the result holds the result. -/
theorem part3_agrees {o : Fin 8 → Fin 3 → ℕ} {h : ∀ n a, o n a + S1x128x128.size a ≤ S1x4096x128.size a}
    {o' : Fin 8 → Fin 2 → ℕ} {h' : ∀ n a, o' n a + S128x128.size a ≤ S4096x128.size a}
    (X5 : BufTy.Contents (Elt Ideal) arg5.view.ty)
    (X12 : BufTy.Contents (Elt Ideal) arg12.view.ty)
    (X15 : BufTy.Contents (Elt Ideal) arg15.view.ty)
    (hx5 : ∀ R l, arg5.view.read (Elt Ideal) X5 (ix3 0 R l) = ((D.gg R.val l : ℝ) : EReal))
    (hx12 : ∀ l, arg12.view.read (Elt Ideal) X12 (ix2 0 l) = ((D.gain l : ℝ) : EReal))
    (hx15 : ∀ R w, arg15.view.read (Elt Ideal) X15 (ix2 R w) = ((D.half (i 1).val R.val w : ℝ) : EReal))
    {x : ℕ → FVec Ideal S128x128 .f32} {n : ℕ} {b : Fin 8 → ℕ} (ho : ∀ u, o u = ![0, b u, 0]) (ho' : ∀ u, o' u = ![b u, 0])
    {f : ℕ → Fin 128 → ℝ} (hx : Rep (x n) fun r w => f (b (nth n) + r.val) w)
    (hf : ∀ r : Fin 128, ∀ w, D.half (i 1).val (b (nth n) + r.val) w + f (b (nth n) + r.val) w
      = D.o (i 1).val false (b (nth n) + r.val) w + D.o (i 1).val true (b (nth n) + r.val) w)
    (z : (part3 arg5 arg12 arg15 o h o' h' X5 X12 X15 x n).1.shape.Idx) :
    (part3 arg5 arg12 arg15 o h o' h' X5 X12 X15 x n).2 z
      = D.result (i 1).val ((part3 arg5 arg12 arg15 o h o' h' X5 X12 X15 x n).1.emb z 1).val ((part3 arg5 arg12 arg15 o h o' h' X5 X12 X15 x n).1.emb z 2) := by
  obtain ⟨r, w, rfl⟩ : ∃ r w : Fin 128, z = ix3 0 r w := ⟨z 1, z 2, by
    funext a
    match a with
    | 0 => exact Fin.ext (Nat.lt_one_iff.1 (z 0).isLt)
    | 1 => rfl
    | 2 => rfl⟩
  have hb : ∀ u, b u + 128 ≤ 4096 := fun u => by have := h' u 0; rw [ho'] at this; exact this
  have ha : Rep (ty := .f32) (arg15.view.readAt (Elt Ideal) (Rect.unit (s := S4096x128) (o' (nth n)) S128x128.size (h' (nth n))).toLoadRect X15)
      fun r w => D.half (i 1).val (b (nth n) + r.val) w := by
    intro r w
    have hr := r.isLt
    refine Eq.trans (congrArg (arg15.view.read (Elt Ideal) X15) ?_) (hx15 ⟨b (nth n) + r.val, by have := hb (nth n); omega⟩ w)
    funext a
    apply Fin.ext
    match a with
    | 0 => show o' (nth n) 0 + 1 * r.val = b (nth n) + r.val; rw [ho', Nat.one_mul]; rfl
    | 1 => show o' (nth n) 1 + 1 * w.val = w.val; rw [ho', Nat.one_mul]; exact Nat.zero_add _
  have hg : RepRow (arg12.view.readAt (Elt Ideal) (Rect.unit (s := S1x128) ![0, 0] S1x128.size inb_S1x128_S1x128_0_0).toLoadRect X12) D.gain := by
    intro l
    refine Eq.trans (congrArg (arg12.view.read (Elt Ideal) X12) ?_) (hx12 l)
    funext a
    apply Fin.ext
    match a with
    | 0 => rfl
    | 1 => show 0 + 1 * l.val = l.val; omega
  refine (rep_finish ha hx (rep_blk hx5 (ho (nth n))) hg r w).trans ?_
  have e0 : ((part3 arg5 arg12 arg15 o h o' h' X5 X12 X15 x n).1.emb (ix3 0 r w) 1).val = b (nth n) + r.val := by
    show o (nth n) 1 + 1 * r.val = _
    rw [ho, Nat.one_mul]; rfl
  have e1 : (part3 arg5 arg12 arg15 o h o' h' X5 X12 X15 x n).1.emb (ix3 0 r w) 2 = w := by
    apply Fin.ext
    show o (nth n) 2 + 1 * w.val = _
    rw [ho, Nat.one_mul]; exact Nat.zero_add _
  rw [e0, e1]
  unfold Data.result
  congr 1
  funext u
  exact hf r u

/-- Every store of the result holds the result. -/
theorem loop3_agrees (X2 : BufTy.Contents (Elt Ideal) arg2.view.ty)
    (X3 : BufTy.Contents (Elt Ideal) arg3.view.ty)
    (X4 : BufTy.Contents (Elt Ideal) arg4.view.ty)
    (X5 : BufTy.Contents (Elt Ideal) arg5.view.ty)
    (X6 : BufTy.Contents (Elt Ideal) arg6.view.ty)
    (X10 : BufTy.Contents (Elt Ideal) arg10.view.ty)
    (X11 : BufTy.Contents (Elt Ideal) arg11.view.ty)
    (X12 : BufTy.Contents (Elt Ideal) arg12.view.ty)
    (X15 : BufTy.Contents (Elt Ideal) arg15.view.ty)
    (hx2 : ∀ R l, arg2.view.read (Elt Ideal) X2 (ix3 0 R l) = ((D.q R.val l : ℝ) : EReal))
    (hx3 : ∀ R l, arg3.view.read (Elt Ideal) X3 (ix3 0 R l) = ((D.k R.val l : ℝ) : EReal))
    (hx4 : ∀ R l, arg4.view.read (Elt Ideal) X4 (ix3 0 R l) = ((D.v R.val l : ℝ) : EReal))
    (hx5 : ∀ R l, arg5.view.read (Elt Ideal) X5 (ix3 0 R l) = ((D.gg R.val l : ℝ) : EReal))
    (hx6 : ∀ R l, arg6.view.read (Elt Ideal) X6 (ix3 0 R l) = ((D.z R.val l : ℝ) : EReal))
    (hx10 : ∀ d c l, arg10.view.read (Elt Ideal) X10 (ix4 0 (if d then 1 else 0) c l) = ((D.up d c l : ℝ) : EReal))
    (hx11 : ∀ d l, arg11.view.read (Elt Ideal) X11 (ix4 0 (if d then 1 else 0) 0 l) = ((D.bias d l : ℝ) : EReal))
    (hx12 : ∀ l, arg12.view.read (Elt Ideal) X12 (ix2 0 l) = ((D.gain l : ℝ) : EReal))
    (hx15 : ∀ R w, arg15.view.read (Elt Ideal) X15 (ix2 R w) = ((D.half (i 1).val R.val w : ℝ) : EReal)) (G13 : BufTy.Contents (Elt Ideal) arg13.view.ty) (G14 : BufTy.Contents (Elt Ideal) arg14.view.ty)
    (h0 : ∀ d, Rep (stOf arg14.view G14 d) ((D.sq (i 1).val d).state (256 + 2048))) :
    ∀ k, k ≤ 2 → ∀ p ∈ (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 G13 G14 k).1, ∀ z : p.1.shape.Idx, p.2 z = D.result (i 1).val (p.1.emb z 1).val (p.1.emb z 2) := by
  intro k
  induction k with
  | zero => exact fun _ p hp => absurd hp List.not_mem_nil
  | succ k ih =>
    intro hk p hp z
    have hs := loop3_states i arg2 harg2 arg3 harg3 arg4 harg4 arg5 harg5 arg6 harg6 arg7 harg7 arg8 harg8 arg9 harg9 arg10 harg10 arg11 harg11 arg12 harg12 arg13 harg13 arg14 harg14 arg15 harg15 c D X2 X3 X4 X5 X6 X10 X11 X12 X15 hx2 hx3 hx4 hx6 hx10 hx11 G13 G14 h0 k (Nat.le_of_lt hk)
    rw [loop3_fst i arg2 harg2 arg3 harg3 arg4 harg4 arg5 harg5 arg6 harg6 arg7 harg7 arg8 harg8 arg9 harg9 arg10 harg10 arg11 harg11 arg12 harg12 arg13 harg13 arg14 harg14 arg15 harg15 c X2 X3 X4 X5 X6 X10 X11 X12 X15 G13 G14 hk, List.mem_append] at hp
    rcases hp with hp | hp
    · have hr := fun d => rep_ins3 i arg2 arg3 arg4 arg6 arg10 arg11 D X2 X3 X4 X6 X10 X11 hx2 hx3 hx4 hx6 hx10 hx11 ⟨k, lt3 hk⟩ d
      unfold stores3 at hp
      refine parts3_all (P := fun p => ∀ z : p.1.shape.Idx, p.2 z = D.result (i 1).val (p.1.emb z 1).val (p.1.emb z 2)) ?_ ?_ p hp z
      · intro n hn
        refine part3_agrees i arg5 arg12 arg15 D X5 X12 X15 hx5 hx12 hx15 (off7 ⟨k, lt3 hk⟩) (off9 ⟨k, lt3 hk⟩)
          (f := D.o (i 1).val false) (fun r w => ?_) (fun r w => ?_)
        · refine ((hr false).1.out (hs false) n hn ((hr false).2 n hn) r w).trans (congrArg Real.toEReal ?_)
          have hr := r.isLt
          have hn' : (nth n).val = n := Nat.mod_eq_of_lt hn
          show (D.sq (i 1).val false).out _ w = D.o (i 1).val false (2048 + 1024 * k + 128 * (nth n).val + r.val) w
          rw [Data.o, hn']
          congr 1
          simp only [at', ord, Bool.false_eq_true, if_false]
          omega
        · have hr := r.isLt
          have hn' : (nth n).val = n := Nat.mod_eq_of_lt hn
          show D.half (i 1).val (2048 + 1024 * k + 128 * (nth n).val + r.val) w + _ = _
          rw [Data.half, if_neg (by omega), add_comm]
      · intro n hn
        refine part3_agrees i arg5 arg12 arg15 D X5 X12 X15 hx5 hx12 hx15 (off8 ⟨k, lt3 hk⟩) (off10 ⟨k, lt3 hk⟩)
          (f := D.o (i 1).val true) (fun r w => ?_) (fun r w => ?_)
        · refine ((hr true).1.out (hs true) n hn ((hr true).2 n hn) r w).trans (congrArg Real.toEReal ?_)
          have hr := r.isLt
          have hn' : (nth n).val = n := Nat.mod_eq_of_lt hn
          show (D.sq (i 1).val true).out _ w = D.o (i 1).val true (1920 - (1024 * k + 128 * (nth n).val) + r.val) w
          rw [Data.o, hn']
          congr 1
          simp only [at', ord, if_true, Fin.val_rev]
          omega
        · have hr := r.isLt
          have hn' : (nth n).val = n := Nat.mod_eq_of_lt hn
          show D.half (i 1).val (1920 - (1024 * k + 128 * (nth n).val) + r.val) w + _ = _
          rw [Data.half, if_pos (by omega)]
    · exact ih (Nat.le_of_lt hk) p hp z

end loops

end Cert.Gla

end
-- ==== Proof.KernelIdealLoops.lean ====
module

public import proofs.«01_k».proof.Proof.Gen.KernelIdeal.Frame.Runs

@[expose] public section

set_option maxRecDepth 16384

noncomputable section

namespace Cert.KernelIdeal.Gla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-! The body of the kernel, run once: what it leaves in its output does not depend on what its scratch and its output
held before. -/

section trips

variable (c : Dev nD) (i : grid0.Coords)
    (arg2 : Memref sig .tc .vmem S1x4096x128 .f32) (harg2 : arg2.IsWhole)
    (arg3 : Memref sig .tc .vmem S1x4096x128 .f32) (harg3 : arg3.IsWhole)
    (arg4 : Memref sig .tc .vmem S1x4096x128 .f32) (harg4 : arg4.IsWhole)
    (arg5 : Memref sig .tc .vmem S1x4096x128 .f32) (harg5 : arg5.IsWhole)
    (arg6 : Memref sig .tc .vmem S1x4096x128 .f32) (harg6 : arg6.IsWhole)
    (arg7 : Memref sig .tc .vmem S1x256x128 .f32) (harg7 : arg7.IsWhole)
    (arg8 : Memref sig .tc .vmem S1x256x128 .f32) (harg8 : arg8.IsWhole)
    (arg9 : Memref sig .tc .vmem S1x256x128 .f32) (harg9 : arg9.IsWhole)
    (arg10 : Memref sig .tc .vmem S1x2x128x128 .bf16) (harg10 : arg10.IsWhole)
    (arg11 : Memref sig .tc .vmem S1x2x1x128 .f32) (harg11 : arg11.IsWhole)
    (arg12 : Memref sig .tc .vmem S1x128 .f32) (harg12 : arg12.IsWhole)
    (arg13 : Memref sig .tc .vmem S1x4096x128 .bf16) (harg13 : arg13.IsWhole)
    (arg14 : Memref sig .tc .vmem S2x128x128 .f32) (harg14 : arg14.IsWhole)
    (arg15 : Memref sig .tc .vmem S4096x128 .f32) (harg15 : arg15.IsWhole)

/-- What a trip of the first loop over the latents stores does not depend on what the partial outputs held. -/
theorem trip2_indep (X2 : BufTy.Contents (Elt F) arg2.view.ty) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty)
    (k : Fin k0_t2_loop.trips) (f14 : BufTy.Contents (Elt F) arg14.view.ty) (f f' : BufTy.Contents (Elt F) arg15.view.ty) :
    tripL_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 k f14 f
      = tripL_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 k f14 f' := by
  unfold tripL_k0_t2 trip_k0_t2
  dsimp only

/-- What a trip of the second loop over the latents stores does not depend on what the output held. -/
theorem trip3_indep (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X10 : BufTy.Contents (Elt F) arg10.view.ty) (X11 : BufTy.Contents (Elt F) arg11.view.ty) (X12 : BufTy.Contents (Elt F) arg12.view.ty) (X15 : BufTy.Contents (Elt F) arg15.view.ty)
    (k : Fin k0_t3_loop.trips) (f f' : BufTy.Contents (Elt F) arg13.view.ty) (f14 : BufTy.Contents (Elt F) arg14.view.ty) :
    tripL_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 k f f14
      = tripL_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 k f' f14 := by
  unfold tripL_k0_t3 trip_k0_t3
  dsimp only

/-- The stores of the first loop over the latents, all trips, do not depend on what the partial outputs held. -/
theorem loop2_indep (X2 : BufTy.Contents (Elt F) arg2.view.ty) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty)
    (f14 : BufTy.Contents (Elt F) arg14.view.ty) (f f' : BufTy.Contents (Elt F) arg15.view.ty) (n : ℕ)
    (hn : n ≤ k0_t2_loop.trips) :
    pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 f14 f n
      = pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 f14 f' n := by
  induction n with
  | zero => rfl
  | succ n ih =>
    have h := pb_k0_t2_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 f14 f ⟨n, hn⟩
    have h' := pb_k0_t2_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 f14 f' ⟨n, hn⟩
    have e : pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 f14 f (⟨n, hn⟩ : Fin k0_t2_loop.trips).val
        = pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 f14 f' (⟨n, hn⟩ : Fin k0_t2_loop.trips).val := ih (Nat.le_of_succ_le hn)
    refine h.trans (Eq.trans ?_ h'.symm)
    rw [e, trip2_indep c i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 _ _ _ (arg15.view.writes (Elt F) f' (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 f14 f' n).2)]

/-- The stores of the second loop over the latents, all trips, do not depend on what the output held. -/
theorem loop3_indep (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X10 : BufTy.Contents (Elt F) arg10.view.ty) (X11 : BufTy.Contents (Elt F) arg11.view.ty) (X12 : BufTy.Contents (Elt F) arg12.view.ty) (X15 : BufTy.Contents (Elt F) arg15.view.ty)
    (f f' : BufTy.Contents (Elt F) arg13.view.ty) (f14 : BufTy.Contents (Elt F) arg14.view.ty) (n : ℕ)
    (hn : n ≤ k0_t3_loop.trips) :
    pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 f f14 n
      = pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 f' f14 n := by
  induction n with
  | zero => rfl
  | succ n ih =>
    have h := pb_k0_t3_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 f f14 ⟨n, hn⟩
    have h' := pb_k0_t3_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 f' f14 ⟨n, hn⟩
    have e : pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 f f14 (⟨n, hn⟩ : Fin k0_t3_loop.trips).val
        = pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 f' f14 (⟨n, hn⟩ : Fin k0_t3_loop.trips).val := ih (Nat.le_of_succ_le hn)
    refine h.trans (Eq.trans ?_ h'.symm)
    rw [e, trip3_indep c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 _ _ (arg13.view.writes (Elt F) f' (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X10 X11 X12 X15 f' f14 n).1)]

/-- The first loop over the latents stores every row of the partial outputs. -/
theorem loop2_cover (X2 : BufTy.Contents (Elt F) arg2.view.ty) (X3 : BufTy.Contents (Elt F) arg3.view.ty) (X4 : BufTy.Contents (Elt F) arg4.view.ty) (X6 : BufTy.Contents (Elt F) arg6.view.ty) (X10 : BufTy.Contents (Elt F) arg10.view.ty) (X11 : BufTy.Contents (Elt F) arg11.view.ty)
    (f14 : BufTy.Contents (Elt F) arg14.view.ty) (f : BufTy.Contents (Elt F) arg15.view.ty) (y : S4096x128.Idx) :
    ∃ p ∈ (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 f14 f k0_t2_loop.trips).2, y ∈ p.1.set :=
  View.cover_of_tiledL (s := S4096x128) (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 X2 X3 X4 X6 X10 X11 f14 f k0_t2_loop.trips).2 S128x128.size (by sl_kernel_rfl) y

end trips

end Cert.KernelIdeal.Gla

end
-- ==== Proof.KernelIdealBody.lean ====
module

public import proofs.«01_k».proof.Proof.KernelIdealLoops

@[expose] public section

set_option maxRecDepth 16384

noncomputable section

namespace Cert.KernelIdeal.Gla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-! The body of the kernel run once, from its staged blocks. -/

section body

variable (c : Dev nD) (i : grid0.Coords)
    (arg2 : Memref sig .tc .vmem S1x4096x128 .f32) (harg2 : arg2.IsWhole)
    (arg3 : Memref sig .tc .vmem S1x4096x128 .f32) (harg3 : arg3.IsWhole)
    (arg4 : Memref sig .tc .vmem S1x4096x128 .f32) (harg4 : arg4.IsWhole)
    (arg5 : Memref sig .tc .vmem S1x4096x128 .f32) (harg5 : arg5.IsWhole)
    (arg6 : Memref sig .tc .vmem S1x4096x128 .f32) (harg6 : arg6.IsWhole)
    (arg7 : Memref sig .tc .vmem S1x256x128 .f32) (harg7 : arg7.IsWhole)
    (arg8 : Memref sig .tc .vmem S1x256x128 .f32) (harg8 : arg8.IsWhole)
    (arg9 : Memref sig .tc .vmem S1x256x128 .f32) (harg9 : arg9.IsWhole)
    (arg10 : Memref sig .tc .vmem S1x2x128x128 .bf16) (harg10 : arg10.IsWhole)
    (arg11 : Memref sig .tc .vmem S1x2x1x128 .f32) (harg11 : arg11.IsWhole)
    (arg12 : Memref sig .tc .vmem S1x128 .f32) (harg12 : arg12.IsWhole)
    (arg13 : Memref sig .tc .vmem S1x4096x128 .bf16) (harg13 : arg13.IsWhole)
    (arg14 : Memref sig .tc .vmem S2x128x128 .f32) (harg14 : arg14.IsWhole)
    (arg15 : Memref sig .tc .vmem S4096x128 .f32) (harg15 : arg15.IsWhole)
    (x0 : Vec F S1x4096x128 .f32) (x1 : Vec F S1x4096x128 .f32) (x2 : Vec F S1x4096x128 .f32) (x3 : Vec F S1x4096x128 .f32) (x4 : Vec F S1x4096x128 .f32) (x5 : Vec F S1x256x128 .f32) (x6 : Vec F S1x256x128 .f32) (x7 : Vec F S1x256x128 .f32) (x8 : Vec F S1x2x128x128 .bf16) (x9 : Vec F S1x2x1x128 .f32) (x10 : Vec F S1x128 .f32)

set_option maxHeartbeats 4000000 in
/-- The stores into the output that the body makes, given what the output and the partial outputs held before, and
that the body, holding its staged blocks, runs and leaves the output with those stores made. -/
def storesFrom :
    { L : BufTy.Contents (Elt F) arg13.view.ty → BufTy.Contents (Elt F) arg15.view.ty → List (View.Piece (Elt F) S1x4096x128 .bf16) //
      ∀ (E : Set ℕ) (K : PUnit → sProp 𝕄) (f13 : BufTy.Contents (Elt F) arg13.view.ty) (f15 : BufTy.Contents (Elt F) arg15.view.ty),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ (arg13.view.loc (c : Thread nD τ) ↦[arg13.view.set]{fullShare} f13) ∗ (∃ d, owns (c : Thread nD τ) arg14 fullShare d)
            ∗ (arg15.view.loc (c : Thread nD τ) ↦[arg15.view.set]{fullShare} f15)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
              ∗ (arg13.view.loc (c : Thread nD τ) ↦[arg13.view.set]{fullShare} arg13.view.writes (Elt F) f13 (L f13 f15))
              ∗ (∃ d, owns (c : Thread nD τ) arg14 fullShare d) ∗ (∃ d, owns (c : Thread nD τ) arg15 fullShare d)) -∗ K ⟨⟩))
          ⊢ wp frame (wpE (defs₀ (F := F)) Variants.none c none) E (cc0_gla i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K f13 f15 => ?run⟩
  case run =>
    simp only [cc0_gla_eq_skeleton]; unfold cc0_gla_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, H11, ⟨%ds0, %fs0, -, HS0⟩, HS1, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexact H11
    isplitl [HS0]
    · iexists _, _; isplitr; swap; · iexact HS0
      ipureintro; rfl
    iexists _, _; isplitr; swap; · iexact HS1
    ipureintro; rfl

/-- The stores into the output, whatever it and the partial outputs held before. -/
def stores : List (View.Piece (Elt F) S1x4096x128 .bf16) :=
  (storesFrom c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10).1 arg13.view.junk arg15.view.junk

/-- The stores do not depend on what the output and the partial outputs held. -/
theorem storesFrom_eq (f13 : BufTy.Contents (Elt F) arg13.view.ty) (f15 : BufTy.Contents (Elt F) arg15.view.ty) :
    (storesFrom c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10).1 f13 f15 = stores c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 := by
  unfold stores storesFrom
  dsimp only
  rw [loop2_indep (f := f15) (f' := arg15.view.junk) (hn := le_rfl)]
  rw [harg15.eq_unread (f := arg15.view.writes (Elt F) f15 _)
    (View.read_writes_of_cover arg15.view f15 arg15.view arg15.view.junk _ (loop2_cover c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _)),
    ← harg15.eq_unread rfl]
  rw [loop3_indep (f := f13) (f' := arg13.view.junk) (hn := le_rfl)]

end body

end Cert.KernelIdeal.Gla

end
-- ==== Proof.KernelIdealFrame.lean ====
module

public import proofs.«01_k».proof.Proof.KernelIdealBody
public import Idealize.ShloMosaic.Lib.Claim

@[expose] public section

set_option maxRecDepth 16384

noncomputable section

namespace Cert.KernelIdeal.Gla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! The kernel runs: the pipeline's proof data, the body at every point of the grid, and the arguments left as they were. -/

section body

variable (c : Dev nD) (i : grid0.Coords)
    (arg2 : Memref sig .tc .vmem S1x4096x128 .f32) (harg2 : arg2.IsWhole)
    (arg3 : Memref sig .tc .vmem S1x4096x128 .f32) (harg3 : arg3.IsWhole)
    (arg4 : Memref sig .tc .vmem S1x4096x128 .f32) (harg4 : arg4.IsWhole)
    (arg5 : Memref sig .tc .vmem S1x4096x128 .f32) (harg5 : arg5.IsWhole)
    (arg6 : Memref sig .tc .vmem S1x4096x128 .f32) (harg6 : arg6.IsWhole)
    (arg7 : Memref sig .tc .vmem S1x256x128 .f32) (harg7 : arg7.IsWhole)
    (arg8 : Memref sig .tc .vmem S1x256x128 .f32) (harg8 : arg8.IsWhole)
    (arg9 : Memref sig .tc .vmem S1x256x128 .f32) (harg9 : arg9.IsWhole)
    (arg10 : Memref sig .tc .vmem S1x2x128x128 .bf16) (harg10 : arg10.IsWhole)
    (arg11 : Memref sig .tc .vmem S1x2x1x128 .f32) (harg11 : arg11.IsWhole)
    (arg12 : Memref sig .tc .vmem S1x128 .f32) (harg12 : arg12.IsWhole)
    (arg13 : Memref sig .tc .vmem S1x4096x128 .bf16) (harg13 : arg13.IsWhole)
    (arg14 : Memref sig .tc .vmem S2x128x128 .f32) (harg14 : arg14.IsWhole)
    (arg15 : Memref sig .tc .vmem S4096x128 .f32) (harg15 : arg15.IsWhole)
    (x0 : Vec F S1x4096x128 .f32) (x1 : Vec F S1x4096x128 .f32) (x2 : Vec F S1x4096x128 .f32) (x3 : Vec F S1x4096x128 .f32) (x4 : Vec F S1x4096x128 .f32) (x5 : Vec F S1x256x128 .f32) (x6 : Vec F S1x256x128 .f32) (x7 : Vec F S1x256x128 .f32) (x8 : Vec F S1x2x128x128 .bf16) (x9 : Vec F S1x2x1x128 .f32) (x10 : Vec F S1x128 .f32)

/-- The body's stores reach every element of the output's block. -/
theorem stores_cover (y : S1x4096x128.Idx) : ∃ p ∈ stores c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10, y ∈ p.1.set :=
  View.cover_of_tiledL (s := S1x4096x128) (stores c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10) S1x128x128.size (by sl_kernel_rfl) y

/-- The output's block after the body. -/
def outBlock : Vec F S1x4096x128 .bf16 :=
  VO0_11.read (Elt F) (VO0_11.writes (Elt F) VO0_11.junk (stores c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10))

/-- The body, holding its staged blocks and its scratch at anything, leaves its output at `outBlock`. -/
theorem body_leaves (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d)
        ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (outBlock c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10)
          ∗ (∃ d, owns (c : Thread nD τ) arg14 fullShare d) ∗ (∃ d, owns (c : Thread nD τ) arg15 fullShare d)) -∗ K ⟨⟩))
      ⊢ wp frame (wpE (defs₀ (F := F)) Variants.none c none) E (cc0_gla i arg2 harg2 arg3 harg3 arg4 harg4 arg5 harg5 arg6 harg6 arg7 harg7 arg8 harg8 arg9 harg9 arg10 harg10 arg11 harg11 arg12 harg12 arg13 harg13 arg14 harg14 arg15 harg15) K := by
  have h := (storesFrom c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10).2 E K
  simp only [storesFrom_eq] at h
  have hc := stores_cover c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10
  unfold outBlock
  unfold owns at h ⊢
  iintro ⟨H0, H1, H2, H3, H4, H5, H6, H7, H8, H9, H10, ⟨%d11, %f11, -, H11⟩, HS0, ⟨%d15, %f15, -, HS1⟩, Hk⟩
  iapply (h f11 f15)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, H8, H9, H10, H11, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr
    swap; · iexact H11
    ipureintro; exact View.read_writes_of_cover _ _ _ _ _ hc
  isplitl [HS0]; · iexact HS0
  iexact HS1

end body

variable (m : (ℓ : Loc nD τ sig) → Buf (Elt F) ℓ) (ρ : Dev nD → PrngReg)

/-- What the output's block holds after the body at a point of the grid. -/
def leaves (c : Dev nD) (t : Fin cfg0.N) : Vec F S1x4096x128 .bf16 :=
  outBlock c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The pipeline's proof data: the arrays as the host left them, each input's block, and the body's output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => leaves m c t
  Φ _ := Pipeline.ΦA spec0 c
  q w := Pipeline.shareOf spec0 w
  owed _ := 0

/-- The arrays at entry are what the host left. -/
theorem entry_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = leaves m c t := by dsimp only [dats]
theorem before_0 (c : Dev nD) (t : Fin cfg0.N) (d) : (dats m 0 c).before 0 t d = iblk m c 0 t :=
  before0_0_of m (dats m 0 c) (entry_eq m c 0) (after_0 m c) t d
theorem before_1 (c : Dev nD) (t : Fin cfg0.N) (d) : (dats m 0 c).before 1 t d = iblk m c 1 t :=
  before0_1_of m (dats m 0 c) (entry_eq m c 1) (after_1 m c) t d
theorem before_2 (c : Dev nD) (t : Fin cfg0.N) (d) : (dats m 0 c).before 2 t d = iblk m c 2 t :=
  before0_2_of m (dats m 0 c) (entry_eq m c 2) (after_2 m c) t d
theorem before_3 (c : Dev nD) (t : Fin cfg0.N) (d) : (dats m 0 c).before 3 t d = iblk m c 3 t :=
  before0_3_of m (dats m 0 c) (entry_eq m c 3) (after_3 m c) t d
theorem before_4 (c : Dev nD) (t : Fin cfg0.N) (d) : (dats m 0 c).before 4 t d = iblk m c 4 t :=
  before0_4_of m (dats m 0 c) (entry_eq m c 4) (after_4 m c) t d
theorem before_5 (c : Dev nD) (t : Fin cfg0.N) (d) : (dats m 0 c).before 5 t d = iblk m c 5 t :=
  before0_5_of m (dats m 0 c) (entry_eq m c 5) (after_5 m c) t d
theorem before_6 (c : Dev nD) (t : Fin cfg0.N) (d) : (dats m 0 c).before 6 t d = iblk m c 6 t :=
  before0_6_of m (dats m 0 c) (entry_eq m c 6) (after_6 m c) t d
theorem before_7 (c : Dev nD) (t : Fin cfg0.N) (d) : (dats m 0 c).before 7 t d = iblk m c 7 t :=
  before0_7_of m (dats m 0 c) (entry_eq m c 7) (after_7 m c) t d
theorem before_8 (c : Dev nD) (t : Fin cfg0.N) (d) : (dats m 0 c).before 8 t d = iblk m c 8 t :=
  before0_8_of m (dats m 0 c) (entry_eq m c 8) (after_8 m c) t d
theorem before_9 (c : Dev nD) (t : Fin cfg0.N) (d) : (dats m 0 c).before 9 t d = iblk m c 9 t :=
  before0_9_of m (dats m 0 c) (entry_eq m c 9) (after_9 m c) t d
theorem before_10 (c : Dev nD) (t : Fin cfg0.N) (d) : (dats m 0 c).before 10 t d = iblk m c 10 t :=
  before0_10_of m (dats m 0 c) (entry_eq m c 10) (after_10 m c) t d

/-- What the body is given at a point. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)))

/-- What the body gives back at a point. -/
def back (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t))

set_option maxHeartbeats 1200000 in
/-- The body at every point: from what it is given to what it gives back. -/
theorem body_at (c : Dev nD) (t : Fin cfg0.N) :
    given m c t ⊢ wp frame (wpE (defs₀ (F := F)) Variants.none c none) Set.univ (bodyAt0 t) (fun _ => back m c t) := by
  unfold given back bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  rw [show (dats m 0 c).Φ t.castSucc = Pipeline.ΦA spec0 c from rfl, PhiA0_eq]
  unfold leaves
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_leaves c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  iintro ⟨H0, H1, H2, H3, H4, H5, H6, H7, H8, H9, H10, H11, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body's row of the table of functions, at a point's slots. -/
theorem row (t : Fin cfg0.N) : defs₀ (F := F) .tc cfg0.body (cfg0.bodyArgs t (cfg0.slots t)) = bodyAt0 t := by
  unfold defs₀; rw [Defs.onTc_tc]

/-- The body's obligation to the pipeline, at every point. -/
theorem obligation (c : Dev nD) : BodyObligation (dats (F := F) m 0 c) (defs₀ (F := F)) Variants.none () Set.univ := fun t => by
  rw [bigSep_W0, bigSep_W0, row]
  exact triple_restated (body_at m c t) rfl .rfl fun _ => .rfl

set_option backward.isDefEq.respectTransparency.types false in
/-- The launch: every run ends, each array of the pipeline at what the proof data say, every counter at zero. -/
theorem launch : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := entry_eq m) (hΦ := fun _ _ => rfl)

/-- The same without the counters. -/
theorem launched : θ_run defs (onTc (τ := τ) (main (F := F))) (s₀ m ρ) (Pipeline.FramePost cfgs (dats m) 0 (V m)) :=
  (θ_run defs _ _).mono (fun _ h => h.1) (launch m ρ)

/-- Every run ends with the arguments as they were and every counter at zero. -/
theorem runs : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (entry_eq m) (launched m ρ)) ((θ_run defs _ _).mono (fun _ h => h.2) (launch m ρ))

end Cert.KernelIdeal.Gla

end
-- ==== Proof.KernelIdealBlock.lean ====
module

public import proofs.«01_k».proof.Proof.LoopValues
public import proofs.«01_k».proof.Proof.KernelIdealFrame

@[expose] public section

set_option maxRecDepth 16384

noncomputable section

namespace Cert.KernelIdeal.Gla

open Idealize.ShloMosaic Idealize.ShloMosaic.TcCoe Idealize.ShloMosaic.Tactic Idealize.SL.Sem
open Cert.KernelIdeal Cert.KernelIdeal.Gen Cert.Gla

/-! What one program of the grid leaves in its output's block, when its inputs' blocks hold given numbers. -/

section body

variable (c : Dev nD) (i : grid0.Coords)
    (arg2 : Memref sig .tc .vmem S1x4096x128 .f32) (harg2 : arg2.IsWhole)
    (arg3 : Memref sig .tc .vmem S1x4096x128 .f32) (harg3 : arg3.IsWhole)
    (arg4 : Memref sig .tc .vmem S1x4096x128 .f32) (harg4 : arg4.IsWhole)
    (arg5 : Memref sig .tc .vmem S1x4096x128 .f32) (harg5 : arg5.IsWhole)
    (arg6 : Memref sig .tc .vmem S1x4096x128 .f32) (harg6 : arg6.IsWhole)
    (arg7 : Memref sig .tc .vmem S1x256x128 .f32) (harg7 : arg7.IsWhole)
    (arg8 : Memref sig .tc .vmem S1x256x128 .f32) (harg8 : arg8.IsWhole)
    (arg9 : Memref sig .tc .vmem S1x256x128 .f32) (harg9 : arg9.IsWhole)
    (arg10 : Memref sig .tc .vmem S1x2x128x128 .bf16) (harg10 : arg10.IsWhole)
    (arg11 : Memref sig .tc .vmem S1x2x1x128 .f32) (harg11 : arg11.IsWhole)
    (arg12 : Memref sig .tc .vmem S1x128 .f32) (harg12 : arg12.IsWhole)
    (arg13 : Memref sig .tc .vmem S1x4096x128 .bf16) (harg13 : arg13.IsWhole)
    (arg14 : Memref sig .tc .vmem S2x128x128 .f32) (harg14 : arg14.IsWhole)
    (arg15 : Memref sig .tc .vmem S4096x128 .f32) (harg15 : arg15.IsWhole)
    (x0 : Vec Ideal S1x4096x128 .f32) (x1 : Vec Ideal S1x4096x128 .f32) (x2 : Vec Ideal S1x4096x128 .f32) (x3 : Vec Ideal S1x4096x128 .f32) (x4 : Vec Ideal S1x4096x128 .f32) (x5 : Vec Ideal S1x256x128 .f32) (x6 : Vec Ideal S1x256x128 .f32) (x7 : Vec Ideal S1x256x128 .f32) (x8 : Vec Ideal S1x2x128x128 .bf16) (x9 : Vec Ideal S1x2x1x128 .f32) (x10 : Vec Ideal S1x128 .f32)

/-- The states start at zero. -/
theorem start (D : Data) (d : Bool) : Rep (stOf arg14.view (arg14.view.writes (Elt Ideal) arg14.view.junk storesFrom.sl.HS0_1) d) ((D.sq (i 1).val d).state 0) := by
  have hz : ∀ y, arg14.view.read (Elt Ideal) (arg14.view.writes (Elt Ideal) arg14.view.junk storesFrom.sl.HS0_1) y = 0 := fun y => by
    refine read_writes_agree _ _ y _ _ (fun p hp x hx => ?_) ⟨_, List.mem_singleton_self _, ?_⟩
    · rw [storesFrom.sl.HS0_1, List.mem_singleton] at hp
      subst hp
      show k0_pay1 x = _
      unfold k0_pay1
      pointwise
    · refine (Rect.mem_set_unit (inb := inb_S2x128x128_S2x128x128_0_0_0)).2 fun a => ?_
      have := (y a).isLt
      match a with
      | 0 => exact ⟨Nat.zero_le _, (Nat.zero_add _).symm ▸ this⟩
      | 1 => exact ⟨Nat.zero_le _, (Nat.zero_add _).symm ▸ this⟩
      | 2 => exact ⟨Nat.zero_le _, (Nat.zero_add _).symm ▸ this⟩
  intro w l
  cases d
  · exact (flat_apply _ w l).trans (hz _)
  · exact (flat_apply _ w l).trans (hz _)

/-- The output's block holds the results at the block's positions. -/
theorem outBlock_apply (D : Data)
    (hx2 : ∀ R l, x0 (ix3 0 R l) = ((D.q R.val l : ℝ) : EReal))
    (hx3 : ∀ R l, x1 (ix3 0 R l) = ((D.k R.val l : ℝ) : EReal))
    (hx4 : ∀ R l, x2 (ix3 0 R l) = ((D.v R.val l : ℝ) : EReal))
    (hx5 : ∀ R l, x3 (ix3 0 R l) = ((D.gg R.val l : ℝ) : EReal))
    (hx6 : ∀ R l, x4 (ix3 0 R l) = ((D.z R.val l : ℝ) : EReal))
    (hx7 : ∀ R l, x5 (ix3 0 R l) = ((D.kc R.val l : ℝ) : EReal))
    (hx8 : ∀ R l, x6 (ix3 0 R l) = ((D.vc R.val l : ℝ) : EReal))
    (hx9 : ∀ R l, x7 (ix3 0 R l) = ((D.zc R.val l : ℝ) : EReal))
    (hx10 : ∀ d c l, x8 (ix4 0 (if d then 1 else 0) c l) = ((D.up d c l : ℝ) : EReal))
    (hx11 : ∀ d l, x9 (ix4 0 (if d then 1 else 0) 0 l) = ((D.bias d l : ℝ) : EReal))
    (hx12 : ∀ l, x10 (ix2 0 l) = ((D.gain l : ℝ) : EReal))
    (R : Fin 4096) (w : Fin 128) :
    outBlock c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 (ix3 0 R w) = D.result (i 1).val R.val w := by
  have h2 := hx2
  rw [← harg2.read_unread x0] at h2
  have h3 := hx3
  rw [← harg3.read_unread x1] at h3
  have h4 := hx4
  rw [← harg4.read_unread x2] at h4
  have h5 := hx5
  rw [← harg5.read_unread x3] at h5
  have h6 := hx6
  rw [← harg6.read_unread x4] at h6
  have h7 := hx7
  rw [← harg7.read_unread x5] at h7
  have h8 := hx8
  rw [← harg8.read_unread x6] at h8
  have h9 := hx9
  rw [← harg9.read_unread x7] at h9
  have h10 := hx10
  rw [← harg10.read_unread x8] at h10
  have h11 := hx11
  rw [← harg11.read_unread x9] at h11
  have h12 := hx12
  rw [← harg12.read_unread x10] at h12
  have s1 := loop1_states i arg2 harg2 arg3 harg3 arg4 harg4 arg5 harg5 arg6 harg6 arg7 harg7 arg8 harg8 arg9 harg9 arg10 harg10 arg11 harg11 arg12 harg12 arg13 harg13 arg14 harg14 arg15 harg15 c D (harg7.unread x5) (harg8.unread x6) (harg9.unread x7) (harg10.unread x8) (harg11.unread x9) h7 h8 h9 h10 h11 _
    (start i arg14 D) 2 (le_refl 2)
  rw [← View.writes_append] at s1
  have s2 := loop2_states i arg2 harg2 arg3 harg3 arg4 harg4 arg5 harg5 arg6 harg6 arg7 harg7 arg8 harg8 arg9 harg9 arg10 harg10 arg11 harg11 arg12 harg12 arg13 harg13 arg14 harg14 arg15 harg15 c D (harg2.unread x0) (harg3.unread x1) (harg4.unread x2) (harg6.unread x4) (harg10.unread x8) (harg11.unread x9) h2 h3 h4 h6 h10 h11 _
    arg15.view.junk s1 2 (le_refl 2)
  rw [← View.writes_append] at s2
  have h15 : ∀ R w, arg15.view.read (Elt Ideal) (arg15.view.writes (Elt Ideal) arg15.view.junk (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg3.unread x1) (harg4.unread x2) (harg6.unread x4) (harg10.unread x8) (harg11.unread x9) (arg14.view.writes (Elt Ideal) arg14.view.junk (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (harg7.unread x5) (harg8.unread x6) (harg9.unread x7) (harg10.unread x8) (harg11.unread x9) (arg14.view.writes (Elt Ideal) arg14.view.junk storesFrom.sl.HS0_1) k0_t1_loop.trips ++ storesFrom.sl.HS0_1)) arg15.view.junk k0_t2_loop.trips).2) (ix2 R w) = ((D.half (i 1).val R.val w : ℝ) : EReal) := fun R w =>
    read_writes_agree _ _ _ _ _ (fun p hp x hx => by
      have := loop2_agrees i arg2 harg2 arg3 harg3 arg4 harg4 arg5 harg5 arg6 harg6 arg7 harg7 arg8 harg8 arg9 harg9 arg10 harg10 arg11 harg11 arg12 harg12 arg13 harg13 arg14 harg14 arg15 harg15 c D (harg2.unread x0) (harg3.unread x1) (harg4.unread x2) (harg6.unread x4) (harg10.unread x8) (harg11.unread x9) h2 h3 h4 h6 h10 h11 _
        arg15.view.junk s1 2 (le_refl 2) p hp x
      rw [this, hx]; rfl) (loop2_cover c i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg3.unread x1) (harg4.unread x2) (harg6.unread x4) (harg10.unread x8) (harg11.unread x9) _ _ _)
  unfold outBlock
  refine read_writes_agree _ _ _ _ _ (fun p hp x hx => ?_) (stores_cover c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 _)
  have := loop3_agrees i arg2 harg2 arg3 harg3 arg4 harg4 arg5 harg5 arg6 harg6 arg7 harg7 arg8 harg8 arg9 harg9 arg10 harg10 arg11 harg11 arg12 harg12 arg13 harg13 arg14 harg14 arg15 harg15 c D (harg2.unread x0) (harg3.unread x1) (harg4.unread x2) (harg5.unread x3) (harg6.unread x4) (harg10.unread x8) (harg11.unread x9) (harg12.unread x10) (arg15.view.writes (Elt Ideal) arg15.view.junk (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (harg2.unread x0) (harg3.unread x1) (harg4.unread x2) (harg6.unread x4) (harg10.unread x8) (harg11.unread x9) (arg14.view.writes (Elt Ideal) arg14.view.junk (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 (harg7.unread x5) (harg8.unread x6) (harg9.unread x7) (harg10.unread x8) (harg11.unread x9) (arg14.view.writes (Elt Ideal) arg14.view.junk storesFrom.sl.HS0_1) k0_t1_loop.trips ++ storesFrom.sl.HS0_1)) arg15.view.junk k0_t2_loop.trips).2) h2 h3 h4 h5 h6 h10 h11 h12 h15 arg13.view.junk _ s2 2 (le_refl 2) p hp x
  rw [this, hx]
  rfl

end body

end Cert.KernelIdeal.Gla

end
-- ==== Proof.KernelIdealArray.lean ====
module

public import proofs.«01_k».proof.Proof.KernelIdealBlock
public import Idealize.ShloMosaic.Lib.Pipeline.Value
public import Idealize.ShloMosaic.Lib.Pipeline.ValueKit

@[expose] public section

set_option maxRecDepth 16384

noncomputable section

namespace Cert.KernelIdeal.Gla

open Idealize.ShloMosaic Idealize.ShloMosaic.TcCoe Idealize.ShloMosaic.Tactic Idealize.SL.Sem
open Idealize.ShloMosaic.Pipeline (Dat)
open Cert.KernelIdeal Cert.KernelIdeal.Gen Cert.Gla

/-! The result array of the kernel's run, entry by entry. -/

/-- What the program at batch `b` and head `h` reads, as numbers, out of the arguments. -/
def dataOf (a0 : S4x4096x1536.Idx → EReal) (a1 : S4x4096x128.Idx → EReal) (a2 : S4x256x1536.Idx → EReal)
    (a3 : S4x256x128.Idx → EReal) (a4 : S4x2x128x128.Idx → EReal) (a5 : S4x2x1x128.Idx → EReal) (a6 : S512.Idx → EReal)
    (b h : Fin 4) : Data where
  q R l := (a0 (ix3 b (Fin.ofNat 4096 R) (Fin.ofNat 1536 (128 * (h.val / 2) + l.val)))).toReal
  k R l := (a0 (ix3 b (Fin.ofNat 4096 R) (Fin.ofNat 1536 (256 + 128 * (h.val / 2) + l.val)))).toReal
  v R l := (a0 (ix3 b (Fin.ofNat 4096 R) (Fin.ofNat 1536 (512 + 128 * h.val + l.val)))).toReal
  gg R l := (a0 (ix3 b (Fin.ofNat 4096 R) (Fin.ofNat 1536 (1024 + 128 * h.val + l.val)))).toReal
  z R l := (a1 (ix3 b (Fin.ofNat 4096 R) l)).toReal
  kc R l := (a2 (ix3 b (Fin.ofNat 256 R) (Fin.ofNat 1536 (256 + 128 * (h.val / 2) + l.val)))).toReal
  vc R l := (a2 (ix3 b (Fin.ofNat 256 R) (Fin.ofNat 1536 (512 + 128 * h.val + l.val)))).toReal
  zc R l := (a3 (ix3 b (Fin.ofNat 256 R) l)).toReal
  up d c l := (a4 (ix4 h (if d then 1 else 0) c l)).toReal
  bias d l := (a5 (ix4 h (if d then 1 else 0) 0 l)).toReal
  gain l := (a6 (ix1 (Fin.ofNat 512 (128 * h.val + l.val)))).toReal

/-- Every entry is a number. -/
def Finite {ι : Type} (a : ι → EReal) : Prop := ∀ y, a y = ((a y).toReal : EReal)

/-- The point of the grid at batch `b` and head `h`. -/
def point (b h : Fin 4) : Fin cfg0.N := ⟨4 * b.val + h.val, by
  have := b.isLt
  have := h.isLt
  show 4 * b.val + h.val < 16
  omega⟩

theorem point_coords : ∀ b h : Fin 4, (grid0.coords (point b h) 0).val = b.val ∧ (grid0.coords (point b h) 1).val = h.val := by
  decide +kernel

theorem index0 : ∀ b h : Fin 4, win0_0.index (point b h) = ![b.val, 0, h.val / 2] := by decide +kernel
theorem index1 : ∀ b h : Fin 4, win0_1.index (point b h) = ![b.val, 0, 2 + h.val / 2] := by decide +kernel
theorem index2 : ∀ b h : Fin 4, win0_2.index (point b h) = ![b.val, 0, 4 + h.val] := by decide +kernel
theorem index3 : ∀ b h : Fin 4, win0_3.index (point b h) = ![b.val, 0, 8 + h.val] := by decide +kernel
theorem index4 : ∀ b h : Fin 4, win0_4.index (point b h) = ![b.val, 0, 0] := by decide +kernel
theorem index5 : ∀ b h : Fin 4, win0_5.index (point b h) = ![b.val, 0, 2 + h.val / 2] := by decide +kernel
theorem index6 : ∀ b h : Fin 4, win0_6.index (point b h) = ![b.val, 0, 4 + h.val] := by decide +kernel
theorem index7 : ∀ b h : Fin 4, win0_7.index (point b h) = ![b.val, 0, 0] := by decide +kernel
theorem index8 : ∀ b h : Fin 4, win0_8.index (point b h) = ![h.val, 0, 0, 0] := by decide +kernel
theorem index9 : ∀ b h : Fin 4, win0_9.index (point b h) = ![h.val, 0, 0, 0] := by decide +kernel
theorem index10 : ∀ b h : Fin 4, win0_10.index (point b h) = ![0, h.val] := by decide +kernel
theorem index11 : ∀ b h : Fin 4, win0_11.index (point b h) = ![b.val, 0, h.val] := by decide +kernel
theorem flush11 : ∀ b h : Fin 4, (cfg0.win 11).flush (point b h) = true := by decide +kernel

/-- Distinct points of the grid write distinct blocks of the result. -/
theorem distinct11 : ∀ t t' : Fin cfg0.N, win0_11.index t = win0_11.index t' → t = t' :=
  (by decide +kernel : ∀ t t' : Fin grid0.N, win0_11.index t = win0_11.index t' → t = t')

variable (m : (ℓ : Loc nD τ sig) → Buf (Elt Ideal) ℓ) (ρ : Dev nD → PrngReg)

/-- The gain's row is the argument itself. -/
theorem gainRow (c : Dev nD) (j : Fin 512) : V m c main_v0 (ix2 0 j) = m ((c : Thread nD τ).loc main_arg6) (ix1 j) := by
  have h : V m c main_v0 = shapeCast S1x512 (m ((c : Thread nD τ).loc main_arg6)) shapeCasts_S512_S1x512 := rfl
  rw [h]
  pointwise

/-- A block of the result array after the run is what its point's body left. -/
theorem block11 (c : Dev nD) (t : Fin cfg0.N) (hf : (cfg0.win 11).flush t = true) :
    ((cfg0.win 11).blk t).view.read (Elt Ideal) ((dats m 0 c).arrAt 11 cfg0.N) = (dats m 0 c).flushed 11 t :=
  (dats m 0 c).read_blk_arrAt_eq_flushed 11
    (fun t t' _ _ hne => (cfg0.win 11).disjoint_blk fun h => hne (distinct11 t t' h)) cfg0.N t t.isLt hf

/-- The data of a point of the grid, out of the memory. -/
def dataAt (c : Dev nD) (b h : Fin 4) : Data :=
  dataOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b h

/-- An index of three axes by its coordinates. -/
theorem eq_ix3 {n0 n1 n2 : ℕ} (y : (⟨3, ![n0, n1, n2]⟩ : Shape).Idx) (a : Fin n0) (b : Fin n1) (c : Fin n2)
    (h0 : (y 0).val = a.val) (h1 : (y 1).val = b.val) (h2 : (y 2).val = c.val) : y = ix3 a b c := by
  funext i
  match i with
  | 0 => exact Fin.ext h0
  | 1 => exact Fin.ext h1
  | 2 => exact Fin.ext h2

/-- Window 0 holds the data's `q`. -/
theorem held0 (c : Dev nD) (b h : Fin 4) (h0 : Finite (m ((c : Thread nD τ).loc main_arg0))) (R : Fin 4096) (l : Fin 128) :
    iblk m c 0 (point b h) (ix3 0 R l) = (((dataAt m c b h).q R.val l : ℝ) : EReal) := by
  have hh := h.isLt
  have hR := R.isLt
  have hl := l.isLt
  refine Eq.trans ?_ (h0 (ix3 b (Fin.ofNat 4096 R.val) (Fin.ofNat 1536 (128 * (h.val / 2) + l.val))))
  show V m c (Pipeline.arrRef spec0 0) _ = _
  rw [show V m c (Pipeline.arrRef spec0 0) = _ from V_main_arg0 m c]
  refine congrArg _ (eq_ix3 _ _ _ _ ?_ ?_ ?_)
  all_goals
    blk_simp
    rw [index0]
  · exact Nat.add_zero b.val
  · show 0 * 4096 + R.val = R.val % 4096
    omega
  · show (h.val / 2) * 128 + l.val = (128 * (h.val / 2) + l.val) % 1536
    omega

/-- Window 1 holds the data's `k`. -/
theorem held1 (c : Dev nD) (b h : Fin 4) (h0 : Finite (m ((c : Thread nD τ).loc main_arg0))) (R : Fin 4096) (l : Fin 128) :
    iblk m c 1 (point b h) (ix3 0 R l) = (((dataAt m c b h).k R.val l : ℝ) : EReal) := by
  have hh := h.isLt
  have hR := R.isLt
  have hl := l.isLt
  refine Eq.trans ?_ (h0 (ix3 b (Fin.ofNat 4096 R.val) (Fin.ofNat 1536 (256 + 128 * (h.val / 2) + l.val))))
  show V m c (Pipeline.arrRef spec0 1) _ = _
  rw [show V m c (Pipeline.arrRef spec0 1) = _ from V_main_arg0 m c]
  refine congrArg _ (eq_ix3 _ _ _ _ ?_ ?_ ?_)
  all_goals
    blk_simp
    rw [index1]
  · exact Nat.add_zero b.val
  · show 0 * 4096 + R.val = R.val % 4096
    omega
  · show (2 + h.val / 2) * 128 + l.val = (256 + 128 * (h.val / 2) + l.val) % 1536
    omega

/-- Window 2 holds the data's `v`. -/
theorem held2 (c : Dev nD) (b h : Fin 4) (h0 : Finite (m ((c : Thread nD τ).loc main_arg0))) (R : Fin 4096) (l : Fin 128) :
    iblk m c 2 (point b h) (ix3 0 R l) = (((dataAt m c b h).v R.val l : ℝ) : EReal) := by
  have hh := h.isLt
  have hR := R.isLt
  have hl := l.isLt
  refine Eq.trans ?_ (h0 (ix3 b (Fin.ofNat 4096 R.val) (Fin.ofNat 1536 (512 + 128 * h.val + l.val))))
  show V m c (Pipeline.arrRef spec0 2) _ = _
  rw [show V m c (Pipeline.arrRef spec0 2) = _ from V_main_arg0 m c]
  refine congrArg _ (eq_ix3 _ _ _ _ ?_ ?_ ?_)
  all_goals
    blk_simp
    rw [index2]
  · exact Nat.add_zero b.val
  · show 0 * 4096 + R.val = R.val % 4096
    omega
  · show (4 + h.val) * 128 + l.val = (512 + 128 * h.val + l.val) % 1536
    omega

/-- Window 3 holds the data's `gg`. -/
theorem held3 (c : Dev nD) (b h : Fin 4) (h0 : Finite (m ((c : Thread nD τ).loc main_arg0))) (R : Fin 4096) (l : Fin 128) :
    iblk m c 3 (point b h) (ix3 0 R l) = (((dataAt m c b h).gg R.val l : ℝ) : EReal) := by
  have hh := h.isLt
  have hR := R.isLt
  have hl := l.isLt
  refine Eq.trans ?_ (h0 (ix3 b (Fin.ofNat 4096 R.val) (Fin.ofNat 1536 (1024 + 128 * h.val + l.val))))
  show V m c (Pipeline.arrRef spec0 3) _ = _
  rw [show V m c (Pipeline.arrRef spec0 3) = _ from V_main_arg0 m c]
  refine congrArg _ (eq_ix3 _ _ _ _ ?_ ?_ ?_)
  all_goals
    blk_simp
    rw [index3]
  · exact Nat.add_zero b.val
  · show 0 * 4096 + R.val = R.val % 4096
    omega
  · show (8 + h.val) * 128 + l.val = (1024 + 128 * h.val + l.val) % 1536
    omega

/-- Window 4 holds the data's `z`. -/
theorem held4 (c : Dev nD) (b h : Fin 4) (h0 : Finite (m ((c : Thread nD τ).loc main_arg1))) (R : Fin 4096) (l : Fin 128) :
    iblk m c 4 (point b h) (ix3 0 R l) = (((dataAt m c b h).z R.val l : ℝ) : EReal) := by
  have hh := h.isLt
  have hR := R.isLt
  have hl := l.isLt
  refine Eq.trans ?_ (h0 (ix3 b (Fin.ofNat 4096 R.val) l))
  show V m c (Pipeline.arrRef spec0 4) _ = _
  rw [show V m c (Pipeline.arrRef spec0 4) = _ from V_main_arg1 m c]
  refine congrArg _ (eq_ix3 _ _ _ _ ?_ ?_ ?_)
  all_goals
    blk_simp
    rw [index4]
  · exact Nat.add_zero b.val
  · show 0 * 4096 + R.val = R.val % 4096
    omega
  · show (0) * 128 + l.val = l.val
    omega

/-- Window 5 holds the data's `kc`. -/
theorem held5 (c : Dev nD) (b h : Fin 4) (h0 : Finite (m ((c : Thread nD τ).loc main_arg2))) (R : Fin 256) (l : Fin 128) :
    iblk m c 5 (point b h) (ix3 0 R l) = (((dataAt m c b h).kc R.val l : ℝ) : EReal) := by
  have hh := h.isLt
  have hR := R.isLt
  have hl := l.isLt
  refine Eq.trans ?_ (h0 (ix3 b (Fin.ofNat 256 R.val) (Fin.ofNat 1536 (256 + 128 * (h.val / 2) + l.val))))
  show V m c (Pipeline.arrRef spec0 5) _ = _
  rw [show V m c (Pipeline.arrRef spec0 5) = _ from V_main_arg2 m c]
  refine congrArg _ (eq_ix3 _ _ _ _ ?_ ?_ ?_)
  all_goals
    blk_simp
    rw [index5]
  · exact Nat.add_zero b.val
  · show 0 * 256 + R.val = R.val % 256
    omega
  · show (2 + h.val / 2) * 128 + l.val = (256 + 128 * (h.val / 2) + l.val) % 1536
    omega

/-- Window 6 holds the data's `vc`. -/
theorem held6 (c : Dev nD) (b h : Fin 4) (h0 : Finite (m ((c : Thread nD τ).loc main_arg2))) (R : Fin 256) (l : Fin 128) :
    iblk m c 6 (point b h) (ix3 0 R l) = (((dataAt m c b h).vc R.val l : ℝ) : EReal) := by
  have hh := h.isLt
  have hR := R.isLt
  have hl := l.isLt
  refine Eq.trans ?_ (h0 (ix3 b (Fin.ofNat 256 R.val) (Fin.ofNat 1536 (512 + 128 * h.val + l.val))))
  show V m c (Pipeline.arrRef spec0 6) _ = _
  rw [show V m c (Pipeline.arrRef spec0 6) = _ from V_main_arg2 m c]
  refine congrArg _ (eq_ix3 _ _ _ _ ?_ ?_ ?_)
  all_goals
    blk_simp
    rw [index6]
  · exact Nat.add_zero b.val
  · show 0 * 256 + R.val = R.val % 256
    omega
  · show (4 + h.val) * 128 + l.val = (512 + 128 * h.val + l.val) % 1536
    omega

/-- Window 7 holds the data's `zc`. -/
theorem held7 (c : Dev nD) (b h : Fin 4) (h0 : Finite (m ((c : Thread nD τ).loc main_arg3))) (R : Fin 256) (l : Fin 128) :
    iblk m c 7 (point b h) (ix3 0 R l) = (((dataAt m c b h).zc R.val l : ℝ) : EReal) := by
  have hh := h.isLt
  have hR := R.isLt
  have hl := l.isLt
  refine Eq.trans ?_ (h0 (ix3 b (Fin.ofNat 256 R.val) l))
  show V m c (Pipeline.arrRef spec0 7) _ = _
  rw [show V m c (Pipeline.arrRef spec0 7) = _ from V_main_arg3 m c]
  refine congrArg _ (eq_ix3 _ _ _ _ ?_ ?_ ?_)
  all_goals
    blk_simp
    rw [index7]
  · exact Nat.add_zero b.val
  · show 0 * 256 + R.val = R.val % 256
    omega
  · show (0) * 128 + l.val = l.val
    omega

/-- Windows 8, 9 and 10 hold the head's weights. -/
theorem held8 (c : Dev nD) (b h : Fin 4) (h0 : Finite (m ((c : Thread nD τ).loc main_arg4))) (d : Bool) (r l : Fin 128) :
    iblk m c 8 (point b h) (ix4 0 (if d then 1 else 0) r l) = (((dataAt m c b h).up d r l : ℝ) : EReal) := by
  refine Eq.trans ?_ (h0 (ix4 h (if d then 1 else 0) r l))
  show V m c (Pipeline.arrRef spec0 8) _ = _
  rw [show V m c (Pipeline.arrRef spec0 8) = _ from V_main_arg4 m c]
  congr 1
  funext a
  apply Fin.ext
  blk_simp
  rw [index8]
  match a with
  | 0 => exact Nat.mul_one h.val
  | 1 => exact Nat.zero_add _
  | 2 => exact Nat.zero_add _
  | 3 => exact Nat.zero_add _

theorem held9 (c : Dev nD) (b h : Fin 4) (h0 : Finite (m ((c : Thread nD τ).loc main_arg5))) (d : Bool) (l : Fin 128) :
    iblk m c 9 (point b h) (ix4 0 (if d then 1 else 0) 0 l) = (((dataAt m c b h).bias d l : ℝ) : EReal) := by
  refine Eq.trans ?_ (h0 (ix4 h (if d then 1 else 0) 0 l))
  show V m c (Pipeline.arrRef spec0 9) _ = _
  rw [show V m c (Pipeline.arrRef spec0 9) = _ from V_main_arg5 m c]
  congr 1
  funext a
  apply Fin.ext
  blk_simp
  rw [index9]
  match a with
  | 0 => exact Nat.mul_one h.val
  | 1 => exact Nat.zero_add _
  | 2 => rfl
  | 3 => exact Nat.zero_add _

theorem held10 (c : Dev nD) (b h : Fin 4) (h0 : Finite (m ((c : Thread nD τ).loc main_arg6))) (l : Fin 128) :
    iblk m c 10 (point b h) (ix2 0 l) = (((dataAt m c b h).gain l : ℝ) : EReal) := by
  have hh := h.isLt
  have hl := l.isLt
  refine Eq.trans ?_ (h0 (ix1 (Fin.ofNat 512 (128 * h.val + l.val))))
  refine Eq.trans ?_ (gainRow m c _)
  show V m c main_v0 _ = _
  congr 1
  funext a
  apply Fin.ext
  blk_simp
  rw [index10]
  match a with
  | 0 => rfl
  | 1 =>
    show h.val * 128 + l.val = (128 * h.val + l.val) % 512
    omega

/-- The result array, entry by entry. -/
theorem result_apply (c : Dev nD) (h0 : Finite (m ((c : Thread nD τ).loc main_arg0)))
    (h1 : Finite (m ((c : Thread nD τ).loc main_arg1))) (h2 : Finite (m ((c : Thread nD τ).loc main_arg2)))
    (h3 : Finite (m ((c : Thread nD τ).loc main_arg3))) (h4 : Finite (m ((c : Thread nD τ).loc main_arg4)))
    (h5 : Finite (m ((c : Thread nD τ).loc main_arg5))) (h6 : Finite (m ((c : Thread nD τ).loc main_arg6)))
    (b h : Fin 4) (R : Fin 4096) (w : Fin 128) :
    ((dats m 0 c).arrAt 11 cfg0.N : S4x4096x512.Idx → EReal) (ix3 b R (Fin.ofNat 512 (128 * h.val + w.val)))
      = (dataAt m c b h).result h.val R.val w := by
  have hh := h.isLt
  have hw := w.isLt
  have hb := congrFun (block11 m c (point b h) (flush11 b h)) (ix3 0 R w)
  have e : ((cfg0.win 11).blk (point b h)).view.emb (ix3 0 R w) = ix3 b R (Fin.ofNat 512 (128 * h.val + w.val)) := by
    refine eq_ix3 _ _ _ _ ?_ ?_ ?_
    all_goals
      blk_simp
      rw [index11]
    · exact Nat.add_zero b.val
    · exact Nat.zero_add _
    · show h.val * 128 + w.val = (128 * h.val + w.val) % 512
      omega
  rw [← e]
  refine hb.trans ?_
  show (dats m 0 c).after 11 (point b h) (ix3 0 R w) = _
  rw [after_11, leaves]
  have hv := outBlock_apply c (grid0.coords (point b h)) (ms0_0 (point b h)) (hs0_0 (point b h)) (ms0_1 (point b h)) (hs0_1 (point b h))
    (ms0_2 (point b h)) (hs0_2 (point b h)) (ms0_3 (point b h)) (hs0_3 (point b h)) (ms0_4 (point b h)) (hs0_4 (point b h))
    (ms0_5 (point b h)) (hs0_5 (point b h)) (ms0_6 (point b h)) (hs0_6 (point b h)) (ms0_7 (point b h)) (hs0_7 (point b h))
    (ms0_8 (point b h)) (hs0_8 (point b h)) (ms0_9 (point b h)) (hs0_9 (point b h)) (ms0_10 (point b h)) (hs0_10 (point b h))
    (ms0_11 (point b h)) (hs0_11 (point b h)) scM0_0 (Memref.isWhole_whole _) scM0_1 (Memref.isWhole_whole _)
    (iblk m c 0 (point b h)) (iblk m c 1 (point b h)) (iblk m c 2 (point b h)) (iblk m c 3 (point b h)) (iblk m c 4 (point b h))
    (iblk m c 5 (point b h)) (iblk m c 6 (point b h)) (iblk m c 7 (point b h)) (iblk m c 8 (point b h)) (iblk m c 9 (point b h))
    (iblk m c 10 (point b h)) (dataAt m c b h) (held0 m c b h h0) (held1 m c b h h0) (held2 m c b h h0) (held3 m c b h h0)
    (held4 m c b h h1) (held5 m c b h h2) (held6 m c b h h2) (held7 m c b h h3) (held8 m c b h h4) (held9 m c b h h5)
    (held10 m c b h h6) R w
  rw [(point_coords b h).2] at hv
  exact hv

/-- After the run the result is the pipeline's array, and the arguments are as launched. -/
theorem run : θ_run defs (onTc (τ := τ) (main (F := Ideal))) ⟨m, fun _ => 0, ρ⟩ (fun r => ∀ c : Dev nD,
      r.2.mem ((c : Thread nD τ).loc main_v1) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c => by
    have kept : ∀ (w : Fin cfg0.W) (hw : (cfg0.win w).isOut = false),
        (dats m 0 c).arrAt w cfg0.N = V m c (Pipeline.arrRef spec0 w) :=
      fun w hw => ((dats m 0 c).arrAt_in w hw _).trans (entry_eq m c w)
    exact ⟨(h c).1 11, ((h c).1 3).trans ((kept 3 rfl).trans (V_main_arg0 m c)), ((h c).1 4).trans ((kept 4 rfl).trans (V_main_arg1 m c)),
      ((h c).1 6).trans ((kept 6 rfl).trans (V_main_arg2 m c)), ((h c).1 7).trans ((kept 7 rfl).trans (V_main_arg3 m c)),
      ((h c).1 8).trans ((kept 8 rfl).trans (V_main_arg4 m c)), ((h c).1 9).trans ((kept 9 rfl).trans (V_main_arg5 m c)),
      ((h c).2 main_arg6 (Pipeline.mem_restRefs_of main_arg6 (by decide) (by decide))).trans (V_main_arg6 m c)⟩)
    (launched m ρ)

end Cert.KernelIdeal.Gla

end
-- ==== Proof.RefArgs.lean ====
module

public import proofs.«01_k».proof.Proof.RefStages
public import proofs.«01_k».proof.Proof.KernelIdealArray
public import proofs.«01_k».proof.Proof.Gen.ReferenceIdeal.Run

@[expose] public section

set_option maxRecDepth 16384

noncomputable section

namespace Cert.ReferenceIdeal.Gla

open Idealize.ShloMosaic Idealize.SL.Sem Cert.ReferenceIdeal Cert.ReferenceIdeal.Gen Cert.ReferenceIdeal.Value Cert.Gla
open Cert.KernelIdeal.Gla (dataOf Finite eq_ix3)
open Finset (range)

/-! What the reference cuts out of its arguments, in the data of one batch entry and head. -/

variable (V0 : Valuation τ sig (Elt Ideal))

/-- The data of one batch entry and head, from the reference's arguments. -/
def refData (b h : Fin 4) : Data :=
  dataOf (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) b h

/-- A head's lane in the slab of two heads. -/
def lane (h : Fin 4) (e : Fin 64) : Fin 128 := ⟨64 * (h.val % 2) + e.val, by have := e.isLt; omega⟩

/-- A finite array's entry at a position given by its coordinates' values. -/
theorem read3 {A N M : ℕ} [NeZero N] [NeZero M] {a : (⟨3, ![A, N, M]⟩ : Shape).Idx → EReal} (h : Finite a) (b : Fin A) (t : Fin N)
    (j : Fin M) (T J : ℕ) (hT : T = t.val) (hJ : J = j.val) :
    a (ix3 b t j) = (((a (ix3 b (Fin.ofNat N T) (Fin.ofNat M J))).toReal : ℝ) : EReal) := by
  subst hT hJ
  refine (congrArg a (eq_ix3 _ _ _ _ rfl ?_ ?_)).trans (h _)
  · exact (Nat.mod_eq_of_lt t.isLt).symm
  · exact (Nat.mod_eq_of_lt j.isLt).symm

section Lat
variable (h0 : Finite (V0 (Proc.devRef .tc main_arg0)))
include h0

theorem rep_q : Rep4 (res_main_v4 V0) (fun b h t e => (refData V0 b h).q t (lane h e) * (1 / 8)) := by
  intro b h t e
  have hh := h.isLt
  pointwise [res_main_v4]
  rw [EReal.coe_mul, eighth]
  refine congrArg (· * _) (read3 h0 _ _ _ _ _ rfl ?_)
  show 128 * (h.val / 2) + (64 * (h.val % 2) + e.val) = h.val * 64 + e.val
  omega

theorem rep_k : Rep4 (res_main_v7 V0) (fun b h t e => (refData V0 b h).k t (lane h e)) := by
  intro b h t e
  have hh := h.isLt
  pointwise [res_main_v7]
  refine read3 h0 _ _ _ _ _ rfl ?_
  show 256 + 128 * (h.val / 2) + (64 * (h.val % 2) + e.val) = 256 + (h.val * 64 + e.val)
  omega

theorem rep_v : Rep4 (res_main_v10 V0) (fun b h t w => (refData V0 b h).v t w) := by
  intro b h t w
  have hh := h.isLt
  pointwise [res_main_v10]
  refine read3 h0 _ _ _ _ _ rfl ?_
  show 512 + 128 * h.val + w.val = 512 + (h.val * 128 + w.val)
  omega

theorem gate_apply (b h : Fin 4) (t : Fin 4096) (w : Fin 128) :
    res_main_v11 V0 (ix3 b t (Fin.ofNat 512 (128 * h.val + w.val))) = (((refData V0 b h).gg t.val w : ℝ) : EReal) := by
  have hh := h.isLt
  have hw := w.isLt
  pointwise [res_main_v11]
  refine read3 h0 _ _ _ _ _ rfl ?_
  show 1024 + 128 * h.val + w.val = 1024 + (128 * h.val + w.val) % 512
  omega

end Lat

section Ctx
variable (h2 : Finite (V0 (Proc.devRef .tc main_arg2)))
include h2

theorem rep_kc : Rep4 (res_main_v14 V0) (fun b h t e => (refData V0 b h).kc t (lane h e)) := by
  intro b h t e
  have hh := h.isLt
  pointwise [res_main_v14]
  refine read3 h2 _ _ _ _ _ rfl ?_
  show 256 + 128 * (h.val / 2) + (64 * (h.val % 2) + e.val) = 256 + (h.val * 64 + e.val)
  omega

theorem rep_vc : Rep4 (res_main_v17 V0) (fun b h t w => (refData V0 b h).vc t w) := by
  intro b h t w
  have hh := h.isLt
  pointwise [res_main_v17]
  refine read3 h2 _ _ _ _ _ rfl ?_
  show 512 + 128 * h.val + w.val = 512 + (h.val * 128 + w.val)
  omega

end Ctx

theorem z_apply (h1 : Finite (V0 (Proc.devRef .tc main_arg1))) (b h : Fin 4) (t : Fin 4096) (r : Fin 128) :
    V0 (Proc.devRef .tc main_arg1) (ix3 b t r) = (((refData V0 b h).z t.val r : ℝ) : EReal) := by
  refine (congrArg _ (eq_ix3 _ b (Fin.ofNat 4096 t.val) r rfl ?_ rfl)).trans (h1 _)
  exact (Nat.mod_eq_of_lt t.isLt).symm

theorem zc_apply (h3 : Finite (V0 (Proc.devRef .tc main_arg3))) (b h : Fin 4) (t : Fin 256) (r : Fin 128) :
    V0 (Proc.devRef .tc main_arg3) (ix3 b t r) = (((refData V0 b h).zc t.val r : ℝ) : EReal) := by
  refine (congrArg _ (eq_ix3 _ b (Fin.ofNat 256 t.val) r rfl ?_ rfl)).trans (h3 _)
  exact (Nat.mod_eq_of_lt t.isLt).symm

/-- Entry by entry, the up-projection of a head is its own half of its slab. -/
theorem up_apply (h4 : Finite (V0 (Proc.devRef .tc main_arg4))) (d : Bool) (b h : Fin 4) (r : Fin 128) (e : Fin 64) :
    (if d then res_main_v102 V0 else res_main_v31 V0) (ix3 h r e) = (((refData V0 b h).up d r (lane h e) : ℝ) : EReal) := by
  refine Eq.trans ?_ (h4 (ix4 h (if d then 1 else 0) r (lane h e)))
  fin_cases h <;> cases d
  all_goals
    first
      | simp only [Bool.false_eq_true, if_false]
      | simp only [if_true]
    pointwise [res_main_v31, res_main_v102]
    refine congrArg _ (congrArg (ix4 _ _ _) (Fin.ext ?_))
    first
      | exact (Nat.zero_add _).symm
      | rfl

theorem bias_apply (h5 : Finite (V0 (Proc.devRef .tc main_arg5))) (d : Bool) (b h : Fin 4) (e : Fin 64) :
    (if d then res_main_v115 V0 else res_main_v44 V0) (ix2 h e) = (((refData V0 b h).bias d (lane h e) : ℝ) : EReal) := by
  refine Eq.trans ?_ (h5 (ix4 h (if d then 1 else 0) 0 (lane h e)))
  fin_cases h <;> cases d
  all_goals
    first
      | simp only [Bool.false_eq_true, if_false]
      | simp only [if_true]
    pointwise [res_main_v44, res_main_v115]
    refine congrArg _ (congrArg (ix4 _ _ _) (Fin.ext ?_))
    first
      | exact (Nat.zero_add _).symm
      | rfl

end Cert.ReferenceIdeal.Gla

end
-- ==== Proof.RefValue.lean ====
module

public import proofs.«01_k».proof.Proof.RefArgs

@[expose] public section

set_option maxRecDepth 16384

noncomputable section

namespace Cert.ReferenceIdeal.Gla

open Idealize.ShloMosaic Idealize.SL.Sem Cert.ReferenceIdeal Cert.ReferenceIdeal.Gen Cert.ReferenceIdeal.Value Cert.Gla
open Cert.KernelIdeal.Gla (dataOf Finite eq_ix3)
open Finset (range)

/-! The reference's result on finite arguments, in the data of each batch entry and head. -/

theorem Rep4.congr {A B N C : ℕ} {x : FVec Ideal (⟨4, ![A, B, N, C]⟩ : Shape) .f32} {M M' : Fin A → Fin B → ℕ → Fin C → ℝ} (hx : Rep4 x M)
    (h : ∀ a b (t : Fin N) c, M a b t.val c = M' a b t.val c) : Rep4 x M' :=
  fun a b t c => (hx a b t c).trans (congrArg Real.toEReal (h a b t c))

/-- Time in a direction's order. -/
def turn {A B N C : ℕ} (d : Bool) (x : FVec Ideal (⟨4, ![A, B, N, C]⟩ : Shape) .f32) : FVec Ideal (⟨4, ![A, B, N, C]⟩ : Shape) .f32 :=
  if d then Host.reverse [2] x else x

theorem rep_turn {A B N C : ℕ} (d : Bool) {x : FVec Ideal (⟨4, ![A, B, N, C]⟩ : Shape) .f32} {M : Fin A → Fin B → ℕ → Fin C → ℝ} (hx : Rep4 x M) :
    Rep4 (turn d x) (fun a b t c => M a b (at' d N t) c) := by
  cases d
  · exact hx
  · exact rep_reverse hx

/-- Off its own half a head's lanes add nothing. -/
theorem sum_lanes (h : Fin 4) (F : Fin 128 → ℝ) (hF : ∀ l, l.val / 64 ≠ h.val % 2 → F l = 0) :
    ∑ l, F l = ∑ e, F (lane h e) := by
  rw [show (∑ l, F l) = ∑ l : Fin (64 + 64), F l from rfl, Fin.sum_univ_add]
  rcases Nat.mod_two_eq_zero_or_one h.val with h0 | h0
  · rw [Finset.sum_eq_zero (s := Finset.univ) (f := fun i : Fin 64 => F (Fin.natAdd 64 i)), add_zero]
    · refine Finset.sum_congr rfl fun e _ => congrArg F (Fin.ext ?_)
      show e.val = 64 * (h.val % 2) + e.val
      omega
    · intro e _
      refine hF _ ?_
      have := e.isLt
      show (64 + e.val) / 64 ≠ h.val % 2
      omega
  · rw [Finset.sum_eq_zero (s := Finset.univ) (f := fun i : Fin 64 => F (Fin.castAdd 64 i)), zero_add]
    · refine Finset.sum_congr rfl fun e _ => congrArg F (Fin.ext ?_)
      show 64 + e.val = 64 * (h.val % 2) + e.val
      omega
    · intro e _
      refine hF _ ?_
      have := e.isLt
      show e.val / 64 ≠ h.val % 2
      omega

variable (V0 : Valuation τ sig (Elt Ideal))

/-- One direction's sequence data of a batch entry and head. -/
def sqR (d : Bool) (b h : Fin 4) : Sq := (refData V0 b h).sq h.val d

/-- One direction's log decays of the context. -/
def decaysC (d : Bool) : FVec Ideal S4x4x256x64 .f32 :=
  decays256 (negLogits256 (if d then res_main_v102 V0 else res_main_v31 V0) (if d then res_main_v115 V0 else res_main_v44 V0) (V0 (Proc.devRef .tc main_arg3)))

/-- One direction's log decays of the sequence. -/
def decaysL (d : Bool) : FVec Ideal S4x4x4096x64 .f32 :=
  decays4096 (negLogits4096 (if d then res_main_v102 V0 else res_main_v31 V0) (if d then res_main_v115 V0 else res_main_v44 V0) (V0 (Proc.devRef .tc main_arg1)))

/-- One direction's outputs, in its own order. -/
def streamR (d : Bool) : FVec Ideal S4x4x4096x128 .f32 :=
  out4096 (mulf (turn d (res_main_v4 V0)) (Host.exp (cum4096 (turn d (decaysL V0 d))))) (turn d (res_main_v7 V0)) (turn d (res_main_v10 V0))
    (cum4096 (turn d (decaysL V0 d)))
    (state256 (turn d (res_main_v14 V0)) (turn d (res_main_v17 V0)) (cum256 (turn d (decaysC V0 d))) (end256 (cum256 (turn d (decaysC V0 d)))))

theorem outs_eq : res_main_v168 V0 = addf (turn false (streamR V0 false)) (turn true (streamR V0 true)) := rfl

section Apply
variable (h0 : Finite (V0 (Proc.devRef .tc main_arg0))) (h1 : Finite (V0 (Proc.devRef .tc main_arg1)))
  (h2 : Finite (V0 (Proc.devRef .tc main_arg2))) (h3 : Finite (V0 (Proc.devRef .tc main_arg3)))
  (h4 : Finite (V0 (Proc.devRef .tc main_arg4))) (h5 : Finite (V0 (Proc.devRef .tc main_arg5)))
include h0 h1 h2 h3 h4 h5

theorem own_lane (h : Fin 4) (e : Fin 64) : (lane h e).val / 64 = h.val % 2 := by
  have := e.isLt
  show (64 * (h.val % 2) + e.val) / 64 = h.val % 2
  omega

theorem rep_decaysC (d : Bool) : Rep4 (turn d (decaysC V0 d)) (fun b h t e => (sqR V0 d b h).g t (lane h e)) := by
  refine (rep_turn d (rep_decays256 (X := fun b h t e => ∑ r, (refData V0 b h).zc t r * (refData V0 b h).up d r (lane h e)
    + (refData V0 b h).bias d (lane h e)) ?_)).congr ?_
  · intro b h t e
    exact rep_negLogits256 (U := fun h r e => (refData V0 b h).up d r (lane h e)) (B := fun h e => (refData V0 b h).bias d (lane h e))
      (Z := fun b' t r => (refData V0 b' h).zc t r) (fun h r e => up_apply V0 h4 d b h r e) (fun h e => bias_apply V0 h5 d b h e)
      (fun b' t r => zc_apply V0 h3 b' h t r) b h t e
  · intro b h t e
    have ht := t.isLt
    simp only [sqR, Sq.g, Data.sq]
    simp only [if_pos ht]

theorem rep_decaysL (d : Bool) : Rep4 (turn d (decaysL V0 d)) (fun b h t e => (sqR V0 d b h).g (256 + t) (lane h e)) := by
  refine (rep_turn d (rep_decays4096 (X := fun b h t e => ∑ r, (refData V0 b h).z t r * (refData V0 b h).up d r (lane h e)
    + (refData V0 b h).bias d (lane h e)) ?_)).congr ?_
  · intro b h t e
    exact rep_negLogits4096 (U := fun h r e => (refData V0 b h).up d r (lane h e)) (B := fun h e => (refData V0 b h).bias d (lane h e))
      (Z := fun b' t r => (refData V0 b' h).z t r) (fun h r e => up_apply V0 h4 d b h r e) (fun h e => bias_apply V0 h5 d b h e)
      (fun b' t r => z_apply V0 h1 b' h t r) b h t e
  · intro b h t e
    simp only [sqR, Sq.g, Data.sq]
    simp only [if_neg (show ¬ 256 + t.val < 256 by omega), Nat.add_sub_cancel_left]

theorem rep_streamR (d : Bool) :
    Rep4 (turn d (streamR V0 d)) (fun b h t w => (refData V0 b h).o h.val d t w) := by
  refine (rep_turn d (stream_apply (K := fun b h n e => (sqR V0 d b h).k n (lane h e)) (G := fun b h n e => (sqR V0 d b h).g n (lane h e))
    (V := fun b h n w => (sqR V0 d b h).v n w) (Q := fun b h t e => (sqR V0 d b h).q (256 + t) (lane h e))
    ((rep_turn d (rep_kc V0 h2)).congr ?_) ((rep_turn d (rep_vc V0 h2)).congr ?_) (rep_decaysC V0 h0 h1 h2 h3 h4 h5 d)
    ((rep_turn d (rep_q V0 h0)).congr ?_) ((rep_turn d (rep_k V0 h0)).congr ?_) ((rep_turn d (rep_v V0 h0)).congr ?_)
    (rep_decaysL V0 h0 h1 h2 h3 h4 h5 d))).congr ?_
  · intro b h t e
    simp only [sqR, Data.sq, if_pos (own_lane V0 h0 h1 h2 h3 h4 h5 h e), if_pos t.isLt]
  · intro b h t w
    simp only [sqR, Data.sq, if_pos t.isLt]
  · intro b h t e
    simp only [sqR, Data.sq, if_pos (own_lane V0 h0 h1 h2 h3 h4 h5 h e), Nat.add_sub_cancel_left]
  · intro b h t e
    simp only [sqR, Data.sq, if_pos (own_lane V0 h0 h1 h2 h3 h4 h5 h e), if_neg (show ¬ 256 + t.val < 256 by omega), Nat.add_sub_cancel_left]
  · intro b h t w
    simp only [sqR, Data.sq, if_neg (show ¬ 256 + t.val < 256 by omega), Nat.add_sub_cancel_left]
  · intro b h t w
    refine Eq.trans ?_ (sum_lanes h (fun l => ((refData V0 b h).sq h.val d).q (256 + at' d 4096 t.val) l
      * ((refData V0 b h).sq h.val d).state (256 + at' d 4096 t.val + 1) w l) ?_).symm
    · rfl
    · intro l hl
      simp only [Data.sq, if_neg hl, zero_mul]

end Apply

/-- The reference's last stage: each head's mean-square norm, the gain and the gate. -/
def finish (x : FVec Ideal S4x4x4096x128 .f32) (gain : FVec Ideal S512 .f32) (gg : FVec Ideal S4x4096x512 .f32) : FVec Ideal S4x4096x512 .bf16 :=
  truncf .bf16 (mulf (mulf (shapeCast _ (transpose S4x4096x4x128 [0, 2, 1, 3] (mulf x (broadcastInDim S4x4x4096x128 ![0, 1, 2, 3] bcast_S4x4x4096x1_S4x4x4096x128_0_1_2_3 (Host.rsqrt (addf (Host.divf (broadcastInDim S4x4x4096x1 ![0, 1, 2] bcast_S4x4x4096_S4x4x4096x1_0_1_2 (Host.reduceAdd (mulf x x) (constant S_ .f32 0x00000000#32) reducesTo_S4x4x4096x128_S4x4x4096_d3 h_S_)) (broadcastInDim S4x4x4096x1 ![] bcast_S_S4x4x4096x1 (constant S_ .f32 0x43000000#32))) (broadcastInDim S4x4x4096x1 ![] bcast_S_S4x4x4096x1 (constant S_ .f32 0x358637BD#32)))))) transposes_S4x4x4096x128_S4x4096x4x128_0_2_1_3) shapeCasts_S4x4096x4x128_S4x4096x512) (broadcastInDim S4x4096x512 ![0, 1, 2] bcast_S1x1x512_S4x4096x512_0_1_2 (broadcastInDim S1x1x512 ![2] bcast_S512_S1x1x512_2 gain))) (mulf gg (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf gg)))))) bitsLt_bf16_f32

theorem finish_apply {x : FVec Ideal S4x4x4096x128 .f32} {gain : FVec Ideal S512 .f32} {gg : FVec Ideal S4x4096x512 .f32}
    (b h : Fin 4) (R : Fin 4096) (w : Fin 128) (O A : Fin 128 → ℝ) (g : Fin 128 → ℝ) (hx : ∀ u, x (ix4 b h R u) = ((O u : ℝ) : EReal))
    (hg : gg (ix3 b R (Fin.ofNat 512 (128 * h.val + w.val))) = ((A w : ℝ) : EReal))
    (hn : gain (ix1 (Fin.ofNat 512 (128 * h.val + w.val))) = ((g w : ℝ) : EReal)) :
    finish x gain gg (ix3 b R (Fin.ofNat 512 (128 * h.val + w.val))) = finE O A g w := by
  have hh := h.isLt
  have hw := w.isLt
  have e : (Fin.ofNat 512 (128 * h.val + w.val)).val / 128 = h.val := by
    show (128 * h.val + w.val) % 512 / 128 = h.val
    omega
  have e' : (Fin.ofNat 512 (128 * h.val + w.val)).val % 128 = w.val := by
    show (128 * h.val + w.val) % 512 % 128 = w.val
    omega
  have hx' : ∀ p u, x (ix4 b ⟨(Fin.ofNat 512 (128 * h.val + w.val)).val / 128, p⟩ R u) = ((O u : ℝ) : EReal) := fun p u =>
    (congrArg (fun k => x (ix4 b k R u)) (Fin.ext e)).trans (hx u)
  have hw' : ∀ p, O ⟨(Fin.ofNat 512 (128 * h.val + w.val)).val % 128, p⟩ = O w := fun p => congrArg O (Fin.ext e')
  pointwise [finish]
  simp only [hx', hw', hg, hn, ← EReal.coe_mul, coe_sum]
  simp only [finE, zero_sub, EReal.coe_mul]

/-- The reference's result on finite arguments. -/
theorem result_apply (h0 : Finite (V0 (Proc.devRef .tc main_arg0))) (h1 : Finite (V0 (Proc.devRef .tc main_arg1)))
    (h2 : Finite (V0 (Proc.devRef .tc main_arg2))) (h3 : Finite (V0 (Proc.devRef .tc main_arg3)))
    (h4 : Finite (V0 (Proc.devRef .tc main_arg4))) (h5 : Finite (V0 (Proc.devRef .tc main_arg5)))
    (h6 : Finite (V0 (Proc.devRef .tc main_arg6))) (b h : Fin 4) (R : Fin 4096) (w : Fin 128) :
    finish (res_main_v168 V0) (V0 (Proc.devRef .tc main_arg6)) (res_main_v11 V0) (ix3 b R (Fin.ofNat 512 (128 * h.val + w.val)))
      = (refData V0 b h).result h.val R.val w := by
  refine finish_apply b h R w (fun u => (refData V0 b h).o h.val false R.val u + (refData V0 b h).o h.val true R.val u)
    ((refData V0 b h).gg R.val) (refData V0 b h).gain (fun u => ?_) (gate_apply V0 h0 b h R w) (h6 _)
  rw [outs_eq, EReal.coe_add]
  exact congrArg₂ (· + ·) (rep_streamR V0 h0 h1 h2 h3 h4 h5 false b h R u) (rep_streamR V0 h0 h1 h2 h3 h4 h5 true b h R u)

end Cert.ReferenceIdeal.Gla

end
-- ==== Proof.Join.lean ====
module

public import proofs.«01_k».proof.Defs
public import proofs.«01_k».proof.Proof.RefValue
public import Idealize.ShloMosaic.Lib.ReduceAll
public import Idealize.ShloMosaic.Lib.Affine

@[expose] public section

set_option maxRecDepth 16384

noncomputable section

namespace Cert.Gla

open Idealize.ShloMosaic Idealize.SL.Sem
open Cert.KernelIdeal.Gla (dataOf dataAt dats Finite eq_ix3)

/-! The precondition read as finiteness of each argument, and the two results joined. -/

/-- The precondition's side conditions hold. -/
theorem preFacts : Cert.Pre_finite_inputs.Facts := by
  constructor <;> decide

theorem top_bits : Ideal.ofBits FTy.f32 0x7F800000#32 = ⊤ := by
  simp [Ideal.ofBits, Ideal.ieee]

/-- What lies strictly inside the infinities is a number. -/
theorem number_of_lt (x : EReal) (h : max x (-x) < ⊤) : x = ((x.toReal : ℝ) : EReal) := by
  refine (EReal.coe_toReal ?_ ?_).symm
  · rintro rfl
    simp at h
  · rintro rfl
    simp at h

/-- An array whose every absolute value is below infinity is finite. -/
theorem finite_of_all {s t : Shape} {axes : List (Fin s.rank)} [Subsingleton t.Idx] (x : FVec Ideal s .f32)
    (bc : (⟨0, ![]⟩ : Shape).BroadcastsInDim s ![]) (init : IVec (⟨0, ![]⟩ : Shape) 1) (h : s.ReducesTo axes t)
    (hu : 0 < (⟨0, ![]⟩ : Shape).numel) (j : t.Idx)
    (e : Host.reduce IntOp.andi (cmpf .olt (Host.absf x) (broadcastInDim s ![] bc (constant (⟨0, ![]⟩ : Shape) .f32 0x7F800000#32))) init h hu j = 1#1) :
    Finite x := by
  intro y
  refine number_of_lt _ ?_
  have hy := Host.reduce_andi_all _ _ _ _ _ e y
  have hy' : BitVec.ofBool (decide (max (x y) (-(x y)) < Ideal.ofBits FTy.f32 0x7F800000#32)) = 1#1 := hy
  rw [top_bits] at hy'
  by_contra hc
  rw [decide_eq_false hc] at hy'
  exact absurd hy' (by decide)

/-- The precondition makes every argument finite. -/
theorem finite_args [Cert.Pre_finite_inputs.Facts] (a0 : FVec Ideal (⟨3, ![4, 4096, 1536]⟩ : Shape) .f32) (a1 : FVec Ideal (⟨3, ![4, 4096, 128]⟩ : Shape) .f32)
    (a2 : FVec Ideal (⟨3, ![4, 256, 1536]⟩ : Shape) .f32) (a3 : FVec Ideal (⟨3, ![4, 256, 128]⟩ : Shape) .f32)
    (a4 : FVec Ideal (⟨4, ![4, 2, 128, 128]⟩ : Shape) .bf16) (a5 : FVec Ideal (⟨4, ![4, 2, 1, 128]⟩ : Shape) .f32)
    (a6 : FVec Ideal (⟨1, ![512]⟩ : Shape) .f32)
    (h : Cert.Pre_finite_inputs.fn (F := Ideal) a0 a1 a2 a3 a4 a5 a6 = fun _ => 1#1) :
    Finite a0 ∧ Finite a1 ∧ Finite a2 ∧ Finite a3 ∧ Finite a4 ∧ Finite a5 ∧ Finite a6 := by
  have e := congrFun h ix0
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨finite_of_all _ _ _ _ _ _ e0, finite_of_all _ _ _ _ _ _ e1, finite_of_all _ _ _ _ _ _ e2, finite_of_all _ _ _ _ _ _ e3,
    finite_of_all (extf .f32 a4 (by decide)) _ _ _ _ _ e4, finite_of_all _ _ _ _ _ _ e5, finite_of_all _ _ _ _ _ _ e6⟩

theorem finite_of_eq {ι : Type} {a a' : ι → EReal} (e : a' = a) (h : Finite a) : Finite a' := by
  rw [e]
  exact h

section Joined
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's arguments are the kernel's. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- The reference's result, as its stages give it. -/
def refResult (c : Dev Cert.KernelIdeal.nD) : Cert.ReferenceIdeal.S4x4096x512.Idx → EReal :=
  Cert.ReferenceIdeal.Gla.finish (Cert.ReferenceIdeal.Value.res_main_v168 (StableHlo.launchContents m' c))
    (StableHlo.launchContents m' c (Proc.devRef .tc Cert.ReferenceIdeal.main_arg6))
    (Cert.ReferenceIdeal.Value.res_main_v11 (StableHlo.launchContents m' c))

/-- On finite arguments the reference's result is the array that the kernel's blocks leave. -/
theorem joined [Cert.Pre_finite_inputs.Facts] (hp : Cert.Pre_KernelIdeal_finite_inputs m) (c : Dev Cert.KernelIdeal.nD) (ha : Agree m m' c) :
    refResult m' c = ((dats m 0 c).arrAt 11 Cert.KernelIdeal.cfg0.N : Cert.KernelIdeal.S4x4096x512.Idx → EReal) := by
  obtain ⟨e0, e1, e2, e3, e4, e5, e6⟩ := ha
  obtain ⟨h0, h1, h2, h3, h4, h5, h6⟩ := finite_args _ _ _ _ _ _ _ (hp c)
  funext y
  have hj : (y 2).val < 512 := (y 2).isLt
  obtain ⟨b, h, R, w, rfl⟩ : ∃ (b h : Fin 4) (R : Fin 4096) (w : Fin 128), y = ix3 b R (Fin.ofNat 512 (128 * h.val + w.val)) :=
    ⟨y 0, ⟨(y 2).val / 128, by omega⟩, y 1, ⟨(y 2).val % 128, by omega⟩, eq_ix3 _ _ _ _ rfl rfl (by
      show (y 2).val = (128 * ((y 2).val / 128) + (y 2).val % 128) % 512
      omega)⟩
  refine Eq.trans ?_ (Cert.KernelIdeal.Gla.result_apply m c h0 h1 h2 h3 h4 h5 h6 b h R w).symm
  refine (Cert.ReferenceIdeal.Gla.result_apply (StableHlo.launchContents m' c) (finite_of_eq e0 h0) (finite_of_eq e1 h1) (finite_of_eq e2 h2) (finite_of_eq e3 h3) (finite_of_eq e4 h4) (finite_of_eq e5 h5)
    (finite_of_eq e6 h6) b h R w).trans ?_
  have e : Cert.ReferenceIdeal.Gla.refData (StableHlo.launchContents m' c) b h = dataAt m c b h := by
    show dataOf (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) b h = _
    rw [e0, e1, e2, e3, e4, e5, e6]
    rfl
  rw [e]

end Joined

/-- The kernel and the reference end with one result on finite arguments. -/
theorem same [hPre : Cert.Pre_finite_inputs.Facts] :
    Cert.algebraic_KernelIdeal_ReferenceIdeal_pre_finite_inputs (hKernelIdeal := Cert.KernelIdeal.Gen.facts)
      (hReferenceIdeal := Cert.ReferenceIdeal.Gen.facts) := by
  intro m g m' g' hp ha
  refine ⟨fun c => (dats m 0 c).arrAt 11 Cert.KernelIdeal.cfg0.N, Cert.KernelIdeal.Gla.run m g, ?_⟩
  refine (θ_run Cert.ReferenceIdeal.defs _ _).mono (fun r h c => ⟨(h c).1.trans ?_, (h c).2⟩) (Cert.ReferenceIdeal.Value.run m' g')
  exact joined m m' hp c (ha c)

end Cert.Gla

end
-- ==== Proof.InprojBlock.lean ====
module

public import proofs.«01_k».proof.Proof.Gen.Kernel2Ideal.Skeleton
public import Idealize.ShloMosaic.Lib.Pointwise

@[expose] public section

set_option maxRecDepth 16384

noncomputable section

namespace Cert.Inproj

open Idealize.ShloMosaic Idealize.SL.Sem Cert.Kernel2Ideal Cert.Kernel2Ideal.Gen

/-! What one program of the input projection computes of its blocks. -/

/-- A token's row after the norm, the gain and the modulation. -/
def hid (x g sc sh : Fin 1024 → EReal) (k : Fin 1024) : EReal :=
  x k * Ideal.rsqrt (Ideal.div (∑ j, x j * x j) (Ideal.ofBits .f32 0x44800000#32) + Ideal.ofBits .f32 0x358637BD#32) * g k
    * (Ideal.ofBits .f32 0x3F800000#32 + sc k) + sh k

theorem pay5_apply (x : Vec Ideal S1x256x1024 .f32) (g : Vec Ideal S1x1024 .f32) (sc sh : Vec Ideal S1x1x1024 .f32) (r : Fin 256) (k : Fin 1024) :
    k0_pay5 x g sc sh (ix2 r k) = hid (fun j => x (ix3 0 r j)) (fun j => g (ix2 0 j)) (fun j => sc (ix3 0 0 j)) (fun j => sh (ix3 0 0 j)) k := by
  pointwise [k0_pay5, hid]

theorem pay6_apply (x : Vec Ideal S1x256x1024 .f32) (g : Vec Ideal S1x1024 .f32) (sc sh : Vec Ideal S1x1x1024 .f32) (w : Vec Ideal S1024x1536 .bf16)
    (r : Fin 256) (j : Fin 1536) : k0_pay6 x g sc sh w (ix3 0 r j) = ∑ k, k0_pay5 x g sc sh (ix2 r k) * w (ix2 k j) := by
  pointwise [k0_pay6]

theorem pay7_apply (h : FVec Ideal S256x1024 .bf16) (w : Vec Ideal S1024x2048 .bf16)
    (r : Fin 256) (j : Fin 2048) : k0_pay7 h w (ix3 0 r j) = ∑ k, h (ix2 r k) * w (ix2 k j) := by
  pointwise [k0_pay7]

theorem pay10_apply (h : FVec Ideal S256x1024 .bf16) (w : Vec Ideal S1024x128 .bf16) (b : Vec Ideal S1x128 .f32)
    (r : Fin 256) (j : Fin 128) : k0_pay10 h w b (ix3 0 r j) = (∑ k, h (ix2 r k) * w (ix2 k j)) + b (ix2 0 j) := by
  pointwise [k0_pay10, k0_pay8]

end Cert.Inproj

end
-- ==== Proof.InprojOut.lean ====
module

public import proofs.«01_k».proof.Proof.InprojBlock
public import proofs.«01_k».proof.Proof.Gen.Kernel2Ideal.Value
public import Idealize.ShloMosaic.Lib.Pipeline.ValueKit

@[expose] public section

set_option maxRecDepth 16384

noncomputable section

namespace Cert.Inproj

open Idealize.ShloMosaic Idealize.ShloMosaic.TcCoe Idealize.ShloMosaic.Tactic Idealize.SL.Sem Cert.Kernel2Ideal Cert.Kernel2Ideal.Gen

/-! What one program of the input projection leaves in the blocks of its three products. -/

section loads

/-- A load of a whole block of two axes. -/
theorem load2 {n0 n1 : ℕ} {e : EltTy} (a : Memref sig .tc .vmem (⟨2, ![n0, n1]⟩ : Shape) e) (h : a.IsWhole) (x : Vec Ideal (⟨2, ![n0, n1]⟩ : Shape) e)
    (inb : ∀ k, (![0, 0] : Fin 2 → ℕ) k + (![n0, n1] : Fin 2 → ℕ) k ≤ (⟨2, ![n0, n1]⟩ : Shape).size k) (p : Fin n0) (q : Fin n1) :
    View.readAt (Elt Ideal) a.view (Rect.unit (s := (⟨2, ![n0, n1]⟩ : Shape)) ![0, 0] ![n0, n1] inb).toLoadRect (h.unread x) (ix2 p q) = x (ix2 p q) := by
  refine Eq.trans ?_ (congrFun (h.read_unread x) (ix2 p q))
  refine congrArg (a.view.read (Elt Ideal) (h.unread x)) ?_
  funext k
  apply Fin.ext
  match k with
  | 0 => show 0 + 1 * p.val = p.val; omega
  | 1 => show 0 + 1 * q.val = q.val; omega

/-- A load of consecutive rows of a block of three axes. -/
theorem load3 {n1 n2 o m1 : ℕ} {e : EltTy} (a : Memref sig .tc .vmem (⟨3, ![1, n1, n2]⟩ : Shape) e) (h : a.IsWhole) (x : Vec Ideal (⟨3, ![1, n1, n2]⟩ : Shape) e)
    (inb : ∀ k, (![0, o, 0] : Fin 3 → ℕ) k + (![1, m1, n2] : Fin 3 → ℕ) k ≤ (⟨3, ![1, n1, n2]⟩ : Shape).size k) (p : Fin m1) (q : Fin n2) (p' : Fin n1)
    (hp : p'.val = o + p.val) :
    View.readAt (Elt Ideal) a.view (Rect.unit (s := (⟨3, ![1, n1, n2]⟩ : Shape)) ![0, o, 0] ![1, m1, n2] inb).toLoadRect (h.unread x) (ix3 0 p q) = x (ix3 0 p' q) := by
  refine Eq.trans ?_ (congrFun (h.read_unread x) (ix3 0 p' q))
  refine congrArg (a.view.read (Elt Ideal) (h.unread x)) ?_
  funext k
  apply Fin.ext
  match k with
  | 0 => rfl
  | 1 => show o + 1 * p.val = p'.val; omega
  | 2 => show 0 + 1 * q.val = q.val; omega

/-- A store that covers the block, read back. -/
theorem store3 {n1 n2 : ℕ} {e : EltTy} (v : View sig .tc .vmem (⟨3, ![1, n1, n2]⟩ : Shape) e) (f : v.ty.Contents (Elt Ideal))
    (inb : ∀ k, (![0, 0, 0] : Fin 3 → ℕ) k + (![1, n1, n2] : Fin 3 → ℕ) k ≤ (⟨3, ![1, n1, n2]⟩ : Shape).size k) (x : Vec Ideal (⟨3, ![1, n1, n2]⟩ : Shape) e)
    (p : Fin n1) (q : Fin n2) :
    v.read (Elt Ideal) (v.writes (Elt Ideal) f [⟨Rect.unit (s := (⟨3, ![1, n1, n2]⟩ : Shape)) ![0, 0, 0] ![1, n1, n2] inb, x⟩]) (ix3 0 p q) = x (ix3 0 p q) := by
  refine Eq.trans (congrArg (v.read (Elt Ideal) _) ?_) (View.read_writes_cons_emb v f (Rect.unit (s := (⟨3, ![1, n1, n2]⟩ : Shape)) ![0, 0, 0] ![1, n1, n2] inb) x [] (ix3 0 p q))
  funext k
  apply Fin.ext
  match k with
  | 0 => rfl
  | 1 => show p.val = 0 + 1 * p.val; omega
  | 2 => show q.val = 0 + 1 * q.val; omega

end loads

section body

variable (c : Dev nD) (i : grid0.Coords)
    (arg2 : Memref sig .tc .vmem S1x256x1024 .f32) (harg2 : arg2.IsWhole)
    (arg3 : Memref sig .tc .vmem S1x6x1024 .f32) (harg3 : arg3.IsWhole)
    (arg4 : Memref sig .tc .vmem S1x1024 .f32) (harg4 : arg4.IsWhole)
    (arg5 : Memref sig .tc .vmem S1024x1536 .bf16) (harg5 : arg5.IsWhole)
    (arg6 : Memref sig .tc .vmem S1024x2048 .bf16) (harg6 : arg6.IsWhole)
    (arg7 : Memref sig .tc .vmem S1024x128 .bf16) (harg7 : arg7.IsWhole)
    (arg8 : Memref sig .tc .vmem S128x1024 .bf16) (harg8 : arg8.IsWhole)
    (arg9 : Memref sig .tc .vmem S1x128 .f32) (harg9 : arg9.IsWhole)
    (arg10 : Memref sig .tc .vmem S128x1 .f32) (harg10 : arg10.IsWhole)
    (arg11 : Memref sig .tc .vmem S1x256x1536 .f32) (harg11 : arg11.IsWhole)
    (arg12 : Memref sig .tc .vmem S1x256x2048 .f32) (harg12 : arg12.IsWhole)
    (arg13 : Memref sig .tc .vmem S1x256x128 .f32) (harg13 : arg13.IsWhole)
    (arg14 : Memref sig .tc .vmem S1x256x512 .f32) (harg14 : arg14.IsWhole)
    (arg15 : Memref sig .tc .vmem S1x4x8x256 .f32) (harg15 : arg15.IsWhole)
    (x0 : Vec Ideal S1x256x1024 .f32) (x1 : Vec Ideal S1x6x1024 .f32) (x2 : Vec Ideal S1x1024 .f32) (x3 : Vec Ideal S1024x1536 .bf16)
    (x4 : Vec Ideal S1024x2048 .bf16) (x5 : Vec Ideal S1024x128 .bf16) (x6 : Vec Ideal S128x1024 .bf16) (x7 : Vec Ideal S1x128 .f32)
    (x8 : Vec Ideal S128x1 .f32)

/-- The hidden row that every product of the program takes. -/
theorem hidden (r : Fin 256) (k : Fin 1024) :
    k0_pay5 (View.readAt (Elt Ideal) arg2.view (Rect.unit ![0, 0, 0] ![1, 256, 1024] inb_S1x256x1024_S1x256x1024_0_0_0).toLoadRect (harg2.unread x0))
        (View.readAt (Elt Ideal) arg4.view (Rect.unit ![0, 0] ![1, 1024] inb_S1x1024_S1x1024_0_0).toLoadRect (harg4.unread x2))
        (View.readAt (Elt Ideal) arg3.view (Rect.unit ![0, 1, 0] ![1, 1, 1024] inb_S1x6x1024_S1x1x1024_0_1_0).toLoadRect (harg3.unread x1))
        (View.readAt (Elt Ideal) arg3.view (Rect.unit ![0, 0, 0] ![1, 1, 1024] inb_S1x6x1024_S1x1x1024_0_0_0).toLoadRect (harg3.unread x1)) (ix2 r k)
      = hid (fun k => x0 (ix3 0 r k)) (fun k => x2 (ix2 0 k)) (fun k => x1 (ix3 0 1 k)) (fun k => x1 (ix3 0 0 k)) k := by
  rw [pay5_apply]
  refine congr (congr (congr (congr (congrArg hid ?_) ?_) ?_) ?_) rfl
  · funext j
    exact load3 arg2 harg2 x0 inb_S1x256x1024_S1x256x1024_0_0_0 r j r (Nat.zero_add _).symm
  · funext j
    exact load2 arg4 harg4 x2 inb_S1x1024_S1x1024_0_0 0 j
  · funext j
    exact load3 arg3 harg3 x1 inb_S1x6x1024_S1x1x1024_0_1_0 0 j 1 rfl
  · funext j
    exact load3 arg3 harg3 x1 inb_S1x6x1024_S1x1x1024_0_0_0 0 j 0 rfl

/-- The first product's block. -/
theorem out9 (r : Fin 256) (j : Fin 1536) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix3 0 r j)
      = ∑ k, hid (fun k => x0 (ix3 0 r k)) (fun k => x2 (ix2 0 k)) (fun k => x1 (ix3 0 1 k)) (fun k => x1 (ix3 0 0 k)) k * x3 (ix2 k j) := by
  refine (store3 VO0_9 _ _ _ r j).trans ?_
  rw [pay6_apply]
  refine Finset.sum_congr rfl fun k _ => congr (congrArg _ (hidden arg2 harg2 arg3 harg3 arg4 harg4 x0 x1 x2 r k)) ?_
  exact load2 arg5 harg5 x3 inb_S1024x1536_S1024x1536_0_0 k j

/-- The second product's block. -/
theorem out10 (r : Fin 256) (j : Fin 2048) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix3 0 r j)
      = ∑ k, hid (fun k => x0 (ix3 0 r k)) (fun k => x2 (ix2 0 k)) (fun k => x1 (ix3 0 1 k)) (fun k => x1 (ix3 0 0 k)) k * x4 (ix2 k j) := by
  refine (store3 VO0_10 _ _ _ r j).trans ?_
  rw [pay7_apply]
  refine Finset.sum_congr rfl fun k _ => congr (congrArg _ (hidden arg2 harg2 arg3 harg3 arg4 harg4 x0 x1 x2 r k)) ?_
  exact load2 arg6 harg6 x4 inb_S1024x2048_S1024x2048_0_0 k j

/-- The third product's block, the bias added. -/
theorem out11 (r : Fin 256) (j : Fin 128) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix3 0 r j)
      = (∑ k, hid (fun k => x0 (ix3 0 r k)) (fun k => x2 (ix2 0 k)) (fun k => x1 (ix3 0 1 k)) (fun k => x1 (ix3 0 0 k)) k * x5 (ix2 k j)) + x7 (ix2 0 j) := by
  refine (store3 VO0_11 _ _ _ r j).trans ?_
  rw [pay10_apply]
  refine congr (congrArg _ (Finset.sum_congr rfl fun k _ => congr (congrArg _ (hidden arg2 harg2 arg3 harg3 arg4 harg4 x0 x1 x2 r k)) ?_)) ?_
  · exact load2 arg7 harg7 x5 inb_S1024x128_S1024x128_0_0 k j
  · exact load2 arg9 harg9 x7 inb_S1x128_S1x128_0_0 0 j

end body

end Cert.Inproj

end
-- ==== Proof.InprojArray.lean ====
module

public import proofs.«01_k».proof.Proof.InprojOut

@[expose] public section

set_option maxRecDepth 16384

noncomputable section

namespace Cert.Inproj

open Idealize.ShloMosaic Idealize.ShloMosaic.TcCoe Idealize.ShloMosaic.Tactic Idealize.SL.Sem
open Cert.Kernel2Ideal Cert.Kernel2Ideal.Gen Cert.Kernel2Ideal.Value

/-! The three products' arrays after the run, entry by entry. -/

/-- A token's row after the norm, the gain and the modulation, out of the arguments. -/
def hidOf (a0 : S4x4096x1024.Idx → EReal) (a1 : S8x6x1024.Idx → EReal) (a2 : S1024.Idx → EReal) (b : Fin 4) (R : Fin 4096) (k : Fin 1024) : EReal :=
  hid (fun k => a0 (ix3 b R k)) (fun k => a2 (ix1 k)) (fun k => a1 (ix3 (b.castLE (by decide)) 1 k)) (fun k => a1 (ix3 (b.castLE (by decide)) 0 k)) k

/-- A product's entry at a column of the weights. -/
def colOf (a0 : S4x4096x1024.Idx → EReal) (a1 : S8x6x1024.Idx → EReal) (a2 : S1024.Idx → EReal) (a3 : S1024x3632.Idx → EReal)
    (b : Fin 4) (R : Fin 4096) (j : Fin 3632) : EReal :=
  ∑ k, hidOf a0 a1 a2 b R k * a3 (ix2 k j)

/-- A column of the weights, counted from an offset. -/
def wide {n : ℕ} (o : ℕ) (h : o + n ≤ 3632) (j : Fin n) : Fin 3632 := ⟨o + j.val, by have := j.isLt; omega⟩

/-- The columns of the third product: the decays', the gates', and a margin of zeros. -/
def small (f : Fin 3632 → EReal) (j : Fin 128) : EReal :=
  if h : j.val < 32 then f ⟨1536 + j.val, by omega⟩ else if h : j.val - 32 < 16 then f ⟨3616 + (j.val - 32), by omega⟩ else 0

theorem small_sum (h : Fin 1024 → EReal) (w : Fin 1024 → Fin 3632 → EReal) (j : Fin 128) :
    ∑ k, h k * small (w k) j = small (fun q => ∑ k, h k * w k q) j := by
  unfold small
  split
  · rfl
  · split
    · rfl
    · exact Finset.sum_eq_zero fun k _ => mul_zero _

theorem sum_eq {f g : Fin 1024 → EReal} (h : ∀ k, f k = g k) : ∑ k, f k = ∑ k, g k := Finset.sum_congr rfl fun k _ => h k

/-- The row of token `r` of block `i`. -/
def row (i : Fin 16) (r : Fin 256) : Fin 4096 := ⟨256 * i.val + r.val, by
  have := i.isLt
  have := r.isLt
  omega⟩

theorem exists_row (R : Fin 4096) : ∃ i r, R = row i r := by
  have := R.isLt
  refine ⟨⟨R.val / 256, by omega⟩, ⟨R.val % 256, by omega⟩, Fin.ext ?_⟩
  show R.val = 256 * (R.val / 256) + R.val % 256
  omega

/-- An index of three axes by its coordinates. -/
theorem eq_ix3 {n0 n1 n2 : ℕ} (y : (⟨3, ![n0, n1, n2]⟩ : Shape).Idx) (a : Fin n0) (b : Fin n1) (c : Fin n2)
    (h0 : (y 0).val = a.val) (h1 : (y 1).val = b.val) (h2 : (y 2).val = c.val) : y = ix3 a b c := by
  funext i
  match i with
  | 0 => exact Fin.ext h0
  | 1 => exact Fin.ext h1
  | 2 => exact Fin.ext h2

/-- An index of two axes by its coordinates. -/
theorem eq_ix2 {n0 n1 : ℕ} (y : (⟨2, ![n0, n1]⟩ : Shape).Idx) (a : Fin n0) (b : Fin n1)
    (h0 : (y 0).val = a.val) (h1 : (y 1).val = b.val) : y = ix2 a b := by
  funext i
  match i with
  | 0 => exact Fin.ext h0
  | 1 => exact Fin.ext h1

/-- The point of the grid at batch `b` and block `i` of the tokens. -/
def point (b : Fin 4) (i : Fin 16) : Fin cfg0.N := ⟨16 * b.val + i.val, by
  have := b.isLt
  have := i.isLt
  show 16 * b.val + i.val < 64
  omega⟩

theorem index0 : ∀ (b : Fin 4) (i : Fin 16), win0_0.index (point b i) = ![b.val, i.val, 0] := by decide +kernel
theorem index1 : ∀ (b : Fin 4) (i : Fin 16), win0_1.index (point b i) = ![b.val, 0, 0] := by decide +kernel
theorem index2 : ∀ (b : Fin 4) (i : Fin 16), win0_2.index (point b i) = ![0, 0] := by decide +kernel
theorem index3 : ∀ (b : Fin 4) (i : Fin 16), win0_3.index (point b i) = ![0, 0] := by decide +kernel
theorem index4 : ∀ (b : Fin 4) (i : Fin 16), win0_4.index (point b i) = ![0, 0] := by decide +kernel
theorem index5 : ∀ (b : Fin 4) (i : Fin 16), win0_5.index (point b i) = ![0, 0] := by decide +kernel
theorem index7 : ∀ (b : Fin 4) (i : Fin 16), win0_7.index (point b i) = ![0, 0] := by decide +kernel
theorem index9 : ∀ (b : Fin 4) (i : Fin 16), win0_9.index (point b i) = ![b.val, i.val, 0] := by decide +kernel
theorem index10 : ∀ (b : Fin 4) (i : Fin 16), win0_10.index (point b i) = ![b.val, i.val, 0] := by decide +kernel
theorem index11 : ∀ (b : Fin 4) (i : Fin 16), win0_11.index (point b i) = ![b.val, i.val, 0] := by decide +kernel
theorem flush9 : ∀ (b : Fin 4) (i : Fin 16), (cfg0.win 9).flush (point b i) = true := by decide +kernel
theorem flush10 : ∀ (b : Fin 4) (i : Fin 16), (cfg0.win 10).flush (point b i) = true := by decide +kernel
theorem flush11 : ∀ (b : Fin 4) (i : Fin 16), (cfg0.win 11).flush (point b i) = true := by decide +kernel

variable (m : (ℓ : Loc nD τ sig) → Buf (Elt Ideal) ℓ) (ρ : Dev nD → PrngReg) (c : Dev nD)

/-- The gain's row. -/
theorem gainRow (k : Fin 1024) : V m c main_v6 (ix2 0 k) = m ((c : Thread nD τ).loc main_arg2) (ix1 k) := by
  have h : V m c main_v6 = shapeCast S1x1024 (m ((c : Thread nD τ).loc main_arg2)) shapeCasts_S1024_S1x1024 := rfl
  rw [h]
  pointwise

/-- The bias's row. -/
theorem biasRow (j : Fin 128) : V m c main_v12 (ix2 0 j) = m ((c : Thread nD τ).loc main_arg4) (ix1 j) := by
  have h : V m c main_v12 = shapeCast S1x128 (m ((c : Thread nD τ).loc main_arg4)) shapeCasts_S128_S1x128 := rfl
  rw [h]
  pointwise

/-- The arguments, as arrays of numbers. -/
abbrev X (m : (ℓ : Loc nD τ sig) → Buf (Elt Ideal) ℓ) (c : Dev nD) : S4x4096x1024.Idx → EReal := m ((c : Thread nD τ).loc main_arg0)
abbrev Mods (m : (ℓ : Loc nD τ sig) → Buf (Elt Ideal) ℓ) (c : Dev nD) : S8x6x1024.Idx → EReal := m ((c : Thread nD τ).loc main_arg1)
abbrev Gain (m : (ℓ : Loc nD τ sig) → Buf (Elt Ideal) ℓ) (c : Dev nD) : S1024.Idx → EReal := m ((c : Thread nD τ).loc main_arg2)
abbrev W (m : (ℓ : Loc nD τ sig) → Buf (Elt Ideal) ℓ) (c : Dev nD) : S1024x3632.Idx → EReal := m ((c : Thread nD τ).loc main_arg3)
abbrev Bias (m : (ℓ : Loc nD τ sig) → Buf (Elt Ideal) ℓ) (c : Dev nD) : S128.Idx → EReal := m ((c : Thread nD τ).loc main_arg4)

/-- The first product's weights. -/
theorem weights3 (k : Fin 1024) (j : Fin 1536) :
    V m c main_v7 (ix2 k j) = W m c (ix2 k (wide 0 (by decide) j)) := by
  have h : V m c main_v7 = (truncf .bf16 (extractStridedSlice S1024x1536 ![0, 0] (m ((c : Thread nD τ).loc main_arg3)) slices_S1024x3632_S1024x1536_0_0 : FVec Ideal S1024x1536 .f32) bitsLt_bf16_f32 : FVec Ideal S1024x1536 .bf16) := rfl
  rw [h]
  pointwise
  exact congrArg (W m c) (eq_ix2 _ _ _ rfl (Nat.zero_add _).symm)

/-- The second product's weights. -/
theorem weights4 (k : Fin 1024) (j : Fin 2048) :
    V m c main_v8 (ix2 k j) = W m c (ix2 k (wide 1568 (by decide) j)) := by
  have h : V m c main_v8 = (truncf .bf16 (extractStridedSlice S1024x2048 ![0, 1568] (m ((c : Thread nD τ).loc main_arg3)) slices_S1024x3632_S1024x2048_0_1568 : FVec Ideal S1024x2048 .f32) bitsLt_bf16_f32 : FVec Ideal S1024x2048 .bf16) := rfl
  rw [h]
  pointwise
  rfl

/-- The third product's weights: the decays' columns, the gates' columns and a margin of zeros. -/
theorem weights5 (k : Fin 1024) (j : Fin 128) :
    V m c main_v9 (ix2 k j) = small (fun q => W m c (ix2 k q)) j := by
  have h : V m c main_v9 = truncf .bf16 (concatenate S1024x128 1 [⟨S1024x32, (extractStridedSlice S1024x32 ![0, 1536] (m ((c : Thread nD τ).loc main_arg3)) slices_S1024x3632_S1024x32_0_1536 : FVec Ideal S1024x32 .f32)⟩,
      ⟨S1024x16, (extractStridedSlice S1024x16 ![0, 3616] (m ((c : Thread nD τ).loc main_arg3)) slices_S1024x3632_S1024x16_0_3616 : FVec Ideal S1024x16 .f32)⟩,
      ⟨S1024x80, (broadcastInDim S1024x80 ![] bcast_S_S1024x80 (constant S_ .f32 0x00000000#32) : FVec Ideal S1024x80 .f32)⟩] concatenates_S1024x32_S1024x16_S1024x80_S1024x128_d1) bitsLt_bf16_f32 := rfl
  rw [h]
  pointwise
  rfl

/-! What the windows hold. -/

theorem held0 (b : Fin 4) (i : Fin 16) (r : Fin 256) (k : Fin 1024) :
    iblk m c 0 (point b i) (ix3 0 r k) = X m c (ix3 b (row i r) k) := by
  show V m c (Pipeline.arrRef spec0 0) _ = _
  rw [show V m c (Pipeline.arrRef spec0 0) = _ from V_main_arg0 m c]
  refine congrArg (X m c) (eq_ix3 _ _ _ _ ?_ ?_ ?_)
  all_goals
    blk_simp
    rw [index0]
  · exact Nat.add_zero b.val
  · show i.val * 256 + r.val = 256 * i.val + r.val
    omega
  · exact Nat.zero_add _

theorem held1 (b : Fin 4) (i : Fin 16) (p : Fin 6) (k : Fin 1024) :
    iblk m c 1 (point b i) (ix3 0 p k) = Mods m c (ix3 (b.castLE (by decide)) p k) := by
  show V m c (Pipeline.arrRef spec0 1) _ = _
  rw [show V m c (Pipeline.arrRef spec0 1) = _ from V_main_arg1 m c]
  refine congrArg (Mods m c) (eq_ix3 _ _ _ _ ?_ ?_ ?_)
  all_goals
    blk_simp
    rw [index1]
  · exact Nat.add_zero b.val
  · exact Nat.zero_add _
  · exact Nat.zero_add _

theorem held2 (b : Fin 4) (i : Fin 16) (k : Fin 1024) : iblk m c 2 (point b i) (ix2 0 k) = Gain m c (ix1 k) := by
  refine Eq.trans ?_ (gainRow m c k)
  show V m c main_v6 _ = _
  refine congrArg (V m c main_v6) (eq_ix2 _ _ _ ?_ ?_)
  all_goals
    blk_simp
    rw [index2]
  · rfl
  · exact Nat.zero_add _

theorem held3 (b : Fin 4) (i : Fin 16) (k : Fin 1024) (j : Fin 1536) :
    iblk m c 3 (point b i) (ix2 k j) = W m c (ix2 k (wide 0 (by decide) j)) := by
  refine Eq.trans ?_ (weights3 m c k j)
  show V m c main_v7 _ = _
  refine congrArg (V m c main_v7) (eq_ix2 _ _ _ ?_ ?_)
  all_goals
    blk_simp
    rw [index3]
    exact Nat.zero_add _

theorem held4 (b : Fin 4) (i : Fin 16) (k : Fin 1024) (j : Fin 2048) :
    iblk m c 4 (point b i) (ix2 k j) = W m c (ix2 k (wide 1568 (by decide) j)) := by
  refine Eq.trans ?_ (weights4 m c k j)
  show V m c main_v8 _ = _
  refine congrArg (V m c main_v8) (eq_ix2 _ _ _ ?_ ?_)
  all_goals
    blk_simp
    rw [index4]
    exact Nat.zero_add _

theorem held5 (b : Fin 4) (i : Fin 16) (k : Fin 1024) (j : Fin 128) :
    iblk m c 5 (point b i) (ix2 k j) = small (fun q => W m c (ix2 k q)) j := by
  refine Eq.trans ?_ (weights5 m c k j)
  show V m c main_v9 _ = _
  refine congrArg (V m c main_v9) (eq_ix2 _ _ _ ?_ ?_)
  all_goals
    blk_simp
    rw [index5]
    exact Nat.zero_add _

theorem held7 (b : Fin 4) (i : Fin 16) (j : Fin 128) : iblk m c 7 (point b i) (ix2 0 j) = Bias m c (ix1 j) := by
  refine Eq.trans ?_ (biasRow m c j)
  show V m c main_v12 _ = _
  refine congrArg (V m c main_v12) (eq_ix2 _ _ _ ?_ ?_)
  all_goals
    blk_simp
    rw [index7]
  · rfl
  · exact Nat.zero_add _

/-- The hidden row of a token, out of the windows. -/
theorem heldHid (b : Fin 4) (i : Fin 16) (r : Fin 256) (k : Fin 1024) :
    hid (fun k => iblk m c 0 (point b i) (ix3 0 r k)) (fun k => iblk m c 2 (point b i) (ix2 0 k)) (fun k => iblk m c 1 (point b i) (ix3 0 1 k))
        (fun k => iblk m c 1 (point b i) (ix3 0 0 k)) k
      = hidOf (X m c) (Mods m c) (Gain m c) b (row i r) k :=
  congr (congr (congr (congr (congrArg hid (funext fun k => held0 m c b i r k)) (funext fun k => held2 m c b i k))
    (funext fun k => held1 m c b i 1 k)) (funext fun k => held1 m c b i 0 k)) rfl

/-- The first product's array. -/
theorem result9 (b : Fin 4) (R : Fin 4096) (j : Fin 1536) :
    ((dats m 0 c).arrAt 9 cfg0.N : S4x4096x1536.Idx → EReal) (ix3 b R j)
      = colOf (X m c) (Mods m c) (Gain m c) (W m c) b R (wide 0 (by decide) j) := by
  obtain ⟨i, r, rfl⟩ := exists_row R
  have hb := congrFun (blocks9 m c (point b i) (flush9 b i)) (ix3 0 r j)
  have e : ((cfg0.win 9).blk (point b i)).view.emb (ix3 0 r j) = ix3 b (row i r) j := by
    refine eq_ix3 _ _ _ _ ?_ ?_ ?_
    all_goals
      blk_simp
      rw [index9]
    · exact Nat.add_zero b.val
    · show i.val * 256 + r.val = 256 * i.val + r.val
      omega
    · exact Nat.zero_add _
  rw [← e]
  refine hb.trans ?_
  rw [flushed9_A]
  refine Eq.trans (out9 _ _ _ _ _ _ _ _ _ _ _ _ _ _ _ _ _ _ _ _ _ _ _ _ _ _ _ _ _ _ _ _ _ _ _ _ _ _ _ r j) ?_
  refine sum_eq fun k => ?_
  rw [heldHid, held3]

/-- The second product's array. -/
theorem result10 (b : Fin 4) (R : Fin 4096) (j : Fin 2048) :
    ((dats m 0 c).arrAt 10 cfg0.N : S4x4096x2048.Idx → EReal) (ix3 b R j)
      = colOf (X m c) (Mods m c) (Gain m c) (W m c) b R (wide 1568 (by decide) j) := by
  obtain ⟨i, r, rfl⟩ := exists_row R
  have hb := congrFun (blocks10 m c (point b i) (flush10 b i)) (ix3 0 r j)
  have e : ((cfg0.win 10).blk (point b i)).view.emb (ix3 0 r j) = ix3 b (row i r) j := by
    refine eq_ix3 _ _ _ _ ?_ ?_ ?_
    all_goals
      blk_simp
      rw [index10]
    · exact Nat.add_zero b.val
    · show i.val * 256 + r.val = 256 * i.val + r.val
      omega
    · exact Nat.zero_add _
  rw [← e]
  refine hb.trans ?_
  rw [flushed10_A]
  refine Eq.trans (out10 _ _ _ _ _ _ _ _ _ _ _ _ _ _ _ _ _ _ _ _ _ _ _ _ _ _ _ _ _ _ _ _ _ _ _ _ _ _ _ r j) ?_
  refine sum_eq fun k => ?_
  rw [heldHid, held4]

/-- The third product's array. -/
theorem result11 (b : Fin 4) (R : Fin 4096) (j : Fin 128) :
    ((dats m 0 c).arrAt 11 cfg0.N : S4x4096x128.Idx → EReal) (ix3 b R j)
      = small (colOf (X m c) (Mods m c) (Gain m c) (W m c) b R) j + Bias m c (ix1 j) := by
  obtain ⟨i, r, rfl⟩ := exists_row R
  have hb := congrFun (blocks11 m c (point b i) (flush11 b i)) (ix3 0 r j)
  have e : ((cfg0.win 11).blk (point b i)).view.emb (ix3 0 r j) = ix3 b (row i r) j := by
    refine eq_ix3 _ _ _ _ ?_ ?_ ?_
    all_goals
      blk_simp
      rw [index11]
    · exact Nat.add_zero b.val
    · show i.val * 256 + r.val = 256 * i.val + r.val
      omega
    · exact Nat.zero_add _
  rw [← e]
  refine hb.trans ?_
  rw [flushed11_A]
  refine Eq.trans (out11 _ _ _ _ _ _ _ _ _ _ _ _ _ _ _ _ _ _ _ _ _ _ _ _ _ _ _ _ _ _ _ _ _ _ _ _ _ _ _ r j) ?_
  rw [held7]
  refine congrArg (· + Bias m c (ix1 j)) (Eq.trans (sum_eq fun k => ?_) (small_sum _ _ j))
  rw [heldHid, held5]

end Cert.Inproj

end
-- ==== Proof.InprojRef.lean ====
module

public import proofs.«01_k».proof.Proof.InprojArray
public import proofs.«01_k».proof.Proof.Gen.Reference2Ideal.Run

@[expose] public section

set_option maxRecDepth 16384

noncomputable section

namespace Cert.Inproj

open Idealize.ShloMosaic Idealize.SL.Sem Cert.Reference2Ideal Cert.Reference2Ideal.Gen

/-! The reference's stages, entry by entry. -/

/-- The normed and modulated tokens. -/
def refHid (a0 : FVec Ideal S4x4096x1024 .f32) (a1 : FVec Ideal S8x6x1024 .f32) (a2 : FVec Ideal S1024 .f32) : FVec Ideal S4x4096x1024 .f32 :=
  addf (mulf (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 a2)))
    (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (shapeCast S4x1024 (extractStridedSlice S4x1x1024 ![0, 1, 0] a1 slices_S8x6x1024_S4x1x1024_0_1_0) shapeCasts_S4x1x1024_S4x1024)))))
    (broadcastInDim S4x4096x1024 ![0, 1, 2] bcast_S4x1x1024_S4x4096x1024_0_1_2 (broadcastInDim S4x1x1024 ![0, 2] bcast_S4x1024_S4x1x1024_0_2 (shapeCast S4x1024 (extractStridedSlice S4x1x1024 ![0, 0, 0] a1 slices_S8x6x1024_S4x1x1024_0_0_0) shapeCasts_S4x1x1024_S4x1024)))

/-- The product with all the weights. -/
def refProd (a0 : FVec Ideal S4x4096x1024 .f32) (a1 : FVec Ideal S8x6x1024 .f32) (a2 : FVec Ideal S1024 .f32) (a3 : FVec Ideal S1024x3632 .f32) :
    FVec Ideal S4x4096x3632 .f32 :=
  Host.dotGeneral dot_S4x4096x1024_S1024x3632_S4x4096x3632_2_0_01_1_n_n none (refHid a0 a1 a2) a3

variable (a0 : FVec Ideal S4x4096x1024 .f32) (a1 : FVec Ideal S8x6x1024 .f32) (a2 : FVec Ideal S1024 .f32) (a3 : FVec Ideal S1024x3632 .f32)
  (a4 : FVec Ideal S128 .f32)

theorem refHid_apply (b : Fin 4) (R : Fin 4096) (k : Fin 1024) : refHid a0 a1 a2 (ix3 b R k) = hidOf a0 a1 a2 b R k := by
  pointwise [refHid, hidOf, hid]
  rfl

theorem refProd_apply (b : Fin 4) (R : Fin 4096) (j : Fin 3632) : refProd a0 a1 a2 a3 (ix3 b R j) = colOf a0 a1 a2 a3 b R j := by
  pointwise [refProd, colOf]
  simp only [refHid_apply]

/-- The first result. -/
theorem ref9 (b : Fin 4) (R : Fin 4096) (j : Fin 1536) :
    extractStridedSlice S4x4096x1536 ![0, 0, 0] (refProd a0 a1 a2 a3) slices_S4x4096x3632_S4x4096x1536_0_0_0 (ix3 b R j)
      = colOf a0 a1 a2 a3 b R (wide 0 (by decide) j) := by
  pointwise
  refine Eq.trans (congrArg (refProd a0 a1 a2 a3) (eq_ix3 _ b R (wide 0 (by decide) j) rfl rfl (Nat.zero_add _).symm)) (refProd_apply a0 a1 a2 a3 b R _)

/-- The second result. -/
theorem ref10 (b : Fin 4) (R : Fin 4096) (j : Fin 2048) :
    extractStridedSlice S4x4096x2048 ![0, 0, 1568] (refProd a0 a1 a2 a3) slices_S4x4096x3632_S4x4096x2048_0_0_1568 (ix3 b R j)
      = colOf a0 a1 a2 a3 b R (wide 1568 (by decide) j) := by
  pointwise
  exact refProd_apply a0 a1 a2 a3 b R _

/-- The third result. -/
def refSmall : FVec Ideal S4x4096x128 .f32 :=
  addf (concatenate S4x4096x128 2 [⟨S4x4096x32, extractStridedSlice S4x4096x32 ![0, 0, 1536] (refProd a0 a1 a2 a3) slices_S4x4096x3632_S4x4096x32_0_0_1536⟩,
    ⟨S4x4096x16, extractStridedSlice S4x4096x16 ![0, 0, 3616] (refProd a0 a1 a2 a3) slices_S4x4096x3632_S4x4096x16_0_0_3616⟩,
    ⟨S4x4096x80, broadcastInDim S4x4096x80 ![] bcast_S_S4x4096x80 (constant S_ .f32 0x00000000#32)⟩] concatenates_S4x4096x32_S4x4096x16_S4x4096x80_S4x4096x128_d2)
    (broadcastInDim S4x4096x128 ![0, 1, 2] bcast_S1x1x128_S4x4096x128_0_1_2 (broadcastInDim S1x1x128 ![2] bcast_S128_S1x1x128_2 a4))

theorem ref11 (b : Fin 4) (R : Fin 4096) (j : Fin 128) :
    refSmall a0 a1 a2 a3 a4 (ix3 b R j) = small (colOf a0 a1 a2 a3 b R) j + a4 (ix1 j) := by
  pointwise [refSmall]
  simp only [refProd_apply]
  rfl

end Cert.Inproj

end
-- ==== Proof.InprojJoin.lean ====
module

public import proofs.«01_k».proof.Defs
public import proofs.«01_k».proof.Proof.InprojRef

@[expose] public section

set_option maxRecDepth 16384

noncomputable section

namespace Cert.Inproj

open Idealize.ShloMosaic Idealize.SL.Sem

/-! The input projection's arrays and the reference's joined. -/

/-- An array of three axes is known by its entries. -/
theorem ext3 {n0 n1 n2 : ℕ} {f g : (⟨3, ![n0, n1, n2]⟩ : Shape).Idx → EReal} (h : ∀ a b c, f (ix3 a b c) = g (ix3 a b c)) : f = g := by
  funext y
  rw [eq_ix3 y (y 0) (y 1) (y 2) rfl rfl rfl]
  exact h _ _ _

/-- The two programs end with the same three products. -/
theorem same : Cert.algebraic_Kernel2Ideal_Reference2Ideal (hKernel2Ideal := Cert.Kernel2Ideal.Gen.facts)
    (hReference2Ideal := Cert.Reference2Ideal.Gen.facts) := by
  intro m g m' g' _ ha
  refine ⟨fun c => (Cert.Kernel2Ideal.Gen.dats m 0 c).arrAt 9 Cert.Kernel2Ideal.cfg0.N, fun c => (Cert.Kernel2Ideal.Gen.dats m 0 c).arrAt 10 Cert.Kernel2Ideal.cfg0.N,
    fun c => (Cert.Kernel2Ideal.Gen.dats m 0 c).arrAt 11 Cert.Kernel2Ideal.cfg0.N, ?_, ?_⟩
  · refine (θ_run Cert.Kernel2Ideal.defs _ _).mono (fun r h c => ?_) (Cert.Kernel2Ideal.Value.run_blocks m g)
    obtain ⟨h9, h10, h11, -, -, hargs⟩ := h c
    exact ⟨h9, h10, h11, hargs⟩
  · refine (θ_run Cert.Reference2Ideal.defs _ _).mono (fun r h c => ?_) (Cert.Reference2Ideal.Value.run m' g')
    obtain ⟨e9, e10, e11, hargs⟩ := h c
    obtain ⟨e0, e1, e2, e3, e4⟩ := ha c
    rw [e0, e1, e2, e3] at e9 e10
    rw [e0, e1, e2, e3, e4] at e11
    refine ⟨e9.trans ?_, e10.trans ?_, e11.trans ?_, hargs⟩
    · exact ext3 fun b R j => (ref9 (X m c) (Mods m c) (Gain m c) (W m c) b R j).trans (result9 m c b R j).symm
    · exact ext3 fun b R j => (ref10 (X m c) (Mods m c) (Gain m c) (W m c) b R j).trans (result10 m c b R j).symm
    · exact ext3 fun b R j => (ref11 (X m c) (Mods m c) (Gain m c) (W m c) (Bias m c) b R j).trans (result11 m c b R j).symm

end Cert.Inproj

end
-- ==== Proof.OutprojKernelFrame.lean ====
module

public import proofs.«01_k».proof.Proof.Gen.Kernel3.Frame
public import proofs.«01_k».proof.Proof.Gen.Kernel3.Skeleton
public import Idealize.ShloMosaic.Lib.Pipeline.FrameBody
public import Idealize.ShloMosaic.Lib.Tactic
public import Idealize.ShloMosaic.Lib.Claim
public import Idealize.ShloMosaic.Lib.Pipeline.ValueKit

@[expose] public section

set_option maxRecDepth 16384

noncomputable section

namespace Cert.Kernel3.Outproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3 Cert.Kernel3.Gen

variable {F : FTy → Type} [FloatOps F]

local notation "𝕄" => MT nD τ sig Unit (Elt F) ℕ (UR sig nD τ) ℕ

/-! The program as printed runs: nothing is said here of what it computes. -/

/-- The body is at the first point, where it clears its counters. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

-- (the run's proof term is large: checking it walks past the default budget)
set_option maxHeartbeats 4000000 in
/-- The body on whole staging memrefs. -/
theorem body_run (c : Dev nD) (i : grid0.Coords)
    (arg2 : Memref sig .tc .vmem S1x256x1024 .f32) (harg2 : arg2.IsWhole)
    (arg3 : Memref sig .tc .vmem S1x256x512 .bf16) (harg3 : arg3.IsWhole)
    (arg4 : Memref sig .tc .vmem S1x256x512 .bf16) (harg4 : arg4.IsWhole)
    (arg5 : Memref sig .tc .vmem S1x6x1024 .f32) (harg5 : arg5.IsWhole)
    (arg6 : Memref sig .tc .vmem S512x1024 .bf16) (harg6 : arg6.IsWhole)
    (arg7 : Memref sig .tc .vmem S512x1024 .bf16) (harg7 : arg7.IsWhole)
    (arg8 : Memref sig .tc .vmem S1x1024 .f32) (harg8 : arg8.IsWhole)
    (arg9 : Memref sig .tc .vmem S1024x128 .bf16) (harg9 : arg9.IsWhole)
    (arg10 : Memref sig .tc .vmem S1024x128 .bf16) (harg10 : arg10.IsWhole)
    (arg11 : Memref sig .tc .vmem S1x128 .f32) (harg11 : arg11.IsWhole)
    (arg12 : Memref sig .tc .vmem S1x256x1024 .f32) (harg12 : arg12.IsWhole)
    (arg13 : Memref sig .tc .vmem S2048x128 .f32) (harg13 : arg13.IsWhole)
    (arg14 : Memref sig .tc .vmem S256x128 .i32) (harg14 : arg14.IsWhole)
    (arg15 : Memref sig .tc .vmem S256x128 .f32) (harg15 : arg15.IsWhole)
    (arg16 : Memref sig .tc .vmem S1x128 .f32) (harg16 : arg16.IsWhole)
    (arg17 : Memref sig .tc .vmem S1x128 .f32) (harg17 : arg17.IsWhole)
    (x0 : Vec F S1x256x1024 .f32) (x1 : Vec F S1x256x512 .bf16) (x2 : Vec F S1x256x512 .bf16) (x3 : Vec F S1x6x1024 .f32) (x4 : Vec F S512x1024 .bf16) (x5 : Vec F S512x1024 .bf16) (x6 : Vec F S1x1024 .f32) (x7 : Vec F S1024x128 .bf16) (x8 : Vec F S1024x128 .bf16) (x9 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_outproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_outproj_eq_skeleton]; unfold cc0_outproj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    by_cases hc0 : cond0_0 i
    · sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      iexists _, _; isplitr; swap; · iexact HS0
      ipureintro; rfl
    · sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      iexists _, _; isplitr; swap; · iexact HS0
      ipureintro; rfl

variable (m : (ℓ : Loc nD τ sig) → Buf (Elt F) ℓ) (ρ : Dev nD → PrngReg)

/-- A run that keeps the staged inputs keeps the arguments. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 9 rfl).trans ((hA c 9).trans (V_main_arg7 m c))⟩) h

/-- Each window's staging memref at a point, and that it is whole. -/
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x128 .i32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x128 .f32 := win0_14.stage (cfg0.slots t 14)
abbrev hs0_14 (t : Fin cfg0.N) : (ms0_14 t).IsWhole := hstage0_14 ((cfg0.slots t 14).cast nbuf0_14)

/-- The scratch. -/
abbrev scM0_0 : Memref sig .tc .vmem S1x128 .f32 := Memref.whole cc0_scratch0

/-- What the pipeline keeps beside the windows, the scratch as a memref. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The output windows of which nothing is stated. -/
def forgets0 : Fin 15 → Bool := fun w => w.val == 10 || w.val == 11 || w.val == 12 || w.val == 13 || w.val == 14

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

/-- The arrays are the ones at the entry of the region. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- At every point an input buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 1200000 in
/-- The body runs at every point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((body_run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  iintro ⟨H0, H1, H2, H3, H4, H5, H6, H7, H8, H9, H10, H11, H12, H13, H14, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The row of the body table at a point is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The program runs; inputs are kept and every semaphore counter ends at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and keeps its inputs. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The program leaves its arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- The program runs, leaves its arguments as they were and ends with every semaphore counter at zero. -/
theorem runs : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel3.Outproj

end
-- ==== Proof.OutprojBody.lean ====
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Tactic
public import Idealize.ShloMosaic.Lib.Claim
public import Idealize.ShloMosaic.Lib.Pipeline.ValueKit

@[expose] public section

set_option maxRecDepth 16384

noncomputable section

namespace Cert.Kernel3Ideal.Outproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-! The body of the output projections: what it leaves in the tokens' block and in the normed tokens' block. Nothing is said of the
routing it computes beside them. -/

/-- The body is at the first point, where it clears its counters. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

section blocks

variable (arg2 : Memref sig .tc .vmem S1x256x1024 .f32) (harg2 : arg2.IsWhole)
    (arg3 : Memref sig .tc .vmem S1x256x512 .bf16) (harg3 : arg3.IsWhole)
    (arg4 : Memref sig .tc .vmem S1x256x512 .bf16) (harg4 : arg4.IsWhole)
    (arg5 : Memref sig .tc .vmem S1x6x1024 .f32) (harg5 : arg5.IsWhole)
    (arg6 : Memref sig .tc .vmem S512x1024 .bf16) (harg6 : arg6.IsWhole)
    (arg7 : Memref sig .tc .vmem S512x1024 .bf16) (harg7 : arg7.IsWhole)
    (arg8 : Memref sig .tc .vmem S1x1024 .f32) (harg8 : arg8.IsWhole)
    (x0 : Vec F S1x256x1024 .f32) (x1 : Vec F S1x256x512 .bf16) (x2 : Vec F S1x256x512 .bf16) (x3 : Vec F S1x6x1024 .f32) (x4 : Vec F S512x1024 .bf16) (x5 : Vec F S512x1024 .bf16) (x6 : Vec F S1x1024 .f32)

/-- The tokens' block after the body. -/
def x1Block : Vec F S1x256x1024 .f32 :=
  k0_pay6 (View.readAt (Elt F) arg3.view (Rect.unit (s := S1x256x512) ![0, 0, 0] S1x256x512.size inb_S1x256x512_S1x256x512_0_0_0).toLoadRect (harg3.unread x1)) (View.readAt (Elt F) arg6.view (Rect.unit (s := S512x1024) ![0, 0] S512x1024.size inb_S512x1024_S512x1024_0_0).toLoadRect (harg6.unread x4)) (View.readAt (Elt F) arg4.view (Rect.unit (s := S1x256x512) ![0, 0, 0] S1x256x512.size inb_S1x256x512_S1x256x512_0_0_0).toLoadRect (harg4.unread x2)) (View.readAt (Elt F) arg7.view (Rect.unit (s := S512x1024) ![0, 0] S512x1024.size inb_S512x1024_S512x1024_0_0).toLoadRect (harg7.unread x5)) (View.readAt (Elt F) arg2.view (Rect.unit (s := S1x256x1024) ![0, 0, 0] S1x256x1024.size inb_S1x256x1024_S1x256x1024_0_0_0).toLoadRect (harg2.unread x0)) (View.readAt (Elt F) arg5.view (Rect.unit (s := S1x6x1024) ![0, 2, 0] S1x1x1024.size inb_S1x6x1024_S1x1x1024_0_2_0).toLoadRect (harg5.unread x3))

/-- The tokens before they are stored. -/
def mid : FVec F S256x1024 .f32 := k0_pay5 (View.readAt (Elt F) arg3.view (Rect.unit (s := S1x256x512) ![0, 0, 0] S1x256x512.size inb_S1x256x512_S1x256x512_0_0_0).toLoadRect (harg3.unread x1)) (View.readAt (Elt F) arg6.view (Rect.unit (s := S512x1024) ![0, 0] S512x1024.size inb_S512x1024_S512x1024_0_0).toLoadRect (harg6.unread x4)) (View.readAt (Elt F) arg4.view (Rect.unit (s := S1x256x512) ![0, 0, 0] S1x256x512.size inb_S1x256x512_S1x256x512_0_0_0).toLoadRect (harg4.unread x2)) (View.readAt (Elt F) arg7.view (Rect.unit (s := S512x1024) ![0, 0] S512x1024.size inb_S512x1024_S512x1024_0_0).toLoadRect (harg7.unread x5)) (View.readAt (Elt F) arg2.view (Rect.unit (s := S1x256x1024) ![0, 0, 0] S1x256x1024.size inb_S1x256x1024_S1x256x1024_0_0_0).toLoadRect (harg2.unread x0)) (View.readAt (Elt F) arg5.view (Rect.unit (s := S1x6x1024) ![0, 2, 0] S1x1x1024.size inb_S1x6x1024_S1x1x1024_0_2_0).toLoadRect (harg5.unread x3))

/-- The tokens' squares, summed. -/
def sums : FVec F S256x1 .f32 := k0_pay7 (View.readAt (Elt F) arg3.view (Rect.unit (s := S1x256x512) ![0, 0, 0] S1x256x512.size inb_S1x256x512_S1x256x512_0_0_0).toLoadRect (harg3.unread x1)) (View.readAt (Elt F) arg6.view (Rect.unit (s := S512x1024) ![0, 0] S512x1024.size inb_S512x1024_S512x1024_0_0).toLoadRect (harg6.unread x4)) (View.readAt (Elt F) arg4.view (Rect.unit (s := S1x256x512) ![0, 0, 0] S1x256x512.size inb_S1x256x512_S1x256x512_0_0_0).toLoadRect (harg4.unread x2)) (View.readAt (Elt F) arg7.view (Rect.unit (s := S512x1024) ![0, 0] S512x1024.size inb_S512x1024_S512x1024_0_0).toLoadRect (harg7.unread x5)) (View.readAt (Elt F) arg2.view (Rect.unit (s := S1x256x1024) ![0, 0, 0] S1x256x1024.size inb_S1x256x1024_S1x256x1024_0_0_0).toLoadRect (harg2.unread x0)) (View.readAt (Elt F) arg5.view (Rect.unit (s := S1x6x1024) ![0, 2, 0] S1x1x1024.size inb_S1x6x1024_S1x1x1024_0_2_0).toLoadRect (harg5.unread x3))

/-- The normed tokens. -/
def normedRows : FVec F S256x1024 .f32 := k0_pay9 (mid arg2 harg2 arg3 harg3 arg4 harg4 arg5 harg5 arg6 harg6 arg7 harg7 x0 x1 x2 x3 x4 x5) (sums arg2 harg2 arg3 harg3 arg4 harg4 arg5 harg5 arg6 harg6 arg7 harg7 x0 x1 x2 x3 x4 x5) (k0_pay8 (F := F)) (View.readAt (Elt F) arg8.view (Rect.unit (s := S1x1024) ![0, 0] S1x1024.size inb_S1x1024_S1x1024_0_0).toLoadRect (harg8.unread x6)) (View.readAt (Elt F) arg5.view (Rect.unit (s := S1x6x1024) ![0, 4, 0] S1x1x1024.size inb_S1x6x1024_S1x1x1024_0_4_0).toLoadRect (harg5.unread x3)) (View.readAt (Elt F) arg5.view (Rect.unit (s := S1x6x1024) ![0, 3, 0] S1x1x1024.size inb_S1x6x1024_S1x1x1024_0_3_0).toLoadRect (harg5.unread x3))

/-- The normed tokens' block, 128 columns at a time. -/
def h2Tile : Fin 8 → Vec F S256x128 .f32
  | 0 => k0_pay10 (mid arg2 harg2 arg3 harg3 arg4 harg4 arg5 harg5 arg6 harg6 arg7 harg7 x0 x1 x2 x3 x4 x5) (sums arg2 harg2 arg3 harg3 arg4 harg4 arg5 harg5 arg6 harg6 arg7 harg7 x0 x1 x2 x3 x4 x5) (k0_pay8 (F := F)) (View.readAt (Elt F) arg8.view (Rect.unit (s := S1x1024) ![0, 0] S1x1024.size inb_S1x1024_S1x1024_0_0).toLoadRect (harg8.unread x6)) (View.readAt (Elt F) arg5.view (Rect.unit (s := S1x6x1024) ![0, 4, 0] S1x1x1024.size inb_S1x6x1024_S1x1x1024_0_4_0).toLoadRect (harg5.unread x3)) (View.readAt (Elt F) arg5.view (Rect.unit (s := S1x6x1024) ![0, 3, 0] S1x1x1024.size inb_S1x6x1024_S1x1x1024_0_3_0).toLoadRect (harg5.unread x3))
  | 1 => k0_pay11 (mid arg2 harg2 arg3 harg3 arg4 harg4 arg5 harg5 arg6 harg6 arg7 harg7 x0 x1 x2 x3 x4 x5) (sums arg2 harg2 arg3 harg3 arg4 harg4 arg5 harg5 arg6 harg6 arg7 harg7 x0 x1 x2 x3 x4 x5) (k0_pay8 (F := F)) (View.readAt (Elt F) arg8.view (Rect.unit (s := S1x1024) ![0, 0] S1x1024.size inb_S1x1024_S1x1024_0_0).toLoadRect (harg8.unread x6)) (View.readAt (Elt F) arg5.view (Rect.unit (s := S1x6x1024) ![0, 4, 0] S1x1x1024.size inb_S1x6x1024_S1x1x1024_0_4_0).toLoadRect (harg5.unread x3)) (View.readAt (Elt F) arg5.view (Rect.unit (s := S1x6x1024) ![0, 3, 0] S1x1x1024.size inb_S1x6x1024_S1x1x1024_0_3_0).toLoadRect (harg5.unread x3))
  | 2 => k0_pay12 (mid arg2 harg2 arg3 harg3 arg4 harg4 arg5 harg5 arg6 harg6 arg7 harg7 x0 x1 x2 x3 x4 x5) (sums arg2 harg2 arg3 harg3 arg4 harg4 arg5 harg5 arg6 harg6 arg7 harg7 x0 x1 x2 x3 x4 x5) (k0_pay8 (F := F)) (View.readAt (Elt F) arg8.view (Rect.unit (s := S1x1024) ![0, 0] S1x1024.size inb_S1x1024_S1x1024_0_0).toLoadRect (harg8.unread x6)) (View.readAt (Elt F) arg5.view (Rect.unit (s := S1x6x1024) ![0, 4, 0] S1x1x1024.size inb_S1x6x1024_S1x1x1024_0_4_0).toLoadRect (harg5.unread x3)) (View.readAt (Elt F) arg5.view (Rect.unit (s := S1x6x1024) ![0, 3, 0] S1x1x1024.size inb_S1x6x1024_S1x1x1024_0_3_0).toLoadRect (harg5.unread x3))
  | 3 => k0_pay13 (mid arg2 harg2 arg3 harg3 arg4 harg4 arg5 harg5 arg6 harg6 arg7 harg7 x0 x1 x2 x3 x4 x5) (sums arg2 harg2 arg3 harg3 arg4 harg4 arg5 harg5 arg6 harg6 arg7 harg7 x0 x1 x2 x3 x4 x5) (k0_pay8 (F := F)) (View.readAt (Elt F) arg8.view (Rect.unit (s := S1x1024) ![0, 0] S1x1024.size inb_S1x1024_S1x1024_0_0).toLoadRect (harg8.unread x6)) (View.readAt (Elt F) arg5.view (Rect.unit (s := S1x6x1024) ![0, 4, 0] S1x1x1024.size inb_S1x6x1024_S1x1x1024_0_4_0).toLoadRect (harg5.unread x3)) (View.readAt (Elt F) arg5.view (Rect.unit (s := S1x6x1024) ![0, 3, 0] S1x1x1024.size inb_S1x6x1024_S1x1x1024_0_3_0).toLoadRect (harg5.unread x3))
  | 4 => k0_pay14 (mid arg2 harg2 arg3 harg3 arg4 harg4 arg5 harg5 arg6 harg6 arg7 harg7 x0 x1 x2 x3 x4 x5) (sums arg2 harg2 arg3 harg3 arg4 harg4 arg5 harg5 arg6 harg6 arg7 harg7 x0 x1 x2 x3 x4 x5) (k0_pay8 (F := F)) (View.readAt (Elt F) arg8.view (Rect.unit (s := S1x1024) ![0, 0] S1x1024.size inb_S1x1024_S1x1024_0_0).toLoadRect (harg8.unread x6)) (View.readAt (Elt F) arg5.view (Rect.unit (s := S1x6x1024) ![0, 4, 0] S1x1x1024.size inb_S1x6x1024_S1x1x1024_0_4_0).toLoadRect (harg5.unread x3)) (View.readAt (Elt F) arg5.view (Rect.unit (s := S1x6x1024) ![0, 3, 0] S1x1x1024.size inb_S1x6x1024_S1x1x1024_0_3_0).toLoadRect (harg5.unread x3))
  | 5 => k0_pay15 (mid arg2 harg2 arg3 harg3 arg4 harg4 arg5 harg5 arg6 harg6 arg7 harg7 x0 x1 x2 x3 x4 x5) (sums arg2 harg2 arg3 harg3 arg4 harg4 arg5 harg5 arg6 harg6 arg7 harg7 x0 x1 x2 x3 x4 x5) (k0_pay8 (F := F)) (View.readAt (Elt F) arg8.view (Rect.unit (s := S1x1024) ![0, 0] S1x1024.size inb_S1x1024_S1x1024_0_0).toLoadRect (harg8.unread x6)) (View.readAt (Elt F) arg5.view (Rect.unit (s := S1x6x1024) ![0, 4, 0] S1x1x1024.size inb_S1x6x1024_S1x1x1024_0_4_0).toLoadRect (harg5.unread x3)) (View.readAt (Elt F) arg5.view (Rect.unit (s := S1x6x1024) ![0, 3, 0] S1x1x1024.size inb_S1x6x1024_S1x1x1024_0_3_0).toLoadRect (harg5.unread x3))
  | 6 => k0_pay16 (normedRows arg2 harg2 arg3 harg3 arg4 harg4 arg5 harg5 arg6 harg6 arg7 harg7 arg8 harg8 x0 x1 x2 x3 x4 x5 x6)
  | 7 => k0_pay17 (normedRows arg2 harg2 arg3 harg3 arg4 harg4 arg5 harg5 arg6 harg6 arg7 harg7 arg8 harg8 x0 x1 x2 x3 x4 x5 x6)

/-- What the body stores into the tokens' block. -/
def x1Pieces : List (View.Piece (Elt F) S1x256x1024 .f32) :=
  [⟨Rect.unit (s := S1x256x1024) ![0, 0, 0] S1x256x1024.size inb_S1x256x1024_S1x256x1024_0_0_0, x1Block arg2 harg2 arg3 harg3 arg4 harg4 arg5 harg5 arg6 harg6 arg7 harg7 x0 x1 x2 x3 x4 x5⟩]

/-- What the body stores into the normed tokens' block, last first. -/
def h2Pieces : List (View.Piece (Elt F) S2048x128 .f32) :=
  [⟨⟨(⟨![7, 0], S256x128.size, ![8, 1], inb_S2048x128_S256x128_7_0_s_8_1⟩ : LoadRect S2048x128), spos_8_1⟩, k0_pay17 (normedRows arg2 harg2 arg3 harg3 arg4 harg4 arg5 harg5 arg6 harg6 arg7 harg7 arg8 harg8 x0 x1 x2 x3 x4 x5 x6)⟩,
    ⟨⟨(⟨![6, 0], S256x128.size, ![8, 1], inb_S2048x128_S256x128_6_0_s_8_1⟩ : LoadRect S2048x128), spos_8_1⟩, k0_pay16 (normedRows arg2 harg2 arg3 harg3 arg4 harg4 arg5 harg5 arg6 harg6 arg7 harg7 arg8 harg8 x0 x1 x2 x3 x4 x5 x6)⟩,
    ⟨⟨(⟨![5, 0], S256x128.size, ![8, 1], inb_S2048x128_S256x128_5_0_s_8_1⟩ : LoadRect S2048x128), spos_8_1⟩, k0_pay15 (mid arg2 harg2 arg3 harg3 arg4 harg4 arg5 harg5 arg6 harg6 arg7 harg7 x0 x1 x2 x3 x4 x5) (sums arg2 harg2 arg3 harg3 arg4 harg4 arg5 harg5 arg6 harg6 arg7 harg7 x0 x1 x2 x3 x4 x5) (k0_pay8 (F := F)) (View.readAt (Elt F) arg8.view (Rect.unit (s := S1x1024) ![0, 0] S1x1024.size inb_S1x1024_S1x1024_0_0).toLoadRect (harg8.unread x6)) (View.readAt (Elt F) arg5.view (Rect.unit (s := S1x6x1024) ![0, 4, 0] S1x1x1024.size inb_S1x6x1024_S1x1x1024_0_4_0).toLoadRect (harg5.unread x3)) (View.readAt (Elt F) arg5.view (Rect.unit (s := S1x6x1024) ![0, 3, 0] S1x1x1024.size inb_S1x6x1024_S1x1x1024_0_3_0).toLoadRect (harg5.unread x3))⟩,
    ⟨⟨(⟨![4, 0], S256x128.size, ![8, 1], inb_S2048x128_S256x128_4_0_s_8_1⟩ : LoadRect S2048x128), spos_8_1⟩, k0_pay14 (mid arg2 harg2 arg3 harg3 arg4 harg4 arg5 harg5 arg6 harg6 arg7 harg7 x0 x1 x2 x3 x4 x5) (sums arg2 harg2 arg3 harg3 arg4 harg4 arg5 harg5 arg6 harg6 arg7 harg7 x0 x1 x2 x3 x4 x5) (k0_pay8 (F := F)) (View.readAt (Elt F) arg8.view (Rect.unit (s := S1x1024) ![0, 0] S1x1024.size inb_S1x1024_S1x1024_0_0).toLoadRect (harg8.unread x6)) (View.readAt (Elt F) arg5.view (Rect.unit (s := S1x6x1024) ![0, 4, 0] S1x1x1024.size inb_S1x6x1024_S1x1x1024_0_4_0).toLoadRect (harg5.unread x3)) (View.readAt (Elt F) arg5.view (Rect.unit (s := S1x6x1024) ![0, 3, 0] S1x1x1024.size inb_S1x6x1024_S1x1x1024_0_3_0).toLoadRect (harg5.unread x3))⟩,
    ⟨⟨(⟨![3, 0], S256x128.size, ![8, 1], inb_S2048x128_S256x128_3_0_s_8_1⟩ : LoadRect S2048x128), spos_8_1⟩, k0_pay13 (mid arg2 harg2 arg3 harg3 arg4 harg4 arg5 harg5 arg6 harg6 arg7 harg7 x0 x1 x2 x3 x4 x5) (sums arg2 harg2 arg3 harg3 arg4 harg4 arg5 harg5 arg6 harg6 arg7 harg7 x0 x1 x2 x3 x4 x5) (k0_pay8 (F := F)) (View.readAt (Elt F) arg8.view (Rect.unit (s := S1x1024) ![0, 0] S1x1024.size inb_S1x1024_S1x1024_0_0).toLoadRect (harg8.unread x6)) (View.readAt (Elt F) arg5.view (Rect.unit (s := S1x6x1024) ![0, 4, 0] S1x1x1024.size inb_S1x6x1024_S1x1x1024_0_4_0).toLoadRect (harg5.unread x3)) (View.readAt (Elt F) arg5.view (Rect.unit (s := S1x6x1024) ![0, 3, 0] S1x1x1024.size inb_S1x6x1024_S1x1x1024_0_3_0).toLoadRect (harg5.unread x3))⟩,
    ⟨⟨(⟨![2, 0], S256x128.size, ![8, 1], inb_S2048x128_S256x128_2_0_s_8_1⟩ : LoadRect S2048x128), spos_8_1⟩, k0_pay12 (mid arg2 harg2 arg3 harg3 arg4 harg4 arg5 harg5 arg6 harg6 arg7 harg7 x0 x1 x2 x3 x4 x5) (sums arg2 harg2 arg3 harg3 arg4 harg4 arg5 harg5 arg6 harg6 arg7 harg7 x0 x1 x2 x3 x4 x5) (k0_pay8 (F := F)) (View.readAt (Elt F) arg8.view (Rect.unit (s := S1x1024) ![0, 0] S1x1024.size inb_S1x1024_S1x1024_0_0).toLoadRect (harg8.unread x6)) (View.readAt (Elt F) arg5.view (Rect.unit (s := S1x6x1024) ![0, 4, 0] S1x1x1024.size inb_S1x6x1024_S1x1x1024_0_4_0).toLoadRect (harg5.unread x3)) (View.readAt (Elt F) arg5.view (Rect.unit (s := S1x6x1024) ![0, 3, 0] S1x1x1024.size inb_S1x6x1024_S1x1x1024_0_3_0).toLoadRect (harg5.unread x3))⟩,
    ⟨⟨(⟨![1, 0], S256x128.size, ![8, 1], inb_S2048x128_S256x128_1_0_s_8_1⟩ : LoadRect S2048x128), spos_8_1⟩, k0_pay11 (mid arg2 harg2 arg3 harg3 arg4 harg4 arg5 harg5 arg6 harg6 arg7 harg7 x0 x1 x2 x3 x4 x5) (sums arg2 harg2 arg3 harg3 arg4 harg4 arg5 harg5 arg6 harg6 arg7 harg7 x0 x1 x2 x3 x4 x5) (k0_pay8 (F := F)) (View.readAt (Elt F) arg8.view (Rect.unit (s := S1x1024) ![0, 0] S1x1024.size inb_S1x1024_S1x1024_0_0).toLoadRect (harg8.unread x6)) (View.readAt (Elt F) arg5.view (Rect.unit (s := S1x6x1024) ![0, 4, 0] S1x1x1024.size inb_S1x6x1024_S1x1x1024_0_4_0).toLoadRect (harg5.unread x3)) (View.readAt (Elt F) arg5.view (Rect.unit (s := S1x6x1024) ![0, 3, 0] S1x1x1024.size inb_S1x6x1024_S1x1x1024_0_3_0).toLoadRect (harg5.unread x3))⟩,
    ⟨⟨(⟨![0, 0], S256x128.size, ![8, 1], inb_S2048x128_S256x128_0_0_s_8_1⟩ : LoadRect S2048x128), spos_8_1⟩, k0_pay10 (mid arg2 harg2 arg3 harg3 arg4 harg4 arg5 harg5 arg6 harg6 arg7 harg7 x0 x1 x2 x3 x4 x5) (sums arg2 harg2 arg3 harg3 arg4 harg4 arg5 harg5 arg6 harg6 arg7 harg7 x0 x1 x2 x3 x4 x5) (k0_pay8 (F := F)) (View.readAt (Elt F) arg8.view (Rect.unit (s := S1x1024) ![0, 0] S1x1024.size inb_S1x1024_S1x1024_0_0).toLoadRect (harg8.unread x6)) (View.readAt (Elt F) arg5.view (Rect.unit (s := S1x6x1024) ![0, 4, 0] S1x1x1024.size inb_S1x6x1024_S1x1x1024_0_4_0).toLoadRect (harg5.unread x3)) (View.readAt (Elt F) arg5.view (Rect.unit (s := S1x6x1024) ![0, 3, 0] S1x1x1024.size inb_S1x6x1024_S1x1x1024_0_3_0).toLoadRect (harg5.unread x3))⟩]

end blocks

/-- Eight tiles laid row by row: row `8 r + o` of the block is row `r` of tile `o`. -/
def laid (w : Fin 8 → Vec F S256x128 .f32) : Vec F S2048x128 .f32 := fun y =>
  w ⟨(y 0).val % 8, Nat.mod_lt _ (by decide)⟩ (ix2 ⟨(y 0).val / 8, by
    have : (y 0).val < 2048 := (y 0).isLt
    omega⟩ (y 1))

theorem laid_emb (w : Fin 8 → Vec F S256x128 .f32) (o : ℕ) (k : Fin 8) (hk : k.val = o) (inb : _) (hp : _)
    (x : S256x128.Idx) :
    w k x = laid w ((⟨(⟨![o, 0], S256x128.size, ![8, 1], inb⟩ : LoadRect S2048x128), hp⟩ : Rect S2048x128).emb x) := by
  unfold laid
  have h0 : (((⟨(⟨![o, 0], S256x128.size, ![8, 1], inb⟩ : LoadRect S2048x128), hp⟩ : Rect S2048x128).emb x) 0).val = o + 8 * (x 0).val := rfl
  have h1 : (((⟨(⟨![o, 0], S256x128.size, ![8, 1], inb⟩ : LoadRect S2048x128), hp⟩ : Rect S2048x128).emb x) 1).val = 0 + 1 * (x 1).val := rfl
  have := k.isLt
  refine congr (congrArg w (Fin.ext ?_)) ?_
  · show k.val = _ % 8
    rw [h0]
    omega
  · funext a
    apply Fin.ext
    match a with
    | 0 =>
      show (x 0).val = _ / 8
      rw [h0]
      omega
    | 1 =>
      exact (h1.trans (by omega)).symm

theorem laid_mem (o : ℕ) (inb : _) (hp : _) (y : S2048x128.Idx) (h : (y 0).val % 8 = o) :
    y ∈ (⟨(⟨![o, 0], S256x128.size, ![8, 1], inb⟩ : LoadRect S2048x128), hp⟩ : Rect S2048x128).set := by
  have h0 : (y 0).val < 2048 := (y 0).isLt
  have h1 : (y 1).val < 128 := (y 1).isLt
  refine (LoadRect.mem_set _).mpr fun a => ?_
  match a with
  | 0 => exact ⟨(y 0).val / 8, (by show (y 0).val / 8 < 256; omega), (by show (y 0).val = o + 8 * ((y 0).val / 8); omega)⟩
  | 1 => exact ⟨(y 1).val, (by show (y 1).val < 128; omega), (by show (y 1).val = 0 + 1 * (y 1).val; omega)⟩

section reads

variable (arg2 : Memref sig .tc .vmem S1x256x1024 .f32) (harg2 : arg2.IsWhole)
    (arg3 : Memref sig .tc .vmem S1x256x512 .bf16) (harg3 : arg3.IsWhole)
    (arg4 : Memref sig .tc .vmem S1x256x512 .bf16) (harg4 : arg4.IsWhole)
    (arg5 : Memref sig .tc .vmem S1x6x1024 .f32) (harg5 : arg5.IsWhole)
    (arg6 : Memref sig .tc .vmem S512x1024 .bf16) (harg6 : arg6.IsWhole)
    (arg7 : Memref sig .tc .vmem S512x1024 .bf16) (harg7 : arg7.IsWhole)
    (arg8 : Memref sig .tc .vmem S1x1024 .f32) (harg8 : arg8.IsWhole)
    (x0 : Vec F S1x256x1024 .f32) (x1 : Vec F S1x256x512 .bf16) (x2 : Vec F S1x256x512 .bf16) (x3 : Vec F S1x6x1024 .f32) (x4 : Vec F S512x1024 .bf16) (x5 : Vec F S512x1024 .bf16) (x6 : Vec F S1x1024 .f32)

/-- The tokens' block, read back. -/
theorem x1_read (v : View sig .tc .vmem S1x256x1024 .f32) (f : v.ty.Contents (Elt F)) :
    v.read (Elt F) (v.writes (Elt F) f (x1Pieces arg2 harg2 arg3 harg3 arg4 harg4 arg5 harg5 arg6 harg6 arg7 harg7 x0 x1 x2 x3 x4 x5)) = x1Block arg2 harg2 arg3 harg3 arg4 harg4 arg5 harg5 arg6 harg6 arg7 harg7 x0 x1 x2 x3 x4 x5 := by
  funext y
  refine Eq.trans (congrArg (v.read (Elt F) _) ?_) (View.read_writes_cons_emb v f (Rect.unit (s := S1x256x1024) ![0, 0, 0] S1x256x1024.size inb_S1x256x1024_S1x256x1024_0_0_0) (x1Block arg2 harg2 arg3 harg3 arg4 harg4 arg5 harg5 arg6 harg6 arg7 harg7 x0 x1 x2 x3 x4 x5) [] y)
  funext k
  apply Fin.ext
  match k with
  | 0 => show (y 0).val = 0 + 1 * (y 0).val; omega
  | 1 => show (y 1).val = 0 + 1 * (y 1).val; omega
  | 2 => show (y 2).val = 0 + 1 * (y 2).val; omega

/-- The normed tokens' block, read back. -/
theorem h2_read (v : View sig .tc .vmem S2048x128 .f32) (f : v.ty.Contents (Elt F)) :
    v.read (Elt F) (v.writes (Elt F) f (h2Pieces arg2 harg2 arg3 harg3 arg4 harg4 arg5 harg5 arg6 harg6 arg7 harg7 arg8 harg8 x0 x1 x2 x3 x4 x5 x6)) = laid (h2Tile arg2 harg2 arg3 harg3 arg4 harg4 arg5 harg5 arg6 harg6 arg7 harg7 arg8 harg8 x0 x1 x2 x3 x4 x5 x6) := by
  funext y
  refine View.read_writes_apply_of_pieces v f (laid (h2Tile arg2 harg2 arg3 harg3 arg4 harg4 arg5 harg5 arg6 harg6 arg7 harg7 arg8 harg8 x0 x1 x2 x3 x4 x5 x6)) _ ?_ y ?_
  · intro p hp x
    unfold h2Pieces at hp
    simp only [List.mem_cons, List.not_mem_nil, or_false] at hp
    rcases hp with rfl | rfl | rfl | rfl | rfl | rfl | rfl | rfl
    · exact laid_emb (h2Tile arg2 harg2 arg3 harg3 arg4 harg4 arg5 harg5 arg6 harg6 arg7 harg7 arg8 harg8 x0 x1 x2 x3 x4 x5 x6) 7 7 rfl inb_S2048x128_S256x128_7_0_s_8_1 spos_8_1 x
    · exact laid_emb (h2Tile arg2 harg2 arg3 harg3 arg4 harg4 arg5 harg5 arg6 harg6 arg7 harg7 arg8 harg8 x0 x1 x2 x3 x4 x5 x6) 6 6 rfl inb_S2048x128_S256x128_6_0_s_8_1 spos_8_1 x
    · exact laid_emb (h2Tile arg2 harg2 arg3 harg3 arg4 harg4 arg5 harg5 arg6 harg6 arg7 harg7 arg8 harg8 x0 x1 x2 x3 x4 x5 x6) 5 5 rfl inb_S2048x128_S256x128_5_0_s_8_1 spos_8_1 x
    · exact laid_emb (h2Tile arg2 harg2 arg3 harg3 arg4 harg4 arg5 harg5 arg6 harg6 arg7 harg7 arg8 harg8 x0 x1 x2 x3 x4 x5 x6) 4 4 rfl inb_S2048x128_S256x128_4_0_s_8_1 spos_8_1 x
    · exact laid_emb (h2Tile arg2 harg2 arg3 harg3 arg4 harg4 arg5 harg5 arg6 harg6 arg7 harg7 arg8 harg8 x0 x1 x2 x3 x4 x5 x6) 3 3 rfl inb_S2048x128_S256x128_3_0_s_8_1 spos_8_1 x
    · exact laid_emb (h2Tile arg2 harg2 arg3 harg3 arg4 harg4 arg5 harg5 arg6 harg6 arg7 harg7 arg8 harg8 x0 x1 x2 x3 x4 x5 x6) 2 2 rfl inb_S2048x128_S256x128_2_0_s_8_1 spos_8_1 x
    · exact laid_emb (h2Tile arg2 harg2 arg3 harg3 arg4 harg4 arg5 harg5 arg6 harg6 arg7 harg7 arg8 harg8 x0 x1 x2 x3 x4 x5 x6) 1 1 rfl inb_S2048x128_S256x128_1_0_s_8_1 spos_8_1 x
    · exact laid_emb (h2Tile arg2 harg2 arg3 harg3 arg4 harg4 arg5 harg5 arg6 harg6 arg7 harg7 arg8 harg8 x0 x1 x2 x3 x4 x5 x6) 0 0 rfl inb_S2048x128_S256x128_0_0_s_8_1 spos_8_1 x
  · unfold h2Pieces
    have h : (y 0).val % 8 = 7 ∨ (y 0).val % 8 = 6 ∨ (y 0).val % 8 = 5 ∨ (y 0).val % 8 = 4 ∨ (y 0).val % 8 = 3 ∨ (y 0).val % 8 = 2
        ∨ (y 0).val % 8 = 1 ∨ (y 0).val % 8 = 0 := by omega
    rcases h with h | h | h | h | h | h | h | h
    · exact ⟨_, .head _, laid_mem 7 _ _ y h⟩
    · exact ⟨_, .tail _ (.head _), laid_mem 6 _ _ y h⟩
    · exact ⟨_, .tail _ (.tail _ (.head _)), laid_mem 5 _ _ y h⟩
    · exact ⟨_, .tail _ (.tail _ (.tail _ (.head _))), laid_mem 4 _ _ y h⟩
    · exact ⟨_, .tail _ (.tail _ (.tail _ (.tail _ (.head _)))), laid_mem 3 _ _ y h⟩
    · exact ⟨_, .tail _ (.tail _ (.tail _ (.tail _ (.tail _ (.head _))))), laid_mem 2 _ _ y h⟩
    · exact ⟨_, .tail _ (.tail _ (.tail _ (.tail _ (.tail _ (.tail _ (.head _)))))), laid_mem 1 _ _ y h⟩
    · exact ⟨_, .tail _ (.tail _ (.tail _ (.tail _ (.tail _ (.tail _ (.tail _ (.head _))))))), laid_mem 0 _ _ y h⟩

end reads

-- (the run's proof term is large: checking it walks past the default budget)
set_option maxHeartbeats 4000000 in
/-- The body on whole staging memrefs. -/
theorem body_run (c : Dev nD) (i : grid0.Coords)
    (arg2 : Memref sig .tc .vmem S1x256x1024 .f32) (harg2 : arg2.IsWhole)
    (arg3 : Memref sig .tc .vmem S1x256x512 .bf16) (harg3 : arg3.IsWhole)
    (arg4 : Memref sig .tc .vmem S1x256x512 .bf16) (harg4 : arg4.IsWhole)
    (arg5 : Memref sig .tc .vmem S1x6x1024 .f32) (harg5 : arg5.IsWhole)
    (arg6 : Memref sig .tc .vmem S512x1024 .bf16) (harg6 : arg6.IsWhole)
    (arg7 : Memref sig .tc .vmem S512x1024 .bf16) (harg7 : arg7.IsWhole)
    (arg8 : Memref sig .tc .vmem S1x1024 .f32) (harg8 : arg8.IsWhole)
    (arg9 : Memref sig .tc .vmem S1024x128 .bf16) (harg9 : arg9.IsWhole)
    (arg10 : Memref sig .tc .vmem S1024x128 .bf16) (harg10 : arg10.IsWhole)
    (arg11 : Memref sig .tc .vmem S1x128 .f32) (harg11 : arg11.IsWhole)
    (arg12 : Memref sig .tc .vmem S1x256x1024 .f32) (harg12 : arg12.IsWhole)
    (arg13 : Memref sig .tc .vmem S2048x128 .f32) (harg13 : arg13.IsWhole)
    (arg14 : Memref sig .tc .vmem S256x128 .i32) (harg14 : arg14.IsWhole)
    (arg15 : Memref sig .tc .vmem S256x128 .f32) (harg15 : arg15.IsWhole)
    (arg16 : Memref sig .tc .vmem S1x128 .f32) (harg16 : arg16.IsWhole)
    (arg17 : Memref sig .tc .vmem S1x128 .f32) (harg17 : arg17.IsWhole)
    (x0 : Vec F S1x256x1024 .f32) (x1 : Vec F S1x256x512 .bf16) (x2 : Vec F S1x256x512 .bf16) (x3 : Vec F S1x6x1024 .f32) (x4 : Vec F S512x1024 .bf16) (x5 : Vec F S512x1024 .bf16) (x6 : Vec F S1x1024 .f32) (x7 : Vec F S1024x128 .bf16) (x8 : Vec F S1024x128 .bf16) (x9 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f (x1Pieces arg2 harg2 arg3 harg3 arg4 harg4 arg5 harg5 arg6 harg6 arg7 harg7 x0 x1 x2 x3 x4 x5)) ∗ (∃ f, arg13.view.loc (c : Thread nD τ) ↦[arg13.view.set]{fullShare} arg13.view.writes (Elt F) f (h2Pieces arg2 harg2 arg3 harg3 arg4 harg4 arg5 harg5 arg6 harg6 arg7 harg7 arg8 harg8 x0 x1 x2 x3 x4 x5 x6)) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_outproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_outproj_eq_skeleton]; unfold cc0_outproj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    by_cases hc0 : cond0_0 i
    · sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; iexact H10
      isplitl [H11]
      · iexists _; iexact H11
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      iexists _, _; isplitr; swap; · iexact HS0
      ipureintro; rfl
    · sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; iexact H10
      isplitl [H11]
      · iexists _; iexact H11
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      iexists _, _; isplitr; swap; · iexact HS0
      ipureintro; rfl

end Cert.Kernel3Ideal.Outproj

end
-- ==== Proof.OutprojFrame.lean ====
module

public import proofs.«01_k».proof.Proof.OutprojBody

@[expose] public section

set_option maxRecDepth 16384

noncomputable section

namespace Cert.Kernel3Ideal.Outproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-! The output projections run: the pipeline's proof data, the body at every point of the grid, and the arguments left as they were. -/

variable (m : (ℓ : Loc nD τ sig) → Buf (Elt F) ℓ) (ρ : Dev nD → PrngReg)

/-- A run that keeps the staged inputs keeps the arguments. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 9 rfl).trans ((hA c 9).trans (V_main_arg7 m c))⟩) h

/-- Each window's staging memref at a point, and that it is whole. -/
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x128 .i32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x128 .f32 := win0_14.stage (cfg0.slots t 14)
abbrev hs0_14 (t : Fin cfg0.N) : (ms0_14 t).IsWhole := hstage0_14 ((cfg0.slots t 14).cast nbuf0_14)

/-- The scratch. -/
abbrev scM0_0 : Memref sig .tc .vmem S1x128 .f32 := Memref.whole cc0_scratch0

/-- What the pipeline keeps beside the windows, the scratch as a memref. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- What the two blocks hold after the body at a point of the grid. -/
def leavesX1 (c : Dev nD) (t : Fin cfg0.N) : Vec F S1x256x1024 .f32 :=
  x1Block (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t) (iblk m c 5 t)

def leavesH2 (c : Dev nD) (t : Fin cfg0.N) : Vec F S2048x128 .f32 :=
  laid (h2Tile (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (iblk m c 0 t) (iblk m c 1 t) (iblk m c 2 t) (iblk m c 3 t) (iblk m c 4 t) (iblk m c 5 t) (iblk m c 6 t))

/-- The output windows of which nothing is stated. -/
def forgets0 : Fin 15 → Bool := fun w => w.val == 12 || w.val == 13 || w.val == 14

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => leavesX1 m c t
    | ⟨11, _⟩ => leavesH2 m c t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

/-- The arrays are the ones at the entry of the region. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = leavesX1 m c t := by dsimp only [dats]
theorem after0_11 (c : Dev nD) (t : Fin cfg0.N) : (dats m 0 c).after 11 t = leavesH2 m c t := by dsimp only [dats]

/-- At every point an input buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 1200000 in
/-- The body runs at every point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  unfold leavesX1 leavesH2
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((body_run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  iintro ⟨H0, H1, H2, H3, H4, H5, H6, H7, H8, H9, ⟨%g10, H10⟩, ⟨%g11, H11⟩, H12, H13, H14, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact x1_read _ _ _ _ _ _ _ _ _ _ _ _ _ _ _ _ _ _ _ _
  isplitl [H11]
  · unfold owns; iexists _; isplitr
    swap; · iexact H11
    ipureintro; exact h2_read _ _ _ _ _ _ _ _ _ _ _ _ _ _ _ _ _ _ _ _ _ _ _
  isplitl [H12]; · iexact H12
  isplitl [H13]; · iexact H13
  iexact H14

/-- The row of the body table at a point is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The program runs; inputs are kept and every semaphore counter ends at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and keeps its inputs. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The program leaves its arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- The program runs, leaves its arguments as they were and ends with every semaphore counter at zero. -/
theorem runs : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel3Ideal.Outproj

end
-- ==== Proof.OutprojBlock.lean ====
module

public import proofs.«01_k».proof.Proof.Gen.Kernel3Ideal.Skeleton
public import Idealize.ShloMosaic.Lib.Pointwise

@[expose] public section

set_option maxRecDepth 16384

noncomputable section

namespace Cert.Outproj

open Idealize.ShloMosaic Idealize.SL.Sem Cert.Kernel3Ideal Cert.Kernel3Ideal.Gen

/-! What one program of the output projections computes of its blocks. -/

/-- A token after the mixing: the residual and the two projections, gated. -/
def proj (x gate : Fin 1024 → EReal) (u v : Fin 512 → EReal) (a b : Fin 512 → Fin 1024 → EReal) (k : Fin 1024) : EReal :=
  x k + gate k * ((∑ j, u j * a j k) + ∑ j, v j * b j k)

/-- A token's row after the norm, the gain and the modulation. -/
def hid (x g sc sh : Fin 1024 → EReal) (k : Fin 1024) : EReal :=
  x k * Ideal.rsqrt (Ideal.div (∑ j, x j * x j) (Ideal.ofBits .f32 0x44800000#32) + Ideal.ofBits .f32 0x358637BD#32) * g k
    * (Ideal.ofBits .f32 0x3F800000#32 + sc k) + sh k

/-- The entry that column `l` of tile `o` of 128 columns holds. -/
def tile (o : Fin 8) (l : Fin 128) : Fin 1024 := ⟨128 * o.val + l.val, by
  have := o.isLt
  have := l.isLt
  omega⟩

section mid

variable (u : Vec Ideal S1x256x512 .bf16) (a : Vec Ideal S512x1024 .bf16) (v : Vec Ideal S1x256x512 .bf16) (b : Vec Ideal S512x1024 .bf16)
  (x : Vec Ideal S1x256x1024 .f32) (gate : Vec Ideal S1x1x1024 .f32)

theorem pay5_apply (r : Fin 256) (k : Fin 1024) : k0_pay5 u a v b x gate (ix2 r k)
    = proj (fun j => x (ix3 0 r j)) (fun j => gate (ix3 0 0 j)) (fun j => u (ix3 0 r j)) (fun j => v (ix3 0 r j)) (fun j k => a (ix2 j k)) (fun j k => b (ix2 j k)) k := by
  pointwise [k0_pay5, proj]

theorem pay6_apply (r : Fin 256) (k : Fin 1024) : k0_pay6 u a v b x gate (ix3 0 r k) = k0_pay5 u a v b x gate (ix2 r k) := by
  pointwise [k0_pay6]

theorem pay7_apply (r : Fin 256) : k0_pay7 u a v b x gate (ix2 r 0) = ∑ j, k0_pay5 u a v b x gate (ix2 r j) * k0_pay5 u a v b x gate (ix2 r j) := by
  pointwise [k0_pay7]

end mid

theorem pay8_apply (r : Fin 256) : (k0_pay8 (F := Ideal)) (ix2 r 0) = Ideal.ofBits .f32 0x44800000#32 := by
  pointwise [k0_pay8]

section normed

variable (x : FVec Ideal S256x1024 .f32) (s n : FVec Ideal S256x1 .f32) (g : Vec Ideal S1x1024 .f32) (sc sh : Vec Ideal S1x1x1024 .f32)

theorem pay9_apply (r : Fin 256) (k : Fin 1024) : k0_pay9 x s n g sc sh (ix2 r k)
    = x (ix2 r k) * Ideal.rsqrt (Ideal.div (s (ix2 r 0)) (n (ix2 r 0)) + Ideal.ofBits .f32 0x358637BD#32) * g (ix2 0 k)
      * (Ideal.ofBits .f32 0x3F800000#32 + sc (ix3 0 0 k)) + sh (ix3 0 0 k) := by
  pointwise [k0_pay9]

theorem pay10_apply (r : Fin 256) (l : Fin 128) : k0_pay10 x s n g sc sh (ix2 r l) = k0_pay9 x s n g sc sh (ix2 r (tile 0 l)) := by
  pointwise [k0_pay10]
  exact congrArg (fun k => k0_pay9 x s n g sc sh (ix2 r k)) (Fin.ext (by simp only [tile]; show l.val = 128 * 0 + l.val; omega))

theorem pay11_apply (r : Fin 256) (l : Fin 128) : k0_pay11 x s n g sc sh (ix2 r l) = k0_pay9 x s n g sc sh (ix2 r (tile 1 l)) := by
  pointwise [k0_pay11]
  all_goals rfl

theorem pay12_apply (r : Fin 256) (l : Fin 128) : k0_pay12 x s n g sc sh (ix2 r l) = k0_pay9 x s n g sc sh (ix2 r (tile 2 l)) := by
  pointwise [k0_pay12]
  all_goals rfl

theorem pay13_apply (r : Fin 256) (l : Fin 128) : k0_pay13 x s n g sc sh (ix2 r l) = k0_pay9 x s n g sc sh (ix2 r (tile 3 l)) := by
  pointwise [k0_pay13]
  all_goals rfl

theorem pay14_apply (r : Fin 256) (l : Fin 128) : k0_pay14 x s n g sc sh (ix2 r l) = k0_pay9 x s n g sc sh (ix2 r (tile 4 l)) := by
  pointwise [k0_pay14]
  all_goals rfl

theorem pay15_apply (r : Fin 256) (l : Fin 128) : k0_pay15 x s n g sc sh (ix2 r l) = k0_pay9 x s n g sc sh (ix2 r (tile 5 l)) := by
  pointwise [k0_pay15]
  all_goals rfl

theorem pay16_apply (r : Fin 256) (l : Fin 128) : k0_pay16 x (ix2 r l) = x (ix2 r (tile 6 l)) := by
  pointwise [k0_pay16]
  all_goals rfl

theorem pay17_apply (r : Fin 256) (l : Fin 128) : k0_pay17 x (ix2 r l) = x (ix2 r (tile 7 l)) := by
  pointwise [k0_pay17]
  all_goals rfl

end normed

end Cert.Outproj

end
-- ==== Proof.OutprojOut.lean ====
module

public import proofs.«01_k».proof.Proof.OutprojBlock
public import proofs.«01_k».proof.Proof.OutprojFrame

@[expose] public section

set_option maxRecDepth 16384

noncomputable section

namespace Cert.Outproj

open Idealize.ShloMosaic Idealize.ShloMosaic.TcCoe Idealize.ShloMosaic.Tactic Idealize.SL.Sem
open Cert.Kernel3Ideal Cert.Kernel3Ideal.Gen Cert.Kernel3Ideal.Outproj

/-! What one program of the output projections leaves in its two blocks. -/

section loads

/-- A load of columns of a block of two axes, from a column on. -/
theorem load2 {n0 n1 o m1 : ℕ} {e : EltTy} (a : Memref sig .tc .vmem (⟨2, ![n0, n1]⟩ : Shape) e) (h : a.IsWhole) (x : Vec Ideal (⟨2, ![n0, n1]⟩ : Shape) e)
    (inb : ∀ k, (![0, o] : Fin 2 → ℕ) k + (![n0, m1] : Fin 2 → ℕ) k ≤ (⟨2, ![n0, n1]⟩ : Shape).size k) (p : Fin n0) (q : Fin m1) (q' : Fin n1)
    (hq : q'.val = o + q.val) :
    View.readAt (Elt Ideal) a.view (Rect.unit (s := (⟨2, ![n0, n1]⟩ : Shape)) ![0, o] ![n0, m1] inb).toLoadRect (h.unread x) (ix2 p q) = x (ix2 p q') := by
  refine Eq.trans ?_ (congrFun (h.read_unread x) (ix2 p q'))
  refine congrArg (a.view.read (Elt Ideal) (h.unread x)) ?_
  funext k
  apply Fin.ext
  match k with
  | 0 => show 0 + 1 * p.val = p.val; omega
  | 1 => show o + 1 * q.val = q'.val; omega

/-- A load of one row of the modulation. -/
theorem load3 {n1 n2 o m1 : ℕ} {e : EltTy} (a : Memref sig .tc .vmem (⟨3, ![1, n1, n2]⟩ : Shape) e) (h : a.IsWhole) (x : Vec Ideal (⟨3, ![1, n1, n2]⟩ : Shape) e)
    (inb : ∀ k, (![0, o, 0] : Fin 3 → ℕ) k + (![1, m1, n2] : Fin 3 → ℕ) k ≤ (⟨3, ![1, n1, n2]⟩ : Shape).size k) (p : Fin m1) (q : Fin n2) (p' : Fin n1)
    (hp : p'.val = o + p.val) :
    View.readAt (Elt Ideal) a.view (Rect.unit (s := (⟨3, ![1, n1, n2]⟩ : Shape)) ![0, o, 0] ![1, m1, n2] inb).toLoadRect (h.unread x) (ix3 0 p q) = x (ix3 0 p' q) := by
  refine Eq.trans ?_ (congrFun (h.read_unread x) (ix3 0 p' q))
  refine congrArg (a.view.read (Elt Ideal) (h.unread x)) ?_
  funext k
  apply Fin.ext
  match k with
  | 0 => rfl
  | 1 => show o + 1 * p.val = p'.val; omega
  | 2 => show 0 + 1 * q.val = q.val; omega

end loads

variable (arg2 : Memref sig .tc .vmem S1x256x1024 .f32) (harg2 : arg2.IsWhole)
    (arg3 : Memref sig .tc .vmem S1x256x512 .bf16) (harg3 : arg3.IsWhole)
    (arg4 : Memref sig .tc .vmem S1x256x512 .bf16) (harg4 : arg4.IsWhole)
    (arg5 : Memref sig .tc .vmem S1x6x1024 .f32) (harg5 : arg5.IsWhole)
    (arg6 : Memref sig .tc .vmem S512x1024 .bf16) (harg6 : arg6.IsWhole)
    (arg7 : Memref sig .tc .vmem S512x1024 .bf16) (harg7 : arg7.IsWhole)
    (arg8 : Memref sig .tc .vmem S1x1024 .f32) (harg8 : arg8.IsWhole)
    (x0 : Vec Ideal S1x256x1024 .f32) (x1 : Vec Ideal S1x256x512 .bf16) (x2 : Vec Ideal S1x256x512 .bf16) (x3 : Vec Ideal S1x6x1024 .f32)
    (x4 : Vec Ideal S512x1024 .bf16) (x5 : Vec Ideal S512x1024 .bf16) (x6 : Vec Ideal S1x1024 .f32)

/-- A token of the blocks after the mixing. -/
def blockProj (x0 : Vec Ideal S1x256x1024 .f32) (x1 : Vec Ideal S1x256x512 .bf16) (x2 : Vec Ideal S1x256x512 .bf16) (x3 : Vec Ideal S1x6x1024 .f32)
    (x4 : Vec Ideal S512x1024 .bf16) (x5 : Vec Ideal S512x1024 .bf16) (r : Fin 256) : Fin 1024 → EReal :=
  proj (fun j => x0 (ix3 0 r j)) (fun j => x3 (ix3 0 2 j)) (fun j => x1 (ix3 0 r j)) (fun j => x2 (ix3 0 r j)) (fun j k => x4 (ix2 j k)) (fun j k => x5 (ix2 j k))

theorem mid_apply (r : Fin 256) (k : Fin 1024) : mid arg2 harg2 arg3 harg3 arg4 harg4 arg5 harg5 arg6 harg6 arg7 harg7 x0 x1 x2 x3 x4 x5 (ix2 r k) = blockProj x0 x1 x2 x3 x4 x5 r k := by
  refine (pay5_apply _ _ _ _ _ _ r k).trans ?_
  unfold blockProj
  refine congr (congr (congr (congr (congr (congr (congrArg proj ?_) ?_) ?_) ?_) ?_) ?_) rfl
  · exact funext fun j => load3 arg2 harg2 x0 inb_S1x256x1024_S1x256x1024_0_0_0 r j r (Nat.zero_add _).symm
  · exact funext fun j => load3 arg5 harg5 x3 inb_S1x6x1024_S1x1x1024_0_2_0 0 j 2 rfl
  · exact funext fun j => load3 arg3 harg3 x1 inb_S1x256x512_S1x256x512_0_0_0 r j r (Nat.zero_add _).symm
  · exact funext fun j => load3 arg4 harg4 x2 inb_S1x256x512_S1x256x512_0_0_0 r j r (Nat.zero_add _).symm
  · exact funext fun j => funext fun k => load2 arg6 harg6 x4 inb_S512x1024_S512x1024_0_0 j k k (Nat.zero_add _).symm
  · exact funext fun j => funext fun k => load2 arg7 harg7 x5 inb_S512x1024_S512x1024_0_0 j k k (Nat.zero_add _).symm

/-- The tokens' block. -/
theorem x1Block_apply (r : Fin 256) (k : Fin 1024) : x1Block arg2 harg2 arg3 harg3 arg4 harg4 arg5 harg5 arg6 harg6 arg7 harg7 x0 x1 x2 x3 x4 x5 (ix3 0 r k) = blockProj x0 x1 x2 x3 x4 x5 r k :=
  (pay6_apply _ _ _ _ _ _ r k).trans (mid_apply arg2 harg2 arg3 harg3 arg4 harg4 arg5 harg5 arg6 harg6 arg7 harg7 x0 x1 x2 x3 x4 x5 r k)

theorem sums_apply (r : Fin 256) : sums arg2 harg2 arg3 harg3 arg4 harg4 arg5 harg5 arg6 harg6 arg7 harg7 x0 x1 x2 x3 x4 x5 (ix2 r 0) = ∑ j, blockProj x0 x1 x2 x3 x4 x5 r j * blockProj x0 x1 x2 x3 x4 x5 r j :=
  (pay7_apply _ _ _ _ _ _ r).trans (Finset.sum_congr rfl fun j _ => congr (congrArg _ (mid_apply arg2 harg2 arg3 harg3 arg4 harg4 arg5 harg5 arg6 harg6 arg7 harg7 x0 x1 x2 x3 x4 x5 r j)) (mid_apply arg2 harg2 arg3 harg3 arg4 harg4 arg5 harg5 arg6 harg6 arg7 harg7 x0 x1 x2 x3 x4 x5 r j))

/-- The normed tokens. -/
theorem normedRows_apply (r : Fin 256) (k : Fin 1024) : normedRows arg2 harg2 arg3 harg3 arg4 harg4 arg5 harg5 arg6 harg6 arg7 harg7 arg8 harg8 x0 x1 x2 x3 x4 x5 x6 (ix2 r k)
    = hid (blockProj x0 x1 x2 x3 x4 x5 r) (fun j => x6 (ix2 0 j)) (fun j => x3 (ix3 0 4 j)) (fun j => x3 (ix3 0 3 j)) k := by
  refine (pay9_apply _ _ _ _ _ _ r k).trans ?_
  rw [mid_apply, sums_apply, pay8_apply]
  refine congr (congrArg _ (congr (congrArg _ (congrArg _ ?_)) (congrArg _ ?_))) ?_
  · exact load2 arg8 harg8 x6 inb_S1x1024_S1x1024_0_0 0 k k (Nat.zero_add _).symm
  · exact load3 arg5 harg5 x3 inb_S1x6x1024_S1x1x1024_0_4_0 0 k 4 rfl
  · exact load3 arg5 harg5 x3 inb_S1x6x1024_S1x1x1024_0_3_0 0 k 3 rfl

/-- A tile of the normed tokens. -/
theorem h2Tile_apply (o : Fin 8) (r : Fin 256) (l : Fin 128) : h2Tile arg2 harg2 arg3 harg3 arg4 harg4 arg5 harg5 arg6 harg6 arg7 harg7 arg8 harg8 x0 x1 x2 x3 x4 x5 x6 o (ix2 r l)
    = hid (blockProj x0 x1 x2 x3 x4 x5 r) (fun j => x6 (ix2 0 j)) (fun j => x3 (ix3 0 4 j)) (fun j => x3 (ix3 0 3 j)) (tile o l) := by
  refine Eq.trans ?_ (normedRows_apply arg2 harg2 arg3 harg3 arg4 harg4 arg5 harg5 arg6 harg6 arg7 harg7 arg8 harg8 x0 x1 x2 x3 x4 x5 x6 r (tile o l))
  match o with
  | 0 => exact pay10_apply _ _ _ _ _ _ r l
  | 1 => exact pay11_apply _ _ _ _ _ _ r l
  | 2 => exact pay12_apply _ _ _ _ _ _ r l
  | 3 => exact pay13_apply _ _ _ _ _ _ r l
  | 4 => exact pay14_apply _ _ _ _ _ _ r l
  | 5 => exact pay15_apply _ _ _ _ _ _ r l
  | 6 => exact pay16_apply (normedRows arg2 harg2 arg3 harg3 arg4 harg4 arg5 harg5 arg6 harg6 arg7 harg7 arg8 harg8 x0 x1 x2 x3 x4 x5 x6) r l
  | 7 => exact pay17_apply (normedRows arg2 harg2 arg3 harg3 arg4 harg4 arg5 harg5 arg6 harg6 arg7 harg7 arg8 harg8 x0 x1 x2 x3 x4 x5 x6) r l

/-- The normed tokens' block: row `8 r + o` holds tile `o` of token `r`. -/
theorem laid_apply (w : Fin 8 → Vec Ideal S256x128 .f32) (y : Fin 2048) (r : Fin 256) (o : Fin 8) (h : y.val = 8 * r.val + o.val) (l : Fin 128) :
    laid w (ix2 y l) = w o (ix2 r l) := by
  have := o.isLt
  unfold laid
  refine congr (congrArg w (Fin.ext ?_)) ?_
  · show y.val % 8 = o.val
    omega
  · refine congrArg (fun r => ix2 r l) (Fin.ext ?_)
    show y.val / 8 = r.val
    omega

end Cert.Outproj

end
-- ==== Proof.OutprojArray.lean ====
module

public import proofs.«01_k».proof.Proof.OutprojOut

@[expose] public section

set_option maxRecDepth 16384

noncomputable section

namespace Cert.Outproj

open Idealize.ShloMosaic Idealize.ShloMosaic.TcCoe Idealize.ShloMosaic.Tactic Idealize.SL.Sem
open Cert.Kernel3Ideal Cert.Kernel3Ideal.Gen Cert.Kernel3Ideal.Outproj

/-! The output projections' two arrays after the run, entry by entry. -/

/-- A row of the weights' first half, and of the second. -/
def lower (j : Fin 512) : Fin 1024 := ⟨j.val, by have := j.isLt; omega⟩

def upper (j : Fin 512) : Fin 1024 := ⟨512 + j.val, by have := j.isLt; omega⟩

/-- A token after the mixing, out of the arguments. -/
def projOf (a0 : S4x4096x1024.Idx → EReal) (a1 a2 : S4x4096x512.Idx → EReal) (a3 : S8x6x1024.Idx → EReal) (a4 : S1024x1024.Idx → EReal)
    (b : Fin 4) (R : Fin 4096) : Fin 1024 → EReal :=
  proj (fun j => a0 (ix3 b R j)) (fun j => a3 (ix3 (b.castLE (by decide)) 2 j)) (fun j => a1 (ix3 b R j)) (fun j => a2 (ix3 b R j))
    (fun j k => a4 (ix2 (lower j) k)) (fun j k => a4 (ix2 (upper j) k))

/-- A token after the norm, the gain and the modulation, out of the arguments. -/
def hidOf (a0 : S4x4096x1024.Idx → EReal) (a1 a2 : S4x4096x512.Idx → EReal) (a3 : S8x6x1024.Idx → EReal) (a4 : S1024x1024.Idx → EReal)
    (a5 : S1024.Idx → EReal) (b : Fin 4) (R : Fin 4096) : Fin 1024 → EReal :=
  hid (projOf a0 a1 a2 a3 a4 b R) (fun j => a5 (ix1 j)) (fun j => a3 (ix3 (b.castLE (by decide)) 4 j)) (fun j => a3 (ix3 (b.castLE (by decide)) 3 j))

/-- The row of token `r` of block `i`. -/
def row (i : Fin 16) (r : Fin 256) : Fin 4096 := ⟨256 * i.val + r.val, by
  have := i.isLt
  have := r.isLt
  omega⟩

theorem exists_row (R : Fin 4096) : ∃ i r, R = row i r := by
  have := R.isLt
  refine ⟨⟨R.val / 256, by omega⟩, ⟨R.val % 256, by omega⟩, Fin.ext ?_⟩
  show R.val = 256 * (R.val / 256) + R.val % 256
  omega

/-- An index of three axes by its coordinates. -/
theorem eq_ix3 {n0 n1 n2 : ℕ} (y : (⟨3, ![n0, n1, n2]⟩ : Shape).Idx) (a : Fin n0) (b : Fin n1) (c : Fin n2)
    (h0 : (y 0).val = a.val) (h1 : (y 1).val = b.val) (h2 : (y 2).val = c.val) : y = ix3 a b c := by
  funext i
  match i with
  | 0 => exact Fin.ext h0
  | 1 => exact Fin.ext h1
  | 2 => exact Fin.ext h2

/-- An index of two axes by its coordinates. -/
theorem eq_ix2 {n0 n1 : ℕ} (y : (⟨2, ![n0, n1]⟩ : Shape).Idx) (a : Fin n0) (b : Fin n1)
    (h0 : (y 0).val = a.val) (h1 : (y 1).val = b.val) : y = ix2 a b := by
  funext i
  match i with
  | 0 => exact Fin.ext h0
  | 1 => exact Fin.ext h1

/-- The row of the second array that holds tile `o` of a token. -/
def line (b : Fin 4) (R : Fin 4096) (o : Fin 8) : Fin 131072 := ⟨8 * (4096 * b.val + R.val) + o.val, by
  have := b.isLt
  have := R.isLt
  have := o.isLt
  omega⟩

theorem exists_line (y : Fin 131072) : ∃ b R o, y = line b R o := by
  have := y.isLt
  refine ⟨⟨y.val / 32768, by omega⟩, ⟨y.val / 8 % 4096, by omega⟩, ⟨y.val % 8, by omega⟩, Fin.ext ?_⟩
  show y.val = 8 * (4096 * (y.val / 32768) + y.val / 8 % 4096) + y.val % 8
  omega

/-- The point of the grid at batch `b` and block `i` of the tokens. -/
def point (b : Fin 4) (i : Fin 16) : Fin cfg0.N := ⟨16 * b.val + i.val, by
  have := b.isLt
  have := i.isLt
  show 16 * b.val + i.val < 64
  omega⟩

theorem index0 : ∀ (b : Fin 4) (i : Fin 16), win0_0.index (point b i) = ![b.val, i.val, 0] := by decide +kernel
theorem index1 : ∀ (b : Fin 4) (i : Fin 16), win0_1.index (point b i) = ![b.val, i.val, 0] := by decide +kernel
theorem index2 : ∀ (b : Fin 4) (i : Fin 16), win0_2.index (point b i) = ![b.val, i.val, 0] := by decide +kernel
theorem index3 : ∀ (b : Fin 4) (i : Fin 16), win0_3.index (point b i) = ![b.val, 0, 0] := by decide +kernel
theorem index4 : ∀ (b : Fin 4) (i : Fin 16), win0_4.index (point b i) = ![0, 0] := by decide +kernel
theorem index5 : ∀ (b : Fin 4) (i : Fin 16), win0_5.index (point b i) = ![0, 0] := by decide +kernel
theorem index6 : ∀ (b : Fin 4) (i : Fin 16), win0_6.index (point b i) = ![0, 0] := by decide +kernel
theorem index10 : ∀ (b : Fin 4) (i : Fin 16), win0_10.index (point b i) = ![b.val, i.val, 0] := by decide +kernel
theorem index11 : ∀ (b : Fin 4) (i : Fin 16), win0_11.index (point b i) = ![16 * b.val + i.val, 0] := by decide +kernel
theorem flush10 : ∀ (b : Fin 4) (i : Fin 16), (cfg0.win 10).flush (point b i) = true := by decide +kernel
theorem apart10 : ∀ t t' : Fin cfg0.N, win0_10.index t = win0_10.index t' → t = t' :=
  (by decide +kernel : ∀ t t' : Fin grid0.N, win0_10.index t = win0_10.index t' → t = t')
theorem flush11 : ∀ (b : Fin 4) (i : Fin 16), (cfg0.win 11).flush (point b i) = true := by decide +kernel
theorem apart11 : ∀ t t' : Fin cfg0.N, win0_11.index t = win0_11.index t' → t = t' :=
  (by decide +kernel : ∀ t t' : Fin grid0.N, win0_11.index t = win0_11.index t' → t = t')

variable (m : (ℓ : Loc nD τ sig) → Buf (Elt Ideal) ℓ) (ρ : Dev nD → PrngReg) (c : Dev nD)

/-- The arguments, as arrays of numbers. -/
abbrev X (m : (ℓ : Loc nD τ sig) → Buf (Elt Ideal) ℓ) (c : Dev nD) : S4x4096x1024.Idx → EReal := m ((c : Thread nD τ).loc main_arg0)
abbrev Linear (m : (ℓ : Loc nD τ sig) → Buf (Elt Ideal) ℓ) (c : Dev nD) : S4x4096x512.Idx → EReal := m ((c : Thread nD τ).loc main_arg1)
abbrev Memory (m : (ℓ : Loc nD τ sig) → Buf (Elt Ideal) ℓ) (c : Dev nD) : S4x4096x512.Idx → EReal := m ((c : Thread nD τ).loc main_arg2)
abbrev Mods (m : (ℓ : Loc nD τ sig) → Buf (Elt Ideal) ℓ) (c : Dev nD) : S8x6x1024.Idx → EReal := m ((c : Thread nD τ).loc main_arg3)
abbrev W (m : (ℓ : Loc nD τ sig) → Buf (Elt Ideal) ℓ) (c : Dev nD) : S1024x1024.Idx → EReal := m ((c : Thread nD τ).loc main_arg4)
abbrev Gain (m : (ℓ : Loc nD τ sig) → Buf (Elt Ideal) ℓ) (c : Dev nD) : S1024.Idx → EReal := m ((c : Thread nD τ).loc main_arg5)

/-- The gain's row. -/
theorem gainRow (k : Fin 1024) : V m c main_v8 (ix2 0 k) = Gain m c (ix1 k) := by
  have h : V m c main_v8 = shapeCast S1x1024 (m ((c : Thread nD τ).loc main_arg5)) shapeCasts_S1024_S1x1024 := rfl
  rw [h]
  pointwise

/-- The weights' first half. -/
theorem weightsLower (j : Fin 512) (k : Fin 1024) : V m c main_v5 (ix2 j k) = W m c (ix2 (lower j) k) := by
  have h : V m c main_v5 = (truncf .bf16 (extractStridedSlice S512x1024 ![0, 0] (m ((c : Thread nD τ).loc main_arg4)) slices_S1024x1024_S512x1024_0_0 : FVec Ideal S512x1024 .f32) bitsLt_bf16_f32 : FVec Ideal S512x1024 .bf16) := rfl
  rw [h]
  pointwise
  all_goals exact congrArg (W m c) (eq_ix2 _ _ _ rfl rfl)

/-- The weights' second half. -/
theorem weightsUpper (j : Fin 512) (k : Fin 1024) : V m c main_v7 (ix2 j k) = W m c (ix2 (upper j) k) := by
  have h : V m c main_v7 = (truncf .bf16 (extractStridedSlice S512x1024 ![512, 0] (m ((c : Thread nD τ).loc main_arg4)) slices_S1024x1024_S512x1024_512_0 : FVec Ideal S512x1024 .f32) bitsLt_bf16_f32 : FVec Ideal S512x1024 .bf16) := rfl
  rw [h]
  pointwise
  all_goals rfl

/-! What the windows hold. -/

theorem held0 (b : Fin 4) (i : Fin 16) (r : Fin 256) (k : Fin 1024) :
    iblk m c 0 (point b i) (ix3 0 r k) = X m c (ix3 b (row i r) k) := by
  show V m c (Pipeline.arrRef spec0 0) _ = _
  rw [show V m c (Pipeline.arrRef spec0 0) = _ from V_main_arg0 m c]
  refine congrArg (X m c) (eq_ix3 _ _ _ _ ?_ ?_ ?_)
  all_goals
    blk_simp
    rw [index0]
  · exact Nat.add_zero b.val
  · show i.val * 256 + r.val = 256 * i.val + r.val
    omega
  · exact Nat.zero_add _

theorem held1 (b : Fin 4) (i : Fin 16) (r : Fin 256) (k : Fin 512) :
    iblk m c 1 (point b i) (ix3 0 r k) = Linear m c (ix3 b (row i r) k) := by
  show V m c (Pipeline.arrRef spec0 1) _ = _
  rw [show V m c (Pipeline.arrRef spec0 1) = _ from V_main_arg1 m c]
  refine congrArg (Linear m c) (eq_ix3 _ _ _ _ ?_ ?_ ?_)
  all_goals
    blk_simp
    rw [index1]
  · exact Nat.add_zero b.val
  · show i.val * 256 + r.val = 256 * i.val + r.val
    omega
  · exact Nat.zero_add _

theorem held2 (b : Fin 4) (i : Fin 16) (r : Fin 256) (k : Fin 512) :
    iblk m c 2 (point b i) (ix3 0 r k) = Memory m c (ix3 b (row i r) k) := by
  show V m c (Pipeline.arrRef spec0 2) _ = _
  rw [show V m c (Pipeline.arrRef spec0 2) = _ from V_main_arg2 m c]
  refine congrArg (Memory m c) (eq_ix3 _ _ _ _ ?_ ?_ ?_)
  all_goals
    blk_simp
    rw [index2]
  · exact Nat.add_zero b.val
  · show i.val * 256 + r.val = 256 * i.val + r.val
    omega
  · exact Nat.zero_add _

theorem held3 (b : Fin 4) (i : Fin 16) (p : Fin 6) (k : Fin 1024) :
    iblk m c 3 (point b i) (ix3 0 p k) = Mods m c (ix3 (b.castLE (by decide)) p k) := by
  show V m c (Pipeline.arrRef spec0 3) _ = _
  rw [show V m c (Pipeline.arrRef spec0 3) = _ from V_main_arg3 m c]
  refine congrArg (Mods m c) (eq_ix3 _ _ _ _ ?_ ?_ ?_)
  all_goals
    blk_simp
    rw [index3]
  · exact Nat.add_zero b.val
  · exact Nat.zero_add _
  · exact Nat.zero_add _

theorem held4 (b : Fin 4) (i : Fin 16) (j : Fin 512) (k : Fin 1024) :
    iblk m c 4 (point b i) (ix2 j k) = W m c (ix2 (lower j) k) := by
  refine Eq.trans ?_ (weightsLower m c j k)
  show V m c main_v5 _ = _
  refine congrArg (V m c main_v5) (eq_ix2 _ _ _ ?_ ?_)
  all_goals
    blk_simp
    rw [index4]
    exact Nat.zero_add _

theorem held5 (b : Fin 4) (i : Fin 16) (j : Fin 512) (k : Fin 1024) :
    iblk m c 5 (point b i) (ix2 j k) = W m c (ix2 (upper j) k) := by
  refine Eq.trans ?_ (weightsUpper m c j k)
  show V m c main_v7 _ = _
  refine congrArg (V m c main_v7) (eq_ix2 _ _ _ ?_ ?_)
  all_goals
    blk_simp
    rw [index5]
    exact Nat.zero_add _

theorem held6 (b : Fin 4) (i : Fin 16) (k : Fin 1024) : iblk m c 6 (point b i) (ix2 0 k) = Gain m c (ix1 k) := by
  refine Eq.trans ?_ (gainRow m c k)
  show V m c main_v8 _ = _
  refine congrArg (V m c main_v8) (eq_ix2 _ _ _ ?_ ?_)
  all_goals
    blk_simp
    rw [index6]
  · rfl
  · exact Nat.zero_add _

/-- A token after the mixing, out of the windows. -/
theorem heldProj (b : Fin 4) (i : Fin 16) (r : Fin 256) :
    blockProj (iblk m c 0 (point b i)) (iblk m c 1 (point b i)) (iblk m c 2 (point b i)) (iblk m c 3 (point b i)) (iblk m c 4 (point b i)) (iblk m c 5 (point b i)) r
      = projOf (X m c) (Linear m c) (Memory m c) (Mods m c) (W m c) b (row i r) :=
  congr (congr (congr (congr (congr (congrArg proj (funext fun j => held0 m c b i r j)) (funext fun j => held3 m c b i 2 j)) (funext fun j => held1 m c b i r j))
    (funext fun j => held2 m c b i r j)) (funext fun j => funext fun k => held4 m c b i j k)) (funext fun j => funext fun k => held5 m c b i j k)

/-- Distinct points write distinct blocks. -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (apart10 t t' h)

theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (apart11 t t' h)

/-- What a point writes back is what its body left. -/
theorem flushed10 (t : Fin cfg0.N) : (dats m 0 c).flushed 10 t = (cfg0.win 10).cut (grid0.coords t) (leavesX1 m c t) := by
  show (cfg0.win 10).cut (grid0.coords t) ((dats m 0 c).after 10 t) = _
  rw [after0_10]

theorem flushed11 (t : Fin cfg0.N) : (dats m 0 c).flushed 11 t = (cfg0.win 11).cut (grid0.coords t) (leavesH2 m c t) := by
  show (cfg0.win 11).cut (grid0.coords t) ((dats m 0 c).after 11 t) = _
  rw [after0_11]

theorem leavesX1_apply (b : Fin 4) (i : Fin 16) (r : Fin 256) (k : Fin 1024) :
    leavesX1 m c (point b i) (ix3 0 r k) = projOf (X m c) (Linear m c) (Memory m c) (Mods m c) (W m c) b (row i r) k := by
  unfold leavesX1
  exact (x1Block_apply _ _ _ _ _ _ _ _ _ _ _ _ _ _ _ _ _ _ r k).trans (congrFun (heldProj m c b i r) k)

theorem leavesH2_apply (b : Fin 4) (i : Fin 16) (y : Fin 2048) (r : Fin 256) (o : Fin 8) (h : y.val = 8 * r.val + o.val) (l : Fin 128) :
    leavesH2 m c (point b i) (ix2 y l) = hidOf (X m c) (Linear m c) (Memory m c) (Mods m c) (W m c) (Gain m c) b (row i r) (tile o l) := by
  unfold leavesH2
  refine (laid_apply _ y r o h l).trans ?_
  refine (h2Tile_apply _ _ _ _ _ _ _ _ _ _ _ _ _ _ _ _ _ _ _ _ _ o r l).trans ?_
  exact congr (congr (congr (congr (congrArg hid (heldProj m c b i r)) (funext fun j => held6 m c b i j)) (funext fun j => held3 m c b i 4 j))
    (funext fun j => held3 m c b i 3 j)) rfl

/-- The tokens' array. -/
theorem result10 (b : Fin 4) (R : Fin 4096) (k : Fin 1024) :
    ((dats m 0 c).arrAt 10 cfg0.N : S4x4096x1024.Idx → EReal) (ix3 b R k)
      = projOf (X m c) (Linear m c) (Memory m c) (Mods m c) (W m c) b R k := by
  obtain ⟨i, r, rfl⟩ := exists_row R
  have hb := congrFun ((dats m 0 c).read_blk_arrAt_eq_flushed 10 disjoint10 cfg0.N (point b i) (point b i).isLt (flush10 b i)) (ix3 0 r k)
  have e : ((cfg0.win 10).blk (point b i)).view.emb (ix3 0 r k) = ix3 b (row i r) k := by
    refine eq_ix3 _ _ _ _ ?_ ?_ ?_
    all_goals
      blk_simp
      rw [index10]
    · exact Nat.add_zero b.val
    · show i.val * 256 + r.val = 256 * i.val + r.val
      omega
    · exact Nat.zero_add _
  rw [← e]
  refine hb.trans ?_
  rw [flushed10]
  exact leavesX1_apply m c b i r k

/-- The normed tokens' array. -/
theorem result11 (b : Fin 4) (R : Fin 4096) (o : Fin 8) (l : Fin 128) :
    ((dats m 0 c).arrAt 11 cfg0.N : S131072x128.Idx → EReal) (ix2 (line b R o) l)
      = hidOf (X m c) (Linear m c) (Memory m c) (Mods m c) (W m c) (Gain m c) b R (tile o l) := by
  obtain ⟨i, r, rfl⟩ := exists_row R
  have hy : 8 * r.val + o.val < 2048 := by
    have := r.isLt
    have := o.isLt
    omega
  have hb := congrFun ((dats m 0 c).read_blk_arrAt_eq_flushed 11 disjoint11 cfg0.N (point b i) (point b i).isLt (flush11 b i)) (ix2 ⟨8 * r.val + o.val, hy⟩ l)
  have e : ((cfg0.win 11).blk (point b i)).view.emb (ix2 ⟨8 * r.val + o.val, hy⟩ l) = ix2 (line b (row i r) o) l := by
    refine eq_ix2 _ _ _ ?_ ?_
    all_goals
      blk_simp
      rw [index11]
    · show (16 * b.val + i.val) * 2048 + (8 * r.val + o.val) = 8 * (4096 * b.val + (256 * i.val + r.val)) + o.val
      omega
    · exact Nat.zero_add _
  rw [← e]
  refine hb.trans ?_
  rw [flushed11]
  exact leavesH2_apply m c b i _ r o rfl l

/-- The run ends with the two arrays and keeps the arguments. -/
theorem run_named : θ_run defs (onTc (τ := τ) (main (F := Ideal))) ⟨m, fun _ => 0, ρ⟩ (fun r => ∀ c : Dev nD,
      r.2.mem ((c.tc : Thread nD τ).loc main_v9_0) = (dats m 0 c).arrAt 10 cfg0.N
      ∧ r.2.mem ((c.tc : Thread nD τ).loc main_v9_1) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(Pipeline.Dat.toRForget_arrAt_iff (dat := dats m 0 c) (fgt := forgets0) (w := 10) rfl cfg0.N _).mp ((h.2 c).1 10),
    (Pipeline.Dat.toRForget_arrAt_iff (dat := dats m 0 c) (fgt := forgets0) (w := 11) rfl cfg0.N _).mp ((h.2 c).1 11), h.1 c⟩)
    (θ_run_and (unchanged m ρ) (run_main m ρ))

end Cert.Outproj

end
-- ==== Proof.OutprojRef.lean ====
module

public import proofs.«01_k».proof.Proof.OutprojArray
public import proofs.«01_k».proof.Proof.Gen.Reference3Ideal.Run

@[expose] public section

set_option maxRecDepth 16384

noncomputable section

namespace Cert.Outproj

open Idealize.ShloMosaic Idealize.SL.Sem Cert.Reference3Ideal Cert.Reference3Ideal.Gen

/-! The reference's stages, entry by entry. -/

/-- The tokens after the mixing. -/
def refX1 (a0 : FVec Ideal S4x4096x1024 .f32) (a1 a2 : FVec Ideal S4x4096x512 .bf16) (a3 : FVec Ideal S8x6x1024 .f32) (a4 : FVec Ideal S1024x1024 .f32) : FVec Ideal S4x4096x1024 .f32 :=
  addf a0 (mulf (broadcastInDim S4x4096x1024 ![0, 1, 2] bcast_S4x1x1024_S4x4096x1024_0_1_2 (broadcastInDim S4x1x1024 ![0, 2] bcast_S4x1024_S4x1x1024_0_2 (shapeCast S4x1024 (extractStridedSlice S4x1x1024 ![0, 2, 0] a3 slices_S8x6x1024_S4x1x1024_0_2_0) shapeCasts_S4x1x1024_S4x1024))) (Host.dotGeneral dot_S4x4096x1024_S1024x1024_S4x4096x1024_2_0_01_1_n_n none (extf .f32 (concatenate S4x4096x1024 2 [⟨S4x4096x512, a1⟩, ⟨S4x4096x512, a2⟩] concatenates_S4x4096x512_S4x4096x512_S4x4096x1024_d2) bitsLt_bf16_f32) a4))

/-- The tokens after the norm, the gain and the modulation. -/
def refHid (a0 : FVec Ideal S4x4096x1024 .f32) (a1 a2 : FVec Ideal S4x4096x512 .bf16) (a3 : FVec Ideal S8x6x1024 .f32) (a4 : FVec Ideal S1024x1024 .f32) (a5 : FVec Ideal S1024 .f32) : FVec Ideal S4x4096x1024 .f32 :=
  addf (mulf (mulf (mulf (refX1 a0 a1 a2 a3 a4) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (refX1 a0 a1 a2 a3 a4) (refX1 a0 a1 a2 a3 a4)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 a5))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (shapeCast S4x1024 (extractStridedSlice S4x1x1024 ![0, 4, 0] a3 slices_S8x6x1024_S4x1x1024_0_4_0) shapeCasts_S4x1x1024_S4x1024))))) (broadcastInDim S4x4096x1024 ![0, 1, 2] bcast_S4x1x1024_S4x4096x1024_0_1_2 (broadcastInDim S4x1x1024 ![0, 2] bcast_S4x1024_S4x1x1024_0_2 (shapeCast S4x1024 (extractStridedSlice S4x1x1024 ![0, 3, 0] a3 slices_S8x6x1024_S4x1x1024_0_3_0) shapeCasts_S4x1x1024_S4x1024)))

/-- The same, 128 columns at a time. -/
def refH2 (a0 : FVec Ideal S4x4096x1024 .f32) (a1 a2 : FVec Ideal S4x4096x512 .bf16) (a3 : FVec Ideal S8x6x1024 .f32) (a4 : FVec Ideal S1024x1024 .f32) (a5 : FVec Ideal S1024 .f32) : FVec Ideal S131072x128 .f32 :=
  shapeCast S131072x128 (refHid a0 a1 a2 a3 a4 a5) shapeCasts_S4x4096x1024_S131072x128

variable (a0 : FVec Ideal S4x4096x1024 .f32) (a1 a2 : FVec Ideal S4x4096x512 .bf16) (a3 : FVec Ideal S8x6x1024 .f32) (a4 : FVec Ideal S1024x1024 .f32) (a5 : FVec Ideal S1024 .f32)

theorem refX1_apply (b : Fin 4) (R : Fin 4096) (k : Fin 1024) : refX1 a0 a1 a2 a3 a4 (ix3 b R k) = projOf a0 a1 a2 a3 a4 b R k := by
  pointwise [refX1]
  rfl

theorem refHid_apply (b : Fin 4) (R : Fin 4096) (k : Fin 1024) : refHid a0 a1 a2 a3 a4 a5 (ix3 b R k) = hidOf a0 a1 a2 a3 a4 a5 b R k := by
  unfold hidOf
  rw [← show (fun j => refX1 a0 a1 a2 a3 a4 (ix3 b R j)) = _ from funext fun j => refX1_apply a0 a1 a2 a3 a4 b R j]
  pointwise [refHid, hid]
  all_goals rfl

theorem refH2_apply (b : Fin 4) (R : Fin 4096) (o : Fin 8) (l : Fin 128) :
    refH2 a0 a1 a2 a3 a4 a5 (ix2 (line b R o) l) = hidOf a0 a1 a2 a3 a4 a5 b R (tile o l) := by
  refine Eq.trans ?_ (refHid_apply a0 a1 a2 a3 a4 a5 b R (tile o l))
  refine shapeCast_apply (s := S4x4096x1024) _ _ _ _ ?_
  rw [Shape.rowMajor_val_two, Shape.rowMajor_val_three]
  show (b.val * 4096 + R.val) * 1024 + (128 * o.val + l.val) = (8 * (4096 * b.val + R.val) + o.val) * 128 + l.val
  omega

end Cert.Outproj

end
-- ==== Proof.OutprojJoin.lean ====
module

public import proofs.«01_k».proof.Defs
public import proofs.«01_k».proof.Proof.OutprojRef

@[expose] public section

set_option maxRecDepth 16384

noncomputable section

namespace Cert.Outproj

open Idealize.ShloMosaic Idealize.SL.Sem

/-! The output projections' arrays and the reference's joined. -/

/-- An array of three axes is known by its entries. -/
theorem ext3 {n0 n1 n2 : ℕ} {f g : (⟨3, ![n0, n1, n2]⟩ : Shape).Idx → EReal} (h : ∀ a b c, f (ix3 a b c) = g (ix3 a b c)) : f = g := by
  funext y
  rw [eq_ix3 y (y 0) (y 1) (y 2) rfl rfl rfl]
  exact h _ _ _

/-- An array of two axes is known by its entries. -/
theorem ext2 {n0 n1 : ℕ} {f g : (⟨2, ![n0, n1]⟩ : Shape).Idx → EReal} (h : ∀ a b, f (ix2 a b) = g (ix2 a b)) : f = g := by
  funext y
  rw [eq_ix2 y (y 0) (y 1) rfl rfl]
  exact h _ _

/-- The two programs end with the same two arrays. -/
theorem same : Cert.algebraic_Kernel3Ideal_Reference3Ideal (hKernel3Ideal := Cert.Kernel3Ideal.Gen.facts)
    (hReference3Ideal := Cert.Reference3Ideal.Gen.facts) := by
  intro m g m' g' _ ha
  refine ⟨fun c => (Cert.Kernel3Ideal.Outproj.dats m 0 c).arrAt 10 Cert.Kernel3Ideal.cfg0.N,
    fun c => (Cert.Kernel3Ideal.Outproj.dats m 0 c).arrAt 11 Cert.Kernel3Ideal.cfg0.N, ?_, ?_⟩
  · refine (θ_run Cert.Kernel3Ideal.defs _ _).mono (fun r h c => ?_) (run_named m g)
    exact h c
  · refine (θ_run Cert.Reference3Ideal.defs _ _).mono (fun r h c => ?_) (Cert.Reference3Ideal.Value.run m' g')
    obtain ⟨e14, e34, hargs⟩ := h c
    obtain ⟨e0, e1, e2, e3, e4, e5, e6, e7⟩ := ha c
    rw [e0, e1, e2, e3, e4] at e14
    rw [e0, e1, e2, e3, e4, e5] at e34
    refine ⟨e14.trans ?_, e34.trans ?_, hargs⟩
    · exact ext3 fun b R k => (refX1_apply (X m c) (Linear m c) (Memory m c) (Mods m c) (W m c) b R k).trans (result10 m c b R k).symm
    · refine ext2 fun y l => ?_
      obtain ⟨b, R, o, rfl⟩ := exists_line y
      exact (refH2_apply (X m c) (Linear m c) (Memory m c) (Mods m c) (W m c) (Gain m c) b R o l).trans (result11 m c b R o l).symm

end Cert.Outproj

end
-- ==== Proof.CombineBlock.lean ====
module

public import proofs.«01_k».proof.Proof.Gen.Kernel4Ideal.Skeleton
public import Idealize.ShloMosaic.Lib.Pointwise

@[expose] public section

set_option maxRecDepth 16384

noncomputable section

namespace Cert.Combine

open Idealize.ShloMosaic Idealize.SL.Sem Cert.Kernel4Ideal Cert.Kernel4Ideal.Gen

/-! What one program of the combination computes of its blocks. -/

/-- A token after the channel mixing: the residual and the two experts' outputs, weighted and gated. -/
def mixed (x y z gate : Fin 1024 → EReal) (w v : EReal) (k : Fin 1024) : EReal := x k + gate k * (w * y k + v * z k)

/-- The norm of a token's row, and the gain. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- The entry that column `l` of a token's row `c` of 128 holds. -/
def tile (c : Fin 8) (l : Fin 128) : Fin 1024 := ⟨128 * c.val + l.val, by
  have := c.isLt
  have := l.isLt
  omega⟩

theorem pay1_apply (v17 v20 v22 : FVec Ideal S1024x1024 .f32) (v25 : Vec Ideal S1024x1024 .f32) (v27 : Vec Ideal S1x1x1024 .f32) (v42 : Vec Ideal S1x1024 .f32)
    (r k : Fin 1024) : k0_pay1 v17 v20 v22 v25 v27 v42 (ix2 r k)
      = normed (fun j => v25 (ix2 r j) + v27 (ix3 0 0 j) * (v20 (ix2 r j) + v22 (ix2 r j) * v17 (ix2 r j))) (fun j => v42 (ix2 0 j)) k := by
  pointwise [k0_pay1, normed]

/-- Eight loads side by side are the row. -/
theorem pay2_apply (v0 v1 v2 v3 v4 v5 v6 v7 : Vec Ideal S1024x128 .f32) (r : Fin 1024) (f : Fin 1024 → EReal)
    (h0 : ∀ l, v0 (ix2 r l) = f (tile 0 l)) (h1 : ∀ l, v1 (ix2 r l) = f (tile 1 l)) (h2 : ∀ l, v2 (ix2 r l) = f (tile 2 l)) (h3 : ∀ l, v3 (ix2 r l) = f (tile 3 l)) (h4 : ∀ l, v4 (ix2 r l) = f (tile 4 l)) (h5 : ∀ l, v5 (ix2 r l) = f (tile 5 l)) (h6 : ∀ l, v6 (ix2 r l) = f (tile 6 l)) (h7 : ∀ l, v7 (ix2 r l) = f (tile 7 l))
    (k : Fin 1024) : k0_pay2 v0 v1 v2 v3 v4 v5 v6 v7 (ix2 r k) = f k := by
  pointwise [k0_pay2]
  have := k.isLt
  split_ifs <;> first
    | exact (h0 _).trans (congrArg f (Fin.ext (by simp only [tile]; omega)))
    | exact (h1 _).trans (congrArg f (Fin.ext (by simp only [tile]; omega)))
    | exact (h2 _).trans (congrArg f (Fin.ext (by simp only [tile]; omega)))
    | exact (h3 _).trans (congrArg f (Fin.ext (by simp only [tile]; omega)))
    | exact (h4 _).trans (congrArg f (Fin.ext (by simp only [tile]; omega)))
    | exact (h5 _).trans (congrArg f (Fin.ext (by simp only [tile]; omega)))
    | exact (h6 _).trans (congrArg f (Fin.ext (by simp only [tile]; omega)))
    | exact (h7 _).trans (congrArg f (Fin.ext (by simp only [tile]; omega)))

/-- The same times the token's weight. -/
theorem pay3_apply (v0 v1 v2 v3 v4 v5 v6 v7 : Vec Ideal S1024x128 .f32) (w : Vec Ideal S1024x1 .f32) (r : Fin 1024) (f : Fin 1024 → EReal)
    (h0 : ∀ l, v0 (ix2 r l) = f (tile 0 l)) (h1 : ∀ l, v1 (ix2 r l) = f (tile 1 l)) (h2 : ∀ l, v2 (ix2 r l) = f (tile 2 l)) (h3 : ∀ l, v3 (ix2 r l) = f (tile 3 l)) (h4 : ∀ l, v4 (ix2 r l) = f (tile 4 l)) (h5 : ∀ l, v5 (ix2 r l) = f (tile 5 l)) (h6 : ∀ l, v6 (ix2 r l) = f (tile 6 l)) (h7 : ∀ l, v7 (ix2 r l) = f (tile 7 l))
    (k : Fin 1024) : k0_pay3 v0 v1 v2 v3 v4 v5 v6 v7 w (ix2 r k) = w (ix2 r 0) * f k := by
  refine Eq.trans ?_ (congrArg (w (ix2 r 0) * ·) (pay2_apply v0 v1 v2 v3 v4 v5 v6 v7 r f h0 h1 h2 h3 h4 h5 h6 h7 k))
  pointwise [k0_pay3, k0_pay2]

theorem pay4_apply (w : Vec Ideal S1024x1 .f32) (r k : Fin 1024) : k0_pay4 w (ix2 r k) = w (ix2 r 0) := by
  pointwise [k0_pay4]

end Cert.Combine

end
-- ==== Proof.CombineOut.lean ====
module

public import proofs.«01_k».proof.Proof.CombineBlock
public import proofs.«01_k».proof.Proof.Gen.Kernel4Ideal.Value
public import Idealize.ShloMosaic.Lib.Pipeline.ValueKit

@[expose] public section

set_option maxRecDepth 16384

noncomputable section

namespace Cert.Combine

open Idealize.ShloMosaic Idealize.ShloMosaic.TcCoe Idealize.ShloMosaic.Tactic Idealize.SL.Sem Cert.Kernel4Ideal Cert.Kernel4Ideal.Gen

/-! What one program of the combination leaves in its block. -/

section loads

/-- A load of columns of a block of two axes, from a column on. -/
theorem load2 {n0 n1 o m1 : ℕ} {e : EltTy} (a : Memref sig .tc .vmem (⟨2, ![n0, n1]⟩ : Shape) e) (h : a.IsWhole) (x : Vec Ideal (⟨2, ![n0, n1]⟩ : Shape) e)
    (inb : ∀ k, (![0, o] : Fin 2 → ℕ) k + (![n0, m1] : Fin 2 → ℕ) k ≤ (⟨2, ![n0, n1]⟩ : Shape).size k) (p : Fin n0) (q : Fin m1) (q' : Fin n1)
    (hq : q'.val = o + q.val) :
    View.readAt (Elt Ideal) a.view (Rect.unit (s := (⟨2, ![n0, n1]⟩ : Shape)) ![0, o] ![n0, m1] inb).toLoadRect (h.unread x) (ix2 p q) = x (ix2 p q') := by
  refine Eq.trans ?_ (congrFun (h.read_unread x) (ix2 p q'))
  refine congrArg (a.view.read (Elt Ideal) (h.unread x)) ?_
  funext k
  apply Fin.ext
  match k with
  | 0 => show 0 + 1 * p.val = p.val; omega
  | 1 => show o + 1 * q.val = q'.val; omega

/-- A load of every 16th row of a block. -/
theorem loadS {n0 n1 o m0 : ℕ} {e : EltTy} (a : Memref sig .tc .vmem (⟨2, ![n0, n1]⟩ : Shape) e) (h : a.IsWhole) (x : Vec Ideal (⟨2, ![n0, n1]⟩ : Shape) e)
    (inb : _) (p : Fin m0) (q : Fin n1) (p' : Fin n0) (hp : p'.val = o + 16 * p.val) :
    View.readAt (Elt Ideal) a.view (⟨![o, 0], ![m0, n1], ![16, 1], inb⟩ : LoadRect (⟨2, ![n0, n1]⟩ : Shape)) (h.unread x) (ix2 p q) = x (ix2 p' q) := by
  refine Eq.trans ?_ (congrFun (h.read_unread x) (ix2 p' q))
  refine congrArg (a.view.read (Elt Ideal) (h.unread x)) ?_
  funext k
  apply Fin.ext
  match k with
  | 0 => show o + 16 * p.val = p'.val; omega
  | 1 => show 0 + 1 * q.val = q.val; omega

/-- A load of one row of the modulation. -/
theorem load3 {n1 n2 o m1 : ℕ} {e : EltTy} (a : Memref sig .tc .vmem (⟨3, ![1, n1, n2]⟩ : Shape) e) (h : a.IsWhole) (x : Vec Ideal (⟨3, ![1, n1, n2]⟩ : Shape) e)
    (inb : ∀ k, (![0, o, 0] : Fin 3 → ℕ) k + (![1, m1, n2] : Fin 3 → ℕ) k ≤ (⟨3, ![1, n1, n2]⟩ : Shape).size k) (p : Fin m1) (q : Fin n2) (p' : Fin n1)
    (hp : p'.val = o + p.val) :
    View.readAt (Elt Ideal) a.view (Rect.unit (s := (⟨3, ![1, n1, n2]⟩ : Shape)) ![0, o, 0] ![1, m1, n2] inb).toLoadRect (h.unread x) (ix3 0 p q) = x (ix3 0 p' q) := by
  refine Eq.trans ?_ (congrFun (h.read_unread x) (ix3 0 p' q))
  refine congrArg (a.view.read (Elt Ideal) (h.unread x)) ?_
  funext k
  apply Fin.ext
  match k with
  | 0 => rfl
  | 1 => show o + 1 * p.val = p'.val; omega
  | 2 => show 0 + 1 * q.val = q.val; omega

/-- A store that covers the block, read back. -/
theorem store2 {n0 n1 : ℕ} {e : EltTy} (v : View sig .tc .vmem (⟨2, ![n0, n1]⟩ : Shape) e) (f : v.ty.Contents (Elt Ideal))
    (inb : ∀ k, (![0, 0] : Fin 2 → ℕ) k + (![n0, n1] : Fin 2 → ℕ) k ≤ (⟨2, ![n0, n1]⟩ : Shape).size k) (x : Vec Ideal (⟨2, ![n0, n1]⟩ : Shape) e)
    (p : Fin n0) (q : Fin n1) :
    v.read (Elt Ideal) (v.writes (Elt Ideal) f [⟨Rect.unit (s := (⟨2, ![n0, n1]⟩ : Shape)) ![0, 0] ![n0, n1] inb, x⟩]) (ix2 p q) = x (ix2 p q) := by
  refine Eq.trans (congrArg (v.read (Elt Ideal) _) ?_) (View.read_writes_cons_emb v f (Rect.unit (s := (⟨2, ![n0, n1]⟩ : Shape)) ![0, 0] ![n0, n1] inb) x [] (ix2 p q))
  funext k
  apply Fin.ext
  match k with
  | 0 => show p.val = 0 + 1 * p.val; omega
  | 1 => show q.val = 0 + 1 * q.val; omega

end loads

/-- Row `o` of the sixteen that token `r` of a block has. -/
def line (r : Fin 1024) (o : Fin 16) : Fin 16384 := ⟨o.val + 16 * r.val, by
  have := r.isLt
  have := o.isLt
  omega⟩

/-- Entry `j` of the output of a token's expert `p`: its row and its column. -/
def part (j : Fin 1024) (p : Fin 2) : Fin 16 := ⟨8 * p.val + j.val / 128, by
  have := j.isLt
  have := p.isLt
  omega⟩

def lane (j : Fin 1024) : Fin 128 := ⟨j.val % 128, Nat.mod_lt _ (by decide)⟩

theorem part_tile (c : Fin 8) (l : Fin 128) (p : Fin 2) : part (tile c l) p = ⟨8 * p.val + c.val, by
    have := c.isLt
    have := p.isLt
    omega⟩ := by
  apply Fin.ext
  show 8 * p.val + (128 * c.val + l.val) / 128 = 8 * p.val + c.val
  have := l.isLt
  omega

theorem lane_tile (c : Fin 8) (l : Fin 128) : lane (tile c l) = l := by
  apply Fin.ext
  show (128 * c.val + l.val) % 128 = l.val
  have := l.isLt
  omega

/-- Entry `j` of the output of expert `p` of token `r`, out of the block. -/
def outOf (x1 : Vec Ideal S16384x128 .f32) (r : Fin 1024) (p : Fin 2) (j : Fin 1024) : EReal := x1 (ix2 (line r (part j p)) (lane j))

theorem outOf_tile (x1 : Vec Ideal S16384x128 .f32) (r : Fin 1024) (p : Fin 2) (c : Fin 8) (l : Fin 128) (o : Fin 16) (h : o.val = 8 * p.val + c.val) :
    x1 (ix2 (line r o) l) = outOf x1 r p (tile c l) := by
  unfold outOf
  rw [part_tile, lane_tile]
  exact congrArg (fun o => x1 (ix2 (line r o) l)) (Fin.ext h)

variable (c : Dev nD) (i : grid0.Coords)
    (arg1 : Memref sig .tc .vmem S1024x1024 .f32) (harg1 : arg1.IsWhole)
    (arg2 : Memref sig .tc .vmem S16384x128 .f32) (harg2 : arg2.IsWhole)
    (arg3 : Memref sig .tc .vmem S1024x128 .f32) (harg3 : arg3.IsWhole)
    (arg4 : Memref sig .tc .vmem S1x6x1024 .f32) (harg4 : arg4.IsWhole)
    (arg5 : Memref sig .tc .vmem S1x1024 .f32) (harg5 : arg5.IsWhole)
    (arg6 : Memref sig .tc .vmem S1024x1024 .f32) (harg6 : arg6.IsWhole)
    (x0 : Vec Ideal S1024x1024 .f32) (x1 : Vec Ideal S16384x128 .f32) (x2 : Vec Ideal S1024x128 .f32) (x3 : Vec Ideal S1x6x1024 .f32)
    (x4 : Vec Ideal S1x1024 .f32)

/-- The block. -/
theorem out5 (r k : Fin 1024) :
    out0_A_5 c i arg1 harg1 arg2 harg2 arg3 harg3 arg4 harg4 arg5 harg5 arg6 harg6 x0 x1 x2 x3 x4 (ix2 r k)
      = normed (mixed (fun j => x0 (ix2 r j)) (outOf x1 r 0) (outOf x1 r 1) (fun j => x3 (ix3 0 5 j)) (x2 (ix2 r 0)) (x2 (ix2 r 1))) (fun j => x4 (ix2 0 j)) k := by
  refine (store2 VO0_5 _ _ _ r k).trans ?_
  rw [pay1_apply]
  refine congr (congr (congrArg normed (funext fun j => ?_)) (funext fun j => load2 arg5 harg5 x4 inb_S1x1024_S1x1024_0_0 0 j j (Nat.zero_add _).symm)) rfl
  refine congr (congrArg _ (load2 arg1 harg1 x0 inb_S1024x1024_S1024x1024_0_0 r j j (Nat.zero_add _).symm)) ?_
  refine congr (congrArg _ (load3 arg4 harg4 x3 inb_S1x6x1024_S1x1x1024_0_5_0 0 j 5 rfl)) ?_
  refine congr (congrArg _ ?_) (congr (congrArg _ ?_) ?_)
  · refine (pay3_apply _ _ _ _ _ _ _ _ _ r (outOf x1 r 0) (fun l => (loadS arg2 harg2 x1 inb_S16384x128_S1024x128_0_0_s_16_1 r l (line r 0) rfl).trans (outOf_tile x1 r 0 0 l 0 rfl)) (fun l => (loadS arg2 harg2 x1 inb_S16384x128_S1024x128_1_0_s_16_1 r l (line r 1) rfl).trans (outOf_tile x1 r 0 1 l 1 rfl)) (fun l => (loadS arg2 harg2 x1 inb_S16384x128_S1024x128_2_0_s_16_1 r l (line r 2) rfl).trans (outOf_tile x1 r 0 2 l 2 rfl)) (fun l => (loadS arg2 harg2 x1 inb_S16384x128_S1024x128_3_0_s_16_1 r l (line r 3) rfl).trans (outOf_tile x1 r 0 3 l 3 rfl)) (fun l => (loadS arg2 harg2 x1 inb_S16384x128_S1024x128_4_0_s_16_1 r l (line r 4) rfl).trans (outOf_tile x1 r 0 4 l 4 rfl)) (fun l => (loadS arg2 harg2 x1 inb_S16384x128_S1024x128_5_0_s_16_1 r l (line r 5) rfl).trans (outOf_tile x1 r 0 5 l 5 rfl)) (fun l => (loadS arg2 harg2 x1 inb_S16384x128_S1024x128_6_0_s_16_1 r l (line r 6) rfl).trans (outOf_tile x1 r 0 6 l 6 rfl)) (fun l => (loadS arg2 harg2 x1 inb_S16384x128_S1024x128_7_0_s_16_1 r l (line r 7) rfl).trans (outOf_tile x1 r 0 7 l 7 rfl)) j).trans ?_
    exact congrArg (· * outOf x1 r 0 j) (load2 arg3 harg3 x2 inb_S1024x128_S1024x1_0_0 r 0 0 rfl)
  · refine (pay4_apply _ r j).trans ?_
    exact load2 arg3 harg3 x2 inb_S1024x128_S1024x1_0_1 r 0 1 rfl
  · exact pay2_apply _ _ _ _ _ _ _ _ r (outOf x1 r 1) (fun l => (loadS arg2 harg2 x1 inb_S16384x128_S1024x128_8_0_s_16_1 r l (line r 8) rfl).trans (outOf_tile x1 r 1 0 l 8 rfl)) (fun l => (loadS arg2 harg2 x1 inb_S16384x128_S1024x128_9_0_s_16_1 r l (line r 9) rfl).trans (outOf_tile x1 r 1 1 l 9 rfl)) (fun l => (loadS arg2 harg2 x1 inb_S16384x128_S1024x128_10_0_s_16_1 r l (line r 10) rfl).trans (outOf_tile x1 r 1 2 l 10 rfl)) (fun l => (loadS arg2 harg2 x1 inb_S16384x128_S1024x128_11_0_s_16_1 r l (line r 11) rfl).trans (outOf_tile x1 r 1 3 l 11 rfl)) (fun l => (loadS arg2 harg2 x1 inb_S16384x128_S1024x128_12_0_s_16_1 r l (line r 12) rfl).trans (outOf_tile x1 r 1 4 l 12 rfl)) (fun l => (loadS arg2 harg2 x1 inb_S16384x128_S1024x128_13_0_s_16_1 r l (line r 13) rfl).trans (outOf_tile x1 r 1 5 l 13 rfl)) (fun l => (loadS arg2 harg2 x1 inb_S16384x128_S1024x128_14_0_s_16_1 r l (line r 14) rfl).trans (outOf_tile x1 r 1 6 l 14 rfl)) (fun l => (loadS arg2 harg2 x1 inb_S16384x128_S1024x128_15_0_s_16_1 r l (line r 15) rfl).trans (outOf_tile x1 r 1 7 l 15 rfl)) j

end Cert.Combine

end
-- ==== Proof.CombineArray.lean ====
module

public import proofs.«01_k».proof.Proof.CombineOut

@[expose] public section

set_option maxRecDepth 16384

noncomputable section

namespace Cert.Combine

open Idealize.ShloMosaic Idealize.ShloMosaic.TcCoe Idealize.ShloMosaic.Tactic Idealize.SL.Sem
open Cert.Kernel4Ideal Cert.Kernel4Ideal.Gen Cert.Kernel4Ideal.Value

/-! The combination's array after the run, entry by entry. -/

/-- A token's batch, and its place in the batch. -/
def batch (T : Fin 16384) : Fin 4 := ⟨T.val / 4096, by have := T.isLt; omega⟩

def place (T : Fin 16384) : Fin 4096 := ⟨T.val % 4096, Nat.mod_lt _ (by decide)⟩

/-- Entry `j` of the output of expert `p` of a token: row `16 T + 8 p + j / 128`, column `j % 128`. -/
def expOf (a1 : S262144x128.Idx → EReal) (T : Fin 16384) (p : Fin 2) (j : Fin 1024) : EReal :=
  a1 (ix2 ⟨16 * T.val + (part j p).val, by
    have := T.isLt
    have := (part j p).isLt
    omega⟩ (lane j))

/-- A token of the result, out of the arguments. -/
def combOf (a0 : S4x4096x1024.Idx → EReal) (a1 : S262144x128.Idx → EReal) (a2 : S16384x128.Idx → EReal) (a3 : S8x6x1024.Idx → EReal)
    (a4 : S1024.Idx → EReal) (T : Fin 16384) (k : Fin 1024) : EReal :=
  normed (mixed (fun j => a0 (ix3 (batch T) (place T) j)) (expOf a1 T 0) (expOf a1 T 1) (fun j => a3 (ix3 ((batch T).castLE (by decide)) 5 j))
    (a2 (ix2 T 0)) (a2 (ix2 T 1))) (fun j => a4 (ix1 j)) k

/-- Token `r` of block `i`. -/
def row (i : Fin 16) (r : Fin 1024) : Fin 16384 := ⟨1024 * i.val + r.val, by
  have := i.isLt
  have := r.isLt
  omega⟩

theorem exists_row (T : Fin 16384) : ∃ i r, T = row i r := by
  have := T.isLt
  refine ⟨⟨T.val / 1024, by omega⟩, ⟨T.val % 1024, by omega⟩, Fin.ext ?_⟩
  show T.val = 1024 * (T.val / 1024) + T.val % 1024
  omega

/-- An index of three axes by its coordinates. -/
theorem eq_ix3 {n0 n1 n2 : ℕ} (y : (⟨3, ![n0, n1, n2]⟩ : Shape).Idx) (a : Fin n0) (b : Fin n1) (c : Fin n2)
    (h0 : (y 0).val = a.val) (h1 : (y 1).val = b.val) (h2 : (y 2).val = c.val) : y = ix3 a b c := by
  funext i
  match i with
  | 0 => exact Fin.ext h0
  | 1 => exact Fin.ext h1
  | 2 => exact Fin.ext h2

/-- An index of two axes by its coordinates. -/
theorem eq_ix2 {n0 n1 : ℕ} (y : (⟨2, ![n0, n1]⟩ : Shape).Idx) (a : Fin n0) (b : Fin n1)
    (h0 : (y 0).val = a.val) (h1 : (y 1).val = b.val) : y = ix2 a b := by
  funext i
  match i with
  | 0 => exact Fin.ext h0
  | 1 => exact Fin.ext h1

/-- The point of the grid at block `i` of the tokens. -/
def point (i : Fin 16) : Fin cfg0.N := ⟨i.val, i.isLt⟩

theorem index0 : ∀ i : Fin 16, win0_0.index (point i) = ![i.val, 0] := by decide +kernel
theorem index1 : ∀ i : Fin 16, win0_1.index (point i) = ![i.val, 0] := by decide +kernel
theorem index2 : ∀ i : Fin 16, win0_2.index (point i) = ![i.val, 0] := by decide +kernel
theorem index3 : ∀ i : Fin 16, win0_3.index (point i) = ![i.val / 4, 0, 0] := by decide +kernel
theorem index4 : ∀ i : Fin 16, win0_4.index (point i) = ![0, 0] := by decide +kernel
theorem index5 : ∀ i : Fin 16, win0_5.index (point i) = ![i.val, 0] := by decide +kernel
theorem flush5 : ∀ i : Fin 16, (cfg0.win 5).flush (point i) = true := by decide +kernel

variable (m : (ℓ : Loc nD τ sig) → Buf (Elt Ideal) ℓ) (ρ : Dev nD → PrngReg) (c : Dev nD)

/-- The arguments, as arrays of numbers. -/
abbrev X (m : (ℓ : Loc nD τ sig) → Buf (Elt Ideal) ℓ) (c : Dev nD) : S4x4096x1024.Idx → EReal := m ((c : Thread nD τ).loc main_arg0)
abbrev Y (m : (ℓ : Loc nD τ sig) → Buf (Elt Ideal) ℓ) (c : Dev nD) : S262144x128.Idx → EReal := m ((c : Thread nD τ).loc main_arg1)
abbrev Weights (m : (ℓ : Loc nD τ sig) → Buf (Elt Ideal) ℓ) (c : Dev nD) : S16384x128.Idx → EReal := m ((c : Thread nD τ).loc main_arg2)
abbrev Mods (m : (ℓ : Loc nD τ sig) → Buf (Elt Ideal) ℓ) (c : Dev nD) : S8x6x1024.Idx → EReal := m ((c : Thread nD τ).loc main_arg3)
abbrev Gain (m : (ℓ : Loc nD τ sig) → Buf (Elt Ideal) ℓ) (c : Dev nD) : S1024.Idx → EReal := m ((c : Thread nD τ).loc main_arg4)

/-- The tokens, one row each. -/
theorem tokenRow (T : Fin 16384) (k : Fin 1024) : V m c main_v0 (ix2 T k) = X m c (ix3 (batch T) (place T) k) := by
  have h : V m c main_v0 = shapeCast S16384x1024 (m ((c : Thread nD τ).loc main_arg0)) shapeCasts_S4x4096x1024_S16384x1024 := rfl
  rw [h]
  refine shapeCast_apply (s := S4x4096x1024) _ _ _ _ ?_
  rw [Shape.rowMajor_val_two, Shape.rowMajor_val_three]
  show (T.val / 4096 * 4096 + T.val % 4096) * 1024 + k.val = T.val * 1024 + k.val
  omega

/-- The gain's row. -/
theorem gainRow (k : Fin 1024) : V m c main_v1 (ix2 0 k) = Gain m c (ix1 k) := by
  have h : V m c main_v1 = shapeCast S1x1024 (m ((c : Thread nD τ).loc main_arg4)) shapeCasts_S1024_S1x1024 := rfl
  rw [h]
  pointwise

/-! What the windows hold. -/

theorem held0 (i : Fin 16) (r k : Fin 1024) :
    iblk m c 0 (point i) (ix2 r k) = X m c (ix3 (batch (row i r)) (place (row i r)) k) := by
  refine Eq.trans ?_ (tokenRow m c (row i r) k)
  show V m c main_v0 _ = _
  refine congrArg (V m c main_v0) (eq_ix2 _ _ _ ?_ ?_)
  all_goals
    blk_simp
    rw [index0]
  · show i.val * 1024 + r.val = 1024 * i.val + r.val
    omega
  · exact Nat.zero_add _

theorem held1 (i : Fin 16) (r : Fin 1024) (p : Fin 2) (j : Fin 1024) :
    outOf (iblk m c 1 (point i)) r p j = expOf (Y m c) (row i r) p j := by
  unfold outOf expOf
  show V m c (Pipeline.arrRef spec0 1) _ = _
  rw [show V m c (Pipeline.arrRef spec0 1) = _ from V_main_arg1 m c]
  refine congrArg (Y m c) (eq_ix2 _ _ _ ?_ ?_)
  all_goals
    blk_simp
    rw [index1]
  · show i.val * 16384 + ((part j p).val + 16 * r.val) = 16 * (1024 * i.val + r.val) + (part j p).val
    omega
  · exact Nat.zero_add _

theorem held2 (i : Fin 16) (r : Fin 1024) (l : Fin 128) : iblk m c 2 (point i) (ix2 r l) = Weights m c (ix2 (row i r) l) := by
  show V m c (Pipeline.arrRef spec0 2) _ = _
  rw [show V m c (Pipeline.arrRef spec0 2) = _ from V_main_arg2 m c]
  refine congrArg (Weights m c) (eq_ix2 _ _ _ ?_ ?_)
  all_goals
    blk_simp
    rw [index2]
  · show i.val * 1024 + r.val = 1024 * i.val + r.val
    omega
  · exact Nat.zero_add _

theorem held3 (i : Fin 16) (r : Fin 1024) (p : Fin 6) (k : Fin 1024) :
    iblk m c 3 (point i) (ix3 0 p k) = Mods m c (ix3 ((batch (row i r)).castLE (by decide)) p k) := by
  show V m c (Pipeline.arrRef spec0 3) _ = _
  rw [show V m c (Pipeline.arrRef spec0 3) = _ from V_main_arg3 m c]
  refine congrArg (Mods m c) (eq_ix3 _ _ _ _ ?_ ?_ ?_)
  all_goals
    blk_simp
    rw [index3]
  · show i.val / 4 + 0 = (1024 * i.val + r.val) / 4096
    have := r.isLt
    omega
  · exact Nat.zero_add _
  · exact Nat.zero_add _

theorem held4 (i : Fin 16) (k : Fin 1024) : iblk m c 4 (point i) (ix2 0 k) = Gain m c (ix1 k) := by
  refine Eq.trans ?_ (gainRow m c k)
  show V m c main_v1 _ = _
  refine congrArg (V m c main_v1) (eq_ix2 _ _ _ ?_ ?_)
  all_goals
    blk_simp
    rw [index4]
  · rfl
  · exact Nat.zero_add _

/-- The array. -/
theorem result5 (T : Fin 16384) (k : Fin 1024) :
    ((dats m 0 c).arrAt 5 cfg0.N : S16384x1024.Idx → EReal) (ix2 T k) = combOf (X m c) (Y m c) (Weights m c) (Mods m c) (Gain m c) T k := by
  obtain ⟨i, r, rfl⟩ := exists_row T
  have hb := congrFun (blocks5 m c (point i) (flush5 i)) (ix2 r k)
  have e : ((cfg0.win 5).blk (point i)).view.emb (ix2 r k) = ix2 (row i r) k := by
    refine eq_ix2 _ _ _ ?_ ?_
    all_goals
      blk_simp
      rw [index5]
    · show i.val * 1024 + r.val = 1024 * i.val + r.val
      omega
    · exact Nat.zero_add _
  rw [← e]
  refine hb.trans ?_
  rw [flushed5_A]
  refine Eq.trans (out5 _ _ _ _ _ _ _ _ _ _ _ _ _ _ _ _ _ _ _ r k) ?_
  unfold combOf
  refine congr (congr (congrArg normed ?_) (funext fun j => held4 m c i j)) rfl
  exact congr (congr (congr (congr (congr (congrArg mixed (funext fun j => held0 m c i r j)) (funext fun j => held1 m c i r 0 j))
    (funext fun j => held1 m c i r 1 j)) (funext fun j => held3 m c i r 5 j)) (held2 m c i r 0)) (held2 m c i r 1)

end Cert.Combine

end
-- ==== Proof.CombineRef.lean ====
module

public import proofs.«01_k».proof.Proof.CombineArray
public import proofs.«01_k».proof.Proof.Gen.Reference4Ideal.Run

@[expose] public section

set_option maxRecDepth 16384

noncomputable section

namespace Cert.Combine

open Idealize.ShloMosaic Idealize.SL.Sem Cert.Reference4Ideal Cert.Reference4Ideal.Gen

/-! The reference's stages, entry by entry. -/

/-- The experts' outputs, two for each token. -/
def refY (a1 : FVec Ideal S262144x128 .f32) : FVec Ideal S4x4096x2x1024 .f32 :=
  shapeCast S4x4096x2x1024 a1 shapeCasts_S262144x128_S4x4096x2x1024

/-- The first of the two. -/
def refExp0 (a1 : FVec Ideal S262144x128 .f32) : FVec Ideal S4x4096x1024 .f32 :=
  shapeCast S4x4096x1024 (extractStridedSlice S4x4096x1x1024 ![0, 0, 0, 0] (refY a1) slices_S4x4096x2x1024_S4x4096x1x1024_0_0_0_0) shapeCasts_S4x4096x1x1024_S4x4096x1024

/-- The second. -/
def refExp1 (a1 : FVec Ideal S262144x128 .f32) : FVec Ideal S4x4096x1024 .f32 :=
  shapeCast S4x4096x1024 (extractStridedSlice S4x4096x1x1024 ![0, 0, 1, 0] (refY a1) slices_S4x4096x2x1024_S4x4096x1x1024_0_0_1_0) shapeCasts_S4x4096x1x1024_S4x4096x1024

/-- The tokens after the channel mixing. -/
def refMixed (a0 : FVec Ideal S4x4096x1024 .f32) (a1 : FVec Ideal S262144x128 .f32) (a2 : FVec Ideal S16384x128 .f32) (a3 : FVec Ideal S8x6x1024 .f32) :
    FVec Ideal S4x4096x1024 .f32 :=
  addf a0 (mulf (broadcastInDim S4x4096x1024 ![0, 1, 2] bcast_S4x1x1024_S4x4096x1024_0_1_2 (broadcastInDim S4x1x1024 ![0, 2] bcast_S4x1024_S4x1x1024_0_2 (shapeCast S4x1024 (extractStridedSlice S4x1x1024 ![0, 5, 0] a3 slices_S8x6x1024_S4x1x1024_0_5_0) shapeCasts_S4x1x1024_S4x1024))) (addf (mulf (broadcastInDim S4x4096x1024 ![0, 1, 2] bcast_S4x4096x1_S4x4096x1024_0_1_2 (broadcastInDim S4x4096x1 ![0, 1] bcast_S4x4096_S4x4096x1_0_1 (shapeCast S4x4096 (extractStridedSlice S4x4096x1 ![0, 0, 0] (shapeCast S4x4096x2 (extractStridedSlice S16384x2 ![0, 0] a2 slices_S16384x128_S16384x2_0_0) shapeCasts_S16384x2_S4x4096x2) slices_S4x4096x2_S4x4096x1_0_0_0) shapeCasts_S4x4096x1_S4x4096))) (refExp0 a1)) (mulf (broadcastInDim S4x4096x1024 ![0, 1, 2] bcast_S4x4096x1_S4x4096x1024_0_1_2 (broadcastInDim S4x4096x1 ![0, 1] bcast_S4x4096_S4x4096x1_0_1 (shapeCast S4x4096 (extractStridedSlice S4x4096x1 ![0, 0, 1] (shapeCast S4x4096x2 (extractStridedSlice S16384x2 ![0, 0] a2 slices_S16384x128_S16384x2_0_0) shapeCasts_S16384x2_S4x4096x2) slices_S4x4096x2_S4x4096x1_0_0_1) shapeCasts_S4x4096x1_S4x4096))) (refExp1 a1))))

/-- The result. -/
def refOut (a0 : FVec Ideal S4x4096x1024 .f32) (a1 : FVec Ideal S262144x128 .f32) (a2 : FVec Ideal S16384x128 .f32) (a3 : FVec Ideal S8x6x1024 .f32)
    (a4 : FVec Ideal S1024 .f32) : FVec Ideal S16384x1024 .f32 :=
  shapeCast S16384x1024 (mulf (mulf (refMixed a0 a1 a2 a3) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (refMixed a0 a1 a2 a3) (refMixed a0 a1 a2 a3)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 a4))) shapeCasts_S4x4096x1024_S16384x1024

variable (a0 : FVec Ideal S4x4096x1024 .f32) (a1 : FVec Ideal S262144x128 .f32) (a2 : FVec Ideal S16384x128 .f32) (a3 : FVec Ideal S8x6x1024 .f32)
  (a4 : FVec Ideal S1024 .f32)

/-- The tokens in order: batch `b`, place `R`. -/
def token (b : Fin 4) (R : Fin 4096) : Fin 16384 := ⟨b.val * 4096 + R.val, by
  have := b.isLt
  have := R.isLt
  omega⟩

theorem refY_apply (b : Fin 4) (R : Fin 4096) (p : Fin 2) (k : Fin 1024) : refY a1 (ix4 b R p k) = expOf a1 (token b R) p k := by
  refine shapeCast_apply (s := S262144x128) _ _ _ _ ?_
  rw [Shape.rowMajor_val_two, Shape.rowMajor_val_four]
  show (16 * (b.val * 4096 + R.val) + (8 * p.val + k.val / 128)) * 128 + k.val % 128 = ((b.val * 4096 + R.val) * 2 + p.val) * 1024 + k.val
  omega

theorem refExp0_apply (b : Fin 4) (R : Fin 4096) (k : Fin 1024) : refExp0 a1 (ix3 b R k) = expOf a1 (token b R) 0 k := by
  refine Eq.trans ?_ (refY_apply a1 b R 0 k)
  pointwise [refExp0]
  all_goals rfl

theorem refExp1_apply (b : Fin 4) (R : Fin 4096) (k : Fin 1024) : refExp1 a1 (ix3 b R k) = expOf a1 (token b R) 1 k := by
  refine Eq.trans ?_ (refY_apply a1 b R 1 k)
  pointwise [refExp1]
  all_goals rfl

theorem refMixed_apply (b : Fin 4) (R : Fin 4096) (k : Fin 1024) :
    refMixed a0 a1 a2 a3 (ix3 b R k) = mixed (fun j => a0 (ix3 b R j)) (expOf a1 (token b R) 0) (expOf a1 (token b R) 1)
      (fun j => a3 (ix3 (b.castLE (by decide)) 5 j)) (a2 (ix2 (token b R) 0)) (a2 (ix2 (token b R) 1)) k := by
  pointwise [refMixed, mixed]
  rw [refExp0_apply, refExp1_apply]
  rfl

theorem token_batch (T : Fin 16384) : token (batch T) (place T) = T := by
  apply Fin.ext
  show T.val / 4096 * 4096 + T.val % 4096 = T.val
  omega

theorem refOut_apply (T : Fin 16384) (k : Fin 1024) : refOut a0 a1 a2 a3 a4 (ix2 T k) = combOf a0 a1 a2 a3 a4 T k := by
  have h : ∀ j, refMixed a0 a1 a2 a3 (ix3 (batch T) (place T) j) = mixed (fun j => a0 (ix3 (batch T) (place T) j)) (expOf a1 T 0) (expOf a1 T 1)
      (fun j => a3 (ix3 ((batch T).castLE (by decide)) 5 j)) (a2 (ix2 T 0)) (a2 (ix2 T 1)) j := fun j =>
    (refMixed_apply a0 a1 a2 a3 (batch T) (place T) j).trans (by rw [token_batch])
  unfold combOf
  rw [← show (fun j => refMixed a0 a1 a2 a3 (ix3 (batch T) (place T) j)) = _ from funext h]
  pointwise [refOut, normed]
  rfl

end Cert.Combine

end
-- ==== Proof.CombineJoin.lean ====
module

public import proofs.«01_k».proof.Defs
public import proofs.«01_k».proof.Proof.CombineRef

@[expose] public section

set_option maxRecDepth 16384

noncomputable section

namespace Cert.Combine

open Idealize.ShloMosaic Idealize.SL.Sem

/-! The combination's array and the reference's joined. -/

/-- An array of two axes is known by its entries. -/
theorem ext2 {n0 n1 : ℕ} {f g : (⟨2, ![n0, n1]⟩ : Shape).Idx → EReal} (h : ∀ a b, f (ix2 a b) = g (ix2 a b)) : f = g := by
  funext y
  rw [eq_ix2 y (y 0) (y 1) rfl rfl]
  exact h _ _

/-- The two programs end with the same array. -/
theorem same : Cert.algebraic_Kernel4Ideal_Reference4Ideal (hKernel4Ideal := Cert.Kernel4Ideal.Gen.facts)
    (hReference4Ideal := Cert.Reference4Ideal.Gen.facts) := by
  intro m g m' g' _ ha
  refine ⟨fun c => (Cert.Kernel4Ideal.Gen.dats m 0 c).arrAt 5 Cert.Kernel4Ideal.cfg0.N, ?_, ?_⟩
  · refine (θ_run Cert.Kernel4Ideal.defs _ _).mono (fun r h c => ?_) (Cert.Kernel4Ideal.Value.run_blocks m g)
    exact h c
  · refine (θ_run Cert.Reference4Ideal.defs _ _).mono (fun r h c => ?_) (Cert.Reference4Ideal.Value.run m' g')
    obtain ⟨e5, hargs⟩ := h c
    obtain ⟨e0, e1, e2, e3, e4⟩ := ha c
    unfold Cert.Reference4Ideal.Value.res_main_v37 at e5
    rw [e0, e1, e2, e3, e4] at e5
    refine ⟨e5.trans ?_, hargs⟩
    exact ext2 fun T k => (refOut_apply (X m c) (Y m c) (Weights m c) (Mods m c) (Gain m c) T k).trans (result5 m c T k).symm

end Cert.Combine

end
-- ==== Proof.ModulationArray.lean ====
module

public import proofs.«01_k».proof.Proof.Gen.Kernel5Ideal.Value
public import Idealize.ShloMosaic.Lib.Pointwise
public import Idealize.ShloMosaic.Lib.Pipeline.ValueKit

@[expose] public section

set_option maxRecDepth 16384

noncomputable section

namespace Cert.Modulation

open Idealize.ShloMosaic Idealize.ShloMosaic.TcCoe Idealize.ShloMosaic.Tactic Idealize.SL.Sem
open Cert.Kernel5Ideal Cert.Kernel5Ideal.Gen Cert.Kernel5Ideal.Value

/-! The modulation's table after the run, entry by entry. -/

/-- The gated condition. -/
def silu (x : EReal) : EReal := x * Ideal.div (Ideal.ofBits .f32 0x3F800000#32) (Ideal.ofBits .f32 0x3F800000#32 + Ideal.exp (-x))

theorem pay1_apply (x : Vec Ideal S8x1024 .f32) (w : Vec Ideal S1024x1536 .f32) (b : Vec Ideal S1x1536 .f32) (i : Fin 8) (j : Fin 1536) :
    k0_pay1 x w b (ix2 i j) = (∑ k, silu (x (ix2 i k)) * w (ix2 k j)) + b (ix2 0 j) := by
  pointwise [k0_pay1, silu]
  simp only [zero_sub]

theorem out_apply (x : Vec Ideal S8x1024 .f32) (w : Vec Ideal S1024x1536 .f32) (b : Vec Ideal S1x1536 .f32) (i : Fin 8) (j : Fin 1536) :
    out0_3 x w b (ix2 i j) = (∑ k, silu (x (ix2 i k)) * w (ix2 k j)) + b (ix2 0 j) := by
  have h : out0_3 x w b = k0_pay1 x w b := by
    unfold out0_3
    rw [View.canon_cons_unit_lit _ _ _ (by decide)]
    rw [View.ld_unit_lit inb_S8x1024_S8x1024_0_0 x (by decide), View.ld_unit_lit inb_S1024x1536_S1024x1536_0_0 w (by decide),
      View.ld_unit_lit inb_S1x1536_S1x1536_0_0 b (by decide)]
  rw [h]
  exact pay1_apply x w b i j

/-- An index of two axes by its coordinates. -/
theorem eq_ix2 {n0 n1 : ℕ} (y : (⟨2, ![n0, n1]⟩ : Shape).Idx) (a : Fin n0) (b : Fin n1)
    (h0 : (y 0).val = a.val) (h1 : (y 1).val = b.val) : y = ix2 a b := by
  funext i
  match i with
  | 0 => exact Fin.ext h0
  | 1 => exact Fin.ext h1

/-- The rows of conditions: one for each batch, the context's, and three of zeros. -/
def cond (a0 : S4x1024.Idx → EReal) (a1 : S1024.Idx → EReal) (i : Fin 8) (k : Fin 1024) : EReal :=
  if h : i.val < 4 then a0 (ix2 ⟨i.val, h⟩ k) else if h : i.val - 4 < 1 then a1 (ix1 k) else 0

/-- An entry of the table, out of the arguments. -/
def tableOf (a0 : S4x1024.Idx → EReal) (a1 : S1024.Idx → EReal) (a2 : S1024x6144.Idx → EReal) (a3 : S6144.Idx → EReal) (i : Fin 8) (j : Fin 6144) : EReal :=
  (∑ k, silu (cond a0 a1 i k) * a2 (ix2 k j)) + a3 (ix1 j)

/-- Column `j` of block `n`. -/
def column (n : Fin 4) (j : Fin 1536) : Fin 6144 := ⟨1536 * n.val + j.val, by
  have := n.isLt
  have := j.isLt
  omega⟩

theorem exists_column (J : Fin 6144) : ∃ n j, J = column n j := by
  have := J.isLt
  refine ⟨⟨J.val / 1536, by omega⟩, ⟨J.val % 1536, by omega⟩, Fin.ext ?_⟩
  show J.val = 1536 * (J.val / 1536) + J.val % 1536
  omega

/-- The point of the grid at block `n` of the columns. -/
def point (n : Fin 4) : Fin cfg0.N := ⟨n.val, n.isLt⟩

theorem index0 : ∀ n : Fin 4, win0_0.index (point n) = ![0, 0] := by decide +kernel
theorem index1 : ∀ n : Fin 4, win0_1.index (point n) = ![0, n.val] := by decide +kernel
theorem index2 : ∀ n : Fin 4, win0_2.index (point n) = ![0, n.val] := by decide +kernel
theorem index3 : ∀ n : Fin 4, win0_3.index (point n) = ![0, n.val] := by decide +kernel
theorem flush3 : ∀ n : Fin 4, (cfg0.win 3).flush (point n) = true := by decide +kernel

variable (m : (ℓ : Loc nD τ sig) → Buf (Elt Ideal) ℓ) (ρ : Dev nD → PrngReg) (c : Dev nD)

/-- The arguments, as arrays of numbers. -/
abbrev C (m : (ℓ : Loc nD τ sig) → Buf (Elt Ideal) ℓ) (c : Dev nD) : S4x1024.Idx → EReal := m ((c : Thread nD τ).loc main_arg0)
abbrev Ctx (m : (ℓ : Loc nD τ sig) → Buf (Elt Ideal) ℓ) (c : Dev nD) : S1024.Idx → EReal := m ((c : Thread nD τ).loc main_arg1)
abbrev W (m : (ℓ : Loc nD τ sig) → Buf (Elt Ideal) ℓ) (c : Dev nD) : S1024x6144.Idx → EReal := m ((c : Thread nD τ).loc main_arg2)
abbrev Bias (m : (ℓ : Loc nD τ sig) → Buf (Elt Ideal) ℓ) (c : Dev nD) : S6144.Idx → EReal := m ((c : Thread nD τ).loc main_arg3)

/-- The conditions' rows. -/
theorem condRow (i : Fin 8) (k : Fin 1024) : V m c main_v2 (ix2 i k) = cond (C m c) (Ctx m c) i k := by
  have h : V m c main_v2 = concatenate S8x1024 0 [⟨S4x1024, (m ((c : Thread nD τ).loc main_arg0) : FVec Ideal S4x1024 .f32)⟩,
      ⟨S1x1024, (broadcastInDim S1x1024 ![1] bcast_S1024_S1x1024_1 (m ((c : Thread nD τ).loc main_arg1)) : FVec Ideal S1x1024 .f32)⟩,
      ⟨S3x1024, (broadcastInDim S3x1024 ![] bcast_S_S3x1024 (constant S_ .f32 0x00000000#32) : FVec Ideal S3x1024 .f32)⟩] concatenates_S4x1024_S1x1024_S3x1024_S8x1024_d0 := rfl
  rw [h]
  pointwise
  rfl

/-- The bias's row. -/
theorem biasRow (j : Fin 6144) : V m c main_v3 (ix2 0 j) = Bias m c (ix1 j) := by
  have h : V m c main_v3 = shapeCast S1x6144 (m ((c : Thread nD τ).loc main_arg3)) shapeCasts_S6144_S1x6144 := rfl
  rw [h]
  refine shapeCast_apply (s := S6144) _ _ _ _ ?_
  rw [Shape.rowMajor_val_one, Shape.rowMajor_val_two]
  show j.val = 0 * 6144 + j.val
  omega

/-! What the windows hold. -/

theorem held0 (n : Fin 4) (i : Fin 8) (k : Fin 1024) : iblk m c 0 (point n) (ix2 i k) = cond (C m c) (Ctx m c) i k := by
  refine Eq.trans ?_ (condRow m c i k)
  show V m c main_v2 _ = _
  refine congrArg (V m c main_v2) (eq_ix2 _ _ _ ?_ ?_)
  all_goals
    blk_simp
    rw [index0]
    exact Nat.zero_add _

theorem held1 (n : Fin 4) (k : Fin 1024) (j : Fin 1536) : iblk m c 1 (point n) (ix2 k j) = W m c (ix2 k (column n j)) := by
  show V m c (Pipeline.arrRef spec0 1) _ = _
  rw [show V m c (Pipeline.arrRef spec0 1) = _ from V_main_arg2 m c]
  refine congrArg (W m c) (eq_ix2 _ _ _ ?_ ?_)
  all_goals
    blk_simp
    rw [index1]
  · exact Nat.zero_add _
  · show n.val * 1536 + j.val = 1536 * n.val + j.val
    omega

theorem held2 (n : Fin 4) (j : Fin 1536) : iblk m c 2 (point n) (ix2 0 j) = Bias m c (ix1 (column n j)) := by
  refine Eq.trans ?_ (biasRow m c (column n j))
  show V m c main_v3 _ = _
  refine congrArg (V m c main_v3) (eq_ix2 _ _ _ ?_ ?_)
  all_goals
    blk_simp
    rw [index2]
  · rfl
  · show n.val * 1536 + j.val = 1536 * n.val + j.val
    omega

/-- The table. -/
theorem result3 (i : Fin 8) (J : Fin 6144) :
    ((dats m 0 c).arrAt 3 cfg0.N : S8x6144.Idx → EReal) (ix2 i J) = tableOf (C m c) (Ctx m c) (W m c) (Bias m c) i J := by
  obtain ⟨n, j, rfl⟩ := exists_column J
  have hb := congrFun (blocks3 m c (point n) (flush3 n)) (ix2 i j)
  have e : ((cfg0.win 3).blk (point n)).view.emb (ix2 i j) = ix2 i (column n j) := by
    refine eq_ix2 _ _ _ ?_ ?_
    all_goals
      blk_simp
      rw [index3]
    · exact Nat.zero_add _
    · show n.val * 1536 + j.val = 1536 * n.val + j.val
      omega
  rw [← e]
  refine hb.trans ?_
  rw [flushed3]
  refine Eq.trans (out_apply _ _ _ i j) ?_
  unfold tableOf
  rw [held2]
  refine congrArg (· + Bias m c (ix1 (column n j))) (Finset.sum_congr rfl fun k _ => ?_)
  rw [held0, held1]

end Cert.Modulation

end
-- ==== Proof.ModulationJoin.lean ====
module

public import proofs.«01_k».proof.Defs
public import proofs.«01_k».proof.Proof.ModulationArray
public import proofs.«01_k».proof.Proof.Gen.Reference5Ideal.Run

@[expose] public section

set_option maxRecDepth 16384

noncomputable section

namespace Cert.Modulation

open Idealize.ShloMosaic Idealize.SL.Sem

/-! The reference's table, and the two joined. -/

section

open Cert.Reference5Ideal Cert.Reference5Ideal.Gen

/-- The table. -/
def refTable (a0 : FVec Ideal S4x1024 .f32) (a1 : FVec Ideal S1024 .f32) (a2 : FVec Ideal S1024x6144 .f32) (a3 : FVec Ideal S6144 .f32) : FVec Ideal S8x6144 .f32 :=
  concatenate S8x6144 0 [⟨S4x6144, ((addf (Host.dotGeneral dot_S4x1024_S1024x6144_S4x6144_1_0_0_1_n_n none (mulf a0 (Host.divf (broadcastInDim S4x1024 ![] bcast_S_S4x1024 (constant S_ .f32 0x3F800000#32)) (addf (broadcastInDim S4x1024 ![] bcast_S_S4x1024 (constant S_ .f32 0x3F800000#32)) (Host.exp (Host.negf a0))))) a2) (broadcastInDim S4x6144 ![0, 1] bcast_S1x6144_S4x6144_0_1 (broadcastInDim S1x6144 ![1] bcast_S6144_S1x6144_1 a3))) : (⟨S4x6144, .f32⟩ : BufTy).Contents (Elt Ideal))⟩, ⟨S1x6144, ((broadcastInDim S1x6144 ![1] bcast_S6144_S1x6144_1 (addf (Host.dotGeneral dot_S1024_S1024x6144_S6144_0_0_n_1_n_n none (mulf a1 (Host.divf (broadcastInDim S1024 ![] bcast_S_S1024 (constant S_ .f32 0x3F800000#32)) (addf (broadcastInDim S1024 ![] bcast_S_S1024 (constant S_ .f32 0x3F800000#32)) (Host.exp (Host.negf a1))))) a2) a3)) : (⟨S1x6144, .f32⟩ : BufTy).Contents (Elt Ideal))⟩, ⟨S3x6144, ((broadcastInDim S3x6144 ![1] bcast_S6144_S3x6144_1 a3) : (⟨S3x6144, .f32⟩ : BufTy).Contents (Elt Ideal))⟩] concatenates_S4x6144_S1x6144_S3x6144_S8x6144_d0

theorem refTable_apply (a0 : FVec Ideal S4x1024 .f32) (a1 : FVec Ideal S1024 .f32) (a2 : FVec Ideal S1024x6144 .f32) (a3 : FVec Ideal S6144 .f32) (i : Fin 8) (j : Fin 6144) :
    refTable a0 a1 a2 a3 (ix2 i j) = tableOf a0 a1 a2 a3 i j := by
  unfold tableOf cond
  pointwise [refTable, silu]
  split
  · rfl
  · split
    · rfl
    · simp only [zero_mul, Finset.sum_const_zero, zero_add]

end

/-- An array of two axes is known by its entries. -/
theorem ext2 {n0 n1 : ℕ} {f g : (⟨2, ![n0, n1]⟩ : Shape).Idx → EReal} (h : ∀ a b, f (ix2 a b) = g (ix2 a b)) : f = g := by
  funext y
  rw [eq_ix2 y (y 0) (y 1) rfl rfl]
  exact h _ _

/-- The two programs end with the same table. -/
theorem same : Cert.algebraic_Kernel5Ideal_Reference5Ideal (hKernel5Ideal := Cert.Kernel5Ideal.Gen.facts)
    (hReference5Ideal := Cert.Reference5Ideal.Gen.facts) := by
  intro m g m' g' _ ha
  refine ⟨fun c => (Cert.Kernel5Ideal.Gen.dats m 0 c).arrAt 3 Cert.Kernel5Ideal.cfg0.N, ?_, ?_⟩
  · refine (θ_run Cert.Kernel5Ideal.defs _ _).mono (fun r h c => ?_) (Cert.Kernel5Ideal.Value.run_blocks m g)
    exact h c
  · refine (θ_run Cert.Reference5Ideal.defs _ _).mono (fun r h c => ?_) (Cert.Reference5Ideal.Value.run m' g')
    obtain ⟨e10, hargs⟩ := h c
    obtain ⟨e0, e1, e2, e3⟩ := ha c
    have q : _ = refTable _ _ _ _ := e10
    rw [e0, e1, e2, e3] at q
    refine ⟨q.trans ?_, hargs⟩
    exact ext2 fun i j => (refTable_apply (C m c) (Ctx m c) (W m c) (Bias m c) i j).trans (result3 m c i j).symm

end Cert.Modulation

end
-- ==== Proof.lean ====
/- The claims of the gated-linear-attention call, of the input projection, of the output projection, of the combination, of the modulation: for each
   call the three frames, the ideal program's agreement with the kernel, and the equation of the kernel with the reference over the extended
   reals. The mathematics is in the modules under Proof/; this file assembles it. -/
module

public import proofs.«01_k».proof.Defs
public import proofs.«01_k».proof.Proof.Gen.Kernel
public import proofs.«01_k».proof.Proof.KernelFrame
public import proofs.«01_k».proof.Proof.Gen.KernelIdeal
public import proofs.«01_k».proof.Proof.Gen.ReferenceIdeal.Run
public import proofs.«01_k».proof.Proof.Join
public import proofs.«01_k».proof.Proof.Gen.Kernel2.Frame
public import proofs.«01_k».proof.Proof.Gen.Kernel2Ideal.Value
public import proofs.«01_k».proof.Proof.Gen.Reference2Ideal.Run
public import proofs.«01_k».proof.Proof.InprojJoin
public import proofs.«01_k».proof.Proof.OutprojKernelFrame
public import proofs.«01_k».proof.Proof.OutprojFrame
public import proofs.«01_k».proof.Proof.Gen.Reference3Ideal.Run
public import proofs.«01_k».proof.Proof.OutprojJoin
public import proofs.«01_k».proof.Proof.Gen.Kernel4.Frame
public import proofs.«01_k».proof.Proof.Gen.Kernel4Ideal.Value
public import proofs.«01_k».proof.Proof.Gen.Reference4Ideal.Run
public import proofs.«01_k».proof.Proof.CombineJoin
public import proofs.«01_k».proof.Proof.Gen.Kernel5.Frame
public import proofs.«01_k».proof.Proof.Gen.Kernel5Ideal.Value
public import proofs.«01_k».proof.Proof.Gen.Reference5Ideal.Run
public import proofs.«01_k».proof.Proof.ModulationJoin
public import Idealize.ShloMosaic.Adequacy
public import Idealize.ShloMosaic.Init

@[expose] public section

noncomputable section

namespace Cert.Proof

open Idealize.ShloMosaic Idealize.SL.Sem Cert.Kernel

/-- The kernel runs, leaves its arguments and ends quiescent. -/
theorem frame_kernel : Cert.quiescent_Kernel (hKernel := Cert.Kernel.Gen.facts) :=
  fun m ρ _ => Cert.Kernel.Gla.runs m ρ

/-- The kernel over the extended reals runs, leaves its arguments and ends quiescent. -/
theorem frame_ideal : Cert.quiescent_KernelIdeal (hKernelIdeal := Cert.KernelIdeal.Gen.facts) :=
  fun m ρ _ => Cert.KernelIdeal.Gla.runs m ρ

/-- The reference over the extended reals runs, leaves its arguments and ends quiescent: it has no counters. -/
theorem frame_reference : Cert.quiescent_ReferenceIdeal (hReferenceIdeal := Cert.ReferenceIdeal.Gen.facts) :=
  fun m ρ _ => (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The input projection runs, leaves its arguments and ends quiescent. -/
theorem frame_kernel2 : Cert.quiescent_Kernel2 (hKernel2 := Cert.Kernel2.Gen.facts) :=
  fun m ρ _ => Cert.Kernel2.Gen.frame m ρ

/-- The input projection over the extended reals runs, leaves its arguments and ends quiescent. -/
theorem frame_ideal2 : Cert.quiescent_Kernel2Ideal (hKernel2Ideal := Cert.Kernel2Ideal.Gen.facts) :=
  fun m ρ _ => Cert.Kernel2Ideal.Gen.frame m ρ

/-- The input projection's reference runs, leaves its arguments and ends quiescent: it has no counters. -/
theorem frame_reference2 : Cert.quiescent_Reference2Ideal (hReference2Ideal := Cert.Reference2Ideal.Gen.facts) :=
  fun m ρ _ => (θ_run Cert.Reference2Ideal.defs _ _).mono
    (fun r h => ⟨fun c => (h c).2.2.2, Idealize.ShloMosaic.sem_eq_zero_of_no_sems (by decide) r.2⟩)
    (Cert.Reference2Ideal.Value.run (F := Ideal) m ρ)

/-- The output projection runs, leaves its arguments and ends quiescent. -/
theorem frame_kernel3 : Cert.quiescent_Kernel3 (hKernel3 := Cert.Kernel3.Gen.facts) :=
  fun m ρ _ => Cert.Kernel3.Outproj.runs m ρ

/-- The output projection over the extended reals runs, leaves its arguments and ends quiescent. -/
theorem frame_ideal3 : Cert.quiescent_Kernel3Ideal (hKernel3Ideal := Cert.Kernel3Ideal.Gen.facts) :=
  fun m ρ _ => Cert.Kernel3Ideal.Outproj.runs m ρ

/-- The output projection's reference runs, leaves its arguments and ends quiescent: it has no counters. -/
theorem frame_reference3 : Cert.quiescent_Reference3Ideal (hReference3Ideal := Cert.Reference3Ideal.Gen.facts) :=
  fun m ρ _ => (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- The combination runs, leaves its arguments and ends quiescent. -/
theorem frame_kernel4 : Cert.quiescent_Kernel4 (hKernel4 := Cert.Kernel4.Gen.facts) :=
  fun m ρ _ => Cert.Kernel4.Gen.frame m ρ

/-- The combination over the extended reals runs, leaves its arguments and ends quiescent. -/
theorem frame_ideal4 : Cert.quiescent_Kernel4Ideal (hKernel4Ideal := Cert.Kernel4Ideal.Gen.facts) :=
  fun m ρ _ => Cert.Kernel4Ideal.Gen.frame m ρ

/-- The combination's reference runs, leaves its arguments and ends quiescent: it has no counters. -/
theorem frame_reference4 : Cert.quiescent_Reference4Ideal (hReference4Ideal := Cert.Reference4Ideal.Gen.facts) :=
  fun m ρ _ => (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The modulation runs, leaves its arguments and ends quiescent. -/
theorem frame_kernel5 : Cert.quiescent_Kernel5 (hKernel5 := Cert.Kernel5.Gen.facts) :=
  fun m ρ _ => Cert.Kernel5.Gen.frame m ρ

/-- The modulation over the extended reals runs, leaves its arguments and ends quiescent. -/
theorem frame_ideal5 : Cert.quiescent_Kernel5Ideal (hKernel5Ideal := Cert.Kernel5Ideal.Gen.facts) :=
  fun m ρ _ => Cert.Kernel5Ideal.Gen.frame m ρ

/-- The modulation's reference runs, leaves its arguments and ends quiescent: it has no counters. -/
theorem frame_reference5 : Cert.quiescent_Reference5Ideal (hReference5Ideal := Cert.Reference5Ideal.Gen.facts) :=
  fun m ρ _ => (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- Every claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Gla.preFacts,
    frame_kernel, frame_ideal, fun m ρ _ => frame_ideal m ρ trivial, frame_reference, fun m ρ _ => frame_reference m ρ trivial,
    frame_kernel2, frame_ideal2, frame_reference2,
    frame_kernel3, frame_ideal3, frame_reference3,
    frame_kernel4, frame_ideal4, frame_reference4,
    frame_kernel5, frame_ideal5, frame_reference5,
    trivial, Cert.Gla.same (hPre := Cert.Gla.preFacts), trivial, Cert.Inproj.same, trivial, Cert.Outproj.same, trivial, Cert.Combine.same, trivial, Cert.Modulation.same⟩

end Cert.Proof

end
